-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v51)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v86) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v60)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v60) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v192) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v12)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_scores_finite.lean ====
abbrev S4x12x4096x128 : Shape := ⟨4, ![4, 12, 4096, 128]⟩
abbrev S4x4x4096x128 : Shape := ⟨4, ![4, 4, 4096, 128]⟩
abbrev S_ : Shape := ⟨0, ![]⟩

class Facts : Prop where
  slices_S4x12x4096x128_S4x4x4096x128_0_8_0_0 : S4x12x4096x128.Slices ![0, 8, 0, 0] S4x4x4096x128
  bcast_S_S4x4x4096x128 : S_.BroadcastsInDim S4x4x4096x128 (![] : Fin 0 → Fin S4x4x4096x128.rank)

variable [Facts]

def fn {F : FTy → Type} [FloatOps F] (main_arg0 : FVec F S4x12x4096x128 .f32) (main_arg1 : FVec F S4x12x4096x128 .f32) (main_arg2 : FVec F S4x12x4096x128 .f32) : IVec S4x4x4096x128 1 × IVec S4x4x4096x128 1 :=
  let main_v0 : FVec F S4x4x4096x128 .f32 := (extractStridedSlice S4x4x4096x128 ![0, 8, 0, 0] · slices_S4x12x4096x128_S4x4x4096x128_0_8_0_0) main_arg0
  let main_v1 : FVec F S4x4x4096x128 .f32 := Host.absf main_v0
  let main_cst : FVec F S_ .f32 := constant S_ .f32 0x7F800000#32
  let main_v2 : FVec F S4x4x4096x128 .f32 := broadcastInDim S4x4x4096x128 ![] bcast_S_S4x4x4096x128 main_cst
  let main_v3 : IVec S4x4x4096x128 1 := cmpf .olt main_v1 main_v2
  let main_v4 : FVec F S4x4x4096x128 .f32 := (extractStridedSlice S4x4x4096x128 ![0, 8, 0, 0] · slices_S4x12x4096x128_S4x4x4096x128_0_8_0_0) main_arg1
  let main_v5 : FVec F S4x4x4096x128 .f32 := Host.absf main_v4
  let main_cst_0 : FVec F S_ .f32 := constant S_ .f32 0x7F800000#32
  let main_v6 : FVec F S4x4x4096x128 .f32 := broadcastInDim S4x4x4096x128 ![] bcast_S_S4x4x4096x128 main_cst_0
  let main_v7 : IVec S4x4x4096x128 1 := cmpf .olt main_v5 main_v6
  (main_v3, main_v7)
-- ==== Kernel.lean ====
abbrev S4x12x4096x128 : Shape := ⟨4, ![4, 12, 4096, 128]⟩
abbrev S_ : Shape := ⟨0, ![]⟩
abbrev S4x24x4096x128 : Shape := ⟨4, ![4, 24, 4096, 128]⟩
abbrev S4x36x4096x128 : Shape := ⟨4, ![4, 36, 4096, 128]⟩
abbrev S4x4096x36x128 : Shape := ⟨4, ![4, 4096, 36, 128]⟩
abbrev S4x4x64x16x4608 : Shape := ⟨5, ![4, 4, 64, 16, 4608]⟩
abbrev S4x4x16x64x4608 : Shape := ⟨5, ![4, 4, 16, 64, 4608]⟩
abbrev S16384x4608 : Shape := ⟨2, ![16384, 4608]⟩
abbrev S4x4x16x64x512 : Shape := ⟨5, ![4, 4, 16, 64, 512]⟩
abbrev S1x4x4x64x512 : Shape := ⟨5, ![1, 4, 4, 64, 512]⟩
abbrev S128x1 : Shape := ⟨2, ![128, 1]⟩
abbrev S1x128 : Shape := ⟨2, ![1, 128]⟩
abbrev S1x2x1x64x128 : Shape := ⟨5, ![1, 2, 1, 64, 128]⟩
abbrev S2x64x128 : Shape := ⟨3, ![2, 64, 128]⟩
abbrev S128x128 : Shape := ⟨2, ![128, 128]⟩
abbrev S128 : Shape := ⟨1, ![128]⟩
abbrev S1x256 : Shape := ⟨2, ![1, 256]⟩
abbrev S128x256 : Shape := ⟨2, ![128, 256]⟩
abbrev S256x128 : Shape := ⟨2, ![256, 128]⟩

abbrev nBuf : Space → Nat
  | .hbm => 16
  | .vmem => 10
  | .smem => 0
  | _ => 0

abbrev bufTy : (tb : Table) → Fin (tcTables nBuf tb) → BufTy
  | .hbm, ⟨0, _⟩ => ⟨S4x12x4096x128, .f32⟩
  | .hbm, ⟨1, _⟩ => ⟨S4x12x4096x128, .f32⟩
  | .hbm, ⟨2, _⟩ => ⟨S4x12x4096x128, .f32⟩
  | .hbm, ⟨3, _⟩ => ⟨S_, .f32⟩
  | .hbm, ⟨4, _⟩ => ⟨S4x12x4096x128, .f32⟩
  | .hbm, ⟨5, _⟩ => ⟨S4x12x4096x128, .f32⟩
  | .hbm, ⟨6, _⟩ => ⟨S4x24x4096x128, .f32⟩
  | .hbm, ⟨7, _⟩ => ⟨S4x36x4096x128, .f32⟩
  | .hbm, ⟨8, _⟩ => ⟨S4x4096x36x128, .f32⟩
  | .hbm, ⟨9, _⟩ => ⟨S4x4x64x16x4608, .f32⟩
  | .hbm, ⟨10, _⟩ => ⟨S4x4x16x64x4608, .f32⟩
  | .hbm, ⟨11, _⟩ => ⟨S16384x4608, .f32⟩
  | .hbm, ⟨12, _⟩ => ⟨S16384x4608, .bf16⟩
  | .hbm, ⟨13, _⟩ => ⟨S4x4x16x64x4608, .bf16⟩
  | .hbm, ⟨14, _⟩ => ⟨S4x4x16x64x512, .f32⟩
  | .hbm, ⟨15, _⟩ => ⟨S4x4x16x64x512, .f32⟩
  | .local _ .vmem, ⟨0, _⟩ => ⟨S1x4x4x64x512, .bf16⟩
  | .local _ .vmem, ⟨1, _⟩ => ⟨S1x4x4x64x512, .bf16⟩
  | .local _ .vmem, ⟨2, _⟩ => ⟨S1x4x4x64x512, .bf16⟩
  | .local _ .vmem, ⟨3, _⟩ => ⟨S1x4x4x64x512, .bf16⟩
  | .local _ .vmem, ⟨4, _⟩ => ⟨S1x4x4x64x512, .bf16⟩
  | .local _ .vmem, ⟨5, _⟩ => ⟨S1x4x4x64x512, .bf16⟩
  | .local _ .vmem, ⟨6, _⟩ => ⟨S1x4x4x64x512, .f32⟩
  | .local _ .vmem, ⟨7, _⟩ => ⟨S1x4x4x64x512, .f32⟩
  | .local _ .vmem, ⟨8, _⟩ => ⟨S1x4x4x64x512, .f32⟩
  | .local _ .vmem, ⟨9, _⟩ => ⟨S1x4x4x64x512, .f32⟩
  | _, _ => ⟨S4x12x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

def k0_off1 : Fin 5 → Nat :=
  let c0_473 : Index := 0#32
  let c1_i32 : BitVec 32 := 1#32
  let c1_i32_472 : BitVec 32 := 1#32
  let v620 : BitVec 32 := Scalar.subi c1_i32 c1_i32_472
  let c2_i32 : BitVec 32 := 2#32
  let v621 : BitVec 32 := Scalar.muli v620 c2_i32
  let v622 : Index := Scalar.indexCast v621
  let c0_474 : Index := 0#32
  let c0_475 : Index := 0#32
  let c0_476 : Index := 0#32
  ![0, v622.toNat, 0, 0, 0]
def k0_off2 : Fin 5 → Nat :=
  let c0_478 : Index := 0#32
  let c1_i32 : BitVec 32 := 1#32
  let c2_i32_477 : BitVec 32 := 2#32
  let v626 : BitVec 32 := Scalar.muli c1_i32 c2_i32_477
  let v627 : Index := Scalar.indexCast v626
  let c0_479 : Index := 0#32
  let c0_480 : Index := 0#32
  let c0_481 : Index := 0#32
  ![0, v627.toNat, 0, 0, 0]
def k0_off3 : Fin 5 → Nat :=
  let c0_515 : Index := 0#32
  let c1_i32 : BitVec 32 := 1#32
  let c1_i32_513 : BitVec 32 := 1#32
  let v679 : BitVec 32 := Scalar.subi c1_i32 c1_i32_513
  let c2_i32_514 : BitVec 32 := 2#32
  let v680 : BitVec 32 := Scalar.muli v679 c2_i32_514
  let v681 : Index := Scalar.indexCast v680
  let c0_516 : Index := 0#32
  let c0_517 : Index := 0#32
  let c128_518 : Index := 128#32
  ![0, v681.toNat, 0, 0, 128]
def k0_off4 : Fin 5 → Nat :=
  let c0_520 : Index := 0#32
  let c1_i32 : BitVec 32 := 1#32
  let c2_i32_519 : BitVec 32 := 2#32
  let v685 : BitVec 32 := Scalar.muli c1_i32 c2_i32_519
  let v686 : Index := Scalar.indexCast v685
  let c0_521 : Index := 0#32
  let c0_522 : Index := 0#32
  let c128_523 : Index := 128#32
  ![0, v686.toNat, 0, 0, 128]
def k0_off5 : Fin 5 → Nat :=
  let c0_557 : Index := 0#32
  let c1_i32 : BitVec 32 := 1#32
  let c1_i32_555 : BitVec 32 := 1#32
  let v738 : BitVec 32 := Scalar.subi c1_i32 c1_i32_555
  let c2_i32_556 : BitVec 32 := 2#32
  let v739 : BitVec 32 := Scalar.muli v738 c2_i32_556
  let v740 : Index := Scalar.indexCast v739
  let c0_558 : Index := 0#32
  let c0_559 : Index := 0#32
  let c256_560 : Index := 256#32
  ![0, v740.toNat, 0, 0, 256]
def k0_off6 : Fin 5 → Nat :=
  let c0_562 : Index := 0#32
  let c1_i32 : BitVec 32 := 1#32
  let c2_i32_561 : BitVec 32 := 2#32
  let v744 : BitVec 32 := Scalar.muli c1_i32 c2_i32_561
  let v745 : Index := Scalar.indexCast v744
  let c0_563 : Index := 0#32
  let c0_564 : Index := 0#32
  let c256_565 : Index := 256#32
  ![0, v745.toNat, 0, 0, 256]
def k0_off7 : Fin 5 → Nat :=
  let c0_599 : Index := 0#32
  let c1_i32 : BitVec 32 := 1#32
  let c1_i32_597 : BitVec 32 := 1#32
  let v797 : BitVec 32 := Scalar.subi c1_i32 c1_i32_597
  let c2_i32_598 : BitVec 32 := 2#32
  let v798 : BitVec 32 := Scalar.muli v797 c2_i32_598
  let v799 : Index := Scalar.indexCast v798
  let c0_600 : Index := 0#32
  let c0_601 : Index := 0#32
  let c384_602 : Index := 384#32
  ![0, v799.toNat, 0, 0, 384]
def k0_off8 : Fin 5 → Nat :=
  let c0_604 : Index := 0#32
  let c1_i32 : BitVec 32 := 1#32
  let c2_i32_603 : BitVec 32 := 2#32
  let v803 : BitVec 32 := Scalar.muli c1_i32 c2_i32_603
  let v804 : Index := Scalar.indexCast v803
  let c0_605 : Index := 0#32
  let c0_606 : Index := 0#32
  let c384_607 : Index := 384#32
  ![0, v804.toNat, 0, 0, 384]
def k0_off9 : Fin 5 → Nat :=
  let c0_641 : Index := 0#32
  let c1_i32 : BitVec 32 := 1#32
  let c1_i32_639 : BitVec 32 := 1#32
  let v856 : BitVec 32 := Scalar.subi c1_i32 c1_i32_639
  let c2_i32_640 : BitVec 32 := 2#32
  let v857 : BitVec 32 := Scalar.muli v856 c2_i32_640
  let v858 : Index := Scalar.indexCast v857
  let c1_642 : Index := 1#32
  let c0_643 : Index := 0#32
  let c0_644 : Index := 0#32
  ![0, v858.toNat, 1, 0, 0]
def k0_off10 : Fin 5 → Nat :=
  let c0_646 : Index := 0#32
  let c1_i32 : BitVec 32 := 1#32
  let c2_i32_645 : BitVec 32 := 2#32
  let v862 : BitVec 32 := Scalar.muli c1_i32 c2_i32_645
  let v863 : Index := Scalar.indexCast v862
  let c1_647 : Index := 1#32
  let c0_648 : Index := 0#32
  let c0_649 : Index := 0#32
  ![0, v863.toNat, 1, 0, 0]
def k0_off11 : Fin 5 → Nat :=
  let c0_683 : Index := 0#32
  let c1_i32 : BitVec 32 := 1#32
  let c1_i32_681 : BitVec 32 := 1#32
  let v915 : BitVec 32 := Scalar.subi c1_i32 c1_i32_681
  let c2_i32_682 : BitVec 32 := 2#32
  let v916 : BitVec 32 := Scalar.muli v915 c2_i32_682
  let v917 : Index := Scalar.indexCast v916
  let c1_684 : Index := 1#32
  let c0_685 : Index := 0#32
  let c128_686 : Index := 128#32
  ![0, v917.toNat, 1, 0, 128]
def k0_off12 : Fin 5 → Nat :=
  let c0_688 : Index := 0#32
  let c1_i32 : BitVec 32 := 1#32
  let c2_i32_687 : BitVec 32 := 2#32
  let v921 : BitVec 32 := Scalar.muli c1_i32 c2_i32_687
  let v922 : Index := Scalar.indexCast v921
  let c1_689 : Index := 1#32
  let c0_690 : Index := 0#32
  let c128_691 : Index := 128#32
  ![0, v922.toNat, 1, 0, 128]
def k0_off13 : Fin 5 → Nat :=
  let c0_725 : Index := 0#32
  let c1_i32 : BitVec 32 := 1#32
  let c1_i32_723 : BitVec 32 := 1#32
  let v974 : BitVec 32 := Scalar.subi c1_i32 c1_i32_723
  let c2_i32_724 : BitVec 32 := 2#32
  let v975 : BitVec 32 := Scalar.muli v974 c2_i32_724
  let v976 : Index := Scalar.indexCast v975
  let c1_726 : Index := 1#32
  let c0_727 : Index := 0#32
  let c256_728 : Index := 256#32
  ![0, v976.toNat, 1, 0, 256]
def k0_off14 : Fin 5 → Nat :=
  let c0_730 : Index := 0#32
  let c1_i32 : BitVec 32 := 1#32
  let c2_i32_729 : BitVec 32 := 2#32
  let v980 : BitVec 32 := Scalar.muli c1_i32 c2_i32_729
  let v981 : Index := Scalar.indexCast v980
  let c1_731 : Index := 1#32
  let c0_732 : Index := 0#32
  let c256_733 : Index := 256#32
  ![0, v981.toNat, 1, 0, 256]
def k0_off15 : Fin 5 → Nat :=
  let c0_767 : Index := 0#32
  let c1_i32 : BitVec 32 := 1#32
  let c1_i32_765 : BitVec 32 := 1#32
  let v1033 : BitVec 32 := Scalar.subi c1_i32 c1_i32_765
  let c2_i32_766 : BitVec 32 := 2#32
  let v1034 : BitVec 32 := Scalar.muli v1033 c2_i32_766
  let v1035 : Index := Scalar.indexCast v1034
  let c1_768 : Index := 1#32
  let c0_769 : Index := 0#32
  let c384_770 : Index := 384#32
  ![0, v1035.toNat, 1, 0, 384]
def k0_off16 : Fin 5 → Nat :=
  let c0_772 : Index := 0#32
  let c1_i32 : BitVec 32 := 1#32
  let c2_i32_771 : BitVec 32 := 2#32
  let v1039 : BitVec 32 := Scalar.muli c1_i32 c2_i32_771
  let v1040 : Index := Scalar.indexCast v1039
  let c1_773 : Index := 1#32
  let c0_774 : Index := 0#32
  let c384_775 : Index := 384#32
  ![0, v1040.toNat, 1, 0, 384]
def k0_off17 : Fin 5 → Nat :=
  let c0_809 : Index := 0#32
  let c1_i32 : BitVec 32 := 1#32
  let c1_i32_807 : BitVec 32 := 1#32
  let v1092 : BitVec 32 := Scalar.subi c1_i32 c1_i32_807
  let c2_i32_808 : BitVec 32 := 2#32
  let v1093 : BitVec 32 := Scalar.muli v1092 c2_i32_808
  let v1094 : Index := Scalar.indexCast v1093
  let c2_810 : Index := 2#32
  let c0_811 : Index := 0#32
  let c0_812 : Index := 0#32
  ![0, v1094.toNat, 2, 0, 0]
def k0_off18 : Fin 5 → Nat :=
  let c0_814 : Index := 0#32
  let c1_i32 : BitVec 32 := 1#32
  let c2_i32_813 : BitVec 32 := 2#32
  let v1098 : BitVec 32 := Scalar.muli c1_i32 c2_i32_813
  let v1099 : Index := Scalar.indexCast v1098
  let c2_815 : Index := 2#32
  let c0_816 : Index := 0#32
  let c0_817 : Index := 0#32
  ![0, v1099.toNat, 2, 0, 0]
def k0_off19 : Fin 5 → Nat :=
  let c0_851 : Index := 0#32
  let c1_i32 : BitVec 32 := 1#32
  let c1_i32_849 : BitVec 32 := 1#32
  let v1151 : BitVec 32 := Scalar.subi c1_i32 c1_i32_849
  let c2_i32_850 : BitVec 32 := 2#32
  let v1152 : BitVec 32 := Scalar.muli v1151 c2_i32_850
  let v1153 : Index := Scalar.indexCast v1152
  let c2_852 : Index := 2#32
  let c0_853 : Index := 0#32
  let c128_854 : Index := 128#32
  ![0, v1153.toNat, 2, 0, 128]
def k0_off20 : Fin 5 → Nat :=
  let c0_856 : Index := 0#32
  let c1_i32 : BitVec 32 := 1#32
  let c2_i32_855 : BitVec 32 := 2#32
  let v1157 : BitVec 32 := Scalar.muli c1_i32 c2_i32_855
  let v1158 : Index := Scalar.indexCast v1157
  let c2_857 : Index := 2#32
  let c0_858 : Index := 0#32
  let c128_859 : Index := 128#32
  ![0, v1158.toNat, 2, 0, 128]
def k0_off21 : Fin 5 → Nat :=
  let c0_893 : Index := 0#32
  let c1_i32 : BitVec 32 := 1#32
  let c1_i32_891 : BitVec 32 := 1#32
  let v1210 : BitVec 32 := Scalar.subi c1_i32 c1_i32_891
  let c2_i32_892 : BitVec 32 := 2#32
  let v1211 : BitVec 32 := Scalar.muli v1210 c2_i32_892
  let v1212 : Index := Scalar.indexCast v1211
  let c2_894 : Index := 2#32
  let c0_895 : Index := 0#32
  let c256_896 : Index := 256#32
  ![0, v1212.toNat, 2, 0, 256]
def k0_off22 : Fin 5 → Nat :=
  let c0_898 : Index := 0#32
  let c1_i32 : BitVec 32 := 1#32
  let c2_i32_897 : BitVec 32 := 2#32
  let v1216 : BitVec 32 := Scalar.muli c1_i32 c2_i32_897
  let v1217 : Index := Scalar.indexCast v1216
  let c2_899 : Index := 2#32
  let c0_900 : Index := 0#32
  let c256_901 : Index := 256#32
  ![0, v1217.toNat, 2, 0, 256]
def k0_off23 : Fin 5 → Nat :=
  let c0_935 : Index := 0#32
  let c1_i32 : BitVec 32 := 1#32
  let c1_i32_933 : BitVec 32 := 1#32
  let v1269 : BitVec 32 := Scalar.subi c1_i32 c1_i32_933
  let c2_i32_934 : BitVec 32 := 2#32
  let v1270 : BitVec 32 := Scalar.muli v1269 c2_i32_934
  let v1271 : Index := Scalar.indexCast v1270
  let c2_936 : Index := 2#32
  let c0_937 : Index := 0#32
  let c384_938 : Index := 384#32
  ![0, v1271.toNat, 2, 0, 384]
def k0_off24 : Fin 5 → Nat :=
  let c0_940 : Index := 0#32
  let c1_i32 : BitVec 32 := 1#32
  let c2_i32_939 : BitVec 32 := 2#32
  let v1275 : BitVec 32 := Scalar.muli c1_i32 c2_i32_939
  let v1276 : Index := Scalar.indexCast v1275
  let c2_941 : Index := 2#32
  let c0_942 : Index := 0#32
  let c384_943 : Index := 384#32
  ![0, v1276.toNat, 2, 0, 384]
def k0_off25 : Fin 5 → Nat :=
  let c0_977 : Index := 0#32
  let c1_i32 : BitVec 32 := 1#32
  let c1_i32_975 : BitVec 32 := 1#32
  let v1328 : BitVec 32 := Scalar.subi c1_i32 c1_i32_975
  let c2_i32_976 : BitVec 32 := 2#32
  let v1329 : BitVec 32 := Scalar.muli v1328 c2_i32_976
  let v1330 : Index := Scalar.indexCast v1329
  let c3_978 : Index := 3#32
  let c0_979 : Index := 0#32
  let c0_980 : Index := 0#32
  ![0, v1330.toNat, 3, 0, 0]
def k0_off26 : Fin 5 → Nat :=
  let c0_982 : Index := 0#32
  let c1_i32 : BitVec 32 := 1#32
  let c2_i32_981 : BitVec 32 := 2#32
  let v1334 : BitVec 32 := Scalar.muli c1_i32 c2_i32_981
  let v1335 : Index := Scalar.indexCast v1334
  let c3_983 : Index := 3#32
  let c0_984 : Index := 0#32
  let c0_985 : Index := 0#32
  ![0, v1335.toNat, 3, 0, 0]
def k0_off27 : Fin 5 → Nat :=
  let c0_1019 : Index := 0#32
  let c1_i32 : BitVec 32 := 1#32
  let c1_i32_1017 : BitVec 32 := 1#32
  let v1387 : BitVec 32 := Scalar.subi c1_i32 c1_i32_1017
  let c2_i32_1018 : BitVec 32 := 2#32
  let v1388 : BitVec 32 := Scalar.muli v1387 c2_i32_1018
  let v1389 : Index := Scalar.indexCast v1388
  let c3_1020 : Index := 3#32
  let c0_1021 : Index := 0#32
  let c128_1022 : Index := 128#32
  ![0, v1389.toNat, 3, 0, 128]
def k0_off28 : Fin 5 → Nat :=
  let c0_1024 : Index := 0#32
  let c1_i32 : BitVec 32 := 1#32
  let c2_i32_1023 : BitVec 32 := 2#32
  let v1393 : BitVec 32 := Scalar.muli c1_i32 c2_i32_1023
  let v1394 : Index := Scalar.indexCast v1393
  let c3_1025 : Index := 3#32
  let c0_1026 : Index := 0#32
  let c128_1027 : Index := 128#32
  ![0, v1394.toNat, 3, 0, 128]
def k0_off29 : Fin 5 → Nat :=
  let c0_1061 : Index := 0#32
  let c1_i32 : BitVec 32 := 1#32
  let c1_i32_1059 : BitVec 32 := 1#32
  let v1446 : BitVec 32 := Scalar.subi c1_i32 c1_i32_1059
  let c2_i32_1060 : BitVec 32 := 2#32
  let v1447 : BitVec 32 := Scalar.muli v1446 c2_i32_1060
  let v1448 : Index := Scalar.indexCast v1447
  let c3_1062 : Index := 3#32
  let c0_1063 : Index := 0#32
  let c256_1064 : Index := 256#32
  ![0, v1448.toNat, 3, 0, 256]
def k0_off30 : Fin 5 → Nat :=
  let c0_1066 : Index := 0#32
  let c1_i32 : BitVec 32 := 1#32
  let c2_i32_1065 : BitVec 32 := 2#32
  let v1452 : BitVec 32 := Scalar.muli c1_i32 c2_i32_1065
  let v1453 : Index := Scalar.indexCast v1452
  let c3_1067 : Index := 3#32
  let c0_1068 : Index := 0#32
  let c256_1069 : Index := 256#32
  ![0, v1453.toNat, 3, 0, 256]
def k0_off31 : Fin 5 → Nat :=
  let c0_1103 : Index := 0#32
  let c1_i32 : BitVec 32 := 1#32
  let c1_i32_1101 : BitVec 32 := 1#32
  let v1505 : BitVec 32 := Scalar.subi c1_i32 c1_i32_1101
  let c2_i32_1102 : BitVec 32 := 2#32
  let v1506 : BitVec 32 := Scalar.muli v1505 c2_i32_1102
  let v1507 : Index := Scalar.indexCast v1506
  let c3_1104 : Index := 3#32
  let c0_1105 : Index := 0#32
  let c384_1106 : Index := 384#32
  ![0, v1507.toNat, 3, 0, 384]
def k0_off32 : Fin 5 → Nat :=
  let c0_1108 : Index := 0#32
  let c1_i32 : BitVec 32 := 1#32
  let c2_i32_1107 : BitVec 32 := 2#32
  let v1511 : BitVec 32 := Scalar.muli c1_i32 c2_i32_1107
  let v1512 : Index := Scalar.indexCast v1511
  let c3_1109 : Index := 3#32
  let c0_1110 : Index := 0#32
  let c384_1111 : Index := 384#32
  ![0, v1512.toNat, 3, 0, 384]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, c0_i32.toNat, arg2.toNat, c0_i32_0.toNat, v0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  let c0_i32_0 : BitVec 32 := 0#32
  let c0_i32_1 : BitVec 32 := 0#32
  ![arg0.toNat, c0_i32.toNat, arg2.toNat, c0_i32_0.toNat, v0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, arg2.toNat, c0_i32_0.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat, arg1.toNat]

abbrev stage0_0 : Fin 2 → Memref sig .tc .vmem S1x4x4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x4x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x12x4096x128 : Shape := ⟨4, ![4, 12, 4096, 128]⟩
abbrev S4x3x4x4096x128 : Shape := ⟨5, ![4, 3, 4, 4096, 128]⟩
abbrev S4x1x4x4096x128 : Shape := ⟨5, ![4, 1, 4, 4096, 128]⟩
abbrev S4x4x4096x128 : Shape := ⟨4, ![4, 4, 4096, 128]⟩
abbrev S4096 : Shape := ⟨1, ![4096]⟩
abbrev S4096x1 : Shape := ⟨2, ![4096, 1]⟩
abbrev S129 : Shape := ⟨1, ![129]⟩
abbrev S1x129 : Shape := ⟨2, ![1, 129]⟩
abbrev S_ : Shape := ⟨0, ![]⟩
abbrev S4096x129 : Shape := ⟨2, ![4096, 129]⟩
abbrev S4096x129x1 : Shape := ⟨3, ![4096, 129, 1]⟩
abbrev S4x4x4096x129x128 : Shape := ⟨5, ![4, 4, 4096, 129, 128]⟩
abbrev S4x4x4096x129 : Shape := ⟨4, ![4, 4, 4096, 129]⟩
abbrev S4x4x4096 : Shape := ⟨3, ![4, 4, 4096]⟩
abbrev S4x4x4096x1 : Shape := ⟨4, ![4, 4, 4096, 1]⟩
abbrev S4x4096x4x128 : Shape := ⟨4, ![4, 4096, 4, 128]⟩
abbrev S4x4x64x16x512 : Shape := ⟨5, ![4, 4, 64, 16, 512]⟩
abbrev S4x4x16x64x512 : Shape := ⟨5, ![4, 4, 16, 64, 512]⟩

abbrev nBuf : Space → Nat
  | .hbm => 64
  | .vmem => 0
  | .smem => 0
  | _ => 0

abbrev bufTy : (tb : Table) → Fin (tcTables nBuf tb) → BufTy
  | .hbm, ⟨0, _⟩ => ⟨S4x12x4096x128, .f32⟩
  | .hbm, ⟨1, _⟩ => ⟨S4x12x4096x128, .f32⟩
  | .hbm, ⟨2, _⟩ => ⟨S4x12x4096x128, .f32⟩
  | .hbm, ⟨3, _⟩ => ⟨S4x3x4x4096x128, .f32⟩
  | .hbm, ⟨4, _⟩ => ⟨S4x1x4x4096x128, .f32⟩
  | .hbm, ⟨5, _⟩ => ⟨S4x4x4096x128, .f32⟩
  | .hbm, ⟨6, _⟩ => ⟨S4x3x4x4096x128, .f32⟩
  | .hbm, ⟨7, _⟩ => ⟨S4x1x4x4096x128, .f32⟩
  | .hbm, ⟨8, _⟩ => ⟨S4x4x4096x128, .f32⟩
  | .hbm, ⟨9, _⟩ => ⟨S4x3x4x4096x128, .f32⟩
  | .hbm, ⟨10, _⟩ => ⟨S4x1x4x4096x128, .f32⟩
  | .hbm, ⟨11, _⟩ => ⟨S4x4x4096x128, .f32⟩
  | .hbm, ⟨12, _⟩ => ⟨S4096, .i32⟩
  | .hbm, ⟨13, _⟩ => ⟨S4096x1, .i32⟩
  | .hbm, ⟨14, _⟩ => ⟨S129, .i32⟩
  | .hbm, ⟨15, _⟩ => ⟨S1x129, .i32⟩
  | .hbm, ⟨16, _⟩ => ⟨S_, .i32⟩
  | .hbm, ⟨17, _⟩ => ⟨S1x129, .i32⟩
  | .hbm, ⟨18, _⟩ => ⟨S1x129, .i32⟩
  | .hbm, ⟨19, _⟩ => ⟨S4096x129, .i32⟩
  | .hbm, ⟨20, _⟩ => ⟨S4096x129, .i32⟩
  | .hbm, ⟨21, _⟩ => ⟨S4096x129, .i32⟩
  | .hbm, ⟨22, _⟩ => ⟨S_, .i32⟩
  | .hbm, ⟨23, _⟩ => ⟨S4096x129, .i32⟩
  | .hbm, ⟨24, _⟩ => ⟨S4096x129, .i1⟩
  | .hbm, ⟨25, _⟩ => ⟨S_, .i32⟩
  | .hbm, ⟨26, _⟩ => ⟨S4096x129, .i32⟩
  | .hbm, ⟨27, _⟩ => ⟨S4096x129, .i32⟩
  | .hbm, ⟨28, _⟩ => ⟨S4096x129x1, .i32⟩
  | .hbm, ⟨29, _⟩ => ⟨S4x4x4096x129x128, .f32⟩
  | .hbm, ⟨30, _⟩ => ⟨S4096x129x1, .i32⟩
  | .hbm, ⟨31, _⟩ => ⟨S4x4x4096x129x128, .f32⟩
  | .hbm, ⟨32, _⟩ => ⟨S4x4x4096x129, .f32⟩
  | .hbm, ⟨33, _⟩ => ⟨S_, .f32⟩
  | .hbm, ⟨34, _⟩ => ⟨S4x4x4096x129, .f32⟩
  | .hbm, ⟨35, _⟩ => ⟨S4x4x4096x129, .f32⟩
  | .hbm, ⟨36, _⟩ => ⟨S_, .f32⟩
  | .hbm, ⟨37, _⟩ => ⟨S_, .f32⟩
  | .hbm, ⟨38, _⟩ => ⟨S4x4x4096x129, .i1⟩
  | .hbm, ⟨39, _⟩ => ⟨S4x4x4096x129, .f32⟩
  | .hbm, ⟨40, _⟩ => ⟨S4x4x4096x129, .f32⟩
  | .hbm, ⟨41, _⟩ => ⟨S_, .f32⟩
  | .hbm, ⟨42, _⟩ => ⟨S4x4x4096, .f32⟩
  | .hbm, ⟨43, _⟩ => ⟨S4x4x4096x1, .f32⟩
  | .hbm, ⟨44, _⟩ => ⟨S4x4x4096x129, .f32⟩
  | .hbm, ⟨45, _⟩ => ⟨S4x4x4096x129, .f32⟩
  | .hbm, ⟨46, _⟩ => ⟨S4x4x4096x129, .f32⟩
  | .hbm, ⟨47, _⟩ => ⟨S_, .f32⟩
  | .hbm, ⟨48, _⟩ => ⟨S4x4x4096, .f32⟩
  | .hbm, ⟨49, _⟩ => ⟨S4x4x4096, .f32⟩
  | .hbm, ⟨50, _⟩ => ⟨S4x4x4096, .f32⟩
  | .hbm, ⟨51, _⟩ => ⟨S4x4x4096x1, .f32⟩
  | .hbm, ⟨52, _⟩ => ⟨S4x4x4096x129, .f32⟩
  | .hbm, ⟨53, _⟩ => ⟨S4x4x4096x129, .f32⟩
  | .hbm, ⟨54, _⟩ => ⟨S4x4x4096x129, .f32⟩
  | .hbm, ⟨55, _⟩ => ⟨S4x4x4096x128, .f32⟩
  | .hbm, ⟨56, _⟩ => ⟨S4x4x4096x1, .f32⟩
  | .hbm, ⟨57, _⟩ => ⟨S4x4x4096x128, .f32⟩
  | .hbm, ⟨58, _⟩ => ⟨S4x4096x4x128, .f32⟩
  | .hbm, ⟨59, _⟩ => ⟨S4x4x64x16x512, .f32⟩
  | .hbm, ⟨60, _⟩ => ⟨S4x4x16x64x512, .f32⟩
  | .hbm, ⟨61, _⟩ => ⟨S4x4096x4x128, .f32⟩
  | .hbm, ⟨62, _⟩ => ⟨S4x4x64x16x512, .f32⟩
  | .hbm, ⟨63, _⟩ => ⟨S4x4x16x64x512, .f32⟩
  | _, _ => ⟨S4x12x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_v22 : Ref sig .tc := ⟨.hbm, 29, rfl⟩
abbrev main_call1_v0 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel2.lean ====
abbrev S4x4096x2048 : Shape := ⟨3, ![4, 4096, 2048]⟩
abbrev S2x2x2048 : Shape := ⟨3, ![2, 2, 2048]⟩
abbrev S2x2x2048x11264 : Shape := ⟨4, ![2, 2, 2048, 11264]⟩
abbrev S2x2x5632x2048 : Shape := ⟨4, ![2, 2, 5632, 2048]⟩
abbrev S16384x2048 : Shape := ⟨2, ![16384, 2048]⟩
abbrev S1x1x2048 : Shape := ⟨3, ![1, 1, 2048]⟩
abbrev S2048 : Shape := ⟨1, ![2048]⟩
abbrev S1x2048 : Shape := ⟨2, ![1, 2048]⟩
abbrev S1024x2048 : Shape := ⟨2, ![1024, 2048]⟩
abbrev S1x1x2048x512 : Shape := ⟨4, ![1, 1, 2048, 512]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S1x1x2048x256 : Shape := ⟨4, ![1, 1, 2048, 256]⟩
abbrev S2048x256 : Shape := ⟨2, ![2048, 256]⟩
abbrev S512x256 : Shape := ⟨2, ![512, 256]⟩
abbrev S1x1x256x2048 : Shape := ⟨4, ![1, 1, 256, 2048]⟩
abbrev S256x2048 : Shape := ⟨2, ![256, 2048]⟩
abbrev S1024x256 : Shape := ⟨2, ![1024, 256]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2x2x2048, .f32⟩
  | .hbm, ⟨2, _⟩ => ⟨S2x2x2048x11264, .f32⟩
  | .hbm, ⟨3, _⟩ => ⟨S2x2x5632x2048, .f32⟩
  | .hbm, ⟨4, _⟩ => ⟨S16384x2048, .f32⟩
  | .hbm, ⟨5, _⟩ => ⟨S1x1x2048, .f32⟩
  | .hbm, ⟨6, _⟩ => ⟨S2048, .f32⟩
  | .hbm, ⟨7, _⟩ => ⟨S2x2x2048x11264, .bf16⟩
  | .hbm, ⟨8, _⟩ => ⟨S2x2x5632x2048, .bf16⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x4096x2048 : Shape := ⟨3, ![4, 4096, 2048]⟩
abbrev S2x2x2048 : Shape := ⟨3, ![2, 2, 2048]⟩
abbrev S2x2x2048x11264 : Shape := ⟨4, ![2, 2, 2048, 11264]⟩
abbrev S2x2x5632x2048 : Shape := ⟨4, ![2, 2, 5632, 2048]⟩
abbrev S16384x2048 : Shape := ⟨2, ![16384, 2048]⟩
abbrev S1x1x2048 : Shape := ⟨3, ![1, 1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x1x2048x11264 : Shape := ⟨4, ![1, 1, 2048, 11264]⟩
abbrev S2048x11264 : Shape := ⟨2, ![2048, 11264]⟩
abbrev S16384x11264 : Shape := ⟨2, ![16384, 11264]⟩
abbrev S16384x5632 : Shape := ⟨2, ![16384, 5632]⟩
abbrev S1x1x5632x2048 : Shape := ⟨4, ![1, 1, 5632, 2048]⟩
abbrev S5632x2048 : Shape := ⟨2, ![5632, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2x2048, .f32⟩
  | .hbm, ⟨2, _⟩ => ⟨S2x2x2048x11264, .f32⟩
  | .hbm, ⟨3, _⟩ => ⟨S2x2x5632x2048, .f32⟩
  | .hbm, ⟨4, _⟩ => ⟨S16384x2048, .f32⟩
  | .hbm, ⟨5, _⟩ => ⟨S1x1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S1x1x2048x11264, .f32⟩
  | .hbm, ⟨24, _⟩ => ⟨S2048x11264, .f32⟩
  | .hbm, ⟨25, _⟩ => ⟨S16384x11264, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S_, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S1x1x5632x2048, .f32⟩
  | .hbm, ⟨39, _⟩ => ⟨S5632x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel3.lean ====
abbrev S4x4096x2048 : Shape := ⟨3, ![4, 4096, 2048]⟩
abbrev S2x4x4096x256 : Shape := ⟨4, ![2, 4, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S16384x2048 : Shape := ⟨2, ![16384, 2048]⟩
abbrev S32768x256 : Shape := ⟨2, ![32768, 256]⟩
abbrev S1x2048 : Shape := ⟨2, ![1, 2048]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2x4x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S16384x2048, .f32⟩
  | .hbm, ⟨7, _⟩ => ⟨S32768x256, .f32⟩
  | .hbm, ⟨8, _⟩ => ⟨S1x2048, .f32⟩
  | .hbm, ⟨9, _⟩ => ⟨S2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S1x256x2048, .f32⟩
  | .hbm, ⟨14, _⟩ => ⟨S256x2048, .f32⟩
  | .hbm, ⟨15, _⟩ => ⟨S256x2048, .bf16⟩
  | .hbm, ⟨16, _⟩ => ⟨S1x2048, .f32⟩
  | .hbm, ⟨17, _⟩ => ⟨S1x2048, .f32⟩
  | .hbm, ⟨18, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x4096x2048 : Shape := ⟨3, ![4, 4096, 2048]⟩
abbrev S2x4x4096x256 : Shape := ⟨4, ![2, 4, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x2048x2048 : Shape := ⟨3, ![1, 2048, 2048]⟩
abbrev S2048x2048 : Shape := ⟨2, ![2048, 2048]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x4x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S1x2048x2048, .f32⟩
  | .hbm, ⟨26, _⟩ => ⟨S2048x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S1x4x4096x256, .f32⟩
  | .hbm, ⟨37, _⟩ => ⟨S4x4096x256, .f32⟩
  | .hbm, ⟨38, _⟩ => ⟨S16384x256, .f32⟩
  | .hbm, ⟨39, _⟩ => ⟨S1x256x2048, .f32⟩
  | .hbm, ⟨40, _⟩ => ⟨S256x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel4.lean ====
abbrev S4x4096x1536 : Shape := ⟨3, ![4, 4096, 1536]⟩
abbrev S1x1536x2048 : Shape := ⟨3, ![1, 1536, 2048]⟩
abbrev S4x4096x2048 : Shape := ⟨3, ![4, 4096, 2048]⟩
abbrev S16384x1536 : Shape := ⟨2, ![16384, 1536]⟩
abbrev S16384x1024 : Shape := ⟨2, ![16384, 1024]⟩
abbrev S16384x512 : Shape := ⟨2, ![16384, 512]⟩
abbrev S1536x2048 : Shape := ⟨2, ![1536, 2048]⟩
abbrev S16384x2048 : Shape := ⟨2, ![16384, 2048]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x1536, .f32⟩
  | .hbm, ⟨1, _⟩ => ⟨S1x1536x2048, .f32⟩
  | .hbm, ⟨2, _⟩ => ⟨S4x4096x2048, .f32⟩
  | .hbm, ⟨3, _⟩ => ⟨S16384x1536, .f32⟩
  | .hbm, ⟨4, _⟩ => ⟨S16384x1024, .f32⟩
  | .hbm, ⟨5, _⟩ => ⟨S16384x1024, .bf16⟩
  | .hbm, ⟨6, _⟩ => ⟨S16384x512, .f32⟩
  | .hbm, ⟨7, _⟩ => ⟨S16384x512, .bf16⟩
  | .hbm, ⟨8, _⟩ => ⟨S1536x2048, .f32⟩
  | .hbm, ⟨9, _⟩ => ⟨S1536x2048, .bf16⟩
  | .hbm, ⟨10, _⟩ => ⟨S16384x2048, .f32⟩
  | .hbm, ⟨11, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x4096x1536 : Shape := ⟨3, ![4, 4096, 1536]⟩
abbrev S1x1536x2048 : Shape := ⟨3, ![1, 1536, 2048]⟩
abbrev S4x4096x2048 : Shape := ⟨3, ![4, 4096, 2048]⟩
abbrev S1536x2048 : Shape := ⟨2, ![1536, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S1x1536x2048, .f32⟩
  | .hbm, ⟨2, _⟩ => ⟨S4x4096x2048, .f32⟩
  | .hbm, ⟨3, _⟩ => ⟨S1536x2048, .f32⟩
  | .hbm, ⟨4, _⟩ => ⟨S4x4096x2048, .f32⟩
  | .hbm, ⟨5, _⟩ => ⟨S4x4096x2048, .f32⟩
  | .hbm, ⟨6, _⟩ => ⟨S16384x2048, .f32⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4x4096x2048 : Shape := ⟨3, ![4, 4096, 2048]⟩
abbrev S1x2048x2048 : Shape := ⟨3, ![1, 2048, 2048]⟩
abbrev S16384x2048 : Shape := ⟨2, ![16384, 2048]⟩
abbrev S16384x1024 : Shape := ⟨2, ![16384, 1024]⟩
abbrev S2048x2048 : Shape := ⟨2, ![2048, 2048]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S1x2048x2048, .f32⟩
  | .hbm, ⟨2, _⟩ => ⟨S4x4096x2048, .f32⟩
  | .hbm, ⟨3, _⟩ => ⟨S16384x2048, .f32⟩
  | .hbm, ⟨4, _⟩ => ⟨S16384x1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S2048x2048, .f32⟩
  | .hbm, ⟨9, _⟩ => ⟨S2048x2048, .bf16⟩
  | .hbm, ⟨10, _⟩ => ⟨S16384x2048, .f32⟩
  | .hbm, ⟨11, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x4096x2048 : Shape := ⟨3, ![4, 4096, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x2048, .f32⟩
  | .hbm, ⟨2, _⟩ => ⟨S4x4096x2048, .f32⟩
  | .hbm, ⟨3, _⟩ => ⟨S2048x2048, .f32⟩
  | .hbm, ⟨4, _⟩ => ⟨S4x4096x2048, .f32⟩
  | .hbm, ⟨5, _⟩ => ⟨S4x4096x2048, .f32⟩
  | .hbm, ⟨6, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4x4096x2048 : Shape := ⟨3, ![4, 4096, 2048]⟩
abbrev S2x2048 : Shape := ⟨2, ![2, 2048]⟩
abbrev S1x2048x3904 : Shape := ⟨3, ![1, 2048, 3904]⟩
abbrev S16384x2048 : Shape := ⟨2, ![16384, 2048]⟩
abbrev S1x2048 : Shape := ⟨2, ![1, 2048]⟩
abbrev S2048 : Shape := ⟨1, ![2048]⟩
abbrev S2048x3904 : Shape := ⟨2, ![2048, 3904]⟩
abbrev S2048x3072 : Shape := ⟨2, ![2048, 3072]⟩
abbrev S4096 : Shape := ⟨1, ![4096]⟩
abbrev S4096x1 : Shape := ⟨2, ![4096, 1]⟩
abbrev S64 : Shape := ⟨1, ![64]⟩
abbrev S_ : Shape := ⟨0, ![]⟩
abbrev S1x64 : Shape := ⟨2, ![1, 64]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S16384x3072 : Shape := ⟨2, ![16384, 3072]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S8x1024x128 : Shape := ⟨3, ![8, 1024, 128]⟩
abbrev S1024 : Shape := ⟨1, ![1024]⟩
abbrev S1024x1 : Shape := ⟨2, ![1024, 1]⟩

abbrev nBuf : Space → Nat
  | .hbm => 65
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x3904, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S2048x3904, .f32⟩
  | .hbm, ⟨7, _⟩ => ⟨S2048x3072, .f32⟩
  | .hbm, ⟨8, _⟩ => ⟨S2048x3072, .bf16⟩
  | .hbm, ⟨9, _⟩ => ⟨S4096, .f32⟩
  | .hbm, ⟨10, _⟩ => ⟨S4096x1, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x64, .f32⟩
  | .hbm, ⟨52, _⟩ => ⟨S4096x128, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S4096x128, .f32⟩
  | .hbm, ⟨57, _⟩ => ⟨S4096x32, .f32⟩
  | .hbm, ⟨58, _⟩ => ⟨S4096x128, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x128, .f32⟩
  | .hbm, ⟨63, _⟩ => ⟨S1x2048, .f32⟩
  | .hbm, ⟨64, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | .local _ .vmem, ⟨16, _⟩ => ⟨S8x1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S4x4096x2048 : Shape := ⟨3, ![4, 4096, 2048]⟩
abbrev S2x2048 : Shape := ⟨2, ![2, 2048]⟩
abbrev S1x2048x3904 : Shape := ⟨3, ![1, 2048, 3904]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x3904 : Shape := ⟨2, ![2048, 3904]⟩
abbrev S4x4096x3904 : Shape := ⟨3, ![4, 4096, 3904]⟩
abbrev S4x4096x3072 : Shape := ⟨3, ![4, 4096, 3072]⟩
abbrev S4x4096x1024 : Shape := ⟨3, ![4, 4096, 1024]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4x4096x8x128 : Shape := ⟨4, ![4, 4096, 8, 128]⟩
abbrev S4x8x4096x128 : Shape := ⟨4, ![4, 8, 4096, 128]⟩
abbrev S4x8x4096x64 : Shape := ⟨4, ![4, 8, 4096, 64]⟩
abbrev S1x1x4096x64 : Shape := ⟨4, ![1, 1, 4096, 64]⟩
abbrev S16384x1024 : Shape := ⟨2, ![16384, 1024]⟩
abbrev S16384x3072 : Shape := ⟨2, ![16384, 3072]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x3904, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S2048x3904, .f32⟩
  | .hbm, ⟨22, _⟩ => ⟨S4x4096x3904, .f32⟩
  | .hbm, ⟨23, _⟩ => ⟨S4x4096x3072, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S4096, .f32⟩
  | .hbm, ⟨44, _⟩ => ⟨S4096x1, .f32⟩
  | .hbm, ⟨45, _⟩ => ⟨S1x64, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096x64, .f32⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S4x4096x8x128, .f32⟩
  | .hbm, ⟨55, _⟩ => ⟨S4x8x4096x128, .f32⟩
  | .hbm, ⟨56, _⟩ => ⟨S4x8x4096x64, .f32⟩
  | .hbm, ⟨57, _⟩ => ⟨S4x8x4096x64, .f32⟩
  | .hbm, ⟨58, _⟩ => ⟨S1x1x4096x64, .f32⟩
  | .hbm, ⟨59, _⟩ => ⟨S4x8x4096x64, .f32⟩
  | .hbm, ⟨60, _⟩ => ⟨S4x8x4096x64, .f32⟩
  | .hbm, ⟨61, _⟩ => ⟨S1x1x4096x64, .f32⟩
  | .hbm, ⟨62, _⟩ => ⟨S4x8x4096x64, .f32⟩
  | .hbm, ⟨63, _⟩ => ⟨S4x8x4096x64, .f32⟩
  | .hbm, ⟨64, _⟩ => ⟨S4x8x4096x64, .f32⟩
  | .hbm, ⟨65, _⟩ => ⟨S1x1x4096x64, .f32⟩
  | .hbm, ⟨66, _⟩ => ⟨S4x8x4096x64, .f32⟩
  | .hbm, ⟨67, _⟩ => ⟨S4x8x4096x64, .f32⟩
  | .hbm, ⟨68, _⟩ => ⟨S1x1x4096x64, .f32⟩
  | .hbm, ⟨69, _⟩ => ⟨S4x8x4096x64, .f32⟩
  | .hbm, ⟨70, _⟩ => ⟨S4x8x4096x64, .f32⟩
  | .hbm, ⟨71, _⟩ => ⟨S4x8x4096x64, .f32⟩
  | .hbm, ⟨72, _⟩ => ⟨S4x8x4096x128, .f32⟩
  | .hbm, ⟨73, _⟩ => ⟨S4x4096x8x128, .f32⟩
  | .hbm, ⟨74, _⟩ => ⟨S4x8x4096x128, .f32⟩
  | .hbm, ⟨75, _⟩ => ⟨S4x8x4096x64, .f32⟩
  | .hbm, ⟨76, _⟩ => ⟨S4x8x4096x64, .f32⟩
  | .hbm, ⟨77, _⟩ => ⟨S1x1x4096x64, .f32⟩
  | .hbm, ⟨78, _⟩ => ⟨S4x8x4096x64, .f32⟩
  | .hbm, ⟨79, _⟩ => ⟨S4x8x4096x64, .f32⟩
  | .hbm, ⟨80, _⟩ => ⟨S1x1x4096x64, .f32⟩
  | .hbm, ⟨81, _⟩ => ⟨S4x8x4096x64, .f32⟩
  | .hbm, ⟨82, _⟩ => ⟨S4x8x4096x64, .f32⟩
  | .hbm, ⟨83, _⟩ => ⟨S4x8x4096x64, .f32⟩
  | .hbm, ⟨84, _⟩ => ⟨S1x1x4096x64, .f32⟩
  | .hbm, ⟨85, _⟩ => ⟨S4x8x4096x64, .f32⟩
  | .hbm, ⟨86, _⟩ => ⟨S4x8x4096x64, .f32⟩
  | .hbm, ⟨87, _⟩ => ⟨S1x1x4096x64, .f32⟩
  | .hbm, ⟨88, _⟩ => ⟨S4x8x4096x64, .f32⟩
  | .hbm, ⟨89, _⟩ => ⟨S4x8x4096x64, .f32⟩
  | .hbm, ⟨90, _⟩ => ⟨S4x8x4096x64, .f32⟩
  | .hbm, ⟨91, _⟩ => ⟨S4x8x4096x128, .f32⟩
  | .hbm, ⟨92, _⟩ => ⟨S4x4096x8x128, .f32⟩
  | .hbm, ⟨93, _⟩ => ⟨S16384x1024, .f32⟩
  | .hbm, ⟨94, _⟩ => ⟨S4x4096x8x128, .f32⟩
  | .hbm, ⟨95, _⟩ => ⟨S16384x1024, .f32⟩
  | .hbm, ⟨96, _⟩ => ⟨S16384x1024, .f32⟩
  | .hbm, ⟨97, _⟩ => ⟨S16384x3072, .f32⟩
  | .hbm, ⟨98, _⟩ => ⟨S16384x3072, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩

abbrev nD : Nat := 1
abbrev τ : Topo := Topo.v7x

variable {F : FTy → Type} [FloatOps F]
-- ==== Kernel7.lean ====
abbrev S4x4096x2048 : Shape := ⟨3, ![4, 4096, 2048]⟩
abbrev S2x2048 : Shape := ⟨2, ![2, 2048]⟩
abbrev S1x2048x3904 : Shape := ⟨3, ![1, 2048, 3904]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S2048x3904 : Shape := ⟨2, ![2048, 3904]⟩
abbrev S512x1536 : Shape := ⟨2, ![512, 1536]⟩
abbrev S256x2048 : Shape := ⟨2, ![256, 2048]⟩
abbrev S512x8x192 : Shape := ⟨3, ![512, 8, 192]⟩
abbrev S512x8x128 : Shape := ⟨3, ![512, 8, 128]⟩
abbrev S512x8x64 : Shape := ⟨3, ![512, 8, 64]⟩
abbrev S_ : Shape := ⟨0, ![]⟩
abbrev S512x8x32 : Shape := ⟨3, ![512, 8, 32]⟩
abbrev S512x8x256 : Shape := ⟨3, ![512, 8, 256]⟩
abbrev S512x2048 : Shape := ⟨2, ![512, 2048]⟩
abbrev S2048x768 : Shape := ⟨2, ![2048, 768]⟩
abbrev S2048x64 : Shape := ⟨2, ![2048, 64]⟩
abbrev S2048x32 : Shape := ⟨2, ![2048, 32]⟩
abbrev S2048x128 : Shape := ⟨2, ![2048, 128]⟩
abbrev S2048x896 : Shape := ⟨2, ![2048, 896]⟩
abbrev S16384x2048 : Shape := ⟨2, ![16384, 2048]⟩
abbrev S1x2048 : Shape := ⟨2, ![1, 2048]⟩
abbrev S2048 : Shape := ⟨1, ![2048]⟩
abbrev S512 : Shape := ⟨1, ![512]⟩
abbrev S256 : Shape := ⟨1, ![256]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S16384x128 : Shape := ⟨2, ![16384, 128]⟩
abbrev S512x128 : Shape := ⟨2, ![512, 128]⟩
abbrev S256x1 : Shape := ⟨2, ![256, 1]⟩
abbrev S256x896 : Shape := ⟨2, ![256, 896]⟩
abbrev S256x128 : Shape := ⟨2, ![256, 128]⟩
abbrev S256x512 : Shape := ⟨2, ![256, 512]⟩
abbrev S256x256 : Shape := ⟨2, ![256, 256]⟩

abbrev nBuf : Space → Nat
  | .hbm => 96
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x3904, .f32⟩
  | .hbm, ⟨3, _⟩ => ⟨S1x512, .f32⟩
  | .hbm, ⟨4, _⟩ => ⟨S1x512x1536, .f32⟩
  | .hbm, ⟨5, _⟩ => ⟨S1x256, .f32⟩
  | .hbm, ⟨6, _⟩ => ⟨S1x256x2048, .f32⟩
  | .hbm, ⟨7, _⟩ => ⟨S2048x3904, .f32⟩
  | .hbm, ⟨8, _⟩ => ⟨S512x1536, .f32⟩
  | .hbm, ⟨9, _⟩ => ⟨S256x2048, .f32⟩
  | .hbm, ⟨10, _⟩ => ⟨S512x8x192, .f32⟩
  | .hbm, ⟨11, _⟩ => ⟨S512x8x128, .f32⟩
  | .hbm, ⟨12, _⟩ => ⟨S512x8x64, .f32⟩
  | .hbm, ⟨13, _⟩ => ⟨S_, .f32⟩
  | .hbm, ⟨14, _⟩ => ⟨S512x8x32, .f32⟩
  | .hbm, ⟨15, _⟩ => ⟨S512x8x32, .f32⟩
  | .hbm, ⟨16, _⟩ => ⟨S512x8x32, .f32⟩
  | .hbm, ⟨17, _⟩ => ⟨S512x8x128, .f32⟩
  | .hbm, ⟨18, _⟩ => ⟨S512x8x256, .f32⟩
  | .hbm, ⟨19, _⟩ => ⟨S512x2048, .f32⟩
  | .hbm, ⟨20, _⟩ => ⟨S512x2048, .bf16⟩
  | .hbm, ⟨21, _⟩ => ⟨S2048x768, .f32⟩
  | .hbm, ⟨22, _⟩ => ⟨S2048x64, .f32⟩
  | .hbm, ⟨23, _⟩ => ⟨S_, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x128, .f32⟩
  | .hbm, ⟨28, _⟩ => ⟨S2048x896, .f32⟩
  | .hbm, ⟨29, _⟩ => ⟨S2048x896, .bf16⟩
  | .hbm, ⟨30, _⟩ => ⟨S16384x2048, .f32⟩
  | .hbm, ⟨31, _⟩ => ⟨S1x2048, .f32⟩
  | .hbm, ⟨32, _⟩ => ⟨S2048, .f32⟩
  | .hbm, ⟨33, _⟩ => ⟨S512, .f32⟩
  | .hbm, ⟨34, _⟩ => ⟨S256, .f32⟩
  | .hbm, ⟨35, _⟩ => ⟨S256x2048, .bf16⟩
  | .hbm, ⟨36, _⟩ => ⟨S4096, .f32⟩
  | .hbm, ⟨37, _⟩ => ⟨S4096x1, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S1x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x64, .f32⟩
  | .hbm, ⟨79, _⟩ => ⟨S4096x128, .f32⟩
  | .hbm, ⟨80, _⟩ => ⟨S4096x64, .f32⟩
  | .hbm, ⟨81, _⟩ => ⟨S4096x64, .f32⟩
  | .hbm, ⟨82, _⟩ => ⟨S4096x64, .f32⟩
  | .hbm, ⟨83, _⟩ => ⟨S4096x128, .f32⟩
  | .hbm, ⟨84, _⟩ => ⟨S4096x32, .f32⟩
  | .hbm, ⟨85, _⟩ => ⟨S4096x128, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x128, .f32⟩
  | .hbm, ⟨90, _⟩ => ⟨S1x2048, .f32⟩
  | .hbm, ⟨91, _⟩ => ⟨S1x512, .f32⟩
  | .hbm, ⟨92, _⟩ => ⟨S1x256, .f32⟩
  | .hbm, ⟨93, _⟩ => ⟨S16384x2048, .bf16⟩
  | .hbm, ⟨94, _⟩ => ⟨S16384x2048, .bf16⟩
  | .hbm, ⟨95, _⟩ => ⟨S16384x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x896, .bf16⟩
  | .local _ .vmem, ⟨4, _⟩ => ⟨S1x512, .f32⟩
  | .local _ .vmem, ⟨5, _⟩ => ⟨S512x2048, .bf16⟩
  | .local _ .vmem, ⟨6, _⟩ => ⟨S1x256, .f32⟩
  | .local _ .vmem, ⟨7, _⟩ => ⟨S256x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x128, .bf16⟩
  | .local _ .vmem, ⟨17, _⟩ => ⟨S512x128, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74_0 : Ref sig .tc := ⟨.hbm, 93, rfl⟩
abbrev main_v74_1 : Ref sig .tc := ⟨.hbm, 94, rfl⟩
abbrev main_v74_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S4x4096x2048 : Shape := ⟨3, ![4, 4096, 2048]⟩
abbrev S2x2048 : Shape := ⟨2, ![2, 2048]⟩
abbrev S1x2048x3904 : Shape := ⟨3, ![1, 2048, 3904]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x3904 : Shape := ⟨2, ![2048, 3904]⟩
abbrev S4x4096x3904 : Shape := ⟨3, ![4, 4096, 3904]⟩
abbrev S4x4096x512 : Shape := ⟨3, ![4, 4096, 512]⟩
abbrev S4x4096x256 : Shape := ⟨3, ![4, 4096, 256]⟩
abbrev S4x4096x64 : Shape := ⟨3, ![4, 4096, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S512 : Shape := ⟨1, ![512]⟩
abbrev S1x1x512 : Shape := ⟨3, ![1, 1, 512]⟩
abbrev S512x1536 : Shape := ⟨2, ![512, 1536]⟩
abbrev S4x4096x1536 : Shape := ⟨3, ![4, 4096, 1536]⟩
abbrev S4x4096x8x192 : Shape := ⟨4, ![4, 4096, 8, 192]⟩
abbrev S4x8x4096x192 : Shape := ⟨4, ![4, 8, 4096, 192]⟩
abbrev S256 : Shape := ⟨1, ![256]⟩
abbrev S1x1x256 : Shape := ⟨3, ![1, 1, 256]⟩
abbrev S256x2048 : Shape := ⟨2, ![256, 2048]⟩
abbrev S4x4096x32 : Shape := ⟨3, ![4, 4096, 32]⟩
abbrev S1x4096x32 : Shape := ⟨3, ![1, 4096, 32]⟩
abbrev S4x8x4096x64 : Shape := ⟨4, ![4, 8, 4096, 64]⟩
abbrev S4x8x4096x32 : Shape := ⟨4, ![4, 8, 4096, 32]⟩
abbrev S1x1x4096x32 : Shape := ⟨4, ![1, 1, 4096, 32]⟩
abbrev S4x8x4096x128 : Shape := ⟨4, ![4, 8, 4096, 128]⟩
abbrev S4x8x4096x256 : Shape := ⟨4, ![4, 8, 4096, 256]⟩
abbrev S4x4096x8x256 : Shape := ⟨4, ![4, 4096, 8, 256]⟩
abbrev S16384x2048 : Shape := ⟨2, ![16384, 2048]⟩
abbrev S4x4096x128 : Shape := ⟨3, ![4, 4096, 128]⟩
abbrev S16384x128 : Shape := ⟨2, ![16384, 128]⟩

abbrev nBuf : Space → Nat
  | .hbm => 151
  | .vmem => 0
  | .smem => 0
  | _ => 0

abbrev hbmTy0_0 (i : Nat) : BufTy := match i % 128 with
  | 0 => ⟨S4x4096x2048, .f32⟩
  | 1 => ⟨S2x2048, .f32⟩
  | 2 => ⟨S1x2048x3904, .f32⟩
  | 3 => ⟨S1x512, .f32⟩
  | 4 => ⟨S1x512x1536, .f32⟩
  | 5 => ⟨S1x256, .f32⟩
  | 6 => ⟨S1x256x2048, .f32⟩
  | 7 => ⟨S1x2048, .f32⟩
  | 8 => ⟨S2048, .f32⟩
  | 9 => ⟨S4x4096x2048, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x2048, .f32⟩
  | 21 => ⟨S4x4096x2048, .f32⟩
  | 22 => ⟨S1x1x2048, .f32⟩
  | 23 => ⟨S4x4096x2048, .f32⟩
  | 24 => ⟨S4x4096x2048, .f32⟩
  | 25 => ⟨S2048x3904, .f32⟩
  | 26 => ⟨S4x4096x3904, .f32⟩
  | 27 => ⟨S4x4096x512, .f32⟩
  | 28 => ⟨S4x4096x256, .f32⟩
  | 29 => ⟨S4x4096x64, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4096, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x32, .f32⟩
  | 53 => ⟨S4096x32, .f32⟩
  | 54 => ⟨S512, .f32⟩
  | 55 => ⟨S4x4096x512, .f32⟩
  | 56 => ⟨S_, .f32⟩
  | 57 => ⟨S4x4096, .f32⟩
  | 58 => ⟨S4x4096x1, .f32⟩
  | 59 => ⟨S_, .f32⟩
  | 60 => ⟨S4x4096x1, .f32⟩
  | 61 => ⟨S4x4096x1, .f32⟩
  | 62 => ⟨S_, .f32⟩
  | 63 => ⟨S4x4096x1, .f32⟩
  | 64 => ⟨S4x4096x1, .f32⟩
  | 65 => ⟨S4x4096x1, .f32⟩
  | 66 => ⟨S4x4096x512, .f32⟩
  | 67 => ⟨S4x4096x512, .f32⟩
  | 68 => ⟨S1x1x512, .f32⟩
  | 69 => ⟨S4x4096x512, .f32⟩
  | 70 => ⟨S4x4096x512, .f32⟩
  | 71 => ⟨S512x1536, .f32⟩
  | 72 => ⟨S4x4096x1536, .f32⟩
  | 73 => ⟨S_, .f32⟩
  | 74 => ⟨S4x4096x1536, .f32⟩
  | 75 => ⟨S4x4096x1536, .f32⟩
  | 76 => ⟨S4x4096x8x192, .f32⟩
  | 77 => ⟨S4x8x4096x192, .f32⟩
  | 78 => ⟨S256, .f32⟩
  | 79 => ⟨S4x4096x256, .f32⟩
  | 80 => ⟨S_, .f32⟩
  | 81 => ⟨S4x4096, .f32⟩
  | 82 => ⟨S4x4096x1, .f32⟩
  | 83 => ⟨S_, .f32⟩
  | 84 => ⟨S4x4096x1, .f32⟩
  | 85 => ⟨S4x4096x1, .f32⟩
  | 86 => ⟨S_, .f32⟩
  | 87 => ⟨S4x4096x1, .f32⟩
  | 88 => ⟨S4x4096x1, .f32⟩
  | 89 => ⟨S4x4096x1, .f32⟩
  | 90 => ⟨S4x4096x256, .f32⟩
  | 91 => ⟨S4x4096x256, .f32⟩
  | 92 => ⟨S1x1x256, .f32⟩
  | 93 => ⟨S4x4096x256, .f32⟩
  | 94 => ⟨S4x4096x256, .f32⟩
  | 95 => ⟨S256x2048, .f32⟩
  | 96 => ⟨S4x4096x2048, .f32⟩
  | 97 => ⟨S4x4096x32, .f32⟩
  | 98 => ⟨S4x4096x32, .f32⟩
  | 99 => ⟨S1x4096x32, .f32⟩
  | 100 => ⟨S4x4096x32, .f32⟩
  | 101 => ⟨S4x4096x32, .f32⟩
  | 102 => ⟨S1x4096x32, .f32⟩
  | 103 => ⟨S4x4096x32, .f32⟩
  | 104 => ⟨S4x4096x32, .f32⟩
  | 105 => ⟨S4x4096x32, .f32⟩
  | 106 => ⟨S1x4096x32, .f32⟩
  | 107 => ⟨S4x4096x32, .f32⟩
  | 108 => ⟨S4x4096x32, .f32⟩
  | 109 => ⟨S1x4096x32, .f32⟩
  | 110 => ⟨S4x4096x32, .f32⟩
  | 111 => ⟨S4x4096x32, .f32⟩
  | 112 => ⟨S4x4096x32, .f32⟩
  | 113 => ⟨S4x4096x64, .f32⟩
  | 114 => ⟨S4x8x4096x64, .f32⟩
  | 115 => ⟨S4x8x4096x32, .f32⟩
  | 116 => ⟨S4x8x4096x32, .f32⟩
  | 117 => ⟨S1x1x4096x32, .f32⟩
  | 118 => ⟨S4x8x4096x32, .f32⟩
  | 119 => ⟨S4x8x4096x32, .f32⟩
  | 120 => ⟨S1x1x4096x32, .f32⟩
  | 121 => ⟨S4x8x4096x32, .f32⟩
  | 122 => ⟨S4x8x4096x32, .f32⟩
  | 123 => ⟨S4x8x4096x32, .f32⟩
  | 124 => ⟨S1x1x4096x32, .f32⟩
  | 125 => ⟨S4x8x4096x32, .f32⟩
  | 126 => ⟨S4x8x4096x32, .f32⟩
  | 127 => ⟨S1x1x4096x32, .f32⟩
  | _ => ⟨S4x4096x2048, .f32⟩

abbrev hbmTy0_1 (i : Nat) : BufTy := match i % 128 with
  | 0 => ⟨S4x8x4096x32, .f32⟩
  | 1 => ⟨S4x8x4096x32, .f32⟩
  | 2 => ⟨S4x8x4096x32, .f32⟩
  | 3 => ⟨S4x8x4096x64, .f32⟩
  | 4 => ⟨S4x8x4096x128, .f32⟩
  | 5 => ⟨S_, .f32⟩
  | 6 => ⟨S4x8x4096x32, .f32⟩
  | 7 => ⟨S4x8x4096x32, .f32⟩
  | 8 => ⟨S4x8x4096x32, .f32⟩
  | 9 => ⟨S4x8x4096x128, .f32⟩
  | 10 => ⟨S4x8x4096x256, .f32⟩
  | 11 => ⟨S4x4096x8x256, .f32⟩
  | 12 => ⟨S16384x2048, .f32⟩
  | 13 => ⟨S16384x2048, .bf16⟩
  | 14 => ⟨S16384x2048, .f32⟩
  | 15 => ⟨S16384x2048, .bf16⟩
  | 16 => ⟨S_, .f32⟩
  | 17 => ⟨S4x4096x32, .f32⟩
  | 18 => ⟨S4x4096x32, .f32⟩
  | 19 => ⟨S4x4096x32, .f32⟩
  | 20 => ⟨S4x4096x128, .f32⟩
  | 21 => ⟨S16384x128, .f32⟩
  | 22 => ⟨S16384x128, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_14 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_15 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩

abbrev nD : Nat := 1
abbrev τ : Topo := Topo.v7x

variable {F : FTy → Type} [FloatOps F]
-- ==== Kernel8.lean ====
abbrev S4x4096x2048 : Shape := ⟨3, ![4, 4096, 2048]⟩
abbrev S2x2048 : Shape := ⟨2, ![2, 2048]⟩
abbrev S1x2048x7680 : Shape := ⟨3, ![1, 2048, 7680]⟩
abbrev S2048x7680 : Shape := ⟨2, ![2048, 7680]⟩
abbrev S2048x1024 : Shape := ⟨2, ![2048, 1024]⟩
abbrev S2048x8x2x2x32 : Shape := ⟨5, ![2048, 8, 2, 2, 32]⟩
abbrev S2048x5632 : Shape := ⟨2, ![2048, 5632]⟩
abbrev S16384x2048 : Shape := ⟨2, ![16384, 2048]⟩
abbrev S1x2048 : Shape := ⟨2, ![1, 2048]⟩
abbrev S2048 : Shape := ⟨1, ![2048]⟩
abbrev S4096 : Shape := ⟨1, ![4096]⟩
abbrev S4096x1 : Shape := ⟨2, ![4096, 1]⟩
abbrev S64 : Shape := ⟨1, ![64]⟩
abbrev S_ : Shape := ⟨0, ![]⟩
abbrev S1x64 : Shape := ⟨2, ![1, 64]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S16384x7680 : Shape := ⟨2, ![16384, 7680]⟩
abbrev S1024x2048 : Shape := ⟨2, ![1024, 2048]⟩
abbrev S2048x1280 : Shape := ⟨2, ![2048, 1280]⟩
abbrev S1024x128 : Shape := ⟨2, ![1024, 128]⟩
abbrev S1024x1280 : Shape := ⟨2, ![1024, 1280]⟩
abbrev S10x1024x128 : Shape := ⟨3, ![10, 1024, 128]⟩
abbrev S1024 : Shape := ⟨1, ![1024]⟩
abbrev S1024x1 : Shape := ⟨2, ![1024, 1]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 74
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x7680, .f32⟩
  | .hbm, ⟨3, _⟩ => ⟨S2048x7680, .f32⟩
  | .hbm, ⟨4, _⟩ => ⟨S2048x1024, .f32⟩
  | .hbm, ⟨5, _⟩ => ⟨S2048x8x2x2x32, .f32⟩
  | .hbm, ⟨6, _⟩ => ⟨S2048x8x2x2x32, .f32⟩
  | .hbm, ⟨7, _⟩ => ⟨S2048x1024, .f32⟩
  | .hbm, ⟨8, _⟩ => ⟨S2048x1024, .f32⟩
  | .hbm, ⟨9, _⟩ => ⟨S2048x8x2x2x32, .f32⟩
  | .hbm, ⟨10, _⟩ => ⟨S2048x8x2x2x32, .f32⟩
  | .hbm, ⟨11, _⟩ => ⟨S2048x1024, .f32⟩
  | .hbm, ⟨12, _⟩ => ⟨S2048x5632, .f32⟩
  | .hbm, ⟨13, _⟩ => ⟨S2048x7680, .f32⟩
  | .hbm, ⟨14, _⟩ => ⟨S2048x7680, .bf16⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S4096, .f32⟩
  | .hbm, ⟨19, _⟩ => ⟨S4096x1, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S1x64, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x64, .f32⟩
  | .hbm, ⟨61, _⟩ => ⟨S4096x128, .f32⟩
  | .hbm, ⟨62, _⟩ => ⟨S4096x64, .f32⟩
  | .hbm, ⟨63, _⟩ => ⟨S4096x64, .f32⟩
  | .hbm, ⟨64, _⟩ => ⟨S4096x64, .f32⟩
  | .hbm, ⟨65, _⟩ => ⟨S4096x128, .f32⟩
  | .hbm, ⟨66, _⟩ => ⟨S4096x32, .f32⟩
  | .hbm, ⟨67, _⟩ => ⟨S4096x128, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x128, .f32⟩
  | .hbm, ⟨72, _⟩ => ⟨S1x2048, .f32⟩
  | .hbm, ⟨73, _⟩ => ⟨S16384x7680, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1280, .bf16⟩
  | .local _ .vmem, ⟨14, _⟩ => ⟨S1024x1280, .bf16⟩
  | .local _ .vmem, ⟨15, _⟩ => ⟨S1024x2048, .bf16⟩
  | .local _ .vmem, ⟨16, _⟩ => ⟨S10x1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S4x4096x2048 : Shape := ⟨3, ![4, 4096, 2048]⟩
abbrev S2x2048 : Shape := ⟨2, ![2, 2048]⟩
abbrev S1x2048x7680 : Shape := ⟨3, ![1, 2048, 7680]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x7680 : Shape := ⟨2, ![2048, 7680]⟩
abbrev S4x4096x7680 : Shape := ⟨3, ![4, 4096, 7680]⟩
abbrev S4x4096x1024 : Shape := ⟨3, ![4, 4096, 1024]⟩
abbrev S4x4096x1536 : Shape := ⟨3, ![4, 4096, 1536]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S64 : Shape := ⟨1, ![64]⟩
abbrev S1x64 : Shape := ⟨2, ![1, 64]⟩
abbrev S4096x64 : Shape := ⟨2, ![4096, 64]⟩
abbrev S4x4096x8x2x64 : Shape := ⟨5, ![4, 4096, 8, 2, 64]⟩
abbrev S4x8x2x4096x64 : Shape := ⟨5, ![4, 8, 2, 4096, 64]⟩
abbrev S4x8x2x4096x32 : Shape := ⟨5, ![4, 8, 2, 4096, 32]⟩
abbrev S1x1x1x4096x32 : Shape := ⟨5, ![1, 1, 1, 4096, 32]⟩
abbrev S4x8x2x4096x2x32 : Shape := ⟨6, ![4, 8, 2, 4096, 2, 32]⟩
abbrev S4x4096x8x2x2x32 : Shape := ⟨6, ![4, 4096, 8, 2, 2, 32]⟩
abbrev S16384x1024 : Shape := ⟨2, ![16384, 1024]⟩
abbrev S4x4096x12x128 : Shape := ⟨4, ![4, 4096, 12, 128]⟩
abbrev S4x12x4096x128 : Shape := ⟨4, ![4, 12, 4096, 128]⟩
abbrev S4x12x4096x64 : Shape := ⟨4, ![4, 12, 4096, 64]⟩
abbrev S1x1x4096x64 : Shape := ⟨4, ![1, 1, 4096, 64]⟩
abbrev S4x4096x512 : Shape := ⟨3, ![4, 4096, 512]⟩
abbrev S4x4x1024x1x512 : Shape := ⟨5, ![4, 4, 1024, 1, 512]⟩
abbrev S4x4x1x1024x512 : Shape := ⟨5, ![4, 4, 1, 1024, 512]⟩
abbrev S16384x512 : Shape := ⟨2, ![16384, 512]⟩
abbrev S4x4x256x4x512 : Shape := ⟨5, ![4, 4, 256, 4, 512]⟩
abbrev S4x4x4x256x512 : Shape := ⟨5, ![4, 4, 4, 256, 512]⟩
abbrev S4x4x64x16x512 : Shape := ⟨5, ![4, 4, 64, 16, 512]⟩
abbrev S4x4x16x64x512 : Shape := ⟨5, ![4, 4, 16, 64, 512]⟩
abbrev S16384x1536 : Shape := ⟨2, ![16384, 1536]⟩
abbrev S16384x7680 : Shape := ⟨2, ![16384, 7680]⟩

abbrev nBuf : Space → Nat
  | .hbm => 211
  | .vmem => 0
  | .smem => 0
  | _ => 0

abbrev hbmTy0_0 (i : Nat) : BufTy := match i % 128 with
  | 0 => ⟨S4x4096x2048, .f32⟩
  | 1 => ⟨S2x2048, .f32⟩
  | 2 => ⟨S1x2048x7680, .f32⟩
  | 3 => ⟨S1x2048, .f32⟩
  | 4 => ⟨S2048, .f32⟩
  | 5 => ⟨S4x4096x2048, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x2048, .f32⟩
  | 17 => ⟨S4x4096x2048, .f32⟩
  | 18 => ⟨S1x1x2048, .f32⟩
  | 19 => ⟨S4x4096x2048, .f32⟩
  | 20 => ⟨S4x4096x2048, .f32⟩
  | 21 => ⟨S2048x7680, .f32⟩
  | 22 => ⟨S4x4096x7680, .f32⟩
  | 23 => ⟨S4x4096x1024, .f32⟩
  | 24 => ⟨S4x4096x1024, .f32⟩
  | 25 => ⟨S4x4096x1024, .f32⟩
  | 26 => ⟨S4x4096x1536, .f32⟩
  | 27 => ⟨S4x4096x1536, .f32⟩
  | 28 => ⟨S4x4096x1536, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S4096, .f32⟩
  | 46 => ⟨S4096x1, .f32⟩
  | 47 => ⟨S1x32, .f32⟩
  | 48 => ⟨S4096x32, .f32⟩
  | 49 => ⟨S4096x32, .f32⟩
  | 50 => ⟨S4096x32, .f32⟩
  | 51 => ⟨S4096x32, .f32⟩
  | 52 => ⟨S4096x32, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S4096, .f32⟩
  | 70 => ⟨S4096x1, .f32⟩
  | 71 => ⟨S1x64, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S_, .f32⟩
  | 78 => ⟨S4x4096x1024, .f32⟩
  | 79 => ⟨S4x4096x1024, .f32⟩
  | 80 => ⟨S4x4096x8x2x64, .f32⟩
  | 81 => ⟨S4x8x2x4096x64, .f32⟩
  | 82 => ⟨S4x8x2x4096x32, .f32⟩
  | 83 => ⟨S4x8x2x4096x32, .f32⟩
  | 84 => ⟨S1x1x1x4096x32, .f32⟩
  | 85 => ⟨S4x8x2x4096x32, .f32⟩
  | 86 => ⟨S4x8x2x4096x32, .f32⟩
  | 87 => ⟨S1x1x1x4096x32, .f32⟩
  | 88 => ⟨S4x8x2x4096x32, .f32⟩
  | 89 => ⟨S4x8x2x4096x32, .f32⟩
  | 90 => ⟨S4x8x2x4096x32, .f32⟩
  | 91 => ⟨S1x1x1x4096x32, .f32⟩
  | 92 => ⟨S4x8x2x4096x32, .f32⟩
  | 93 => ⟨S4x8x2x4096x32, .f32⟩
  | 94 => ⟨S1x1x1x4096x32, .f32⟩
  | 95 => ⟨S4x8x2x4096x32, .f32⟩
  | 96 => ⟨S4x8x2x4096x32, .f32⟩
  | 97 => ⟨S4x8x2x4096x32, .f32⟩
  | 98 => ⟨S4x8x2x4096x64, .f32⟩
  | 99 => ⟨S4x8x2x4096x2x32, .f32⟩
  | 100 => ⟨S4x4096x8x2x2x32, .f32⟩
  | 101 => ⟨S16384x1024, .f32⟩
  | 102 => ⟨S4x4096x8x2x64, .f32⟩
  | 103 => ⟨S4x8x2x4096x64, .f32⟩
  | 104 => ⟨S4x8x2x4096x32, .f32⟩
  | 105 => ⟨S4x8x2x4096x32, .f32⟩
  | 106 => ⟨S1x1x1x4096x32, .f32⟩
  | 107 => ⟨S4x8x2x4096x32, .f32⟩
  | 108 => ⟨S4x8x2x4096x32, .f32⟩
  | 109 => ⟨S1x1x1x4096x32, .f32⟩
  | 110 => ⟨S4x8x2x4096x32, .f32⟩
  | 111 => ⟨S4x8x2x4096x32, .f32⟩
  | 112 => ⟨S4x8x2x4096x32, .f32⟩
  | 113 => ⟨S1x1x1x4096x32, .f32⟩
  | 114 => ⟨S4x8x2x4096x32, .f32⟩
  | 115 => ⟨S4x8x2x4096x32, .f32⟩
  | 116 => ⟨S1x1x1x4096x32, .f32⟩
  | 117 => ⟨S4x8x2x4096x32, .f32⟩
  | 118 => ⟨S4x8x2x4096x32, .f32⟩
  | 119 => ⟨S4x8x2x4096x32, .f32⟩
  | 120 => ⟨S4x8x2x4096x64, .f32⟩
  | 121 => ⟨S4x8x2x4096x2x32, .f32⟩
  | 122 => ⟨S4x4096x8x2x2x32, .f32⟩
  | 123 => ⟨S16384x1024, .f32⟩
  | 124 => ⟨S16384x1024, .f32⟩
  | 125 => ⟨S_, .f32⟩
  | 126 => ⟨S4x4096x1536, .f32⟩
  | 127 => ⟨S4x4096x1536, .f32⟩
  | _ => ⟨S4x4096x2048, .f32⟩

abbrev hbmTy0_1 (i : Nat) : BufTy := match i % 128 with
  | 0 => ⟨S4x4096x12x128, .f32⟩
  | 1 => ⟨S4x12x4096x128, .f32⟩
  | 2 => ⟨S4x12x4096x64, .f32⟩
  | 3 => ⟨S4x12x4096x64, .f32⟩
  | 4 => ⟨S1x1x4096x64, .f32⟩
  | 5 => ⟨S4x12x4096x64, .f32⟩
  | 6 => ⟨S4x12x4096x64, .f32⟩
  | 7 => ⟨S1x1x4096x64, .f32⟩
  | 8 => ⟨S4x12x4096x64, .f32⟩
  | 9 => ⟨S4x12x4096x64, .f32⟩
  | 10 => ⟨S4x12x4096x64, .f32⟩
  | 11 => ⟨S1x1x4096x64, .f32⟩
  | 12 => ⟨S4x12x4096x64, .f32⟩
  | 13 => ⟨S4x12x4096x64, .f32⟩
  | 14 => ⟨S1x1x4096x64, .f32⟩
  | 15 => ⟨S4x12x4096x64, .f32⟩
  | 16 => ⟨S4x12x4096x64, .f32⟩
  | 17 => ⟨S4x12x4096x64, .f32⟩
  | 18 => ⟨S4x12x4096x128, .f32⟩
  | 19 => ⟨S4x4096x12x128, .f32⟩
  | 20 => ⟨S4x4096x1536, .f32⟩
  | 21 => ⟨S4x4096x512, .f32⟩
  | 22 => ⟨S4x4x1024x1x512, .f32⟩
  | 23 => ⟨S4x4x1x1024x512, .f32⟩
  | 24 => ⟨S16384x512, .f32⟩
  | 25 => ⟨S4x4096x512, .f32⟩
  | 26 => ⟨S4x4x256x4x512, .f32⟩
  | 27 => ⟨S4x4x4x256x512, .f32⟩
  | 28 => ⟨S16384x512, .f32⟩
  | 29 => ⟨S4x4096x512, .f32⟩
  | 30 => ⟨S4x4x64x16x512, .f32⟩
  | 31 => ⟨S4x4x16x64x512, .f32⟩
  | 32 => ⟨S16384x512, .f32⟩
  | 33 => ⟨S16384x1536, .f32⟩
  | 34 => ⟨S4x4096x12x128, .f32⟩
  | 35 => ⟨S4x12x4096x128, .f32⟩
  | 36 => ⟨S4x12x4096x64, .f32⟩
  | 37 => ⟨S4x12x4096x64, .f32⟩
  | 38 => ⟨S1x1x4096x64, .f32⟩
  | 39 => ⟨S4x12x4096x64, .f32⟩
  | 40 => ⟨S4x12x4096x64, .f32⟩
  | 41 => ⟨S1x1x4096x64, .f32⟩
  | 42 => ⟨S4x12x4096x64, .f32⟩
  | 43 => ⟨S4x12x4096x64, .f32⟩
  | 44 => ⟨S4x12x4096x64, .f32⟩
  | 45 => ⟨S1x1x4096x64, .f32⟩
  | 46 => ⟨S4x12x4096x64, .f32⟩
  | 47 => ⟨S4x12x4096x64, .f32⟩
  | 48 => ⟨S1x1x4096x64, .f32⟩
  | 49 => ⟨S4x12x4096x64, .f32⟩
  | 50 => ⟨S4x12x4096x64, .f32⟩
  | 51 => ⟨S4x12x4096x64, .f32⟩
  | 52 => ⟨S4x12x4096x128, .f32⟩
  | 53 => ⟨S4x4096x12x128, .f32⟩
  | 54 => ⟨S4x4096x1536, .f32⟩
  | 55 => ⟨S4x4096x512, .f32⟩
  | 56 => ⟨S4x4x1024x1x512, .f32⟩
  | 57 => ⟨S4x4x1x1024x512, .f32⟩
  | 58 => ⟨S16384x512, .f32⟩
  | 59 => ⟨S4x4096x512, .f32⟩
  | 60 => ⟨S4x4x256x4x512, .f32⟩
  | 61 => ⟨S4x4x4x256x512, .f32⟩
  | 62 => ⟨S16384x512, .f32⟩
  | 63 => ⟨S4x4096x512, .f32⟩
  | 64 => ⟨S4x4x64x16x512, .f32⟩
  | 65 => ⟨S4x4x16x64x512, .f32⟩
  | 66 => ⟨S16384x512, .f32⟩
  | 67 => ⟨S16384x1536, .f32⟩
  | 68 => ⟨S4x4096x512, .f32⟩
  | 69 => ⟨S4x4x1024x1x512, .f32⟩
  | 70 => ⟨S4x4x1x1024x512, .f32⟩
  | 71 => ⟨S16384x512, .f32⟩
  | 72 => ⟨S4x4096x512, .f32⟩
  | 73 => ⟨S4x4x256x4x512, .f32⟩
  | 74 => ⟨S4x4x4x256x512, .f32⟩
  | 75 => ⟨S16384x512, .f32⟩
  | 76 => ⟨S4x4096x512, .f32⟩
  | 77 => ⟨S4x4x64x16x512, .f32⟩
  | 78 => ⟨S4x4x16x64x512, .f32⟩
  | 79 => ⟨S16384x512, .f32⟩
  | 80 => ⟨S16384x1536, .f32⟩
  | 81 => ⟨S16384x7680, .f32⟩
  | 82 => ⟨S16384x7680, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_cst_11 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_13 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩

abbrev nD : Nat := 1
abbrev τ : Topo := Topo.v7x

variable {F : FTy → Type} [FloatOps F]
-- ==== Kernel9.lean ====
abbrev S4x4096x2048 : Shape := ⟨3, ![4, 4096, 2048]⟩
abbrev S2x4x4096x256 : Shape := ⟨4, ![2, 4, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S16384x2048 : Shape := ⟨2, ![16384, 2048]⟩
abbrev S32768x256 : Shape := ⟨2, ![32768, 256]⟩
abbrev S1x2048 : Shape := ⟨2, ![1, 2048]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2x4x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S16384x2048, .f32⟩
  | .hbm, ⟨7, _⟩ => ⟨S32768x256, .f32⟩
  | .hbm, ⟨8, _⟩ => ⟨S1x2048, .f32⟩
  | .hbm, ⟨9, _⟩ => ⟨S2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S1x256x2048, .f32⟩
  | .hbm, ⟨14, _⟩ => ⟨S256x2048, .f32⟩
  | .hbm, ⟨15, _⟩ => ⟨S256x2048, .bf16⟩
  | .hbm, ⟨16, _⟩ => ⟨S1x2048, .f32⟩
  | .hbm, ⟨17, _⟩ => ⟨S1x2048, .f32⟩
  | .hbm, ⟨18, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x4096x2048 : Shape := ⟨3, ![4, 4096, 2048]⟩
abbrev S2x4x4096x256 : Shape := ⟨4, ![2, 4, 4096, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x2048x2048 : Shape := ⟨3, ![1, 2048, 2048]⟩
abbrev S2048x2048 : Shape := ⟨2, ![2048, 2048]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x4x4096x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S1x2048x2048, .f32⟩
  | .hbm, ⟨26, _⟩ => ⟨S2048x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S1x4x4096x256, .f32⟩
  | .hbm, ⟨37, _⟩ => ⟨S4x4096x256, .f32⟩
  | .hbm, ⟨38, _⟩ => ⟨S16384x256, .f32⟩
  | .hbm, ⟨39, _⟩ => ⟨S1x256x2048, .f32⟩
  | .hbm, ⟨40, _⟩ => ⟨S256x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.DilMath.lean ====
module

public import Idealize.ShloMosaic.Lib.Pointwise

@[expose] public section

noncomputable section

namespace Cert.DilMath

open Idealize.ShloMosaic

variable {ι κ : Type} [Fintype ι] [Fintype κ]

/-- The largest score of a row. -/
def top (s : ι → EReal) : EReal := Finset.fold max ⊥ s Finset.univ

/-- The row's sum of exponentials, taken below its largest score. -/
def mass (s : ι → EReal) : EReal := ∑ j, Ideal.exp (s j - top s)

/-- The log-sum-exp of a row of scores. -/
def lse (s : ι → EReal) : EReal := top s + Ideal.log (mass s)

/-- The softmax-weighted mean of `v`: the weighted sum first, then one division. -/
def att (s v : ι → EReal) : EReal := Ideal.div (∑ j, Ideal.exp (s j - top s) * v j) (mass s)

theorem le_top (s : ι → EReal) (j : ι) : s j ≤ top s :=
  (Finset.fold_max_le (top s)).1 le_rfl |>.2 j (Finset.mem_univ j)

theorem top_le (s : ι → EReal) (c : EReal) (h : ∀ j, s j ≤ c) : top s ≤ c :=
  (Finset.fold_max_le c).2 ⟨bot_le, fun j _ => h j⟩

theorem top_ne_top (s : ι → EReal) (h : ∀ j, s j ≠ ⊤) : top s ≠ ⊤ :=
  ne_of_lt ((Finset.fold_max_lt ⊤).2 ⟨bot_lt_top, fun j _ => lt_top_iff_ne_top.2 (h j)⟩)

/-- A non-negative real factor moves out of a sum. -/
theorem sum_mul_coe (f : ι → EReal) (c : ℝ) (hc : 0 ≤ c) : ∑ j, f j * (c : EReal) = (∑ j, f j) * (c : EReal) := by
  classical
  induction (Finset.univ : Finset ι) using Finset.induction_on with
  | empty => simp
  | insert a t ha ih =>
    rw [Finset.sum_insert ha, Finset.sum_insert ha, ih,
      EReal.right_distrib_of_nonneg_of_ne_top (EReal.coe_nonneg.2 hc) (EReal.coe_ne_top c)]

/-- Subtracting the log-sum-exp from every score and then summing gives the same mean as dividing the sum. -/
theorem sum_exp_lse (s v : ι → EReal) (h : ∀ j, s j ≠ ⊤) (j₀ : ι) (h₀ : s j₀ ≠ ⊥) :
    ∑ j, Ideal.exp (s j - lse s) * v j = att s v := by
  have hM : ∃ M : ℝ, top s = (M : EReal) := by
    refine ⟨(top s).toReal, (EReal.coe_toReal (top_ne_top s h) ?_).symm⟩
    intro hb
    exact h₀ (le_bot_iff.1 (hb ▸ le_top s j₀))
  obtain ⟨M, hM⟩ := hM
  have hE : ∃ E : ι → ℝ, (∀ j, 0 ≤ E j) ∧ 0 < E j₀ ∧ (∀ j, Ideal.exp (s j - (M : EReal)) = (E j : EReal)) ∧
      ∀ (L : ℝ), 0 < L → ∀ j, Ideal.exp (s j - ((M : EReal) + (Real.log L : EReal))) = ((E j * L⁻¹ : ℝ) : EReal) := by
    refine ⟨fun j => if s j = ⊥ then 0 else Real.exp ((s j).toReal - M), fun j => ?_, ?_, fun j => ?_, fun L hL j => ?_⟩
    · dsimp only; split
      · exact le_rfl
      · exact (Real.exp_pos _).le
    · dsimp only; rw [if_neg h₀]; exact Real.exp_pos _
    · dsimp only
      by_cases hj : s j = ⊥
      · rw [if_pos hj, hj, EReal.bot_sub]; rfl
      · rw [if_neg hj]
        have hr := EReal.coe_toReal (h j) hj
        generalize (s j).toReal = r at hr
        rw [← hr, ← EReal.coe_sub]; rfl
    · dsimp only
      by_cases hj : s j = ⊥
      · rw [if_pos hj, hj, EReal.bot_sub, zero_mul]; rfl
      · rw [if_neg hj]
        have hr := EReal.coe_toReal (h j) hj
        generalize (s j).toReal = r at hr
        rw [← hr, ← EReal.coe_add, ← EReal.coe_sub]
        show ((Real.exp _ : ℝ) : EReal) = _
        rw [← sub_sub, Real.exp_sub (r - M), Real.exp_log hL, div_eq_mul_inv]
  obtain ⟨E, hE0, hEp, hE, hEL⟩ := hE
  have hsum : ∀ t : Finset ι, ∑ j ∈ t, (E j : EReal) = ((∑ j ∈ t, E j : ℝ) : EReal) := by
    classical
    intro t
    induction t using Finset.induction_on with
    | empty => simp
    | insert a t ha ih => rw [Finset.sum_insert ha, Finset.sum_insert ha, ih, EReal.coe_add]
  have hL : 0 < ∑ j, E j := Finset.sum_pos' (fun j _ => hE0 j) ⟨j₀, Finset.mem_univ _, hEp⟩
  have hmass : mass s = ((∑ j, E j : ℝ) : EReal) := by
    unfold mass
    rw [hM, ← hsum]
    exact Finset.sum_congr rfl fun j _ => hE j
  generalize (∑ j, E j : ℝ) = L at hL hmass
  have hlog : Ideal.log (L : EReal) = (Real.log L : EReal) := by
    show (if L ≤ 0 then (⊥ : EReal) else (Real.log L : EReal)) = _
    rw [if_neg (not_le.2 hL)]
  unfold att lse
  rw [hmass, hM, hlog]
  have hdiv : ∀ x : EReal, Ideal.div x (L : EReal) = x * ((L⁻¹ : ℝ) : EReal) := by
    intro x
    unfold Ideal.div
    rw [if_neg (EReal.coe_ne_zero.2 hL.ne'), EReal.coe_inv]
  rw [hdiv, ← sum_mul_coe _ _ (inv_nonneg.2 hL.le)]
  refine Finset.sum_congr rfl fun j _ => ?_
  rw [hEL L hL j, hE j, EReal.coe_mul, mul_right_comm]

section Reindex

variable (P : ι → Prop) (Q : κ → Prop) (a v : ι → EReal) (b w : κ → EReal) (φ : κ → ι)
  [DecidablePred P] [DecidablePred Q]

theorem top_reindex (hQ : ∀ n, Q n → P (φ n)) (hs : ∀ j, P j → ∃ n, Q n ∧ φ n = j) (hab : ∀ n, Q n → b n = a (φ n)) :
    top (fun j => if P j then a j else ⊥) = top (fun n => if Q n then b n else ⊥) := by
  apply le_antisymm
  · refine top_le _ _ fun j => ?_
    by_cases hj : P j
    · obtain ⟨n, hn, rfl⟩ := hs j hj
      refine le_trans (le_of_eq ?_) (le_top _ n)
      rw [if_pos hj, if_pos hn, hab n hn]
    · rw [if_neg hj]; exact bot_le
  · refine top_le _ _ fun n => ?_
    by_cases hn : Q n
    · refine le_trans (le_of_eq ?_) (le_top _ (φ n))
      rw [if_pos (hQ n hn), if_pos hn, hab n hn]
    · rw [if_neg hn]; exact bot_le

theorem sum_reindex (M : EReal) (hQ : ∀ n, Q n → P (φ n)) (hi : ∀ n m, Q n → Q m → φ n = φ m → n = m)
    (hs : ∀ j, P j → ∃ n, Q n ∧ φ n = j) (hab : ∀ n, Q n → b n = a (φ n)) (hvw : ∀ n, Q n → w n = v (φ n)) :
    ∑ j, Ideal.exp ((if P j then a j else ⊥) - M) * v j = ∑ n, Ideal.exp ((if Q n then b n else ⊥) - M) * w n := by
  have h1 : ∀ j, Ideal.exp ((if P j then a j else ⊥) - M) * v j = if P j then Ideal.exp (a j - M) * v j else 0 := by
    intro j; split
    · rfl
    · rw [EReal.bot_sub]; exact zero_mul _
  have h2 : ∀ n, Ideal.exp ((if Q n then b n else ⊥) - M) * w n = if Q n then Ideal.exp (b n - M) * w n else 0 := by
    intro j; split
    · rfl
    · rw [EReal.bot_sub]; exact zero_mul _
  rw [Finset.sum_congr rfl fun j _ => h1 j, Finset.sum_congr rfl fun n _ => h2 n, ← Finset.sum_filter, ← Finset.sum_filter]
  symm
  refine Finset.sum_bij (fun n _ => φ n) ?_ ?_ ?_ ?_
  · intro n hn; simp only [Finset.mem_filter, Finset.mem_univ, true_and] at hn ⊢; exact hQ n hn
  · intro n hn m hm h
    simp only [Finset.mem_filter, Finset.mem_univ, true_and] at hn hm
    exact hi n m hn hm h
  · intro j hj
    simp only [Finset.mem_filter, Finset.mem_univ, true_and] at hj
    obtain ⟨n, hn, h⟩ := hs j hj
    exact ⟨n, by simpa using hn, h⟩
  · intro n hn
    simp only [Finset.mem_filter, Finset.mem_univ, true_and] at hn
    rw [hab n hn, hvw n hn]

variable (hQ : ∀ n, Q n → P (φ n)) (hi : ∀ n m, Q n → Q m → φ n = φ m → n = m)
    (hs : ∀ j, P j → ∃ n, Q n ∧ φ n = j) (hab : ∀ n, Q n → b n = a (φ n))
include hQ hi hs hab

/-- Two masked rows whose kept scores correspond one to one have the same mass. -/
theorem mass_reindex : mass (fun j => if P j then a j else ⊥) = mass (fun n => if Q n then b n else ⊥) := by
  have h := sum_reindex P Q a (fun _ => 1) b (fun _ => 1) φ (top (fun n => if Q n then b n else ⊥)) hQ hi hs hab (fun _ _ => rfl)
  simp only [mul_one] at h
  unfold mass
  rw [top_reindex P Q a b φ hQ hs hab]
  exact h

/-- Two masked rows whose kept scores correspond one to one have the same log-sum-exp. -/
theorem lse_reindex : lse (fun j => if P j then a j else ⊥) = lse (fun n => if Q n then b n else ⊥) := by
  unfold lse
  rw [mass_reindex P Q a b φ hQ hi hs hab, top_reindex P Q a b φ hQ hs hab]

/-- Two masked rows whose kept scores and values correspond one to one have the same mean. -/
theorem att_reindex (hvw : ∀ n, Q n → w n = v (φ n)) :
    att (fun j => if P j then a j else ⊥) v = att (fun n => if Q n then b n else ⊥) w := by
  unfold att
  rw [mass_reindex P Q a b φ hQ hi hs hab, top_reindex P Q a b φ hQ hs hab,
    sum_reindex P Q a v b w φ _ hQ hi hs hab hvw]

end Reindex

end Cert.DilMath
-- ==== Proof.DilTile.lean ====
module

public import proofs.«01_k».proof.Proof.Gen.KernelIdeal.Frame
public import Idealize.ShloMosaic.Lib.Pipeline.ValueKit
public import proofs.«01_k».proof.Proof.DilMath

@[expose] public section

set_option maxRecDepth 16384

noncomputable section

namespace Cert.DilTile

open Idealize.ShloMosaic Idealize.ShloMosaic.TcCoe Idealize.SL.Sem
open Cert.KernelIdeal Cert.KernelIdeal.Gen

abbrev Blk := Vec Ideal S1x2x1x64x128 .bf16

def row (x : Blk) (i : Fin 128) (d : Fin 128) : EReal :=
  x (ix5 0 ⟨i.val / 64, by omega⟩ 0 ⟨i.val % 64, by omega⟩ d)

/-- A tile's key and value rows, two tiles one after the other. -/
def row2 (x y : Blk) (j : Fin 256) (d : Fin 128) : EReal :=
  if h : j.val < 128 then row x ⟨j.val, h⟩ d else row y ⟨j.val - 128, by omega⟩ d

theorem negInf : Ideal.ofBits .f32 0xFF800000#32 = ⊥ := by simp [Ideal.ofBits, Ideal.ieee]

theorem select_eq (c : BitVec 1) (P : Prop) [Decidable P] (h : c = 1#1 ↔ P) (a b : EReal) :
    Scalar.select c a b = if P then a else b := by
  show (if c = 1#1 then a else b) = _
  by_cases hP : P
  · rw [if_pos hP, if_pos (h.2 hP)]
  · rw [if_neg hP, if_neg (fun hc => hP (h.1 hc))]

/-- The first tile's masked scores. -/
theorem sc0 (k q : Blk) (i j : Fin 128) :
    k0_pay2 k q (ix2 i j) = if j.val ≤ i.val then ∑ d : Fin 128, row q i d * row k j d else ⊥ := by
  pointwise [k0_pay2]
  rw [negInf]
  exact select_eq _ _ (by word_cmp) _ _

def s0 (k q : Blk) (i j : Fin 128) : EReal := if j.val ≤ i.val then ∑ d : Fin 128, row q i d * row k j d else ⊥

theorem m0 (k q : Blk) (i : Fin 128) :
    k0_pay3 k q (ix2 i 0) = DilMath.top (s0 k q i) := by
  pointwise [k0_pay3]
  rw [negInf]
  unfold DilMath.top
  exact congrArg (fun f => Finset.fold max ⊥ f Finset.univ) (funext fun j => sc0 k q i j)

theorem e0 (k q : Blk) (i j : Fin 128) :
    k0_pay4 k q (ix2 i j) = Ideal.exp (s0 k q i j - DilMath.top (s0 k q i)) := by
  pointwise [k0_pay4]
  rw [m0, sc0]; rfl

theorem l0 (k q : Blk) (i : Fin 128) :
    k0_pay5 k q (ix2 i 0) = DilMath.mass (s0 k q i) := by
  pointwise [k0_pay5]
  unfold DilMath.mass
  exact Finset.sum_congr rfl fun j _ => e0 k q i j

theorem o0 (k v q : Blk) (s : Fin 2) (r : Fin 64) (d : Fin 128) :
    k0_pay6 k v q (ix5 0 s 0 r d) = DilMath.att (s0 k q ⟨s.val * 64 + r.val, by omega⟩) (fun j => row v j d) := by
  pointwise [k0_pay6]
  unfold DilMath.att
  rw [l0]
  refine congrArg (Ideal.div · _) (Finset.sum_congr rfl fun j _ => ?_)
  rw [e0]; rfl

theorem lse0 (k q : Blk) (s : Fin 2) (r : Fin 64) (d : Fin 128) :
    k0_pay7 (k0_pay3 k q) (k0_pay5 k q) (ix5 0 s 0 r d) = DilMath.lse (s0 k q ⟨s.val * 64 + r.val, by omega⟩) := by
  pointwise [k0_pay7]
  rw [l0, m0]; rfl

abbrev M1 : IVec S128x256 1 := k0_pay122 (iota .tc S128x1 32 [0] iota_S128x1_d0_w32)

theorem mask1 (i : Fin 128) (j : Fin 256) : M1 (ix2 i j) = 1#1 ↔ (i.val ≤ j.val ∧ j.val ≤ i.val + 128) := by
  pointwise [k0_pay122]
  rw [WordCmp.addi_ofNat]
  word_cmp

def s1 (k k' q : Blk) (i : Fin 128) (j : Fin 256) : EReal :=
  if i.val ≤ j.val ∧ j.val ≤ i.val + 128 then ∑ d : Fin 128, row q i d * row2 k k' j d else ⊥

theorem sc1 (k k' q : Blk) (i : Fin 128) (j : Fin 256) :
    k0_pay124 (F := Ideal) M1 k k' q (ix2 i j) = s1 k k' q i j := by
  have h := mask1 i j
  generalize M1 = M at h ⊢
  pointwise [k0_pay124]
  rw [negInf]
  exact select_eq _ _ h _ _

theorem m1 (k k' q : Blk) (i : Fin 128) : k0_pay125 (F := Ideal) M1 k k' q (ix1 i) = DilMath.top (s1 k k' q i) := by
  have h := sc1 k k' q i
  generalize M1 = M at h ⊢
  pointwise [k0_pay125]
  rw [negInf]
  unfold DilMath.top
  exact congrArg (fun f => Finset.fold max ⊥ f Finset.univ) (funext h)

theorem e1 (k k' q : Blk) (i : Fin 128) (j : Fin 256) :
    k0_pay127 (k0_pay124 (F := Ideal) M1 k k' q) (k0_pay125 M1 k k' q) (ix2 i j)
      = Ideal.exp (s1 k k' q i j - DilMath.top (s1 k k' q i)) := by
  have h := sc1 k k' q i j
  have h' := m1 k k' q i
  generalize M1 = M at h h' ⊢
  pointwise [k0_pay127, k0_pay126]
  rw [h, h']

theorem l1 (k k' q : Blk) (i : Fin 128) :
    k0_pay128 (k0_pay124 (F := Ideal) M1 k k' q) (k0_pay125 M1 k k' q) (ix2 i 0) = DilMath.mass (s1 k k' q i) := by
  have h := e1 k k' q i
  generalize M1 = M at h ⊢
  pointwise [k0_pay128]
  unfold DilMath.mass
  exact Finset.sum_congr rfl fun j _ => h j

theorem o1 (k k' v v' q : Blk) (s : Fin 2) (r : Fin 64) (d : Fin 128) :
    k0_pay129 (k0_pay123 v v') (k0_pay124 (F := Ideal) M1 k k' q) (k0_pay125 M1 k k' q) (ix5 0 s 0 r d)
      = DilMath.att (s1 k k' q ⟨s.val * 64 + r.val, by omega⟩) (fun j => row2 v v' j d) := by
  have h := e1 k k' q ⟨s.val * 64 + r.val, by omega⟩
  have h' := l1 k k' q ⟨s.val * 64 + r.val, by omega⟩
  generalize M1 = M at h h' ⊢
  pointwise [k0_pay129, k0_pay123]
  unfold DilMath.att
  rw [h']
  refine congrArg (Ideal.div · _) ?_
  rw [Fin.sum_univ_two_halves 128 128 rfl]
  refine congrArg₂ (· + ·) (Finset.sum_congr rfl fun j _ => ?_) (Finset.sum_congr rfl fun j _ => ?_)
  · rw [h]
    refine Ideal.mul_congr rfl ?_
    dsimp only
    unfold row2
    rw [dif_pos (show (⟨j.val, by omega⟩ : Fin 256).val < 128 from j.isLt)]; rfl
  · rw [h]
    refine Ideal.mul_congr rfl ?_
    dsimp only
    unfold row2
    rw [dif_neg (show ¬ (⟨128 + j.val, by omega⟩ : Fin 256).val < 128 from by dsimp only; omega)]
    unfold row
    refine congrArg v' ?_
    idx_ext

theorem lse1 (k k' q : Blk) (s : Fin 2) (r : Fin 64) (d : Fin 128) :
    k0_pay130 (k0_pay124 (F := Ideal) M1 k k' q) (k0_pay125 M1 k k' q) (ix5 0 s 0 r d)
      = DilMath.lse (s1 k k' q ⟨s.val * 64 + r.val, by omega⟩) := by
  have h := m1 k k' q ⟨s.val * 64 + r.val, by omega⟩
  have h' := l1 k k' q ⟨s.val * 64 + r.val, by omega⟩
  generalize M1 = M at h h' ⊢
  pointwise [k0_pay130, k0_pay126]
  rw [h, h']; rfl

/-! ## The same two tiles as one band of 129 keys -/

abbrev Wnd := Vec Ideal S1x4x4x64x512 .bf16

/-- Position `p` of the token's class `e` and head `h` of a block: its slab is `p / 64`, its row `p % 64`. -/
def acc (X : Wnd) (e h : Fin 4) (p : Fin 256) (d : Fin 128) : EReal :=
  X (ix5 0 ⟨p.val / 64, by omega⟩ e ⟨p.val % 64, by omega⟩ ⟨h.val * 128 + d.val, by omega⟩)

/-- The scores of position `p` against itself and the 128 positions before it, masked where there are fewer. -/
def band (Q K : Fin 256 → Fin 128 → EReal) (p : Fin 256) (n : Fin 129) : EReal :=
  if n.val ≤ p.val then ∑ d : Fin 128, Q p d * K ⟨p.val - n.val, by omega⟩ d else ⊥

/-- The same positions' values. -/
def back (V : Fin 256 → Fin 128 → EReal) (p : Fin 256) (d : Fin 128) (n : Fin 129) : EReal := V ⟨p.val - n.val, by omega⟩ d

section Band
variable (Q K V : Fin 256 → Fin 128 → EReal) (q k v k' v' : Blk)

theorem s0_band (i : Fin 128) (d : Fin 128)
    (hq : ∀ (i : Fin 128) d, row q i d = Q ⟨i.val, by omega⟩ d) (hk : ∀ (i : Fin 128) d, row k i d = K ⟨i.val, by omega⟩ d)
    (hv : ∀ (i : Fin 128) d, row v i d = V ⟨i.val, by omega⟩ d) :
    DilMath.lse (s0 k q i) = DilMath.lse (band Q K ⟨i.val, by omega⟩)
    ∧ DilMath.att (s0 k q i) (fun j => row v j d) = DilMath.att (band Q K ⟨i.val, by omega⟩) (back V ⟨i.val, by omega⟩ d) := by
  have hQ : ∀ n : Fin 129, n.val ≤ i.val → i.val - n.val ≤ i.val := fun n _ => by omega
  have hi : ∀ n m : Fin 129, n.val ≤ i.val → m.val ≤ i.val →
      (⟨i.val - n.val, by omega⟩ : Fin 128) = ⟨i.val - m.val, by omega⟩ → n = m := by
    intro n m hn hm h
    have := congrArg Fin.val h
    apply Fin.ext; dsimp only at this; omega
  have hs : ∀ j : Fin 128, j.val ≤ i.val → ∃ n : Fin 129, n.val ≤ i.val ∧ (⟨i.val - n.val, by omega⟩ : Fin 128) = j :=
    fun j hj => ⟨⟨i.val - j.val, by omega⟩, by dsimp only; omega, Fin.ext (by dsimp only; omega)⟩
  have hab : ∀ n : Fin 129, n.val ≤ i.val → ∑ d : Fin 128, Q ⟨i.val, by omega⟩ d * K ⟨i.val - n.val, by omega⟩ d
      = ∑ d : Fin 128, row q i d * row k ⟨i.val - n.val, by omega⟩ d :=
    fun n _ => Finset.sum_congr rfl fun d _ => by rw [hq, hk]
  refine ⟨DilMath.lse_reindex (fun j : Fin 128 => j.val ≤ i.val) (fun n : Fin 129 => n.val ≤ i.val) _ _
      (fun n => ⟨i.val - n.val, by omega⟩) hQ hi hs hab,
    DilMath.att_reindex (fun j : Fin 128 => j.val ≤ i.val) (fun n : Fin 129 => n.val ≤ i.val) _ _ _ _
      (fun n => ⟨i.val - n.val, by omega⟩) hQ hi hs hab ?_⟩
  intro n _
  exact (hv ⟨i.val - n.val, by omega⟩ d).symm

theorem row2_eq (x y : Blk) (X : Fin 256 → Fin 128 → EReal) (hx : ∀ (i : Fin 128) d, row x i d = X ⟨i.val, by omega⟩ d)
    (hy : ∀ (i : Fin 128) d, row y i d = X ⟨128 + i.val, by omega⟩ d) (j : Fin 256) (d : Fin 128) : row2 x y j d = X j d := by
  unfold row2
  split
  · rw [hx]
  · rw [hy]
    exact congrArg (X · d) (Fin.ext (by dsimp only; omega))

theorem s1_band (i : Fin 128) (d : Fin 128)
    (hq : ∀ (i : Fin 128) d, row q i d = Q ⟨128 + i.val, by omega⟩ d)
    (hk : ∀ (i : Fin 128) d, row k i d = K ⟨i.val, by omega⟩ d) (hk' : ∀ (i : Fin 128) d, row k' i d = K ⟨128 + i.val, by omega⟩ d)
    (hv : ∀ (i : Fin 128) d, row v i d = V ⟨i.val, by omega⟩ d) (hv' : ∀ (i : Fin 128) d, row v' i d = V ⟨128 + i.val, by omega⟩ d) :
    DilMath.lse (s1 k k' q i) = DilMath.lse (band Q K ⟨128 + i.val, by omega⟩)
    ∧ DilMath.att (s1 k k' q i) (fun j => row2 v v' j d)
      = DilMath.att (band Q K ⟨128 + i.val, by omega⟩) (back V ⟨128 + i.val, by omega⟩ d) := by
  have hQ : ∀ n : Fin 129, n.val ≤ 128 + i.val → i.val ≤ 128 + i.val - n.val ∧ 128 + i.val - n.val ≤ i.val + 128 :=
    fun n _ => by omega
  have hi : ∀ n m : Fin 129, n.val ≤ 128 + i.val → m.val ≤ 128 + i.val →
      (⟨128 + i.val - n.val, by omega⟩ : Fin 256) = ⟨128 + i.val - m.val, by omega⟩ → n = m := by
    intro n m hn hm h
    have := congrArg Fin.val h
    apply Fin.ext; dsimp only at this; omega
  have hs : ∀ j : Fin 256, i.val ≤ j.val ∧ j.val ≤ i.val + 128 →
      ∃ n : Fin 129, n.val ≤ 128 + i.val ∧ (⟨128 + i.val - n.val, by omega⟩ : Fin 256) = j :=
    fun j hj => ⟨⟨128 + i.val - j.val, by omega⟩, by dsimp only; omega, Fin.ext (by dsimp only; omega)⟩
  have hab : ∀ n : Fin 129, n.val ≤ 128 + i.val → ∑ d : Fin 128, Q ⟨128 + i.val, by omega⟩ d * K ⟨128 + i.val - n.val, by omega⟩ d
      = ∑ d : Fin 128, row q i d * row2 k k' ⟨128 + i.val - n.val, by omega⟩ d :=
    fun n _ => Finset.sum_congr rfl fun d _ => by rw [hq, row2_eq k k' K hk hk']
  refine ⟨DilMath.lse_reindex (fun j : Fin 256 => i.val ≤ j.val ∧ j.val ≤ i.val + 128) (fun n : Fin 129 => n.val ≤ 128 + i.val) _ _
      (fun n => ⟨128 + i.val - n.val, by omega⟩) hQ hi hs hab,
    DilMath.att_reindex (fun j : Fin 256 => i.val ≤ j.val ∧ j.val ≤ i.val + 128) (fun n : Fin 129 => n.val ≤ 128 + i.val) _ _ _ _
      (fun n => ⟨128 + i.val - n.val, by omega⟩) hQ hi hs hab ?_⟩
  intro n _
  exact (row2_eq v v' V hv hv' ⟨128 + i.val - n.val, by omega⟩ d).symm

end Band

/-- What the block's weighted means are, entry by entry. -/
def outO (Q K V : Wnd) (s e : Fin 4) (r : Fin 64) (c : Fin 512) : EReal :=
  DilMath.att (band (acc Q e ⟨c.val / 128, by omega⟩) (acc K e ⟨c.val / 128, by omega⟩) ⟨s.val * 64 + r.val, by omega⟩)
    (back (acc V e ⟨c.val / 128, by omega⟩) ⟨s.val * 64 + r.val, by omega⟩ ⟨c.val % 128, by omega⟩)

/-- What the block's log-sum-exps are, entry by entry. -/
def outL (Q K : Wnd) (s e : Fin 4) (r : Fin 64) (c : Fin 512) : EReal :=
  DilMath.lse (band (acc Q e ⟨c.val / 128, by omega⟩) (acc K e ⟨c.val / 128, by omega⟩) ⟨s.val * 64 + r.val, by omega⟩)

/-- A first-tile piece of the means, read at the window's own index. -/
theorem piece_o0 (Q K V : Wnd) (q k v : Blk) (P : Vec Ideal S1x2x1x64x128 .f32) (y : S1x4x4x64x512.Idx) (x : S1x2x1x64x128.Idx)
    (hP : P = k0_pay6 k v q)
    (hq : ∀ (i d : Fin 128), row q i d = acc Q (y 2) ⟨(y 4).val / 128, by have : (y 4).val < 512 := (y 4).isLt; omega⟩ ⟨i.val, by omega⟩ d)
    (hk : ∀ (i d : Fin 128), row k i d = acc K (y 2) ⟨(y 4).val / 128, by have : (y 4).val < 512 := (y 4).isLt; omega⟩ ⟨i.val, by omega⟩ d)
    (hv : ∀ (i d : Fin 128), row v i d = acc V (y 2) ⟨(y 4).val / 128, by have : (y 4).val < 512 := (y 4).isLt; omega⟩ ⟨i.val, by omega⟩ d)
    (h1 : (y 1).val = (x 1).val) (h3 : (y 3).val = (x 3).val) (h4 : (y 4).val % 128 = (x 4).val) :
    P x = outO Q K V (y 1) (y 2) (y 3) (y 4) := by
  idx_vars x
  idx_vars y
  obtain rfl : x0 = 0 := Subsingleton.elim _ _
  obtain rfl : x2 = 0 := Subsingleton.elim _ _
  subst hP
  have b1 : y1.val < 4 := y1.isLt
  have b3 : y3.val < 64 := y3.isLt
  have c1 : x1.val < 2 := x1.isLt
  have h1' : (y1 : ℕ) = x1.val := h1
  have h3' : (y3 : ℕ) = x3.val := h3
  have h4' : (y4 : ℕ) % 128 = x4.val := h4
  have hp : (⟨y1.val * 64 + y3.val, by omega⟩ : Fin 256) = ⟨(x1.val * 64 + x3.val), by omega⟩ := Fin.ext (by dsimp only; omega)
  have hd : (⟨y4.val % 128, by omega⟩ : Fin 128) = x4 := Fin.ext h4'
  refine (o0 ..).trans ((s0_band _ _ _ q k v _ x4 hq hk hv).2.trans ?_)
  show _ = outO Q K V y1 y2 y3 y4
  unfold outO
  rw [hp, hd]

/-- A first-tile piece of the log-sum-exps, read at the window's own index. -/
theorem piece_l0 (Q K : Wnd) (q k : Blk) (P : Vec Ideal S1x2x1x64x128 .f32) (y : S1x4x4x64x512.Idx) (x : S1x2x1x64x128.Idx)
    (hP : P = k0_pay7 (k0_pay3 k q) (k0_pay5 k q))
    (hq : ∀ (i d : Fin 128), row q i d = acc Q (y 2) ⟨(y 4).val / 128, by have : (y 4).val < 512 := (y 4).isLt; omega⟩ ⟨i.val, by omega⟩ d)
    (hk : ∀ (i d : Fin 128), row k i d = acc K (y 2) ⟨(y 4).val / 128, by have : (y 4).val < 512 := (y 4).isLt; omega⟩ ⟨i.val, by omega⟩ d)
    (h1 : (y 1).val = (x 1).val) (h3 : (y 3).val = (x 3).val) (h4 : (y 4).val % 128 = (x 4).val) :
    P x = outL Q K (y 1) (y 2) (y 3) (y 4) := by
  idx_vars x
  idx_vars y
  obtain rfl : x0 = 0 := Subsingleton.elim _ _
  obtain rfl : x2 = 0 := Subsingleton.elim _ _
  subst hP
  have b1 : y1.val < 4 := y1.isLt
  have b3 : y3.val < 64 := y3.isLt
  have c1 : x1.val < 2 := x1.isLt
  have h1' : (y1 : ℕ) = x1.val := h1
  have h3' : (y3 : ℕ) = x3.val := h3
  have h4' : (y4 : ℕ) % 128 = x4.val := h4
  have hp : (⟨y1.val * 64 + y3.val, by omega⟩ : Fin 256) = ⟨(x1.val * 64 + x3.val), by omega⟩ := Fin.ext (by dsimp only; omega)
  have hd : (⟨y4.val % 128, by omega⟩ : Fin 128) = x4 := Fin.ext h4'
  refine (lse0 ..).trans ((s0_band _ _ _ q k k _ x4 hq hk hk).1.trans ?_)
  show _ = outL Q K y1 y2 y3 y4
  unfold outL
  rw [hp]

/-- A second-tile piece of the means, read at the window's own index. -/
theorem piece_o1 (Q K V : Wnd) (q k k' v v' : Blk) (P : Vec Ideal S1x2x1x64x128 .f32) (y : S1x4x4x64x512.Idx) (x : S1x2x1x64x128.Idx)
    (hP : P = k0_pay129 (k0_pay123 v v') (k0_pay124 M1 k k' q) (k0_pay125 M1 k k' q))
    (hq : ∀ (i d : Fin 128), row q i d = acc Q (y 2) ⟨(y 4).val / 128, by have : (y 4).val < 512 := (y 4).isLt; omega⟩ ⟨128 + i.val, by omega⟩ d)
    (hk : ∀ (i d : Fin 128), row k i d = acc K (y 2) ⟨(y 4).val / 128, by have : (y 4).val < 512 := (y 4).isLt; omega⟩ ⟨i.val, by omega⟩ d)
    (hk' : ∀ (i d : Fin 128), row k' i d = acc K (y 2) ⟨(y 4).val / 128, by have : (y 4).val < 512 := (y 4).isLt; omega⟩ ⟨128 + i.val, by omega⟩ d)
    (hv : ∀ (i d : Fin 128), row v i d = acc V (y 2) ⟨(y 4).val / 128, by have : (y 4).val < 512 := (y 4).isLt; omega⟩ ⟨i.val, by omega⟩ d)
    (hv' : ∀ (i d : Fin 128), row v' i d = acc V (y 2) ⟨(y 4).val / 128, by have : (y 4).val < 512 := (y 4).isLt; omega⟩ ⟨128 + i.val, by omega⟩ d)
    (h1 : (y 1).val = 2 + (x 1).val) (h3 : (y 3).val = (x 3).val) (h4 : (y 4).val % 128 = (x 4).val) :
    P x = outO Q K V (y 1) (y 2) (y 3) (y 4) := by
  idx_vars x
  idx_vars y
  obtain rfl : x0 = 0 := Subsingleton.elim _ _
  obtain rfl : x2 = 0 := Subsingleton.elim _ _
  subst hP
  have b1 : y1.val < 4 := y1.isLt
  have b3 : y3.val < 64 := y3.isLt
  have c1 : x1.val < 2 := x1.isLt
  have h1' : (y1 : ℕ) = 2 + x1.val := h1
  have h3' : (y3 : ℕ) = x3.val := h3
  have h4' : (y4 : ℕ) % 128 = x4.val := h4
  have hp : (⟨y1.val * 64 + y3.val, by omega⟩ : Fin 256) = ⟨128 + (x1.val * 64 + x3.val), by omega⟩ := Fin.ext (by dsimp only; omega)
  have hd : (⟨y4.val % 128, by omega⟩ : Fin 128) = x4 := Fin.ext h4'
  refine (o1 ..).trans ((s1_band _ _ _ q k v k' v' _ x4 hq hk hk' hv hv').2.trans ?_)
  show _ = outO Q K V y1 y2 y3 y4
  unfold outO
  rw [hp, hd]

/-- A second-tile piece of the log-sum-exps, read at the window's own index. -/
theorem piece_l1 (Q K : Wnd) (q k k' : Blk) (P : Vec Ideal S1x2x1x64x128 .f32) (y : S1x4x4x64x512.Idx) (x : S1x2x1x64x128.Idx)
    (hP : P = k0_pay130 (k0_pay124 M1 k k' q) (k0_pay125 M1 k k' q))
    (hq : ∀ (i d : Fin 128), row q i d = acc Q (y 2) ⟨(y 4).val / 128, by have : (y 4).val < 512 := (y 4).isLt; omega⟩ ⟨128 + i.val, by omega⟩ d)
    (hk : ∀ (i d : Fin 128), row k i d = acc K (y 2) ⟨(y 4).val / 128, by have : (y 4).val < 512 := (y 4).isLt; omega⟩ ⟨i.val, by omega⟩ d)
    (hk' : ∀ (i d : Fin 128), row k' i d = acc K (y 2) ⟨(y 4).val / 128, by have : (y 4).val < 512 := (y 4).isLt; omega⟩ ⟨128 + i.val, by omega⟩ d)
    (h1 : (y 1).val = 2 + (x 1).val) (h3 : (y 3).val = (x 3).val) (h4 : (y 4).val % 128 = (x 4).val) :
    P x = outL Q K (y 1) (y 2) (y 3) (y 4) := by
  idx_vars x
  idx_vars y
  obtain rfl : x0 = 0 := Subsingleton.elim _ _
  obtain rfl : x2 = 0 := Subsingleton.elim _ _
  subst hP
  have b1 : y1.val < 4 := y1.isLt
  have b3 : y3.val < 64 := y3.isLt
  have c1 : x1.val < 2 := x1.isLt
  have h1' : (y1 : ℕ) = 2 + x1.val := h1
  have h3' : (y3 : ℕ) = x3.val := h3
  have h4' : (y4 : ℕ) % 128 = x4.val := h4
  have hp : (⟨y1.val * 64 + y3.val, by omega⟩ : Fin 256) = ⟨128 + (x1.val * 64 + x3.val), by omega⟩ := Fin.ext (by dsimp only; omega)
  have hd : (⟨y4.val % 128, by omega⟩ : Fin 128) = x4 := Fin.ext h4'
  refine (lse1 ..).trans ((s1_band _ _ _ q k k k' k' _ x4 hq hk hk' hk hk').1.trans ?_)
  show _ = outL Q K y1 y2 y3 y4
  unfold outL
  rw [hp]

end Cert.DilTile
-- ==== Proof.DilBlock.lean ====
module

public import proofs.«01_k».proof.Proof.DilTile

@[expose] public section

set_option maxRecDepth 16384

noncomputable section

namespace Cert.DilTile

open Idealize.ShloMosaic Idealize.ShloMosaic.TcCoe Idealize.SL.Sem
open Cert.KernelIdeal Cert.KernelIdeal.Gen

set_option maxHeartbeats 4000000 in
/-- Every entry of the block of means the body leaves. -/
theorem point3 (Q K V : Wnd) (y : S1x4x4x64x512.Idx) :
    out0_3 Q K V y = outO Q K V (y 1) (y 2) (y 3) (y 4) := by
  unfold out0_3
  canon_tiles x h
  case piece0 =>
    refine piece_o1 Q K V (View.ld Q r0_47) (View.ld K r0_46) (View.ld K r0_47) (View.ld V r0_46) (View.ld V r0_47) _ y x rfl ?_ ?_ ?_ ?_ ?_ (by omega) (by omega) (by omega) <;> (intro i d; unfold row acc; pointwise; blk_ext [k0_off31_eq, k0_off32_eq])
  case piece1 =>
    refine piece_o1 Q K V (View.ld Q r0_45) (View.ld K r0_44) (View.ld K r0_45) (View.ld V r0_44) (View.ld V r0_45) _ y x rfl ?_ ?_ ?_ ?_ ?_ (by omega) (by omega) (by omega) <;> (intro i d; unfold row acc; pointwise; blk_ext [k0_off29_eq, k0_off30_eq])
  case piece2 =>
    refine piece_o1 Q K V (View.ld Q r0_43) (View.ld K r0_42) (View.ld K r0_43) (View.ld V r0_42) (View.ld V r0_43) _ y x rfl ?_ ?_ ?_ ?_ ?_ (by omega) (by omega) (by omega) <;> (intro i d; unfold row acc; pointwise; blk_ext [k0_off27_eq, k0_off28_eq])
  case piece3 =>
    refine piece_o1 Q K V (View.ld Q r0_41) (View.ld K r0_40) (View.ld K r0_41) (View.ld V r0_40) (View.ld V r0_41) _ y x rfl ?_ ?_ ?_ ?_ ?_ (by omega) (by omega) (by omega) <;> (intro i d; unfold row acc; pointwise; blk_ext [k0_off25_eq, k0_off26_eq])
  case piece4 =>
    refine piece_o1 Q K V (View.ld Q r0_39) (View.ld K r0_38) (View.ld K r0_39) (View.ld V r0_38) (View.ld V r0_39) _ y x rfl ?_ ?_ ?_ ?_ ?_ (by omega) (by omega) (by omega) <;> (intro i d; unfold row acc; pointwise; blk_ext [k0_off23_eq, k0_off24_eq])
  case piece5 =>
    refine piece_o1 Q K V (View.ld Q r0_37) (View.ld K r0_36) (View.ld K r0_37) (View.ld V r0_36) (View.ld V r0_37) _ y x rfl ?_ ?_ ?_ ?_ ?_ (by omega) (by omega) (by omega) <;> (intro i d; unfold row acc; pointwise; blk_ext [k0_off21_eq, k0_off22_eq])
  case piece6 =>
    refine piece_o1 Q K V (View.ld Q r0_35) (View.ld K r0_34) (View.ld K r0_35) (View.ld V r0_34) (View.ld V r0_35) _ y x rfl ?_ ?_ ?_ ?_ ?_ (by omega) (by omega) (by omega) <;> (intro i d; unfold row acc; pointwise; blk_ext [k0_off19_eq, k0_off20_eq])
  case piece7 =>
    refine piece_o1 Q K V (View.ld Q r0_33) (View.ld K r0_32) (View.ld K r0_33) (View.ld V r0_32) (View.ld V r0_33) _ y x rfl ?_ ?_ ?_ ?_ ?_ (by omega) (by omega) (by omega) <;> (intro i d; unfold row acc; pointwise; blk_ext [k0_off17_eq, k0_off18_eq])
  case piece8 =>
    refine piece_o1 Q K V (View.ld Q r0_31) (View.ld K r0_30) (View.ld K r0_31) (View.ld V r0_30) (View.ld V r0_31) _ y x rfl ?_ ?_ ?_ ?_ ?_ (by omega) (by omega) (by omega) <;> (intro i d; unfold row acc; pointwise; blk_ext [k0_off15_eq, k0_off16_eq])
  case piece9 =>
    refine piece_o1 Q K V (View.ld Q r0_29) (View.ld K r0_28) (View.ld K r0_29) (View.ld V r0_28) (View.ld V r0_29) _ y x rfl ?_ ?_ ?_ ?_ ?_ (by omega) (by omega) (by omega) <;> (intro i d; unfold row acc; pointwise; blk_ext [k0_off13_eq, k0_off14_eq])
  case piece10 =>
    refine piece_o1 Q K V (View.ld Q r0_27) (View.ld K r0_26) (View.ld K r0_27) (View.ld V r0_26) (View.ld V r0_27) _ y x rfl ?_ ?_ ?_ ?_ ?_ (by omega) (by omega) (by omega) <;> (intro i d; unfold row acc; pointwise; blk_ext [k0_off11_eq, k0_off12_eq])
  case piece11 =>
    refine piece_o1 Q K V (View.ld Q r0_25) (View.ld K r0_24) (View.ld K r0_25) (View.ld V r0_24) (View.ld V r0_25) _ y x rfl ?_ ?_ ?_ ?_ ?_ (by omega) (by omega) (by omega) <;> (intro i d; unfold row acc; pointwise; blk_ext [k0_off9_eq, k0_off10_eq])
  case piece12 =>
    refine piece_o1 Q K V (View.ld Q r0_23) (View.ld K r0_22) (View.ld K r0_23) (View.ld V r0_22) (View.ld V r0_23) _ y x rfl ?_ ?_ ?_ ?_ ?_ (by omega) (by omega) (by omega) <;> (intro i d; unfold row acc; pointwise; blk_ext [k0_off7_eq, k0_off8_eq])
  case piece13 =>
    refine piece_o1 Q K V (View.ld Q r0_21) (View.ld K r0_20) (View.ld K r0_21) (View.ld V r0_20) (View.ld V r0_21) _ y x rfl ?_ ?_ ?_ ?_ ?_ (by omega) (by omega) (by omega) <;> (intro i d; unfold row acc; pointwise; blk_ext [k0_off5_eq, k0_off6_eq])
  case piece14 =>
    refine piece_o1 Q K V (View.ld Q r0_19) (View.ld K r0_18) (View.ld K r0_19) (View.ld V r0_18) (View.ld V r0_19) _ y x rfl ?_ ?_ ?_ ?_ ?_ (by omega) (by omega) (by omega) <;> (intro i d; unfold row acc; pointwise; blk_ext [k0_off3_eq, k0_off4_eq])
  case piece15 =>
    refine piece_o1 Q K V (View.ld Q r0_17) (View.ld K r0_16) (View.ld K r0_17) (View.ld V r0_16) (View.ld V r0_17) _ y x rfl ?_ ?_ ?_ ?_ ?_ (by omega) (by omega) (by omega) <;> (intro i d; unfold row acc; pointwise; blk_ext [k0_off1_eq, k0_off2_eq])
  case piece16 =>
    refine piece_o0 Q K V (View.ld Q r0_15) (View.ld K r0_15) (View.ld V r0_15) _ y x rfl ?_ ?_ ?_ (by omega) (by omega) (by omega) <;> (intro i d; unfold row acc; pointwise; blk_ext [])
  case piece17 =>
    refine piece_o0 Q K V (View.ld Q r0_14) (View.ld K r0_14) (View.ld V r0_14) _ y x rfl ?_ ?_ ?_ (by omega) (by omega) (by omega) <;> (intro i d; unfold row acc; pointwise; blk_ext [])
  case piece18 =>
    refine piece_o0 Q K V (View.ld Q r0_13) (View.ld K r0_13) (View.ld V r0_13) _ y x rfl ?_ ?_ ?_ (by omega) (by omega) (by omega) <;> (intro i d; unfold row acc; pointwise; blk_ext [])
  case piece19 =>
    refine piece_o0 Q K V (View.ld Q r0_12) (View.ld K r0_12) (View.ld V r0_12) _ y x rfl ?_ ?_ ?_ (by omega) (by omega) (by omega) <;> (intro i d; unfold row acc; pointwise; blk_ext [])
  case piece20 =>
    refine piece_o0 Q K V (View.ld Q r0_11) (View.ld K r0_11) (View.ld V r0_11) _ y x rfl ?_ ?_ ?_ (by omega) (by omega) (by omega) <;> (intro i d; unfold row acc; pointwise; blk_ext [])
  case piece21 =>
    refine piece_o0 Q K V (View.ld Q r0_10) (View.ld K r0_10) (View.ld V r0_10) _ y x rfl ?_ ?_ ?_ (by omega) (by omega) (by omega) <;> (intro i d; unfold row acc; pointwise; blk_ext [])
  case piece22 =>
    refine piece_o0 Q K V (View.ld Q r0_9) (View.ld K r0_9) (View.ld V r0_9) _ y x rfl ?_ ?_ ?_ (by omega) (by omega) (by omega) <;> (intro i d; unfold row acc; pointwise; blk_ext [])
  case piece23 =>
    refine piece_o0 Q K V (View.ld Q r0_8) (View.ld K r0_8) (View.ld V r0_8) _ y x rfl ?_ ?_ ?_ (by omega) (by omega) (by omega) <;> (intro i d; unfold row acc; pointwise; blk_ext [])
  case piece24 =>
    refine piece_o0 Q K V (View.ld Q r0_7) (View.ld K r0_7) (View.ld V r0_7) _ y x rfl ?_ ?_ ?_ (by omega) (by omega) (by omega) <;> (intro i d; unfold row acc; pointwise; blk_ext [])
  case piece25 =>
    refine piece_o0 Q K V (View.ld Q r0_6) (View.ld K r0_6) (View.ld V r0_6) _ y x rfl ?_ ?_ ?_ (by omega) (by omega) (by omega) <;> (intro i d; unfold row acc; pointwise; blk_ext [])
  case piece26 =>
    refine piece_o0 Q K V (View.ld Q r0_5) (View.ld K r0_5) (View.ld V r0_5) _ y x rfl ?_ ?_ ?_ (by omega) (by omega) (by omega) <;> (intro i d; unfold row acc; pointwise; blk_ext [])
  case piece27 =>
    refine piece_o0 Q K V (View.ld Q r0_4) (View.ld K r0_4) (View.ld V r0_4) _ y x rfl ?_ ?_ ?_ (by omega) (by omega) (by omega) <;> (intro i d; unfold row acc; pointwise; blk_ext [])
  case piece28 =>
    refine piece_o0 Q K V (View.ld Q r0_3) (View.ld K r0_3) (View.ld V r0_3) _ y x rfl ?_ ?_ ?_ (by omega) (by omega) (by omega) <;> (intro i d; unfold row acc; pointwise; blk_ext [])
  case piece29 =>
    refine piece_o0 Q K V (View.ld Q r0_2) (View.ld K r0_2) (View.ld V r0_2) _ y x rfl ?_ ?_ ?_ (by omega) (by omega) (by omega) <;> (intro i d; unfold row acc; pointwise; blk_ext [])
  case piece30 =>
    refine piece_o0 Q K V (View.ld Q r0_1) (View.ld K r0_1) (View.ld V r0_1) _ y x rfl ?_ ?_ ?_ (by omega) (by omega) (by omega) <;> (intro i d; unfold row acc; pointwise; blk_ext [])
  case piece31 =>
    refine piece_o0 Q K V (View.ld Q r0_0) (View.ld K r0_0) (View.ld V r0_0) _ y x rfl ?_ ?_ ?_ (by omega) (by omega) (by omega) <;> (intro i d; unfold row acc; pointwise; blk_ext [])

set_option maxHeartbeats 4000000 in
/-- Every entry of the block of log-sum-exps the body leaves. -/
theorem point4 (Q K V : Wnd) (y : S1x4x4x64x512.Idx) :
    out0_4 Q K V y = outL Q K (y 1) (y 2) (y 3) (y 4) := by
  unfold out0_4
  canon_tiles x h
  case piece0 =>
    refine piece_l1 Q K (View.ld Q r0_47) (View.ld K r0_46) (View.ld K r0_47) _ y x rfl ?_ ?_ ?_ (by omega) (by omega) (by omega) <;> (intro i d; unfold row acc; pointwise; blk_ext [k0_off31_eq, k0_off32_eq])
  case piece1 =>
    refine piece_l1 Q K (View.ld Q r0_45) (View.ld K r0_44) (View.ld K r0_45) _ y x rfl ?_ ?_ ?_ (by omega) (by omega) (by omega) <;> (intro i d; unfold row acc; pointwise; blk_ext [k0_off29_eq, k0_off30_eq])
  case piece2 =>
    refine piece_l1 Q K (View.ld Q r0_43) (View.ld K r0_42) (View.ld K r0_43) _ y x rfl ?_ ?_ ?_ (by omega) (by omega) (by omega) <;> (intro i d; unfold row acc; pointwise; blk_ext [k0_off27_eq, k0_off28_eq])
  case piece3 =>
    refine piece_l1 Q K (View.ld Q r0_41) (View.ld K r0_40) (View.ld K r0_41) _ y x rfl ?_ ?_ ?_ (by omega) (by omega) (by omega) <;> (intro i d; unfold row acc; pointwise; blk_ext [k0_off25_eq, k0_off26_eq])
  case piece4 =>
    refine piece_l1 Q K (View.ld Q r0_39) (View.ld K r0_38) (View.ld K r0_39) _ y x rfl ?_ ?_ ?_ (by omega) (by omega) (by omega) <;> (intro i d; unfold row acc; pointwise; blk_ext [k0_off23_eq, k0_off24_eq])
  case piece5 =>
    refine piece_l1 Q K (View.ld Q r0_37) (View.ld K r0_36) (View.ld K r0_37) _ y x rfl ?_ ?_ ?_ (by omega) (by omega) (by omega) <;> (intro i d; unfold row acc; pointwise; blk_ext [k0_off21_eq, k0_off22_eq])
  case piece6 =>
    refine piece_l1 Q K (View.ld Q r0_35) (View.ld K r0_34) (View.ld K r0_35) _ y x rfl ?_ ?_ ?_ (by omega) (by omega) (by omega) <;> (intro i d; unfold row acc; pointwise; blk_ext [k0_off19_eq, k0_off20_eq])
  case piece7 =>
    refine piece_l1 Q K (View.ld Q r0_33) (View.ld K r0_32) (View.ld K r0_33) _ y x rfl ?_ ?_ ?_ (by omega) (by omega) (by omega) <;> (intro i d; unfold row acc; pointwise; blk_ext [k0_off17_eq, k0_off18_eq])
  case piece8 =>
    refine piece_l1 Q K (View.ld Q r0_31) (View.ld K r0_30) (View.ld K r0_31) _ y x rfl ?_ ?_ ?_ (by omega) (by omega) (by omega) <;> (intro i d; unfold row acc; pointwise; blk_ext [k0_off15_eq, k0_off16_eq])
  case piece9 =>
    refine piece_l1 Q K (View.ld Q r0_29) (View.ld K r0_28) (View.ld K r0_29) _ y x rfl ?_ ?_ ?_ (by omega) (by omega) (by omega) <;> (intro i d; unfold row acc; pointwise; blk_ext [k0_off13_eq, k0_off14_eq])
  case piece10 =>
    refine piece_l1 Q K (View.ld Q r0_27) (View.ld K r0_26) (View.ld K r0_27) _ y x rfl ?_ ?_ ?_ (by omega) (by omega) (by omega) <;> (intro i d; unfold row acc; pointwise; blk_ext [k0_off11_eq, k0_off12_eq])
  case piece11 =>
    refine piece_l1 Q K (View.ld Q r0_25) (View.ld K r0_24) (View.ld K r0_25) _ y x rfl ?_ ?_ ?_ (by omega) (by omega) (by omega) <;> (intro i d; unfold row acc; pointwise; blk_ext [k0_off9_eq, k0_off10_eq])
  case piece12 =>
    refine piece_l1 Q K (View.ld Q r0_23) (View.ld K r0_22) (View.ld K r0_23) _ y x rfl ?_ ?_ ?_ (by omega) (by omega) (by omega) <;> (intro i d; unfold row acc; pointwise; blk_ext [k0_off7_eq, k0_off8_eq])
  case piece13 =>
    refine piece_l1 Q K (View.ld Q r0_21) (View.ld K r0_20) (View.ld K r0_21) _ y x rfl ?_ ?_ ?_ (by omega) (by omega) (by omega) <;> (intro i d; unfold row acc; pointwise; blk_ext [k0_off5_eq, k0_off6_eq])
  case piece14 =>
    refine piece_l1 Q K (View.ld Q r0_19) (View.ld K r0_18) (View.ld K r0_19) _ y x rfl ?_ ?_ ?_ (by omega) (by omega) (by omega) <;> (intro i d; unfold row acc; pointwise; blk_ext [k0_off3_eq, k0_off4_eq])
  case piece15 =>
    refine piece_l1 Q K (View.ld Q r0_17) (View.ld K r0_16) (View.ld K r0_17) _ y x rfl ?_ ?_ ?_ (by omega) (by omega) (by omega) <;> (intro i d; unfold row acc; pointwise; blk_ext [k0_off1_eq, k0_off2_eq])
  case piece16 =>
    refine piece_l0 Q K (View.ld Q r0_15) (View.ld K r0_15) _ y x rfl ?_ ?_ (by omega) (by omega) (by omega) <;> (intro i d; unfold row acc; pointwise; blk_ext [])
  case piece17 =>
    refine piece_l0 Q K (View.ld Q r0_14) (View.ld K r0_14) _ y x rfl ?_ ?_ (by omega) (by omega) (by omega) <;> (intro i d; unfold row acc; pointwise; blk_ext [])
  case piece18 =>
    refine piece_l0 Q K (View.ld Q r0_13) (View.ld K r0_13) _ y x rfl ?_ ?_ (by omega) (by omega) (by omega) <;> (intro i d; unfold row acc; pointwise; blk_ext [])
  case piece19 =>
    refine piece_l0 Q K (View.ld Q r0_12) (View.ld K r0_12) _ y x rfl ?_ ?_ (by omega) (by omega) (by omega) <;> (intro i d; unfold row acc; pointwise; blk_ext [])
  case piece20 =>
    refine piece_l0 Q K (View.ld Q r0_11) (View.ld K r0_11) _ y x rfl ?_ ?_ (by omega) (by omega) (by omega) <;> (intro i d; unfold row acc; pointwise; blk_ext [])
  case piece21 =>
    refine piece_l0 Q K (View.ld Q r0_10) (View.ld K r0_10) _ y x rfl ?_ ?_ (by omega) (by omega) (by omega) <;> (intro i d; unfold row acc; pointwise; blk_ext [])
  case piece22 =>
    refine piece_l0 Q K (View.ld Q r0_9) (View.ld K r0_9) _ y x rfl ?_ ?_ (by omega) (by omega) (by omega) <;> (intro i d; unfold row acc; pointwise; blk_ext [])
  case piece23 =>
    refine piece_l0 Q K (View.ld Q r0_8) (View.ld K r0_8) _ y x rfl ?_ ?_ (by omega) (by omega) (by omega) <;> (intro i d; unfold row acc; pointwise; blk_ext [])
  case piece24 =>
    refine piece_l0 Q K (View.ld Q r0_7) (View.ld K r0_7) _ y x rfl ?_ ?_ (by omega) (by omega) (by omega) <;> (intro i d; unfold row acc; pointwise; blk_ext [])
  case piece25 =>
    refine piece_l0 Q K (View.ld Q r0_6) (View.ld K r0_6) _ y x rfl ?_ ?_ (by omega) (by omega) (by omega) <;> (intro i d; unfold row acc; pointwise; blk_ext [])
  case piece26 =>
    refine piece_l0 Q K (View.ld Q r0_5) (View.ld K r0_5) _ y x rfl ?_ ?_ (by omega) (by omega) (by omega) <;> (intro i d; unfold row acc; pointwise; blk_ext [])
  case piece27 =>
    refine piece_l0 Q K (View.ld Q r0_4) (View.ld K r0_4) _ y x rfl ?_ ?_ (by omega) (by omega) (by omega) <;> (intro i d; unfold row acc; pointwise; blk_ext [])
  case piece28 =>
    refine piece_l0 Q K (View.ld Q r0_3) (View.ld K r0_3) _ y x rfl ?_ ?_ (by omega) (by omega) (by omega) <;> (intro i d; unfold row acc; pointwise; blk_ext [])
  case piece29 =>
    refine piece_l0 Q K (View.ld Q r0_2) (View.ld K r0_2) _ y x rfl ?_ ?_ (by omega) (by omega) (by omega) <;> (intro i d; unfold row acc; pointwise; blk_ext [])
  case piece30 =>
    refine piece_l0 Q K (View.ld Q r0_1) (View.ld K r0_1) _ y x rfl ?_ ?_ (by omega) (by omega) (by omega) <;> (intro i d; unfold row acc; pointwise; blk_ext [])
  case piece31 =>
    refine piece_l0 Q K (View.ld Q r0_0) (View.ld K r0_0) _ y x rfl ?_ ?_ (by omega) (by omega) (by omega) <;> (intro i d; unfold row acc; pointwise; blk_ext [])

end Cert.DilTile
-- ==== Proof.DilValue.lean ====
module

public import proofs.«01_k».proof.Proof.DilBlock
public import proofs.«01_k».proof.Proof.Gen.KernelIdeal.Value
public import Idealize.ShloMosaic.Lib.Claim

@[expose] public section

set_option maxRecDepth 16384

noncomputable section

namespace Cert.DilTile

open Idealize.ShloMosaic Idealize.ShloMosaic.TcCoe Idealize.SL.Sem
open Cert.KernelIdeal Cert.KernelIdeal.Gen

theorem idx : ∀ t : Fin cfg0.N, win0_0.index t = ![t.val / 4, 0, t.val % 4, 0, 2]
    ∧ win0_1.index t = ![t.val / 4, 0, t.val % 4, 0, 5]
    ∧ win0_2.index t = ![t.val / 4, 0, t.val % 4, 0, 8]
    ∧ win0_3.index t = ![t.val / 4, 0, t.val % 4, 0, 0]
    ∧ win0_4.index t = ![t.val / 4, 0, t.val % 4, 0, 0] :=
  (by decide +kernel : ∀ t : Fin grid0.N, _)

variable (m : (ℓ : Loc nD τ sig) → Buf (Elt Ideal) ℓ)

/-- The scaled queries, the keys and the values, head after head. -/
def stacked (q k v : FVec Ideal S4x12x4096x128 .f32) : FVec Ideal S4x36x4096x128 .f32 :=
  concatenate S4x36x4096x128 1 [⟨S4x24x4096x128, concatenate S4x24x4096x128 1
      [⟨S4x12x4096x128, mulf q (broadcastInDim S4x12x4096x128 ![] bcast_S_S4x12x4096x128 (constant S_ .f32 0x3DB504F3#32))⟩, ⟨S4x12x4096x128, k⟩]
      concatenates_S4x12x4096x128_S4x12x4096x128_S4x24x4096x128_d1⟩, ⟨S4x12x4096x128, v⟩]
    concatenates_S4x24x4096x128_S4x12x4096x128_S4x36x4096x128_d1

/-- The array the launch reads: the stacked heads by segment, class and row. -/
def packed (x : FVec Ideal S4x36x4096x128 .f32) : FVec Ideal S4x4x16x64x4608 .bf16 :=
  shapeCast S4x4x16x64x4608 (truncf .bf16 (shapeCast S16384x4608 (transpose S4x4x16x64x4608 [0, 1, 3, 2, 4] (shapeCast S4x4x64x16x4608
    (transpose S4x4096x36x128 [0, 2, 1, 3] x transposes_S4x36x4096x128_S4x4096x36x128_0_2_1_3) shapeCasts_S4x4096x36x128_S4x4x64x16x4608)
    transposes_S4x4x64x16x4608_S4x4x16x64x4608_0_1_3_2_4) shapeCasts_S4x4x16x64x4608_S16384x4608) bitsLt_bf16_f32) shapeCasts_S16384x4608_S4x4x16x64x4608

theorem packed_eq (c : Dev nD) : V m c main_v9
    = packed (stacked (m ((c : Thread nD τ).loc main_arg0)) (m ((c : Thread nD τ).loc main_arg1)) (m ((c : Thread nD τ).loc main_arg2))) := by
  entry_read
  rfl

theorem packed_at (x : FVec Ideal S4x36x4096x128 .f32) (b s : Fin 4) (e : Fin 16) (r : Fin 64) (h : Fin 36) (d : Fin 128) :
    packed x (ix5 b s e r ⟨h.val * 128 + d.val, by omega⟩) = x (ix4 b h ⟨(s.val * 64 + r.val) * 16 + e.val, by omega⟩ d) := by
  pointwise [packed]
  blk_ext

theorem stacked_q (q k v : FVec Ideal S4x12x4096x128 .f32) (b : Fin 4) (h : Fin 12) (p : Fin 4096) (d : Fin 128) :
    stacked q k v (ix4 b ⟨h.val, by omega⟩ p d) = q (ix4 b h p d) * Ideal.ofBits .f32 0x3DB504F3#32 := by
  pointwise [stacked]
  rw [dif_pos (by omega)]

theorem stacked_k (q k v : FVec Ideal S4x12x4096x128 .f32) (b : Fin 4) (h : Fin 12) (p : Fin 4096) (d : Fin 128) :
    stacked q k v (ix4 b ⟨12 + h.val, by omega⟩ p d) = k (ix4 b h p d) := by
  pointwise [stacked]
  rw [dif_pos (by omega)]

theorem stacked_v (q k v : FVec Ideal S4x12x4096x128 .f32) (b : Fin 4) (h : Fin 12) (p : Fin 4096) (d : Fin 128) :
    stacked q k v (ix4 b ⟨24 + h.val, by omega⟩ p d) = v (ix4 b h p d) := by
  pointwise [stacked]

/-- One token's scaled query, key and value vectors, by class and position within the class. -/
def gq (q : FVec Ideal S4x12x4096x128 .f32) (b : Fin 4) (e : Fin 16) (h : Fin 4) (p : Fin 256) (d : Fin 128) : EReal :=
  q (ix4 b ⟨8 + h.val, by omega⟩ ⟨p.val * 16 + e.val, by omega⟩ d) * Ideal.ofBits .f32 0x3DB504F3#32

/-- One token's key (or value) vector, by class and position within the class. -/
def gk (k : FVec Ideal S4x12x4096x128 .f32) (b : Fin 4) (e : Fin 16) (h : Fin 4) (p : Fin 256) (d : Fin 128) : EReal :=
  k (ix4 b ⟨8 + h.val, by omega⟩ ⟨p.val * 16 + e.val, by omega⟩ d)

theorem bounds (t : Fin cfg0.N) : t.val / 4 < 4 ∧ t.val % 4 < 4 := by
  have := lt_of_lt_of_eq t.isLt N_0
  omega

/-- A buffer read through one of its rectangles, at an index. -/
theorem rd {Val : EltTy → Type} (b : Ref sig .tc) (r : Rect b.ty.shape) (A : b.ty.Contents Val) (y : r.shape.Idx) :
    ((View.whole b).slice r).read Val A y = A (r.emb y) := rfl

/-- Input block 0 at an index: the packed array at any index `z` with the block's coordinates. -/
theorem iblk0_at (c : Dev nD) (t : Fin cfg0.N) (y : S1x4x4x64x512.Idx) (z : S4x4x16x64x4608.Idx)
    (hz : ∀ a : Fin 5, (z a).val = win0_0.index t a * S1x4x4x64x512.size a + (y a).val) :
    iblk m c 0 t y = V m c main_v9 z := by
  have h : iblk m c 0 t y = V m c main_v9 ((win0_0.rect t).emb y) := by
    unfold iblk
    exact rd main_v9 (win0_0.rect t) (V m c main_v9) y
  have hz' : (win0_0.rect t).emb y = z := by
    funext a
    exact Fin.ext ((Pipeline.Window.rect_emb_val win0_0 t y a rfl).trans (hz a).symm)
  rw [h, hz']

/-- Input block 1 at an index: the packed array at any index `z` with the block's coordinates. -/
theorem iblk1_at (c : Dev nD) (t : Fin cfg0.N) (y : S1x4x4x64x512.Idx) (z : S4x4x16x64x4608.Idx)
    (hz : ∀ a : Fin 5, (z a).val = win0_1.index t a * S1x4x4x64x512.size a + (y a).val) :
    iblk m c 1 t y = V m c main_v9 z := by
  have h : iblk m c 1 t y = V m c main_v9 ((win0_1.rect t).emb y) := by
    unfold iblk
    exact rd main_v9 (win0_1.rect t) (V m c main_v9) y
  have hz' : (win0_1.rect t).emb y = z := by
    funext a
    exact Fin.ext ((Pipeline.Window.rect_emb_val win0_1 t y a rfl).trans (hz a).symm)
  rw [h, hz']

/-- Input block 2 at an index: the packed array at any index `z` with the block's coordinates. -/
theorem iblk2_at (c : Dev nD) (t : Fin cfg0.N) (y : S1x4x4x64x512.Idx) (z : S4x4x16x64x4608.Idx)
    (hz : ∀ a : Fin 5, (z a).val = win0_2.index t a * S1x4x4x64x512.size a + (y a).val) :
    iblk m c 2 t y = V m c main_v9 z := by
  have h : iblk m c 2 t y = V m c main_v9 ((win0_2.rect t).emb y) := by
    unfold iblk
    exact rd main_v9 (win0_2.rect t) (V m c main_v9) y
  have hz' : (win0_2.rect t).emb y = z := by
    funext a
    exact Fin.ext ((Pipeline.Window.rect_emb_val win0_2 t y a rfl).trans (hz a).symm)
  rw [h, hz']

/-- An axis-by-axis fact about five axes. -/
theorem five {P : Fin 5 → Prop} (h0 : P 0) (h1 : P 1) (h2 : P 2) (h3 : P 3) (h4 : P 4) : ∀ a, P a
  | 0 => h0 | 1 => h1 | 2 => h2 | 3 => h3 | 4 => h4

theorem acc0 (c : Dev nD) (t : Fin cfg0.N) (e h : Fin 4) (p : Fin 256) (d : Fin 128) :
    acc (iblk m c 0 t) e h p d = gq (m ((c : Thread nD τ).loc main_arg0)) ⟨t.val / 4, (bounds t).1⟩
      ⟨t.val % 4 * 4 + e.val, by have := (bounds t).2; omega⟩ h p d := by
  have hb := bounds t
  have hi := (idx t).1
  have h1 := packed_at (stacked (m ((c : Thread nD τ).loc main_arg0)) (m ((c : Thread nD τ).loc main_arg1)) (m ((c : Thread nD τ).loc main_arg2)))
    ⟨t.val / 4, hb.1⟩ ⟨p.val / 64, by omega⟩ ⟨t.val % 4 * 4 + e.val, by omega⟩ ⟨p.val % 64, by omega⟩ ⟨8 + h.val, by omega⟩ d
  have h2 := stacked_q (m ((c : Thread nD τ).loc main_arg0)) (m ((c : Thread nD τ).loc main_arg1)) (m ((c : Thread nD τ).loc main_arg2))
    ⟨t.val / 4, hb.1⟩ ⟨8 + h.val, by omega⟩ ⟨p.val * 16 + (t.val % 4 * 4 + e.val), by omega⟩ d
  have h3 : (⟨(p.val / 64 * 64 + p.val % 64) * 16 + (t.val % 4 * 4 + e.val), by omega⟩ : Fin 4096)
      = ⟨p.val * 16 + (t.val % 4 * 4 + e.val), by omega⟩ :=
    Fin.ext (by dsimp only; omega)
  have h4 : (⟨8 + h.val, by omega⟩ : Fin 36) = ⟨8 + h.val, by omega⟩ := rfl
  have h5 := congr (congrArg (fun (a : Fin 36) (b : Fin 4096) => stacked (m ((c : Thread nD τ).loc main_arg0)) (m ((c : Thread nD τ).loc main_arg1)) (m ((c : Thread nD τ).loc main_arg2))
    (ix4 ⟨t.val / 4, hb.1⟩ a b d)) h4) h3
  rw [← packed_eq] at h1
  have h6 := h1.trans (h5.trans h2)
  clear h1 h2 h5
  refine Eq.trans ?_ h6
  unfold acc
  refine iblk0_at m c t _ _ (five ?_ ?_ ?_ ?_ ?_) <;> rw [hi]
  · change t.val / 4 = t.val / 4 * 1 + 0
    omega
  · change p.val / 64 = 0 * 4 + p.val / 64
    omega
  · rfl
  · change p.val % 64 = 0 * 64 + p.val % 64
    omega
  · change (8 + h.val) * 128 + d.val = 2 * 512 + (h.val * 128 + d.val)
    omega

theorem acc1 (c : Dev nD) (t : Fin cfg0.N) (e h : Fin 4) (p : Fin 256) (d : Fin 128) :
    acc (iblk m c 1 t) e h p d = gk (m ((c : Thread nD τ).loc main_arg1)) ⟨t.val / 4, (bounds t).1⟩
      ⟨t.val % 4 * 4 + e.val, by have := (bounds t).2; omega⟩ h p d := by
  have hb := bounds t
  have hi := (idx t).2.1
  have h1 := packed_at (stacked (m ((c : Thread nD τ).loc main_arg0)) (m ((c : Thread nD τ).loc main_arg1)) (m ((c : Thread nD τ).loc main_arg2)))
    ⟨t.val / 4, hb.1⟩ ⟨p.val / 64, by omega⟩ ⟨t.val % 4 * 4 + e.val, by omega⟩ ⟨p.val % 64, by omega⟩ ⟨20 + h.val, by omega⟩ d
  have h2 := stacked_k (m ((c : Thread nD τ).loc main_arg0)) (m ((c : Thread nD τ).loc main_arg1)) (m ((c : Thread nD τ).loc main_arg2))
    ⟨t.val / 4, hb.1⟩ ⟨8 + h.val, by omega⟩ ⟨p.val * 16 + (t.val % 4 * 4 + e.val), by omega⟩ d
  have h3 : (⟨(p.val / 64 * 64 + p.val % 64) * 16 + (t.val % 4 * 4 + e.val), by omega⟩ : Fin 4096)
      = ⟨p.val * 16 + (t.val % 4 * 4 + e.val), by omega⟩ :=
    Fin.ext (by dsimp only; omega)
  have h4 : (⟨20 + h.val, by omega⟩ : Fin 36) = ⟨12 + (8 + h.val), by omega⟩ := Fin.ext (by dsimp only; omega)
  have h5 := congr (congrArg (fun (a : Fin 36) (b : Fin 4096) => stacked (m ((c : Thread nD τ).loc main_arg0)) (m ((c : Thread nD τ).loc main_arg1)) (m ((c : Thread nD τ).loc main_arg2))
    (ix4 ⟨t.val / 4, hb.1⟩ a b d)) h4) h3
  rw [← packed_eq] at h1
  have h6 := h1.trans (h5.trans h2)
  clear h1 h2 h5
  refine Eq.trans ?_ h6
  unfold acc
  refine iblk1_at m c t _ _ (five ?_ ?_ ?_ ?_ ?_) <;> rw [hi]
  · change t.val / 4 = t.val / 4 * 1 + 0
    omega
  · change p.val / 64 = 0 * 4 + p.val / 64
    omega
  · rfl
  · change p.val % 64 = 0 * 64 + p.val % 64
    omega
  · change (20 + h.val) * 128 + d.val = 5 * 512 + (h.val * 128 + d.val)
    omega

theorem acc2 (c : Dev nD) (t : Fin cfg0.N) (e h : Fin 4) (p : Fin 256) (d : Fin 128) :
    acc (iblk m c 2 t) e h p d = gk (m ((c : Thread nD τ).loc main_arg2)) ⟨t.val / 4, (bounds t).1⟩
      ⟨t.val % 4 * 4 + e.val, by have := (bounds t).2; omega⟩ h p d := by
  have hb := bounds t
  have hi := (idx t).2.2.1
  have h1 := packed_at (stacked (m ((c : Thread nD τ).loc main_arg0)) (m ((c : Thread nD τ).loc main_arg1)) (m ((c : Thread nD τ).loc main_arg2)))
    ⟨t.val / 4, hb.1⟩ ⟨p.val / 64, by omega⟩ ⟨t.val % 4 * 4 + e.val, by omega⟩ ⟨p.val % 64, by omega⟩ ⟨32 + h.val, by omega⟩ d
  have h2 := stacked_v (m ((c : Thread nD τ).loc main_arg0)) (m ((c : Thread nD τ).loc main_arg1)) (m ((c : Thread nD τ).loc main_arg2))
    ⟨t.val / 4, hb.1⟩ ⟨8 + h.val, by omega⟩ ⟨p.val * 16 + (t.val % 4 * 4 + e.val), by omega⟩ d
  have h3 : (⟨(p.val / 64 * 64 + p.val % 64) * 16 + (t.val % 4 * 4 + e.val), by omega⟩ : Fin 4096)
      = ⟨p.val * 16 + (t.val % 4 * 4 + e.val), by omega⟩ :=
    Fin.ext (by dsimp only; omega)
  have h4 : (⟨32 + h.val, by omega⟩ : Fin 36) = ⟨24 + (8 + h.val), by omega⟩ := Fin.ext (by dsimp only; omega)
  have h5 := congr (congrArg (fun (a : Fin 36) (b : Fin 4096) => stacked (m ((c : Thread nD τ).loc main_arg0)) (m ((c : Thread nD τ).loc main_arg1)) (m ((c : Thread nD τ).loc main_arg2))
    (ix4 ⟨t.val / 4, hb.1⟩ a b d)) h4) h3
  rw [← packed_eq] at h1
  have h6 := h1.trans (h5.trans h2)
  clear h1 h2 h5
  refine Eq.trans ?_ h6
  unfold acc
  refine iblk2_at m c t _ _ (five ?_ ?_ ?_ ?_ ?_) <;> rw [hi]
  · change t.val / 4 = t.val / 4 * 1 + 0
    omega
  · change p.val / 64 = 0 * 4 + p.val / 64
    omega
  · rfl
  · change p.val % 64 = 0 * 64 + p.val % 64
    omega
  · change (32 + h.val) * 128 + d.val = 8 * 512 + (h.val * 128 + d.val)
    omega

/-- The launch's means, entry by entry, from the three arguments. -/
def globO (q k v : FVec Ideal S4x12x4096x128 .f32) (b s : Fin 4) (e : Fin 16) (r : Fin 64) (c : Fin 512) : EReal :=
  DilMath.att (band (gq q b e ⟨c.val / 128, by omega⟩) (gk k b e ⟨c.val / 128, by omega⟩) ⟨s.val * 64 + r.val, by omega⟩)
    (back (gk v b e ⟨c.val / 128, by omega⟩) ⟨s.val * 64 + r.val, by omega⟩ ⟨c.val % 128, by omega⟩)

/-- The launch's log-sum-exps, entry by entry, from the queries and keys. -/
def globL (q k : FVec Ideal S4x12x4096x128 .f32) (b s : Fin 4) (e : Fin 16) (r : Fin 64) (c : Fin 512) : EReal :=
  DilMath.lse (band (gq q b e ⟨c.val / 128, by omega⟩) (gk k b e ⟨c.val / 128, by omega⟩) ⟨s.val * 64 + r.val, by omega⟩)

theorem out_glob (c : Dev nD) (t : Fin cfg0.N) (s e : Fin 4) (r : Fin 64) (j : Fin 512) :
    outO (iblk m c 0 t) (iblk m c 1 t) (iblk m c 2 t) s e r j
      = globO (m ((c : Thread nD τ).loc main_arg0)) (m ((c : Thread nD τ).loc main_arg1)) (m ((c : Thread nD τ).loc main_arg2))
        ⟨t.val / 4, (bounds t).1⟩ s ⟨t.val % 4 * 4 + e.val, by have := (bounds t).2; omega⟩ r j := by
  unfold outO globO
  rw [funext₂ (acc0 m c t e _), funext₂ (acc1 m c t e _), funext₂ (acc2 m c t e _)]

theorem lse_glob (c : Dev nD) (t : Fin cfg0.N) (s e : Fin 4) (r : Fin 64) (j : Fin 512) :
    outL (iblk m c 0 t) (iblk m c 1 t) s e r j
      = globL (m ((c : Thread nD τ).loc main_arg0)) (m ((c : Thread nD τ).loc main_arg1))
        ⟨t.val / 4, (bounds t).1⟩ s ⟨t.val % 4 * 4 + e.val, by have := (bounds t).2; omega⟩ r j := by
  unfold outL globL
  rw [funext₂ (acc0 m c t e _), funext₂ (acc1 m c t e _)]

/-- A place of the result's block 3 at point `t`, in the whole array. -/
theorem emb3_at (t : Fin cfg0.N) (y : S1x4x4x64x512.Idx) :
    (win0_3.blk t).view.emb y = (ix5 ⟨t.val / 4, (bounds t).1⟩ (y 1)
      ⟨t.val % 4 * 4 + (y 2).val, by have := (bounds t).2; have : (y 2).val < 4 := (y 2).isLt; omega⟩ (y 3) (y 4) : S4x4x16x64x512.Idx) := by
  have hi := (idx t).2.2.2.1
  change (win0_3.rect t).emb y = _
  have b0 : (y 0).val < 1 := (y 0).isLt
  refine funext (five ?_ ?_ ?_ ?_ ?_) <;> refine Fin.ext ((Pipeline.Window.rect_emb_val win0_3 t y _ rfl).trans ?_) <;> rw [hi]
  · change t.val / 4 * 1 + (y 0).val = t.val / 4
    omega
  · change 0 * 4 + (y 1).val = (y 1).val
    omega
  · rfl
  · change 0 * 64 + (y 3).val = (y 3).val
    omega
  · change 0 * 512 + (y 4).val = (y 4).val
    omega

/-- The means after the run. -/
theorem final3 (c : Dev nD) : (dats m 0 c).arrAt 3 (cfgs 0).N = fun i : S4x4x16x64x512.Idx =>
    globO (m ((c : Thread nD τ).loc main_arg0)) (m ((c : Thread nD τ).loc main_arg1)) (m ((c : Thread nD τ).loc main_arg2)) (i 0) (i 1) (i 2) (i 3) (i 4) := by
  refine (dats m 0 c).arrAt_eq_of_covers 3 _ (by decide +kernel) fun t hf y => ?_
  blk_simp
  rw [after0_3]
  refine (point3 _ _ _ y).trans ((out_glob m c t _ _ _ _).trans ?_)
  have he := emb3_at t y
  exact (congrArg (fun i : S4x4x16x64x512.Idx => globO (m ((c : Thread nD τ).loc main_arg0)) (m ((c : Thread nD τ).loc main_arg1)) (m ((c : Thread nD τ).loc main_arg2)) (i 0) (i 1) (i 2) (i 3) (i 4)) he).symm

/-- A place of the result's block 4 at point `t`, in the whole array. -/
theorem emb4_at (t : Fin cfg0.N) (y : S1x4x4x64x512.Idx) :
    (win0_4.blk t).view.emb y = (ix5 ⟨t.val / 4, (bounds t).1⟩ (y 1)
      ⟨t.val % 4 * 4 + (y 2).val, by have := (bounds t).2; have : (y 2).val < 4 := (y 2).isLt; omega⟩ (y 3) (y 4) : S4x4x16x64x512.Idx) := by
  have hi := (idx t).2.2.2.2
  change (win0_4.rect t).emb y = _
  have b0 : (y 0).val < 1 := (y 0).isLt
  refine funext (five ?_ ?_ ?_ ?_ ?_) <;> refine Fin.ext ((Pipeline.Window.rect_emb_val win0_4 t y _ rfl).trans ?_) <;> rw [hi]
  · change t.val / 4 * 1 + (y 0).val = t.val / 4
    omega
  · change 0 * 4 + (y 1).val = (y 1).val
    omega
  · rfl
  · change 0 * 64 + (y 3).val = (y 3).val
    omega
  · change 0 * 512 + (y 4).val = (y 4).val
    omega

/-- The log-sum-exps after the run. -/
theorem final4 (c : Dev nD) : (dats m 0 c).arrAt 4 (cfgs 0).N = fun i : S4x4x16x64x512.Idx =>
    globL (m ((c : Thread nD τ).loc main_arg0)) (m ((c : Thread nD τ).loc main_arg1)) (i 0) (i 1) (i 2) (i 3) (i 4) := by
  refine (dats m 0 c).arrAt_eq_of_covers 4 _ (by decide +kernel) fun t hf y => ?_
  blk_simp
  rw [after0_4]
  refine (point4 _ _ (iblk m c 2 t) y).trans ((lse_glob m c t _ _ _ _).trans ?_)
  have he := emb4_at t y
  exact (congrArg (fun i : S4x4x16x64x512.Idx => globL (m ((c : Thread nD τ).loc main_arg0)) (m ((c : Thread nD τ).loc main_arg1)) (i 0) (i 1) (i 2) (i 3) (i 4)) he).symm

end Cert.DilTile
-- ==== Proof.DilRef.lean ====
module

public import proofs.«01_k».proof.Proof.DilValue
public import proofs.«01_k».proof.Proof.Gen.ReferenceIdeal.Read

@[expose] public section

set_option maxRecDepth 16384

noncomputable section

namespace Cert.DilRef

open Idealize.ShloMosaic Idealize.ShloMosaic.TcCoe Idealize.SL.Sem
open Cert.ReferenceIdeal Cert.ReferenceIdeal.Gen Cert.ReferenceIdeal.Read
open Cert.DilTile (band back gq gk negInf select_eq)

/-- The gather of whole rows by token: the operand's row at the clamped token number. -/
theorem gather_at {α : Type} (x : S4x4x4096x128.Idx → α) (ix : IVec S4096x129x1 32) (b h : Fin 4) (s : Fin 4096) (n : Fin 129) (d : Fin 128) :
    Host.gather gather_S4x4x4096x128_S4096x129x1_S4x4x4096x129x128_014_2_n_n_2_2_441128 x ix (ix5 b h s n d)
      = x (ix4 b h ⟨min (ix (ix3 s n 0)).toInt.toNat 4095, by omega⟩ d) := by
  unfold Host.gather
  refine congrArg x (funext fun a => Fin.ext ?_)
  have hsi : gather_S4x4x4096x128_S4096x129x1_S4x4x4096x129x128_014_2_n_n_2_2_441128.siIdx (ix5 b h s n d) ⟨0, Nat.one_pos⟩ = ix3 s n 0 := by
    funext b
    refine Fin.ext ?_
    match b with
    | ⟨0, _⟩ => rfl
    | ⟨1, _⟩ => rfl
    | ⟨2, _⟩ => rfl
  have hst : ∀ a : Fin 4, a ≠ 2 → gather_S4x4x4096x128_S4096x129x1_S4x4x4096x129x128_014_2_n_n_2_2_441128.start (ix5 b h s n d) ix a = 0 := by
    intro a ha
    unfold GatherDims.start
    exact dif_neg fun hm => ha (List.mem_singleton.mp hm)
  have hof : ∀ a : Fin 4, a ∈ gather_S4x4x4096x128_S4096x129x1_S4x4x4096x129x128_014_2_n_n_2_2_441128.sKept → gather_S4x4x4096x128_S4096x129x1_S4x4x4096x129x128_014_2_n_n_2_2_441128.offCoord (ix5 b h s n d) a
      = (ix4 b h ⟨0, by omega⟩ d : S4x4x4096x128.Idx) a := by
    intro a ha
    unfold GatherDims.offCoord
    rw [dif_pos ha]
    match a with
    | ⟨0, _⟩ => rfl
    | ⟨1, _⟩ => rfl
    | ⟨2, _⟩ => exact absurd (List.mem_singleton.mpr rfl) ((GatherDims.mem_sKept _ _).mp ha).1
    | ⟨3, _⟩ => rfl
  have hk : ∀ a : Fin 4, a ≠ 2 → a ∈ gather_S4x4x4096x128_S4096x129x1_S4x4x4096x129x128_014_2_n_n_2_2_441128.sKept := fun a ha =>
    (GatherDims.mem_sKept _ _).mpr ⟨fun hm => ha (List.mem_singleton.mp hm), List.not_mem_nil⟩
  show gather_S4x4x4096x128_S4096x129x1_S4x4x4096x129x128_014_2_n_n_2_2_441128.start (ix5 b h s n d) ix a + gather_S4x4x4096x128_S4096x129x1_S4x4x4096x129x128_014_2_n_n_2_2_441128.batchCoord (ix5 b h s n d) a + gather_S4x4x4096x128_S4096x129x1_S4x4x4096x129x128_014_2_n_n_2_2_441128.offCoord (ix5 b h s n d) a = _
  rw [GatherDims.batchCoord_eq_zero _ _ _ List.not_mem_nil]
  match a with
  | ⟨0, _⟩ => rw [hst _ (Fin.ne_of_val_ne (show (0 : ℕ) ≠ 2 by decide)), hof _ (hk _ (Fin.ne_of_val_ne (show (0 : ℕ) ≠ 2 by decide)))]; exact Nat.zero_add _
  | ⟨1, _⟩ => rw [hst _ (Fin.ne_of_val_ne (show (1 : ℕ) ≠ 2 by decide)), hof _ (hk _ (Fin.ne_of_val_ne (show (1 : ℕ) ≠ 2 by decide)))]; exact Nat.zero_add _
  | ⟨2, _⟩ =>
    rw [GatherDims.offCoord_eq_zero _ _ _ (fun h => ((GatherDims.mem_sKept _ _).mp h).1 (List.mem_singleton.mpr rfl))]
    simp only [Nat.add_zero]
    unfold GatherDims.start
    refine (dif_pos (show (2 : Fin 4) ∈ [(2 : Fin 4)] from List.mem_singleton.mpr rfl)).trans ?_
    exact congrArg (fun z => min (ix z).toInt.toNat 4095) hsi
  | ⟨3, _⟩ => rw [hst _ (Fin.ne_of_val_ne (show (3 : ℕ) ≠ 2 by decide)), hof _ (hk _ (Fin.ne_of_val_ne (show (3 : ℕ) ≠ 2 by decide)))]; exact Nat.zero_add _
/-- The token sixteen `n` places back, as a signed number. -/
theorem v17_at (s : Fin 4096) (n : Fin 129) : (val_main_v17 (F := Ideal) (ix2 s n)).toInt = (s.val : ℤ) - 16 * n.val := by
  have h : val_main_v17 (F := Ideal) (ix2 s n) = BitVec.ofNat 32 s.val - 16#32 * BitVec.ofNat 32 n.val := by
    simp only [val_main_v17_apply, val_main_v15_apply, val_main_v10_apply, val_main_v16_apply, val_main_v14_apply, val_main_v13_apply, val_main_c_apply, val_main_v12_apply]
    rfl
  rw [h, BitVec.toInt_sub, BitVec.toInt_mul, BitVec.toInt_ofNat', BitVec.toInt_ofNat', BitVec.toInt_ofNat']
  have h1 := s.isLt
  have h2 := n.isLt
  rw [Int.bmod_eq_of_le (n := (s.val : ℤ)) (by omega) (by omega), Int.bmod_eq_of_le (n := (n.val : ℤ)) (by omega) (by omega),
    Int.bmod_eq_of_le (n := ((16 : ℕ) : ℤ)) (by omega) (by omega)]
  rw [Int.bmod_eq_of_le (n := ((16 : ℕ) : ℤ) * (n.val : ℤ)) (by omega) (by omega), Int.bmod_eq_of_le (by omega) (by omega)]
  rfl

/-- The mask of the keys that exist. -/
theorem v19_at (s : Fin 4096) (n : Fin 129) : val_main_v19 (F := Ideal) (ix2 s n) = 1#1 ↔ 16 * n.val ≤ s.val := by
  have h := v17_at s n
  have e : val_main_v19 (F := Ideal) (ix2 s n) = IntOp.cmpi .sge (val_main_v17 (F := Ideal) (ix2 s n)) 0#32 := by
    simp only [val_main_v19_apply, val_main_v18_apply, val_main_c_0_apply]
  rw [e]
  generalize val_main_v17 (F := Ideal) (ix2 s n) = w at h
  have : IntOp.cmpi .sge w 0#32 = 1#1 ↔ 0 ≤ w.toInt := by
    have hb : ∀ b : Bool, BitVec.ofBool b = 1#1 ↔ b = true := by decide
    simp only [IntOp.cmpi]
    rw [hb]
    simp [BitVec.sle]
  rw [this, h]
  omega

/-- The clipped token number. -/
theorem v21_at (s : Fin 4096) (n : Fin 129) : (val_main_v21 (F := Ideal) (ix2 s n)).toInt.toNat = s.val - 16 * n.val := by
  have h := v17_at s n
  have e : val_main_v21 (F := Ideal) (ix2 s n) = IntOp.maxsi (val_main_v17 (F := Ideal) (ix2 s n)) 0#32 := by
    simp only [val_main_v21_apply, val_main_v20_apply, val_main_c_1_apply]
  rw [e]
  generalize val_main_v17 (F := Ideal) (ix2 s n) = w at h
  unfold IntOp.maxsi
  split <;> rename_i hc
  · simp [BitVec.slt, BitVec.sle] at hc
    omega
  · simp [BitVec.slt, BitVec.sle] at hc
    simp
    omega
theorem v2_at (x : FVec Ideal S4x12x4096x128 .f32) (b h : Fin 4) (s : Fin 4096) (d : Fin 128) :
    val_main_v2 (F := Ideal) x (ix4 b h s d) = x (ix4 b ⟨8 + h.val, by omega⟩ s d) := by
  pointwise [val_main_v2, val_main_v1, val_main_v0]
  blk_ext

theorem v5_at (x : FVec Ideal S4x12x4096x128 .f32) (b h : Fin 4) (s : Fin 4096) (d : Fin 128) :
    val_main_v5 (F := Ideal) x (ix4 b h s d) = x (ix4 b ⟨8 + h.val, by omega⟩ s d) := by
  pointwise [val_main_v5, val_main_v4, val_main_v3]
  blk_ext

theorem v8_at (x : FVec Ideal S4x12x4096x128 .f32) (b h : Fin 4) (s : Fin 4096) (d : Fin 128) :
    val_main_v8 (F := Ideal) x (ix4 b h s d) = x (ix4 b ⟨8 + h.val, by omega⟩ s d) := by
  pointwise [val_main_v8, val_main_v7, val_main_v6]
  blk_ext

theorem v45_at (q k v : FVec Ideal S4x12x4096x128 .f32) (b s : Fin 4) (e : Fin 16) (r : Fin 64) (c : Fin 512) :
    val_main_v45 (F := Ideal) q k v (ix5 b s e r c)
      = val_main_v40 (F := Ideal) q k v (ix4 b ⟨c.val / 128, by omega⟩ ⟨(s.val * 64 + r.val) * 16 + e.val, by omega⟩ ⟨c.val % 128, by omega⟩) := by
  unfold val_main_v45 val_main_v44 val_main_v43
  generalize val_main_v40 (F := Ideal) q k v = A
  pointwise
  blk_ext

theorem v48_at (q k : FVec Ideal S4x12x4096x128 .f32) (b s : Fin 4) (e : Fin 16) (r : Fin 64) (c : Fin 512) :
    val_main_v48 (F := Ideal) q k (ix5 b s e r c)
      = val_main_v35 (F := Ideal) q k (ix3 b ⟨c.val / 128, by omega⟩ ⟨(s.val * 64 + r.val) * 16 + e.val, by omega⟩) := by
  unfold val_main_v48 val_main_v47 val_main_v46 val_main_v42 val_main_v41
  generalize val_main_v35 (F := Ideal) q k = A
  pointwise
  blk_ext
/-- The scores' scale is a non-negative number. -/
theorem scale_coe : ∃ c : ℝ, 0 ≤ c ∧ Ideal.ofBits .f32 0x3DB504F3#32 = (c : EReal) := by
  refine ⟨_, ?_, by simp [Ideal.ofBits, Ideal.ieee]; rfl⟩
  positivity

theorem zero32 : Ideal.ofBits .f32 0x00000000#32 = 0 := by simp [Ideal.ofBits, Ideal.ieee]

theorem inf32 : Ideal.ofBits .f32 0x7F800000#32 = ⊤ := by simp [Ideal.ofBits, Ideal.ieee]

theorem v28_at (q k : FVec Ideal S4x12x4096x128 .f32) (b h : Fin 4) (s : Fin 4096) :
    val_main_v28 (F := Ideal) q k (ix3 b h s) = DilMath.top fun n : Fin 129 => val_main_v27 (F := Ideal) q k (ix4 b h s n) := by
  unfold val_main_v28
  generalize val_main_v27 (F := Ideal) q k = A
  pointwise [val_main_cst_3]
  rw [negInf]
  rfl
/-- The keys the mask keeps, gathered. -/
theorem v22_at (k : FVec Ideal S4x12x4096x128 .f32) (b h : Fin 4) (s : Fin 4096) (n : Fin 129) (d : Fin 128) :
    val_main_v22 (F := Ideal) k (ix5 b h s n d) = k (ix4 b ⟨8 + h.val, by omega⟩ ⟨s.val - 16 * n.val, by omega⟩ d) := by
  unfold val_main_v22
  rw [gather_at, v5_at]
  have h1 : val_main_call0_v0 (F := Ideal) (ix3 s n 0) = val_main_v21 (F := Ideal) (ix2 s n) := by
    rw [val_main_call0_v0_apply]
    exact congrArg _ (funext fun a => match a with | ⟨0, _⟩ => rfl | ⟨1, _⟩ => rfl)
  have h2 : min (val_main_call0_v0 (F := Ideal) (ix3 s n 0)).toInt.toNat 4095 = s.val - 16 * n.val := by
    rw [h1, v21_at]; omega
  exact congrArg (fun z : Fin 4096 => k (ix4 b ⟨8 + h.val, by omega⟩ z d)) (Fin.ext h2)

/-- The values, gathered. -/
theorem v23_at (v : FVec Ideal S4x12x4096x128 .f32) (b h : Fin 4) (s : Fin 4096) (n : Fin 129) (d : Fin 128) :
    val_main_v23 (F := Ideal) v (ix5 b h s n d) = v (ix4 b ⟨8 + h.val, by omega⟩ ⟨s.val - 16 * n.val, by omega⟩ d) := by
  unfold val_main_v23
  rw [gather_at, v8_at]
  have h1 : val_main_call1_v0 (F := Ideal) (ix3 s n 0) = val_main_v21 (F := Ideal) (ix2 s n) := by
    rw [val_main_call1_v0_apply]
    exact congrArg _ (funext fun a => match a with | ⟨0, _⟩ => rfl | ⟨1, _⟩ => rfl)
  have h2 : min (val_main_call1_v0 (F := Ideal) (ix3 s n 0)).toInt.toNat 4095 = s.val - 16 * n.val := by
    rw [h1, v21_at]; omega
  exact congrArg (fun z : Fin 4096 => v (ix4 b ⟨8 + h.val, by omega⟩ z d)) (Fin.ext h2)

section Row
variable (q k v : FVec Ideal S4x12x4096x128 .f32) (b h : Fin 4) (e : Fin 16) (p : Fin 256)

/-- The reference's masked scores of one token are the band of its class. -/
theorem v27_at (n : Fin 129) :
    val_main_v27 (F := Ideal) q k (ix4 b h ⟨p.val * 16 + e.val, by omega⟩ n) = band (gq q b e h) (gk k b e h) p n := by
  have h1 : val_main_call2_v1 (F := Ideal) (ix4 b h ⟨p.val * 16 + e.val, by omega⟩ n)
      = val_main_v19 (F := Ideal) (ix2 ⟨p.val * 16 + e.val, by omega⟩ n) := by
    rw [val_main_call2_v1_apply]
    exact congrArg _ (funext fun a => match a with | ⟨0, _⟩ => rfl | ⟨1, _⟩ => rfl)
  have h2 : val_main_v24 (F := Ideal) q k (ix4 b h ⟨p.val * 16 + e.val, by omega⟩ n)
      = ∑ d : Fin 128, q (ix4 b ⟨8 + h.val, by omega⟩ ⟨p.val * 16 + e.val, by omega⟩ d)
        * k (ix4 b ⟨8 + h.val, by omega⟩ ⟨p.val * 16 + e.val - 16 * n.val, by omega⟩ d) := by
    rw [val_main_v24_apply]
    refine Finset.sum_congr rfl fun d _ => ?_
    refine Eq.trans ?_ (congrArg₂ (· * ·) (v2_at q b h ⟨p.val * 16 + e.val, by omega⟩ d) (v22_at k b h ⟨p.val * 16 + e.val, by omega⟩ n d))
    exact congr (congrArg _ (congrArg _ (funext fun a => match a with | ⟨0, _⟩ => rfl | ⟨1, _⟩ => rfl | ⟨2, _⟩ => rfl | ⟨3, _⟩ => rfl)))
      (congrArg _ (funext fun a => match a with | ⟨0, _⟩ => rfl | ⟨1, _⟩ => rfl | ⟨2, _⟩ => rfl | ⟨3, _⟩ => rfl | ⟨4, _⟩ => rfl))
  rw [val_main_v27_apply, h1, val_main_v26_apply, h2, val_main_call2_v2_apply]
  rw [select_eq _ (n.val ≤ p.val) ((v19_at _ n).trans (by dsimp only; omega))]
  unfold band
  by_cases hn : n.val ≤ p.val
  · rw [if_pos hn, if_pos hn]
    obtain ⟨c, hc, hcc⟩ := scale_coe
    show (∑ d : Fin 128, _) * Ideal.ofBits .f32 0x3DB504F3#32 = _
    rw [hcc, ← DilMath.sum_mul_coe _ c hc]
    refine Finset.sum_congr rfl fun d _ => ?_
    unfold gq gk
    rw [hcc, mul_right_comm]
    have hz : (⟨p.val * 16 + e.val - 16 * n.val, by omega⟩ : Fin 4096) = ⟨(p.val - n.val) * 16 + e.val, by omega⟩ :=
      Fin.ext (by dsimp only; omega)
    exact congrArg (fun z : Fin 4096 => q _ * (c : EReal) * k (ix4 b ⟨8 + h.val, by omega⟩ z d)) hz
  · rw [if_neg hn, if_neg hn]
    exact negInf

/-- The reference's log-sum-exp of one token. -/
theorem v35_at :
    val_main_v35 (F := Ideal) q k (ix3 b h ⟨p.val * 16 + e.val, by omega⟩) = DilMath.lse (band (gq q b e h) (gk k b e h) p) := by
  have h0 : (fun n : Fin 129 => val_main_v27 (F := Ideal) q k (ix4 b h ⟨p.val * 16 + e.val, by omega⟩ n)) = band (gq q b e h) (gk k b e h) p :=
    funext fun n => v27_at q k b h e p n
  have h1 := (v28_at q k b h ⟨p.val * 16 + e.val, by omega⟩).trans (congrArg DilMath.top h0)
  rw [val_main_v35_apply, val_main_v34_apply, val_main_v33_apply, h1]
  unfold DilMath.lse DilMath.mass
  refine congrArg (fun z => DilMath.top (band (gq q b e h) (gk k b e h) p) + Ideal.log z) ?_
  show Ideal.ofBits .f32 0x00000000#32 + _ = _
  rw [zero32, zero_add]
  refine Finset.sum_congr rfl fun n _ => ?_
  rw [val_main_v32_apply, val_main_v31_apply, val_main_v30_apply, val_main_v29_apply]
  have e1 : (idx_main_v33 (ix3 b h ⟨p.val * 16 + e.val, by omega⟩) n) = ix4 b h ⟨p.val * 16 + e.val, by omega⟩ n :=
    funext fun a => match a with | ⟨0, _⟩ => rfl | ⟨1, _⟩ => rfl | ⟨2, _⟩ => rfl | ⟨3, _⟩ => rfl
  have e2 : idx_main_v29 (idx_main_v30 (ix4 b h ⟨p.val * 16 + e.val, by omega⟩ n)) = ix3 b h ⟨p.val * 16 + e.val, by omega⟩ :=
    funext fun a => match a with | ⟨0, _⟩ => rfl | ⟨1, _⟩ => rfl | ⟨2, _⟩ => rfl
  rw [e1, e2, h1, v27_at]
  rfl

/-- The reference's mean of one token, of one channel: the weighted sum with weights that sum to one is the weighted sum
    divided by its mass. -/
theorem v40_at (d : Fin 128)
    (hq : ∀ d, ∃ x : ℝ, gq q b e h p d = (x : EReal))
    (hk : ∀ p' d, ∃ x : ℝ, gk k b e h p' d = (x : EReal)) :
    val_main_v40 (F := Ideal) q k v (ix4 b h ⟨p.val * 16 + e.val, by omega⟩ d)
      = DilMath.att (band (gq q b e h) (gk k b e h) p) (back (gk v b e h) p d) := by
  have hs : ∀ p' : Fin 256, ∃ x : ℝ, ∑ d : Fin 128, gq q b e h p d * gk k b e h p' d = (x : EReal) := by
    intro p'
    refine Finset.sum_induction _ (fun z : EReal => ∃ x : ℝ, z = (x : EReal)) ?_ ⟨0, rfl⟩ fun d _ => ?_
    · rintro _ _ ⟨x, rfl⟩ ⟨y, rfl⟩
      exact ⟨x + y, (EReal.coe_add x y).symm⟩
    · obtain ⟨x, hx⟩ := hq d
      obtain ⟨y, hy⟩ := hk p' d
      exact ⟨x * y, by rw [hx, hy, EReal.coe_mul]⟩
  have htop : ∀ n, band (gq q b e h) (gk k b e h) p n ≠ ⊤ := by
    intro n
    unfold band
    split
    · obtain ⟨x, hx⟩ := hs ⟨p.val - n.val, by omega⟩
      rw [hx]; exact EReal.coe_ne_top x
    · exact bot_ne_top
  have hbot : band (gq q b e h) (gk k b e h) p 0 ≠ ⊥ := by
    unfold band
    rw [if_pos (show (0 : Fin 129).val ≤ p.val from Nat.zero_le _)]
    obtain ⟨x, hx⟩ := hs ⟨p.val - (0 : Fin 129).val, by omega⟩
    rw [hx]; exact EReal.coe_ne_bot x
  rw [val_main_v40_apply]
  refine Eq.trans ?_ (DilMath.sum_exp_lse _ _ htop 0 hbot)
  refine Finset.sum_congr rfl fun n _ => ?_
  have e1 : lidx_main_v40 (ix4 b h ⟨p.val * 16 + e.val, by omega⟩ d) n = ix4 b h ⟨p.val * 16 + e.val, by omega⟩ n :=
    funext fun a => match a with | ⟨0, _⟩ => rfl | ⟨1, _⟩ => rfl | ⟨2, _⟩ => rfl | ⟨3, _⟩ => rfl
  have e2 : ridx_main_v40 (ix4 b h ⟨p.val * 16 + e.val, by omega⟩ d) n = ix5 b h ⟨p.val * 16 + e.val, by omega⟩ n d :=
    funext fun a => match a with | ⟨0, _⟩ => rfl | ⟨1, _⟩ => rfl | ⟨2, _⟩ => rfl | ⟨3, _⟩ => rfl | ⟨4, _⟩ => rfl
  have e3 : idx_main_v36 (idx_main_v37 (ix4 b h ⟨p.val * 16 + e.val, by omega⟩ n)) = ix3 b h ⟨p.val * 16 + e.val, by omega⟩ :=
    funext fun a => match a with | ⟨0, _⟩ => rfl | ⟨1, _⟩ => rfl | ⟨2, _⟩ => rfl
  rw [e1, e2, val_main_v39_apply, val_main_v38_apply, val_main_v37_apply, val_main_v36_apply, e3, v35_at, v27_at, v23_at]
  show Ideal.exp (band (gq q b e h) (gk k b e h) p n - DilMath.lse (band (gq q b e h) (gk k b e h) p)) * _ = _
  by_cases hn : n.val ≤ p.val
  · have hz : (⟨p.val * 16 + e.val - 16 * n.val, by omega⟩ : Fin 4096) = ⟨(p.val - n.val) * 16 + e.val, by omega⟩ :=
      Fin.ext (by dsimp only; omega)
    exact congrArg (fun z : Fin 4096 => Ideal.exp _ * v (ix4 b ⟨8 + h.val, by omega⟩ z d)) hz
  · have hb : band (gq q b e h) (gk k b e h) p n = ⊥ := by unfold band; rw [if_neg hn]
    have h0 : Ideal.exp (⊥ - DilMath.lse (band (gq q b e h) (gk k b e h) p)) = 0 := by
      rw [sub_eq_add_neg, EReal.bot_add]; rfl
    rw [hb, h0, zero_mul, zero_mul]

end Row

/-- The reference's means, entry by entry. -/
theorem ref_o (q k v : FVec Ideal S4x12x4096x128 .f32)
    (hq : ∀ b (h : Fin 4) s d, ∃ x : ℝ, q (ix4 b ⟨8 + h.val, by omega⟩ s d) = (x : EReal))
    (hk : ∀ b (h : Fin 4) s d, ∃ x : ℝ, k (ix4 b ⟨8 + h.val, by omega⟩ s d) = (x : EReal)) :
    val_main_v45 (F := Ideal) q k v = fun i : S4x4x16x64x512.Idx => DilTile.globO q k v (i 0) (i 1) (i 2) (i 3) (i 4) := by
  funext i
  have hi : i = ix5 (i 0) (i 1) (i 2) (i 3) (i 4) :=
    funext fun a => match a with | ⟨0, _⟩ => rfl | ⟨1, _⟩ => rfl | ⟨2, _⟩ => rfl | ⟨3, _⟩ => rfl | ⟨4, _⟩ => rfl
  rw [congrArg (val_main_v45 (F := Ideal) q k v) hi]
  refine (v45_at q k v (i 0) (i 1) (i 2) (i 3) (i 4)).trans ?_
  have b1 : (i 1).val < 4 := (i 1).isLt
  have b3 : (i 3).val < 64 := (i 3).isLt
  have b4 : (i 4).val < 512 := (i 4).isLt
  obtain ⟨c, hc, hcc⟩ := scale_coe
  refine v40_at q k v (i 0) ⟨(i 4).val / 128, by omega⟩ (i 2) ⟨(i 1).val * 64 + (i 3).val, by omega⟩ ⟨(i 4).val % 128, by omega⟩ ?_ ?_
  · intro d
    unfold gq
    obtain ⟨x, hx⟩ := hq (i 0) ⟨(i 4).val / 128, by omega⟩ ⟨((i 1).val * 64 + (i 3).val) * 16 + (i 2).val, by have := (i 2).isLt; change (i 2).val < 16 at this; omega⟩ d
    refine ⟨x * c, ?_⟩
    rw [hcc, EReal.coe_mul]
    exact congrArg (· * (c : EReal)) hx
  · intro p' d
    exact hk _ _ _ d

/-- The reference's log-sum-exps, entry by entry. -/
theorem ref_l (q k : FVec Ideal S4x12x4096x128 .f32) :
    val_main_v48 (F := Ideal) q k = fun i : S4x4x16x64x512.Idx => DilTile.globL q k (i 0) (i 1) (i 2) (i 3) (i 4) := by
  funext i
  have hi : i = ix5 (i 0) (i 1) (i 2) (i 3) (i 4) :=
    funext fun a => match a with | ⟨0, _⟩ => rfl | ⟨1, _⟩ => rfl | ⟨2, _⟩ => rfl | ⟨3, _⟩ => rfl | ⟨4, _⟩ => rfl
  rw [congrArg (val_main_v48 (F := Ideal) q k) hi]
  refine (v48_at q k (i 0) (i 1) (i 2) (i 3) (i 4)).trans ?_
  have b1 : (i 1).val < 4 := (i 1).isLt
  have b3 : (i 3).val < 64 := (i 3).isLt
  have b4 : (i 4).val < 512 := (i 4).isLt
  exact v35_at q k (i 0) ⟨(i 4).val / 128, by omega⟩ (i 2) ⟨(i 1).val * 64 + (i 3).val, by omega⟩

end Cert.DilRef
-- ==== Proof.DilClaim.lean ====
module

public import proofs.«01_k».proof.Defs
public import proofs.«01_k».proof.Proof.DilRef
public import proofs.«01_k».proof.Proof.Gen.ReferenceIdeal.Run
public import Idealize.ShloMosaic.Lib.Claim

@[expose] public section

set_option maxRecDepth 16384

noncomputable section

namespace Cert.DilClaim

open Idealize.ShloMosaic Idealize.ShloMosaic.TcCoe Idealize.SL.Sem

/-- The shape facts the precondition's function states. -/
theorem preFacts : Cert.Pre_scores_finite.Facts := ⟨by decide, by decide⟩

attribute [local instance] preFacts

/-- A number whose absolute value lies below infinity is a real. -/
theorem real_of_abs_lt (x : EReal) (h : max x (-x) < ⊤) : ∃ r : ℝ, x = (r : EReal) := by
  have h1 : x ≠ ⊤ := fun e => absurd (lt_of_le_of_lt (le_max_left x (-x)) h) (by rw [e]; exact lt_irrefl _)
  have h2 : x ≠ ⊥ := fun e => absurd (lt_of_le_of_lt (le_max_right x (-x)) h) (by rw [e, EReal.neg_bot]; exact lt_irrefl _)
  exact ⟨x.toReal, (EReal.coe_toReal h1 h2).symm⟩

/-- The comparison bit of the precondition says that the entry is a real. -/
theorem real_of_bit (x : EReal) (e : BitVec.ofBool (decide (max x (-x) < Ideal.ofBits .f32 0x7F800000#32)) = 1#1) : ∃ r : ℝ, x = (r : EReal) := by
  rw [DilRef.inf32] at e
  by_cases h : max x (-x) < ⊤
  · exact real_of_abs_lt x h
  · rw [decide_eq_false h] at e
    exact absurd e (by decide)

/-- Under the precondition every query and key of heads 8 to 11 is a real. -/
theorem finite_of_pre (q k v : FVec Ideal Cert.Pre_scores_finite.S4x12x4096x128 .f32)
    (h : (Cert.Pre_scores_finite.fn (F := Ideal) q k v).1 = (fun _ => 1#1) ∧ (Cert.Pre_scores_finite.fn (F := Ideal) q k v).2 = (fun _ => 1#1)) :
    (∀ b (h : Fin 4) s d, ∃ x : ℝ, q (ix4 b ⟨8 + h.val, by omega⟩ s d) = (x : EReal))
    ∧ (∀ b (h : Fin 4) s d, ∃ x : ℝ, k (ix4 b ⟨8 + h.val, by omega⟩ s d) = (x : EReal)) := by
  constructor
  · intro b j s d
    have e := congrFun h.1 (ix4 b j s d)
    pointwise [Cert.Pre_scores_finite.fn] at e
    exact real_of_bit _ e
  · intro b j s d
    have e := congrFun h.2 (ix4 b j s d)
    pointwise [Cert.Pre_scores_finite.fn] at e
    exact real_of_bit _ e

/-- The dilated group's kernel and the reference's group hold the same two results. -/
theorem algebraic : Cert.algebraic_KernelIdeal_ReferenceIdeal_pre_scores_finite := by
  intro m g m' g' hpre hagree
  refine ⟨fun c => (Cert.KernelIdeal.Gen.dats m 0 c).arrAt 3 Cert.KernelIdeal.cfg0.N, fun c => (Cert.KernelIdeal.Gen.dats m 0 c).arrAt 4 Cert.KernelIdeal.cfg0.N,
    Cert.KernelIdeal.Value.run_blocks m g, ?_⟩
  refine θ_run_mono (Cert.ReferenceIdeal.Value.run m' g') fun r hr c => ?_
  obtain ⟨h0, h1, ha⟩ := hr c
  obtain ⟨a0, a1, a2⟩ := hagree c
  obtain ⟨fq, fk⟩ := finite_of_pre _ _ _ (hpre c)
  refine ⟨h0.trans ?_, h1.trans ?_, ha⟩
  · refine (Cert.ReferenceIdeal.Read.val_main_v45_eq m' c).trans ?_
    rw [a0, a1, a2]
    exact (DilRef.ref_o _ _ _ fq fk).trans (DilTile.final3 m c).symm
  · refine (Cert.ReferenceIdeal.Read.val_main_v48_eq m' c).trans ?_
    rw [a0, a1]
    exact (DilRef.ref_l _ _).trans (DilTile.final4 m c).symm

end Cert.DilClaim
-- ==== Proof.FfnBlock.lean ====
module

public import proofs.«01_k».proof.Proof.Gen.Kernel2Ideal.Value
public import Idealize.ShloMosaic.Lib.Pipeline.ValueKit

@[expose] public section

set_option maxRecDepth 16384

noncomputable section

namespace Cert.FfnBlock

open Idealize.ShloMosaic Idealize.ShloMosaic.TcCoe Idealize.SL.Sem
open Cert.Kernel2Ideal Cert.Kernel2Ideal.Gen

/-- One entry of a row divided by its root mean square and scaled by the gain. -/
def nrm (x g : Fin 2048 → EReal) (e : Fin 2048) : EReal :=
  x e * Ideal.rsqrt (Ideal.div (∑ k : Fin 2048, x k * x k) (Ideal.ofBits .f32 0x45000000#32) + Ideal.ofBits .f32 0x358637BD#32) * g e

/-- One hidden unit of the row `x`: the gate `x · a` through silu, times `x · b`. -/
def hid (x a b : Fin 2048 → EReal) : EReal :=
  (∑ e : Fin 2048, x e * a e) * Ideal.logistic (∑ e : Fin 2048, x e * a e) * ∑ e : Fin 2048, x e * b e

/-- What 256 hidden units add to column `d` of the row's output. -/
def part256 (x : Fin 2048 → EReal) (a b : Vec Ideal S1x1x2048x256 .bf16) (w : Vec Ideal S1x1x256x2048 .bf16) (d : Fin 2048) : EReal :=
  ∑ f : Fin 256, hid x (fun e => a (ix4 0 0 e f)) (fun e => b (ix4 0 0 e f)) * w (ix4 0 0 f d)

/-- What the 512 hidden units of one weight block add to column `d` of the row's output. -/
def part (x : Fin 2048 → EReal) (a b : Vec Ideal S1x1x2048x512 .bf16) (w : Vec Ideal S1x1x512x2048 .bf16) (d : Fin 2048) : EReal :=
  ∑ f : Fin 512, hid x (fun e => a (ix4 0 0 e f)) (fun e => b (ix4 0 0 e f)) * w (ix4 0 0 f d)

theorem pay3_at (x : Vec Ideal S512x2048 .f32) (g : Vec Ideal S1x2048 .f32) (r : Fin 512) (e : Fin 2048) :
    k0_pay3 (F := Ideal) x g (ix2 r e) = nrm (fun k => x (ix2 r k)) (fun k => g (ix2 0 k)) e := by
  pointwise [k0_pay3]
  rfl

theorem pay7_at (x : Vec Ideal S512x2048 .f32) (g : Vec Ideal S1x2048 .f32) (r : Fin 512) (e : Fin 2048) :
    k0_pay7 (F := Ideal) x g (ix2 r e) = nrm (fun k => x (ix2 r k)) (fun k => g (ix2 0 k)) e := by
  pointwise [k0_pay7]
  rfl

theorem pay4_at (x : Vec Ideal S512x2048 .f32) (g : Vec Ideal S1x2048 .f32) (r : Fin 512) (e : Fin 2048) :
    k0_pay4 (F := Ideal) x g (ix2 r e) = nrm (fun k => x (ix2 r k)) (fun k => g (ix2 0 k)) e := by
  pointwise [k0_pay4]
  exact pay3_at x g r e

theorem pay8_at (x : Vec Ideal S512x2048 .f32) (g : Vec Ideal S1x2048 .f32) (r : Fin 512) (e : Fin 2048) :
    k0_pay8 (F := Ideal) x g (ix2 r e) = nrm (fun k => x (ix2 r k)) (fun k => g (ix2 0 k)) e := by
  pointwise [k0_pay8]
  exact pay7_at x g r e

theorem pay5_at (x : Vec Ideal S512x2048 .f32) (g : Vec Ideal S1x2048 .f32) (a b : Vec Ideal S1x1x2048x256 .bf16) (w : Vec Ideal S1x1x256x2048 .bf16)
    (r : Fin 512) (d : Fin 2048) :
    k0_pay5 (F := Ideal) x g a b w (ix2 r d) = part256 (fun e => k0_pay3 (F := Ideal) x g (ix2 r e)) a b w d := by
  unfold k0_pay5
  generalize k0_pay3 (F := Ideal) x g = z
  pointwise
  rfl

theorem pay6_at (z : FVec Ideal S512x2048 .bf16) (acc : FVec Ideal S512x2048 .f32) (a b : Vec Ideal S1x1x2048x256 .bf16) (w : Vec Ideal S1x1x256x2048 .bf16)
    (r : Fin 512) (d : Fin 2048) :
    k0_pay6 (F := Ideal) z acc a b w (ix2 r d) = acc (ix2 r d) + part256 (fun e => z (ix2 r e)) a b w d := by
  pointwise [k0_pay6]
  rfl

theorem pay9_at (z : FVec Ideal S512x2048 .bf16) (a b : Vec Ideal S1x1x2048x256 .bf16) (w : Vec Ideal S1x1x256x2048 .bf16)
    (a' b' : Vec Ideal S1x1x2048x256 .bf16) (w' : Vec Ideal S1x1x256x2048 .bf16) (r : Fin 512) (d : Fin 2048) :
    k0_pay9 (F := Ideal) z a b w a' b' w' (ix2 r d) = part256 (fun e => z (ix2 r e)) a b w d + part256 (fun e => z (ix2 r e)) a' b' w' d := by
  pointwise [k0_pay9]
  rfl

/-- The stored block of a later weight block: what was there, plus the two halves. -/
theorem pay1_at (old : Vec Ideal S1024x2048 .f32) (z : Vec Ideal S1024x2048 .bf16) (a b : Vec Ideal S1x1x2048x256 .bf16) (w : Vec Ideal S1x1x256x2048 .bf16)
    (a' b' : Vec Ideal S1x1x2048x256 .bf16) (w' : Vec Ideal S1x1x256x2048 .bf16) (r : Fin 1024) (d : Fin 2048) :
    k0_pay1 (F := Ideal) (k0_pay10 old) (k0_pay11 z a b w) (k0_pay12 z a' b') w' (ix2 r d)
      = old (ix2 r d) + (part256 (fun e => z (ix2 r e)) a b w d + part256 (fun e => z (ix2 r e)) a' b' w' d) := by
  pointwise [k0_pay1, k0_pay10, k0_pay11, k0_pay12]
  rfl

theorem pay2_at (x acc : Vec Ideal S1024x2048 .f32) (r : Fin 1024) (d : Fin 2048) :
    k0_pay2 (F := Ideal) x acc (ix2 r d) = x (ix2 r d) + Ideal.ofBits .f32 0x3F000000#32 * acc (ix2 r d) := by
  pointwise [k0_pay2]

/-- The two halves of a weight block make up its 512 hidden units. -/
theorem halves (x : Fin 2048 → EReal) (A B : Vec Ideal S1x1x2048x512 .bf16) (W : Vec Ideal S1x1x512x2048 .bf16) (d : Fin 2048) :
    part256 x (View.ld A (Rect.unit ![0, 0, 0, 0] ![1, 1, 2048, 256] inb_S1x1x2048x512_S1x1x2048x256_0_0_0_0))
        (View.ld B (Rect.unit ![0, 0, 0, 0] ![1, 1, 2048, 256] inb_S1x1x2048x512_S1x1x2048x256_0_0_0_0))
        (View.ld W (Rect.unit ![0, 0, 0, 0] ![1, 1, 256, 2048] inb_S1x1x512x2048_S1x1x256x2048_0_0_0_0)) d
      + part256 x (View.ld A (Rect.unit ![0, 0, 0, 256] ![1, 1, 2048, 256] inb_S1x1x2048x512_S1x1x2048x256_0_0_0_256))
        (View.ld B (Rect.unit ![0, 0, 0, 256] ![1, 1, 2048, 256] inb_S1x1x2048x512_S1x1x2048x256_0_0_0_256))
        (View.ld W (Rect.unit ![0, 0, 256, 0] ![1, 1, 256, 2048] inb_S1x1x512x2048_S1x1x256x2048_0_0_256_0)) d
      = part x A B W d := by
  unfold part part256
  refine Eq.trans ?_ (Fin.sum_univ_add (a := 256) (b := 256) fun f => hid x (fun e => A (ix4 0 0 e f)) (fun e => B (ix4 0 0 e f)) * W (ix4 0 0 f d)).symm
  refine congrArg₂ (· + ·) (Finset.sum_congr rfl fun f _ => ?_) (Finset.sum_congr rfl fun f _ => ?_)
  · pointwise
    rfl
  · pointwise
    rfl

variable (m : (ℓ : Loc nD τ sig) → Buf (Elt Ideal) ℓ)

/-- The point's rows. -/
def xAt (c : Dev nD) (t : Fin cfg0.N) (r : Fin 1024) (e : Fin 2048) : EReal := (iblk m c 0 t : Vec Ideal S1024x2048 .f32) (ix2 r e)

/-- The row's normalised entries, of the point's rows and gain. -/
abbrev xnAt (c : Dev nD) (t : Fin cfg0.N) (r : Fin 1024) (e : Fin 2048) : EReal :=
  nrm (fun k => (iblk m c 0 t : Vec Ideal S1024x2048 .f32) (ix2 r k)) (fun k => (iblk m c 1 t : Vec Ideal S1x2048 .f32) (ix2 0 k)) e

/-- The upper and lower 512 rows of a block. -/
theorem rows_lo (X : Vec Ideal S1024x2048 .f32) (r : Fin 1024) (q : Fin 512) (h : r.val = q.val) :
    (fun k => View.ld X (Rect.unit ![0, 0] ![512, 2048] inb_S1024x2048_S512x2048_0_0) (ix2 q k)) = fun k => X (ix2 r k) := by
  funext k
  rw [show r = ⟨q.val, by omega⟩ from Fin.ext h]
  pointwise

theorem rows_hi (X : Vec Ideal S1024x2048 .f32) (r : Fin 1024) (q : Fin 512) (h : r.val = 512 + q.val) :
    (fun k => View.ld X (Rect.unit ![512, 0] ![512, 2048] inb_S1024x2048_S512x2048_512_0) (ix2 q k)) = fun k => X (ix2 r k) := by
  funext k
  rw [show r = ⟨512 + q.val, by omega⟩ from Fin.ext h]
  pointwise

/-- The first weight block's contribution is what the first point of a row block stores. -/
theorem outA (c : Dev nD) (t : Fin cfg0.N) (h0 : t.val % 11 = 0) (r : Fin 1024) (d : Fin 2048) :
    (outsAt0 m c t.val t.isLt).1 (ix2 r d) = part (xnAt m c t r) (iblk m c 2 t) (iblk m c 3 t) (iblk m c 4 t) d := by
  rw [outsAt0_A m c t h0 (by omega) (by omega)]
  frame_out
  canon_tiles x h
  case piece0 =>
    idx_vars x
    obtain rfl : d = x1 := Fin.ext h1
    rw [pay9_at, halves]
    simp only [pay7_at]
    rw [rows_hi _ r x0 h0]
  case piece1 =>
    idx_vars x
    obtain rfl : d = x1 := Fin.ext (by simpa using h1)
    rw [pay6_at, pay5_at, halves]
    simp only [pay3_at]
    rw [rows_lo _ r x0 (by simpa using h0)]

/-- The scratch then holds the normalised rows. -/
theorem scrA (c : Dev nD) (t : Fin cfg0.N) (h0 : t.val % 11 = 0) (r : Fin 1024) (e : Fin 2048) :
    (outsAt0 m c t.val t.isLt).2 (ix2 r e) = xnAt m c t r e := by
  rw [outsAt0_A m c t h0 (by omega) (by omega)]
  frame_out
  canon_tiles x h
  case piece0 =>
    idx_vars x
    obtain rfl : e = x1 := Fin.ext h1
    rw [pay8_at, rows_hi _ r x0 h0]
  case piece1 =>
    idx_vars x
    obtain rfl : e = x1 := Fin.ext (by simpa using h1)
    rw [pay4_at, rows_lo _ r x0 (by simpa using h0)]

/-- The points in between leave the scratch alone. -/
theorem scrB (c : Dev nD) (t : Fin cfg0.N) (h0 : 1 ≤ t.val % 11) (h2 : t.val % 11 ≤ 9) :
    (outsAt0 m c t.val t.isLt).2 = (outsAt0 m c (t.val - 1) (by omega)).2 := by
  rw [outsAt0_B m c t (by omega) h0 (by omega)]
  rfl

/-- A later weight block adds its contribution, over the rows the scratch holds. -/
theorem outB (c : Dev nD) (t : Fin cfg0.N) (h0 : 1 ≤ t.val % 11) (h2 : t.val % 11 ≤ 9) (r : Fin 1024) (d : Fin 2048) :
    (outsAt0 m c t.val t.isLt).1 (ix2 r d) = (outsAt0 m c (t.val - 1) (by omega)).1 (ix2 r d)
      + part (fun e => (outsAt0 m c (t.val - 1) (by omega)).2 (ix2 r e)) (iblk m c 2 t) (iblk m c 3 t) (iblk m c 4 t) d := by
  rw [outsAt0_B m c t (by omega) h0 (by omega)]
  frame_out
  rw [pay1_at, halves]
  exact congrArg (fun z : Vec Ideal S1024x2048 .bf16 => (outsAt0 m c (t.val - 1) (by omega)).1 (ix2 r d) + part (fun e => z (ix2 r e)) (iblk m c 2 t) (iblk m c 3 t) (iblk m c 4 t) d) ((Memref.isWhole_whole cc0_scratch0).read_unread _)

/-- The last weight block's point also halves the sum and adds the row. -/
theorem outC (c : Dev nD) (t : Fin cfg0.N) (h2 : t.val % 11 = 10) (r : Fin 1024) (d : Fin 2048) :
    (outsAt0 m c t.val t.isLt).1 (ix2 r d) = xAt m c t r d + Ideal.ofBits .f32 0x3F000000#32 *
      ((outsAt0 m c (t.val - 1) (by omega)).1 (ix2 r d)
      + part (fun e => (outsAt0 m c (t.val - 1) (by omega)).2 (ix2 r e)) (iblk m c 2 t) (iblk m c 3 t) (iblk m c 4 t) d) := by
  rw [outsAt0_C m c t (by omega) (by omega) h2]
  frame_out
  rw [pay2_at, pay1_at, halves]
  exact congrArg (fun z : Vec Ideal S1024x2048 .bf16 => xAt m c t r d + Ideal.ofBits .f32 0x3F000000#32 * ((outsAt0 m c (t.val - 1) (by omega)).1 (ix2 r d) + part (fun e => z (ix2 r e)) (iblk m c 2 t) (iblk m c 3 t) (iblk m c 4 t) d)) ((Memref.isWhole_whole cc0_scratch0).read_unread _)

end Cert.FfnBlock
-- ==== Proof.FfnValue.lean ====
module

public import proofs.«01_k».proof.Proof.FfnBlock

@[expose] public section

set_option maxRecDepth 16384

noncomputable section

namespace Cert.FfnValue

open Idealize.ShloMosaic Idealize.ShloMosaic.TcCoe Idealize.SL.Sem
open Cert.Kernel2Ideal Cert.Kernel2Ideal.Gen
open Cert.FfnBlock

theorem idx : ∀ t : Fin cfg0.N, win0_0.index t = ![t.val / 11, 0]
    ∧ win0_1.index t = ![0, 0]
    ∧ win0_2.index t = ![0, 0, 0, t.val % 11]
    ∧ win0_3.index t = ![0, 0, 0, 11 + t.val % 11]
    ∧ win0_4.index t = ![0, 0, t.val % 11, 0]
    ∧ win0_5.index t = ![t.val / 11, 0] :=
  (by decide +kernel : ∀ t : Fin grid0.N, _)

theorem bounds (t : Fin cfg0.N) : t.val / 11 < 16 ∧ t.val % 11 < 11 := by
  have := lt_of_lt_of_eq t.isLt N_0
  omega

/-- One row of the input, as 2048 entries. -/
def xrow (x : FVec Ideal S4x4096x2048 .f32) (R : Fin 16384) (e : Fin 2048) : EReal :=
  x (ix3 ⟨R.val / 4096, by omega⟩ ⟨R.val % 4096, by omega⟩ e)

/-- The gain of the first half step of the first layer. -/
def gainRow (g : FVec Ideal S2x2x2048 .f32) (e : Fin 2048) : EReal := g (ix3 0 0 e)

/-- One column of the gate and up weights. -/
def wcol (w : FVec Ideal S2x2x2048x11264 .f32) (F : Fin 11264) (e : Fin 2048) : EReal := w (ix4 0 0 e F)

/-- What hidden unit `F` adds to column `d`. -/
def unit (x : Fin 2048 → EReal) (w : FVec Ideal S2x2x2048x11264 .f32) (v : FVec Ideal S2x2x5632x2048 .f32) (d : Fin 2048) (F : Fin 5632) : EReal :=
  hid x (wcol w ⟨F.val, by omega⟩) (wcol w ⟨5632 + F.val, by omega⟩) * v (ix4 0 0 F d)

/-- What weight block `j`'s 512 hidden units add to column `d`. -/
def unitsOf (x : Fin 2048 → EReal) (w : FVec Ideal S2x2x2048x11264 .f32) (v : FVec Ideal S2x2x5632x2048 .f32) (d : Fin 2048) (j : ℕ) : EReal :=
  if h : j < 11 then ∑ f : Fin 512, unit x w v d ⟨j * 512 + f.val, by omega⟩ else 0

/-- One entry of the feed-forward half step's result. -/
def ffn (x : FVec Ideal S4x4096x2048 .f32) (g : FVec Ideal S2x2x2048 .f32) (w : FVec Ideal S2x2x2048x11264 .f32) (v : FVec Ideal S2x2x5632x2048 .f32)
    (R : Fin 16384) (d : Fin 2048) : EReal :=
  xrow x R d + Ideal.ofBits .f32 0x3F000000#32 * ∑ F : Fin 5632, unit (nrm (xrow x R) (gainRow g)) w v d F

variable (m : (ℓ : Loc nD τ sig) → Buf (Elt Ideal) ℓ)

abbrev a0 (c : Dev nD) : FVec Ideal S4x4096x2048 .f32 := m ((c : Thread nD τ).loc main_arg0)
abbrev a1 (c : Dev nD) : FVec Ideal S2x2x2048 .f32 := m ((c : Thread nD τ).loc main_arg1)
abbrev a2 (c : Dev nD) : FVec Ideal S2x2x2048x11264 .f32 := m ((c : Thread nD τ).loc main_arg2)
abbrev a3 (c : Dev nD) : FVec Ideal S2x2x5632x2048 .f32 := m ((c : Thread nD τ).loc main_arg3)

/-- The rows as the call gets them: the batch and the tokens on one axis. -/
theorem V0_at (c : Dev nD) (R : Fin 16384) (e : Fin 2048) : V m c main_v0 (ix2 R e) = xrow (a0 m c) R e := by
  have h : V m c main_v0 = shapeCast S16384x2048 (a0 m c) shapeCasts_S4x4096x2048_S16384x2048 := by
    entry_read
    rfl
  rw [h]
  generalize a0 m c = x
  unfold xrow
  pointwise

/-- The gain as the call gets it: one row. -/
theorem V5_at (c : Dev nD) (e : Fin 2048) : V m c main_v5 (ix2 0 e) = gainRow (a1 m c) e := by
  have h : V m c main_v5 = shapeCast S1x2048 (shapeCast S2048 (extractStridedSlice S1x1x2048 ![0, 0, 0] (a1 m c) slices_S2x2x2048_S1x1x2048_0_0_0) shapeCasts_S1x1x2048_S2048) shapeCasts_S2048_S1x2048 := by
    entry_read
    rfl
  rw [h]
  generalize a1 m c = x
  unfold gainRow
  pointwise

theorem V3_eq (c : Dev nD) : V m c main_v3 = a2 m c := by
  entry_read
  rfl

theorem V4_eq (c : Dev nD) : V m c main_v4 = a3 m c := by
  entry_read
  rfl

/-- A buffer read through one of its rectangles, at an index. -/
theorem rd {Val : EltTy → Type} (b : Ref sig .tc) (r : Rect b.ty.shape) (A : b.ty.Contents Val) (y : r.shape.Idx) :
    ((View.whole b).slice r).read Val A y = A (r.emb y) := rfl

theorem two {P : Fin 2 → Prop} (h0 : P 0) (h1 : P 1) : ∀ a, P a
  | 0 => h0 | 1 => h1

theorem four {P : Fin 4 → Prop} (h0 : P 0) (h1 : P 1) (h2 : P 2) (h3 : P 3) : ∀ a, P a
  | 0 => h0 | 1 => h1 | 2 => h2 | 3 => h3

theorem blk0_at (c : Dev nD) (t : Fin cfg0.N) (r : Fin 1024) (e : Fin 2048) :
    (iblk m c 0 t : Vec Ideal S1024x2048 .f32) (ix2 r e) = xrow (a0 m c) ⟨t.val / 11 * 1024 + r.val, by have := (bounds t).1; omega⟩ e := by
  have hi := (idx t).1
  have hb := (bounds t).1
  refine Eq.trans ?_ (V0_at m c _ e)
  unfold iblk
  refine (rd main_v0 (win0_0.rect t) (V m c main_v0) (ix2 r e)).trans (congrArg (V m c main_v0) (funext (two ?_ ?_))) <;>
    refine Fin.ext ((Pipeline.Window.rect_emb_val win0_0 t _ _ rfl).trans ?_) <;> rw [hi]
  · rfl
  · change 0 * 2048 + e.val = e.val
    omega

theorem blk1_at (c : Dev nD) (t : Fin cfg0.N) (e : Fin 2048) :
    (iblk m c 1 t : Vec Ideal S1x2048 .f32) (ix2 0 e) = gainRow (a1 m c) e := by
  have hi := (idx t).2.1
  refine Eq.trans ?_ (V5_at m c e)
  unfold iblk
  refine (rd main_v5 (win0_1.rect t) (V m c main_v5) (ix2 0 e)).trans (congrArg (V m c main_v5) (funext (two ?_ ?_))) <;>
    refine Fin.ext ((Pipeline.Window.rect_emb_val win0_1 t _ _ rfl).trans ?_) <;> rw [hi]
  · rfl
  · change 0 * 2048 + e.val = e.val
    omega

theorem blk2_at (c : Dev nD) (t : Fin cfg0.N) (e : Fin 2048) (f : Fin 512) :
    (iblk m c 2 t : Vec Ideal S1x1x2048x512 .bf16) (ix4 0 0 e f) = wcol (a2 m c) ⟨t.val % 11 * 512 + f.val, by have := (bounds t).2; omega⟩ e := by
  have hi := (idx t).2.2.1
  have hb := (bounds t).2
  refine Eq.trans ?_ (congrFun (V3_eq m c) (ix4 0 0 e ⟨t.val % 11 * 512 + f.val, by omega⟩))
  unfold iblk
  refine (rd main_v3 (win0_2.rect t) (V m c main_v3) (ix4 0 0 e f)).trans (congrArg (V m c main_v3) (funext (four ?_ ?_ ?_ ?_))) <;>
    refine Fin.ext ((Pipeline.Window.rect_emb_val win0_2 t _ _ rfl).trans ?_) <;> rw [hi]
  · rfl
  · rfl
  · change 0 * 2048 + e.val = e.val
    omega
  · rfl

theorem blk3_at (c : Dev nD) (t : Fin cfg0.N) (e : Fin 2048) (f : Fin 512) :
    (iblk m c 3 t : Vec Ideal S1x1x2048x512 .bf16) (ix4 0 0 e f) = wcol (a2 m c) ⟨5632 + (t.val % 11 * 512 + f.val), by have := (bounds t).2; omega⟩ e := by
  have hi := (idx t).2.2.2.1
  have hb := (bounds t).2
  refine Eq.trans ?_ (congrFun (V3_eq m c) (ix4 0 0 e ⟨5632 + (t.val % 11 * 512 + f.val), by omega⟩))
  unfold iblk
  refine (rd main_v3 (win0_3.rect t) (V m c main_v3) (ix4 0 0 e f)).trans (congrArg (V m c main_v3) (funext (four ?_ ?_ ?_ ?_))) <;>
    refine Fin.ext ((Pipeline.Window.rect_emb_val win0_3 t _ _ rfl).trans ?_) <;> rw [hi]
  · rfl
  · rfl
  · change 0 * 2048 + e.val = e.val
    omega
  · change (11 + t.val % 11) * 512 + f.val = 5632 + (t.val % 11 * 512 + f.val)
    omega

theorem blk4_at (c : Dev nD) (t : Fin cfg0.N) (f : Fin 512) (d : Fin 2048) :
    (iblk m c 4 t : Vec Ideal S1x1x512x2048 .bf16) (ix4 0 0 f d) = a3 m c (ix4 0 0 ⟨t.val % 11 * 512 + f.val, by have := (bounds t).2; omega⟩ d) := by
  have hi := (idx t).2.2.2.2.1
  have hb := (bounds t).2
  refine Eq.trans ?_ (congrFun (V4_eq m c) (ix4 0 0 ⟨t.val % 11 * 512 + f.val, by omega⟩ d))
  unfold iblk
  refine (rd main_v4 (win0_4.rect t) (V m c main_v4) (ix4 0 0 f d)).trans (congrArg (V m c main_v4) (funext (four ?_ ?_ ?_ ?_))) <;>
    refine Fin.ext ((Pipeline.Window.rect_emb_val win0_4 t _ _ rfl).trans ?_) <;> rw [hi]
  · rfl
  · rfl
  · rfl
  · change 0 * 2048 + d.val = d.val
    omega

/-- A point's contribution, over the whole weights. -/
theorem part_at (c : Dev nD) (t : Fin cfg0.N) (x : Fin 2048 → EReal) (d : Fin 2048) :
    part x (iblk m c 2 t) (iblk m c 3 t) (iblk m c 4 t) d = unitsOf x (a2 m c) (a3 m c) d (t.val % 11) := by
  unfold part unitsOf
  rw [dif_pos (bounds t).2]
  refine Finset.sum_congr rfl fun f _ => ?_
  unfold unit
  rw [funext fun e => blk2_at m c t e f, funext fun e => blk3_at m c t e f, blk4_at m c t f d]

/-- The row of the whole input that point `t` holds as its row `r`. -/
abbrev rowOf (t : Fin cfg0.N) (r : Fin 1024) : Fin 16384 := ⟨t.val / 11 * 1024 + r.val, by have := (bounds t).1; omega⟩

theorem xnAt_eq (c : Dev nD) (t : Fin cfg0.N) (r : Fin 1024) : xnAt m c t r = nrm (xrow (a0 m c) (rowOf t r)) (gainRow (a1 m c)) := by
  funext e
  unfold xnAt
  rw [funext fun k => blk0_at m c t r k, funext fun k => blk1_at m c t k]

/-- After any point but a row block's last, the scratch holds the normalised rows and the output block the sum over the
    weight blocks so far. -/
theorem state (c : Dev nD) : ∀ (k : ℕ), k ≤ 9 → ∀ (t : Fin cfg0.N), t.val % 11 = k → ∀ (r : Fin 1024) ,
    (∀ e : Fin 2048, (outsAt0 m c t.val t.isLt).2 (ix2 r e) = nrm (xrow (a0 m c) (rowOf t r)) (gainRow (a1 m c)) e)
    ∧ ∀ d : Fin 2048, (outsAt0 m c t.val t.isLt).1 (ix2 r d)
      = ∑ j ∈ Finset.range (k + 1), unitsOf (nrm (xrow (a0 m c) (rowOf t r)) (gainRow (a1 m c))) (a2 m c) (a3 m c) d j := by
  intro k
  induction k with
  | zero =>
    intro _ t ht r
    refine ⟨fun e => ?_, fun d => ?_⟩
    · rw [scrA m c t ht, xnAt_eq]
    · rw [outA m c t ht, xnAt_eq, part_at, ht, Finset.sum_range_one]
  | succ k ih =>
    intro hk t ht r
    have hp := ih (by omega) ⟨t.val - 1, by omega⟩ (by dsimp only; omega) r
    have hr : rowOf ⟨t.val - 1, by omega⟩ r = rowOf t r := Fin.ext (by dsimp only; omega)
    rw [hr] at hp
    refine ⟨fun e => ?_, fun d => ?_⟩
    · rw [scrB m c t (by omega) (by omega)]
      exact hp.1 e
    · rw [outB m c t (by omega) (by omega), part_at, Finset.sum_range_succ]
      refine congrArg₂ (· + ·) (hp.2 d) ?_
      exact congr (congrArg (fun z j => unitsOf z (a2 m c) (a3 m c) d j) (funext hp.1)) ht

/-- What a row block's last point stores. -/
theorem last (c : Dev nD) (t : Fin cfg0.N) (ht : t.val % 11 = 10) (r : Fin 1024) (d : Fin 2048) :
    (outsAt0 m c t.val t.isLt).1 (ix2 r d) = ffn (a0 m c) (a1 m c) (a2 m c) (a3 m c) (rowOf t r) d := by
  have hp := state m c 9 le_rfl ⟨t.val - 1, by omega⟩ (by dsimp only; omega) r
  have hr : rowOf ⟨t.val - 1, by omega⟩ r = rowOf t r := Fin.ext (by dsimp only; omega)
  rw [hr] at hp
  rw [outC m c t ht, part_at, ht]
  unfold ffn
  have hx : xAt m c t r d = xrow (a0 m c) (rowOf t r) d := blk0_at m c t r d
  rw [hx]
  refine congrArg (fun z => xrow (a0 m c) (rowOf t r) d + Ideal.ofBits .f32 0x3F000000#32 * z) ?_
  refine (congrArg₂ (· + ·) (hp.2 d) (congrArg (fun z => unitsOf z (a2 m c) (a3 m c) d 10) (funext hp.1))).trans ?_
  refine (Finset.sum_range_succ _ 10).symm.trans ?_
  refine (Finset.sum_range _).trans ?_
  refine Eq.trans ?_ (Fin.sum_mul_add_congr (S := 11) (n := 512) (F := fun j f => unit (nrm (xrow (a0 m c) (rowOf t r)) (gainRow (a1 m c))) (a2 m c) (a3 m c) d ⟨j.val * 512 + f.val, by omega⟩) fun _ _ _ => rfl)
  refine Finset.sum_congr rfl fun j _ => ?_
  unfold unitsOf
  rw [dif_pos j.isLt]

/-- A place of the result's block at point `t`, in the whole array. -/
theorem emb5_at (t : Fin cfg0.N) (y : S1024x2048.Idx) : (win0_5.blk t).view.emb y = (ix2 (rowOf t (y 0)) (y 1) : S16384x2048.Idx) := by
  have hi := (idx t).2.2.2.2.2
  change (win0_5.rect t).emb y = _
  refine funext (two ?_ ?_) <;> refine Fin.ext ((Pipeline.Window.rect_emb_val win0_5 t y _ rfl).trans ?_) <;> rw [hi]
  · rfl
  · change 0 * 2048 + (y 1).val = (y 1).val
    omega

/-- The result after the run. -/
theorem final (c : Dev nD) : (dats m 0 c).arrAt 5 (cfgs 0).N = fun i : S16384x2048.Idx => ffn (a0 m c) (a1 m c) (a2 m c) (a3 m c) (i 0) (i 1) := by
  refine (dats m 0 c).arrAt_eq_of_covers 5 _ (by decide +kernel) fun t hf y => ?_
  blk_simp
  rw [after0_5]
  have hy : y = (ix2 (y 0) (y 1) : S1024x2048.Idx) := funext (two rfl rfl)
  have he := emb5_at t y
  refine ((congrArg (outsAt0 m c t.val t.isLt).1 hy).trans (last m c t ((flush0_5 t).mp hf) (y 0) (y 1))).trans ?_
  exact (congrArg (fun i : S16384x2048.Idx => ffn (a0 m c) (a1 m c) (a2 m c) (a3 m c) (i 0) (i 1)) he).symm

end Cert.FfnValue
-- ==== Proof.FfnRef.lean ====
module

public import proofs.«01_k».proof.Proof.FfnValue
public import proofs.«01_k».proof.Proof.Gen.Reference2Ideal.Read

@[expose] public section

set_option maxRecDepth 16384

noncomputable section

namespace Cert.FfnRef

open Idealize.ShloMosaic Idealize.ShloMosaic.TcCoe Idealize.SL.Sem
open Cert.Reference2Ideal Cert.Reference2Ideal.Gen Cert.Reference2Ideal.Read
open Cert.FfnBlock (nrm hid)
open Cert.FfnValue (xrow gainRow wcol unit ffn)

variable (x : FVec Ideal S4x4096x2048 .f32) (g : FVec Ideal S2x2x2048 .f32) (w : FVec Ideal S2x2x2048x11264 .f32) (v : FVec Ideal S2x2x5632x2048 .f32)

theorem v0_at (R : Fin 16384) (e : Fin 2048) : val_main_v0 (F := Ideal) x (ix2 R e) = xrow x R e := by
  unfold xrow
  pointwise [val_main_v0]

theorem v14_at (R : Fin 16384) (e : Fin 2048) : val_main_v14 (F := Ideal) g (ix2 R e) = gainRow g e := by
  unfold gainRow
  pointwise [val_main_v14, val_main_v13, val_main_v2, val_main_v1]

/-- The reference's sum of squares of a row. -/
theorem v4_at (R : Fin 16384) : val_main_v4 (F := Ideal) x (ix1 R) = ∑ k : Fin 2048, xrow x R k * xrow x R k := by
  have h : ∀ k : Fin 2048, val_main_v3 (F := Ideal) x (ix2 R k) = xrow x R k * xrow x R k := fun k => by
    rw [val_main_v3_apply, v0_at]
    rfl
  rw [← funext h]
  unfold val_main_v4
  generalize val_main_v3 (F := Ideal) x = a
  pointwise [val_main_cst]

theorem v15_at (R : Fin 16384) (e : Fin 2048) : val_main_v15 (F := Ideal) x g (ix2 R e) = nrm (xrow x R) (gainRow g) e := by
  unfold nrm
  rw [val_main_v15_apply, val_main_v12_apply, v0_at, v14_at, ← v4_at]
  unfold val_main_v11 val_main_v10 val_main_v9 val_main_v8 val_main_v7 val_main_v6 val_main_v5
  generalize val_main_v4 (F := Ideal) x = s
  pointwise [val_main_cst_0, val_main_cst_1]

theorem v17_at (e : Fin 2048) (F : Fin 11264) : val_main_v17 (F := Ideal) w (ix2 e F) = wcol w F e := by
  unfold wcol
  pointwise [val_main_v17, val_main_v16]

theorem v24_at (F : Fin 5632) (d : Fin 2048) : val_main_v24 (F := Ideal) v (ix2 F d) = v (ix4 0 0 F d) := by
  pointwise [val_main_v24, val_main_v23]

theorem v18_at (R : Fin 16384) (F : Fin 11264) : val_main_v18 (F := Ideal) x g w (ix2 R F) = ∑ e : Fin 2048, nrm (xrow x R) (gainRow g) e * wcol w F e := by
  refine Eq.trans ?_ (Finset.sum_congr rfl fun e _ => congrArg₂ (· * ·) (v15_at x g R e) (v17_at w e F))
  unfold val_main_v18
  generalize val_main_v15 (F := Ideal) x g = a
  generalize val_main_v17 (F := Ideal) w = b
  pointwise

/-- One hidden unit. -/
theorem v22_at (R : Fin 16384) (F : Fin 5632) : val_main_v22 (F := Ideal) x g w (ix2 R F)
    = hid (nrm (xrow x R) (gainRow g)) (wcol w ⟨F.val, by omega⟩) (wcol w ⟨5632 + F.val, by omega⟩) := by
  unfold hid
  rw [← v18_at, ← v18_at]
  unfold val_main_v22 val_main_v21 val_main_v20 val_main_v19 val_main_call0_v5 val_main_call0_v4 val_main_call0_v3 val_main_call0_v2 val_main_call0_v1 val_main_call0_v0 val_main_v19
  generalize val_main_v18 (F := Ideal) x g w = a
  pointwise [val_main_call0_cst, val_main_call0_cst_0]
  unfold Ideal.logistic
  rfl

/-- The reference's result, entry by entry. -/
theorem ref_at (R : Fin 16384) (d : Fin 2048) : val_main_v28 (F := Ideal) x g w v (ix2 R d) = ffn x g w v R d := by
  unfold ffn unit
  rw [val_main_v28_apply, v0_at]
  simp only [← v22_at, ← v24_at]
  unfold val_main_v27 val_main_v26 val_main_v25
  generalize val_main_v22 (F := Ideal) x g w = a
  generalize val_main_v24 (F := Ideal) v = b
  pointwise [val_main_cst_2]

theorem ref : val_main_v28 (F := Ideal) x g w v = fun i => ffn x g w v (i 0) (i 1) := by
  funext i
  exact (congrArg (val_main_v28 (F := Ideal) x g w v) (funext fun a => match a with | ⟨0, _⟩ => rfl | ⟨1, _⟩ => rfl : i = (ix2 (i 0) (i 1) : S16384x2048.Idx))).trans (ref_at x g w v (i 0) (i 1))

end Cert.FfnRef
-- ==== Proof.FfnClaim.lean ====
module

public import proofs.«01_k».proof.Defs
public import proofs.«01_k».proof.Proof.FfnRef
public import proofs.«01_k».proof.Proof.Gen.Reference2Ideal.Run
public import Idealize.ShloMosaic.Lib.Claim

@[expose] public section

set_option maxRecDepth 16384

noncomputable section

namespace Cert.FfnClaim

open Idealize.ShloMosaic Idealize.ShloMosaic.TcCoe Idealize.SL.Sem

/-- The feed-forward call and the reference leave the same result, from any contents. -/
theorem algebraic : Cert.algebraic_Kernel2Ideal_Reference2Ideal := by
  intro m g m' g' hpre hagree
  refine ⟨fun c => (Cert.Kernel2Ideal.Gen.dats m 0 c).arrAt 5 Cert.Kernel2Ideal.cfg0.N, Cert.Kernel2Ideal.Value.run_blocks m g, ?_⟩
  refine θ_run_mono (Cert.Reference2Ideal.Value.run m' g') fun r hr c => ?_
  obtain ⟨h0, ha⟩ := hr c
  obtain ⟨a0, a1, a2, a3⟩ := hagree c
  refine ⟨h0.trans ?_, ha⟩
  refine (Cert.Reference2Ideal.Read.val_main_v28_eq m' c).trans ?_
  rw [a0, a1, a2, a3]
  exact (FfnRef.ref _ _ _ _).trans (FfnValue.final m c).symm

end Cert.FfnClaim
-- ==== Proof.PleValue.lean ====
module

public import proofs.«01_k».proof.Proof.FfnValue
public import proofs.«01_k».proof.Proof.Gen.Kernel3Ideal.Value

@[expose] public section

set_option maxRecDepth 16384

noncomputable section

namespace Cert.PleValue

open Idealize.ShloMosaic Idealize.ShloMosaic.TcCoe Idealize.SL.Sem
open Cert.Kernel3Ideal Cert.Kernel3Ideal.Gen
open Cert.FfnBlock (nrm)
open Cert.FfnValue (xrow two)

/-- One entry of the gated embedding's residual sum: the row, plus the gate times the projected embedding. -/
def gated (x : Fin 2048 → EReal) (g : Fin 2048 → EReal) (w : Fin 2048 → Fin 2048 → EReal) (p : Fin 256 → EReal) (v : Fin 256 → Fin 2048 → EReal)
    (d : Fin 2048) : EReal :=
  x d + Ideal.logistic (∑ e : Fin 2048, nrm x g e * w e d) * ∑ k : Fin 256, p k * v k d

/-- A block of rows, one row as its entries; likewise a block of the embedding and the two weights. -/
def gatedBlk (x : Vec Ideal S256x2048 .f32) (g : Vec Ideal S1x2048 .f32) (w : Vec Ideal S2048x2048 .bf16) (p : Vec Ideal S256x256 .f32)
    (v : Vec Ideal S256x2048 .bf16) (r : Fin 256) : Fin 2048 → EReal :=
  gated (fun e => x (ix2 r e)) (fun e => g (ix2 0 e)) (fun e d => w (ix2 e d)) (fun k => p (ix2 r k)) (fun k d => v (ix2 k d))

theorem pay2_at (x : Vec Ideal S256x2048 .f32) (g : Vec Ideal S1x2048 .f32) (w : Vec Ideal S2048x2048 .bf16) (p : Vec Ideal S256x256 .f32)
    (v : Vec Ideal S256x2048 .bf16) (r : Fin 256) (d : Fin 2048) : k0_pay2 (F := Ideal) x g w p v (ix2 r d) = gatedBlk x g w p v r d := by
  pointwise [k0_pay2]
  rfl

theorem pay6_at (x : Vec Ideal S256x2048 .f32) (g : Vec Ideal S1x2048 .f32) (w : Vec Ideal S2048x2048 .bf16) (p : Vec Ideal S256x256 .f32)
    (v : Vec Ideal S256x2048 .bf16) (r : Fin 256) (d : Fin 2048) : k0_pay6 (F := Ideal) x g w p v (ix2 r d) = gatedBlk x g w p v r d := by
  pointwise [k0_pay6]
  rfl

/-- What the first 256 rows' store holds: the sums, normalised. -/
theorem lo_at (x : Vec Ideal S256x2048 .f32) (g : Vec Ideal S1x2048 .f32) (w : Vec Ideal S2048x2048 .bf16) (p : Vec Ideal S256x256 .f32)
    (v : Vec Ideal S256x2048 .bf16) (fg : Vec Ideal S1x2048 .f32) (r : Fin 256) (d : Fin 2048) :
    k0_pay5 (F := Ideal) (k0_pay2 x g w p v) (k0_pay3 fg) (k0_pay4 x g w p v) (ix2 r d) = nrm (gatedBlk x g w p v r) (fun e => fg (ix2 0 e)) d := by
  rw [← funext fun e => pay2_at x g w p v r e]
  unfold k0_pay4
  generalize k0_pay2 (F := Ideal) x g w p v = z
  pointwise [k0_pay5, k0_pay3]
  rfl

/-- What the last 256 rows' store holds. -/
theorem hi_at (x : Vec Ideal S256x2048 .f32) (g : Vec Ideal S1x2048 .f32) (w : Vec Ideal S2048x2048 .bf16) (p : Vec Ideal S256x256 .f32)
    (v : Vec Ideal S256x2048 .bf16) (fg : Vec Ideal S1x2048 .f32) (r : Fin 256) (d : Fin 2048) :
    k0_pay1 (F := Ideal) (k0_pay6 x g w p v) (k0_pay7 fg) (k0_pay8 x g w p v) (ix2 r d) = nrm (gatedBlk x g w p v r) (fun e => fg (ix2 0 e)) d := by
  rw [← funext fun e => pay6_at x g w p v r e]
  unfold k0_pay8
  generalize k0_pay6 (F := Ideal) x g w p v = z
  pointwise [k0_pay1, k0_pay7]
  rfl

/-- One row of a point's output, from its blocks. -/
theorem out_at (x : Vec Ideal S512x2048 .f32) (p : Vec Ideal S512x256 .f32) (g : Vec Ideal S1x2048 .f32) (w : Vec Ideal S2048x2048 .bf16)
    (v : Vec Ideal S256x2048 .bf16) (fg : Vec Ideal S1x2048 .f32) (r : Fin 512) (d : Fin 2048) :
    out0_6 (F := Ideal) x p g w v fg (ix2 r d) = nrm (gated (fun e => x (ix2 r e)) (fun e => g (ix2 0 e)) (fun e d => w (ix2 e d)) (fun k => p (ix2 r k)) (fun k d => v (ix2 k d)))
      (fun e => fg (ix2 0 e)) d := by
  unfold out0_6
  have hg : View.ld g r0_1 = g := by
    funext y
    obtain ⟨a, b, rfl⟩ : ∃ a b, y = (ix2 a b : S1x2048.Idx) := ⟨y 0, y 1, funext (two rfl rfl)⟩
    rw [Subsingleton.elim a 0]
    pointwise [r0_1]
  have hfg : View.ld fg r0_1 = fg := by
    funext y
    obtain ⟨a, b, rfl⟩ : ∃ a b, y = (ix2 a b : S1x2048.Idx) := ⟨y 0, y 1, funext (two rfl rfl)⟩
    rw [Subsingleton.elim a 0]
    pointwise [r0_1]
  have hw : View.ld w r0_2 = w := by
    funext y
    obtain ⟨a, b, rfl⟩ : ∃ a b, y = (ix2 a b : S2048x2048.Idx) := ⟨y 0, y 1, funext (two rfl rfl)⟩
    pointwise [r0_2]
  have hv : View.ld v r0_4 = v := by
    funext y
    obtain ⟨a, b, rfl⟩ : ∃ a b, y = (ix2 a b : S256x2048.Idx) := ⟨y 0, y 1, funext (two rfl rfl)⟩
    pointwise [r0_4]
  rw [hg, hfg, hw, hv]
  canon_tiles z h
  case piece0 =>
    idx_vars z
    obtain rfl : d = z1 := Fin.ext h1
    rw [show r = ⟨256 + z0.val, by omega⟩ from Fin.ext h0, hi_at]
    unfold gatedBlk
    pointwise [r0_5, r0_6]
  case piece1 =>
    idx_vars z
    obtain rfl : d = z1 := Fin.ext (by simpa using h1)
    rw [show r = ⟨z0.val, by omega⟩ from Fin.ext (by simpa using h0), lo_at]
    unfold gatedBlk
    pointwise [r0_0, r0_3]

theorem idx : ∀ t : Fin cfg0.N, win0_0.index t = ![t.val, 0]
    ∧ win0_1.index t = ![32 + t.val, 0]
    ∧ win0_2.index t = ![0, 0]
    ∧ win0_3.index t = ![0, 0]
    ∧ win0_4.index t = ![0, 0]
    ∧ win0_5.index t = ![0, 0]
    ∧ win0_6.index t = ![t.val, 0] :=
  (by decide +kernel : ∀ t : Fin grid0.N, _)

theorem bound (t : Fin cfg0.N) : t.val < 32 := lt_of_lt_of_eq t.isLt N_0

/-- One row of the last layer's embedding. -/
def prow (p : FVec Ideal S2x4x4096x256 .f32) (R : Fin 16384) (k : Fin 256) : EReal :=
  p (ix4 1 ⟨R.val / 4096, by omega⟩ ⟨R.val % 4096, by omega⟩ k)

/-- One entry of the result. -/
def ple (x : FVec Ideal S4x4096x2048 .f32) (p : FVec Ideal S2x4x4096x256 .f32) (g : FVec Ideal S2x2048 .f32) (w : FVec Ideal S2x2048x2048 .f32)
    (v : FVec Ideal S2x256x2048 .f32) (fg : FVec Ideal S2048 .f32) (R : Fin 16384) (d : Fin 2048) : EReal :=
  nrm (gated (xrow x R) (fun e => g (ix2 1 e)) (fun e d => w (ix3 1 e d)) (prow p R) (fun k d => v (ix3 1 k d))) (fun e => fg (ix1 e)) d

variable (m : (ℓ : Loc nD τ sig) → Buf (Elt Ideal) ℓ)

abbrev a0 (c : Dev nD) : FVec Ideal S4x4096x2048 .f32 := m ((c : Thread nD τ).loc main_arg0)
abbrev a1 (c : Dev nD) : FVec Ideal S2x4x4096x256 .f32 := m ((c : Thread nD τ).loc main_arg1)
abbrev a2 (c : Dev nD) : FVec Ideal S2x2048 .f32 := m ((c : Thread nD τ).loc main_arg2)
abbrev a3 (c : Dev nD) : FVec Ideal S2x2048x2048 .f32 := m ((c : Thread nD τ).loc main_arg3)
abbrev a4 (c : Dev nD) : FVec Ideal S2x256x2048 .f32 := m ((c : Thread nD τ).loc main_arg4)
abbrev a5 (c : Dev nD) : FVec Ideal S2048 .f32 := m ((c : Thread nD τ).loc main_arg5)

theorem V0_at (c : Dev nD) (R : Fin 16384) (e : Fin 2048) : V m c main_v0 (ix2 R e) = xrow (a0 m c) R e := by
  have h : V m c main_v0 = shapeCast S16384x2048 (a0 m c) shapeCasts_S4x4096x2048_S16384x2048 := by
    entry_read
    rfl
  rw [h]
  generalize a0 m c = x
  unfold xrow
  pointwise

/-- The embeddings as the call gets them: both layers' rows on one axis. -/
theorem V1_at (c : Dev nD) (R : Fin 16384) (k : Fin 256) : V m c main_v1 (ix2 ⟨16384 + R.val, by omega⟩ k) = prow (a1 m c) R k := by
  have h : V m c main_v1 = shapeCast S32768x256 (a1 m c) shapeCasts_S2x4x4096x256_S32768x256 := by
    entry_read
    rfl
  rw [h]
  generalize a1 m c = x
  unfold prow
  pointwise
  blk_ext

theorem V10_at (c : Dev nD) (e : Fin 2048) : V m c main_v10 (ix2 0 e) = a2 m c (ix2 1 e) := by
  have h : V m c main_v10 = shapeCast S1x2048 (shapeCast S2048 (extractStridedSlice S1x2048 ![1, 0] (a2 m c) slices_S2x2048_S1x2048_1_0) shapeCasts_S1x2048_S2048) shapeCasts_S2048_S1x2048 := by
    entry_read
    rfl
  rw [h]
  generalize a2 m c = x
  pointwise

theorem V6_at (c : Dev nD) (e d : Fin 2048) : V m c main_v6 (ix2 e d) = a3 m c (ix3 1 e d) := by
  have h : V m c main_v6 = truncf .bf16 (shapeCast S2048x2048 (extractStridedSlice S1x2048x2048 ![1, 0, 0] (a3 m c) slices_S2x2048x2048_S1x2048x2048_1_0_0) shapeCasts_S1x2048x2048_S2048x2048) bitsLt_bf16_f32 := by
    entry_read
    rfl
  rw [h]
  generalize a3 m c = x
  pointwise

theorem V9_at (c : Dev nD) (k : Fin 256) (d : Fin 2048) : V m c main_v9 (ix2 k d) = a4 m c (ix3 1 k d) := by
  have h : V m c main_v9 = truncf .bf16 (shapeCast S256x2048 (extractStridedSlice S1x256x2048 ![1, 0, 0] (a4 m c) slices_S2x256x2048_S1x256x2048_1_0_0) shapeCasts_S1x256x2048_S256x2048) bitsLt_bf16_f32 := by
    entry_read
    rfl
  rw [h]
  generalize a4 m c = x
  pointwise

theorem V11_at (c : Dev nD) (e : Fin 2048) : V m c main_v11 (ix2 0 e) = a5 m c (ix1 e) := by
  have h : V m c main_v11 = shapeCast S1x2048 (a5 m c) shapeCasts_S2048_S1x2048 := by
    entry_read
    rfl
  rw [h]
  generalize a5 m c = x
  pointwise

/-- A buffer read through one of its rectangles, at an index. -/
theorem rd {Val : EltTy → Type} (b : Ref sig .tc) (r : Rect b.ty.shape) (A : b.ty.Contents Val) (y : r.shape.Idx) :
    ((View.whole b).slice r).read Val A y = A (r.emb y) := rfl

/-- The row of the whole input that point `t` holds as its row `r`. -/
abbrev rowOf (t : Fin cfg0.N) (r : Fin 512) : Fin 16384 := ⟨t.val * 512 + r.val, by have := bound t; omega⟩

theorem blk0_at (c : Dev nD) (t : Fin cfg0.N) (r : Fin 512) (e : Fin 2048) :
    (iblk m c 0 t : Vec Ideal S512x2048 .f32) (ix2 r e) = xrow (a0 m c) (rowOf t r) e := by
  have hi := (idx t).1
  refine Eq.trans ?_ (V0_at m c _ e)
  unfold iblk
  refine (rd main_v0 (win0_0.rect t) (V m c main_v0) (ix2 r e)).trans (congrArg (V m c main_v0) (funext (two ?_ ?_))) <;>
    refine Fin.ext ((Pipeline.Window.rect_emb_val win0_0 t _ _ rfl).trans ?_) <;> rw [hi]
  · rfl
  · change 0 * 2048 + e.val = e.val
    omega

theorem blk1_at (c : Dev nD) (t : Fin cfg0.N) (r : Fin 512) (k : Fin 256) :
    (iblk m c 1 t : Vec Ideal S512x256 .f32) (ix2 r k) = prow (a1 m c) (rowOf t r) k := by
  have hi := (idx t).2.1
  refine Eq.trans ?_ (V1_at m c _ k)
  unfold iblk
  refine (rd main_v1 (win0_1.rect t) (V m c main_v1) (ix2 r k)).trans (congrArg (V m c main_v1) (funext (two ?_ ?_))) <;>
    refine Fin.ext ((Pipeline.Window.rect_emb_val win0_1 t _ _ rfl).trans ?_) <;> rw [hi]
  · change (32 + t.val) * 512 + r.val = 16384 + (t.val * 512 + r.val)
    omega
  · change 0 * 256 + k.val = k.val
    omega

theorem blk2_at (c : Dev nD) (t : Fin cfg0.N) (e : Fin 2048) : (iblk m c 2 t : Vec Ideal S1x2048 .f32) (ix2 0 e) = a2 m c (ix2 1 e) := by
  have hi := (idx t).2.2.1
  refine Eq.trans ?_ (V10_at m c e)
  unfold iblk
  refine (rd main_v10 (win0_2.rect t) (V m c main_v10) (ix2 0 e)).trans (congrArg (V m c main_v10) (funext (two ?_ ?_))) <;>
    refine Fin.ext ((Pipeline.Window.rect_emb_val win0_2 t _ _ rfl).trans ?_) <;> rw [hi]
  · rfl
  · change 0 * 2048 + e.val = e.val
    omega

theorem blk3_at (c : Dev nD) (t : Fin cfg0.N) (e d : Fin 2048) : (iblk m c 3 t : Vec Ideal S2048x2048 .bf16) (ix2 e d) = a3 m c (ix3 1 e d) := by
  have hi := (idx t).2.2.2.1
  refine Eq.trans ?_ (V6_at m c e d)
  unfold iblk
  refine (rd main_v6 (win0_3.rect t) (V m c main_v6) (ix2 e d)).trans (congrArg (V m c main_v6) (funext (two ?_ ?_))) <;>
    refine Fin.ext ((Pipeline.Window.rect_emb_val win0_3 t _ _ rfl).trans ?_) <;> rw [hi]
  · change 0 * 2048 + e.val = e.val
    omega
  · change 0 * 2048 + d.val = d.val
    omega

theorem blk4_at (c : Dev nD) (t : Fin cfg0.N) (k : Fin 256) (d : Fin 2048) : (iblk m c 4 t : Vec Ideal S256x2048 .bf16) (ix2 k d) = a4 m c (ix3 1 k d) := by
  have hi := (idx t).2.2.2.2.1
  refine Eq.trans ?_ (V9_at m c k d)
  unfold iblk
  refine (rd main_v9 (win0_4.rect t) (V m c main_v9) (ix2 k d)).trans (congrArg (V m c main_v9) (funext (two ?_ ?_))) <;>
    refine Fin.ext ((Pipeline.Window.rect_emb_val win0_4 t _ _ rfl).trans ?_) <;> rw [hi]
  · change 0 * 256 + k.val = k.val
    omega
  · change 0 * 2048 + d.val = d.val
    omega

theorem blk5_at (c : Dev nD) (t : Fin cfg0.N) (e : Fin 2048) : (iblk m c 5 t : Vec Ideal S1x2048 .f32) (ix2 0 e) = a5 m c (ix1 e) := by
  have hi := (idx t).2.2.2.2.2.1
  refine Eq.trans ?_ (V11_at m c e)
  unfold iblk
  refine (rd main_v11 (win0_5.rect t) (V m c main_v11) (ix2 0 e)).trans (congrArg (V m c main_v11) (funext (two ?_ ?_))) <;>
    refine Fin.ext ((Pipeline.Window.rect_emb_val win0_5 t _ _ rfl).trans ?_) <;> rw [hi]
  · rfl
  · change 0 * 2048 + e.val = e.val
    omega

/-- What point `t` stores, over the whole arguments. -/
theorem point (c : Dev nD) (t : Fin cfg0.N) (r : Fin 512) (d : Fin 2048) :
    out0_6 (F := Ideal) (iblk m c 0 t) (iblk m c 1 t) (iblk m c 2 t) (iblk m c 3 t) (iblk m c 4 t) (iblk m c 5 t) (ix2 r d)
      = ple (a0 m c) (a1 m c) (a2 m c) (a3 m c) (a4 m c) (a5 m c) (rowOf t r) d := by
  rw [out_at, funext fun e => blk0_at m c t r e, funext fun k => blk1_at m c t r k, funext fun e => blk2_at m c t e, funext₂ fun e d => blk3_at m c t e d,
    funext₂ fun k d => blk4_at m c t k d, funext fun e => blk5_at m c t e]
  rfl

/-- A place of the result's block at point `t`, in the whole array. -/
theorem emb6_at (t : Fin cfg0.N) (y : S512x2048.Idx) : (win0_6.blk t).view.emb y = (ix2 (rowOf t (y 0)) (y 1) : S16384x2048.Idx) := by
  have hi := (idx t).2.2.2.2.2.2
  change (win0_6.rect t).emb y = _
  refine funext (two ?_ ?_) <;> refine Fin.ext ((Pipeline.Window.rect_emb_val win0_6 t y _ rfl).trans ?_) <;> rw [hi]
  · rfl
  · change 0 * 2048 + (y 1).val = (y 1).val
    omega

/-- The result after the run. -/
theorem final (c : Dev nD) : (dats m 0 c).arrAt 6 (cfgs 0).N = fun i : S16384x2048.Idx =>
    ple (a0 m c) (a1 m c) (a2 m c) (a3 m c) (a4 m c) (a5 m c) (i 0) (i 1) := by
  refine (dats m 0 c).arrAt_eq_of_covers 6 _ (by decide +kernel) fun t hf y => ?_
  blk_simp
  rw [after0_6]
  have hy : y = (ix2 (y 0) (y 1) : S512x2048.Idx) := funext (two rfl rfl)
  have he := emb6_at t y
  refine ((congrArg (out0_6 (iblk m c 0 t) (iblk m c 1 t) (iblk m c 2 t) (iblk m c 3 t) (iblk m c 4 t) (iblk m c 5 t)) hy).trans (point m c t (y 0) (y 1))).trans ?_
  exact (congrArg (fun i : S16384x2048.Idx => ple (a0 m c) (a1 m c) (a2 m c) (a3 m c) (a4 m c) (a5 m c) (i 0) (i 1)) he).symm

end Cert.PleValue
-- ==== Proof.PleRef.lean ====
module

public import proofs.«01_k».proof.Proof.PleValue
public import proofs.«01_k».proof.Proof.Gen.Reference3Ideal.Read

@[expose] public section

set_option maxRecDepth 16384

noncomputable section

namespace Cert.PleRef

open Idealize.ShloMosaic Idealize.ShloMosaic.TcCoe Idealize.SL.Sem
open Cert.Reference3Ideal Cert.Reference3Ideal.Gen Cert.Reference3Ideal.Read
open Cert.FfnBlock (nrm)
open Cert.FfnValue (xrow two)
open Cert.PleValue (gated prow ple)

variable (x : FVec Ideal S4x4096x2048 .f32) (p : FVec Ideal S2x4x4096x256 .f32) (g : FVec Ideal S2x2048 .f32) (w : FVec Ideal S2x2048x2048 .f32)
  (v : FVec Ideal S2x256x2048 .f32) (fg : FVec Ideal S2048 .f32)

theorem v0_at (R : Fin 16384) (e : Fin 2048) : val_main_v0 (F := Ideal) x (ix2 R e) = xrow x R e := by
  unfold xrow
  pointwise [val_main_v0]

theorem v14_at (R : Fin 16384) (e : Fin 2048) : val_main_v14 (F := Ideal) g (ix2 R e) = g (ix2 1 e) := by
  pointwise [val_main_v14, val_main_v13, val_main_v2, val_main_v1]

/-- The reference's sum of squares of a row. -/
theorem v4_at (R : Fin 16384) : val_main_v4 (F := Ideal) x (ix1 R) = ∑ k : Fin 2048, xrow x R k * xrow x R k := by
  have h : ∀ k : Fin 2048, val_main_v3 (F := Ideal) x (ix2 R k) = xrow x R k * xrow x R k := fun k => by
    rw [val_main_v3_apply, v0_at]
    rfl
  rw [← funext h]
  unfold val_main_v4
  generalize val_main_v3 (F := Ideal) x = a
  pointwise [val_main_cst]

theorem v15_at (R : Fin 16384) (e : Fin 2048) : val_main_v15 (F := Ideal) x g (ix2 R e) = nrm (xrow x R) (fun e => g (ix2 1 e)) e := by
  unfold nrm
  rw [val_main_v15_apply, val_main_v12_apply, v0_at, v14_at, ← v4_at]
  unfold val_main_v11 val_main_v10 val_main_v9 val_main_v8 val_main_v7 val_main_v6 val_main_v5
  generalize val_main_v4 (F := Ideal) x = s
  pointwise [val_main_cst_0, val_main_cst_1]

theorem v17_at (e d : Fin 2048) : val_main_v17 (F := Ideal) w (ix2 e d) = w (ix3 1 e d) := by
  pointwise [val_main_v17, val_main_v16]

theorem v27_at (R : Fin 16384) (k : Fin 256) : val_main_v27 (F := Ideal) p (ix2 R k) = prow p R k := by
  unfold prow
  pointwise [val_main_v27, val_main_v26, val_main_v25]

theorem v29_at (k : Fin 256) (d : Fin 2048) : val_main_v29 (F := Ideal) v (ix2 k d) = v (ix3 1 k d) := by
  pointwise [val_main_v29, val_main_v28]

theorem v18_at (R : Fin 16384) (d : Fin 2048) :
    val_main_v18 (F := Ideal) x g w (ix2 R d) = ∑ e : Fin 2048, nrm (xrow x R) (fun e => g (ix2 1 e)) e * w (ix3 1 e d) := by
  refine Eq.trans ?_ (Finset.sum_congr rfl fun e _ => congrArg₂ (· * ·) (v15_at x g R e) (v17_at w e d))
  unfold val_main_v18
  generalize val_main_v15 (F := Ideal) x g = a
  generalize val_main_v17 (F := Ideal) w = b
  pointwise

theorem v30_at (R : Fin 16384) (d : Fin 2048) : val_main_v30 (F := Ideal) p v (ix2 R d) = ∑ k : Fin 256, prow p R k * v (ix3 1 k d) := by
  refine Eq.trans ?_ (Finset.sum_congr rfl fun k _ => congrArg₂ (· * ·) (v27_at p R k) (v29_at v k d))
  unfold val_main_v30
  generalize val_main_v27 (F := Ideal) p = a
  generalize val_main_v29 (F := Ideal) v = b
  pointwise

/-- One entry of the residual sum. -/
theorem v32_at (R : Fin 16384) (d : Fin 2048) : val_main_v32 (F := Ideal) x p g w v (ix2 R d)
    = gated (xrow x R) (fun e => g (ix2 1 e)) (fun e d => w (ix3 1 e d)) (prow p R) (fun k d => v (ix3 1 k d)) d := by
  unfold gated
  rw [← v18_at, ← v30_at, ← v0_at]
  unfold val_main_v32 val_main_v31 val_main_v24 val_main_v23 val_main_v22 val_main_v21 val_main_v20 val_main_v19
  generalize val_main_v18 (F := Ideal) x g w = a
  generalize val_main_v30 (F := Ideal) p v = b
  generalize val_main_v0 (F := Ideal) x = z
  pointwise [val_main_cst_2, val_main_cst_3]
  unfold Ideal.logistic
  rfl

/-- The reference's result, entry by entry. -/
theorem ref_at (R : Fin 16384) (d : Fin 2048) : val_main_v45 (F := Ideal) x p g w v fg (ix2 R d) = ple x p g w v fg R d := by
  unfold ple
  rw [← funext fun d => v32_at x p g w v R d]
  unfold nrm
  unfold val_main_v45 val_main_v42 val_main_v41 val_main_v40 val_main_v39 val_main_v38 val_main_v37 val_main_v36 val_main_v35 val_main_v34 val_main_v33
  generalize val_main_v32 (F := Ideal) x p g w v = s
  pointwise [val_main_cst_4, val_main_cst_5, val_main_cst_6, val_main_v44, val_main_v43]

theorem ref : val_main_v45 (F := Ideal) x p g w v fg = fun i => ple x p g w v fg (i 0) (i 1) := by
  funext i
  exact (congrArg (val_main_v45 (F := Ideal) x p g w v fg) (funext (two rfl rfl) : i = (ix2 (i 0) (i 1) : S16384x2048.Idx))).trans (ref_at x p g w v fg (i 0) (i 1))

end Cert.PleRef
-- ==== Proof.PleClaim.lean ====
module

public import proofs.«01_k».proof.Defs
public import proofs.«01_k».proof.Proof.PleRef
public import proofs.«01_k».proof.Proof.Gen.Reference3Ideal.Run
public import Idealize.ShloMosaic.Lib.Claim

@[expose] public section

set_option maxRecDepth 16384

noncomputable section

namespace Cert.PleClaim

open Idealize.ShloMosaic Idealize.ShloMosaic.TcCoe Idealize.SL.Sem

/-- The last gated embedding's call and the reference leave the same result, from any contents. -/
theorem algebraic : Cert.algebraic_Kernel3Ideal_Reference3Ideal := by
  intro m g m' g' hpre hagree
  refine ⟨fun c => (Cert.Kernel3Ideal.Gen.dats m 0 c).arrAt 6 Cert.Kernel3Ideal.cfg0.N, Cert.Kernel3Ideal.Value.run_blocks m g, ?_⟩
  refine θ_run_mono (Cert.Reference3Ideal.Value.run m' g') fun r hr c => ?_
  obtain ⟨h0, ha⟩ := hr c
  obtain ⟨a0, a1, a2, a3, a4, a5⟩ := hagree c
  refine ⟨h0.trans ?_, ha⟩
  refine (Cert.Reference3Ideal.Read.val_main_v45_eq m' c).trans ?_
  rw [a0, a1, a2, a3, a4, a5]
  exact (PleRef.ref _ _ _ _ _ _).trans (PleValue.final m c).symm

end Cert.PleClaim
-- ==== Proof.OutBValue.lean ====
module

public import proofs.«01_k».proof.Proof.FfnValue
public import proofs.«01_k».proof.Proof.Gen.Kernel5Ideal.Value

@[expose] public section

set_option maxRecDepth 16384

noncomputable section

namespace Cert.OutBValue

open Idealize.ShloMosaic Idealize.ShloMosaic.TcCoe Idealize.SL.Sem
open Cert.Kernel5Ideal Cert.Kernel5Ideal.Gen
open Cert.FfnValue (xrow two)

/-- One entry of a row with a product added: the entry, plus the heads' outputs times a column of the weight. -/
def added {n : ℕ} (x : EReal) (o : Fin n → EReal) (w : Fin n → EReal) : EReal := x + ∑ e : Fin n, o e * w e

/-- A buffer read through one of its rectangles, at an index. -/
theorem rd {sg : RefSig} {Val : EltTy → Type} (b : Ref sg .tc) (r : Rect b.ty.shape) (A : b.ty.Contents Val) (y : r.shape.Idx) :
    ((View.whole b).slice r).read Val A y = A (r.emb y) := rfl

/-- The stored block is the row with both parts of the product added, one after the other. -/
theorem pay_at (x : Vec Ideal S1024x1024 .f32) (a : Vec Ideal S1024x1024 .bf16) (v : Vec Ideal S1024x1024 .bf16) (b : Vec Ideal S1024x1024 .bf16)
    (w : Vec Ideal S1024x1024 .bf16) (r d : Fin 1024) : k0_pay1 (F := Ideal) x a v b w (ix2 r d)
      = added (added (x (ix2 r d)) (fun e => a (ix2 r e)) (fun e => v (ix2 e d))) (fun e => b (ix2 r e)) (fun e => w (ix2 e d)) := by
  pointwise [k0_pay1]
  rfl

/-- The whole block, read back. -/
theorem ld_all {e : EltTy} (x : Vec Ideal S1024x1024 e) : View.ld x r0_0 = x := by
  funext y
  obtain ⟨a, b, rfl⟩ : ∃ a b, y = (ix2 a b : S1024x1024.Idx) := ⟨y 0, y 1, funext (two rfl rfl)⟩
  pointwise [r0_0]

theorem idx : ∀ t : Fin cfg0.N, win0_0.index t = ![t.val / 2, 0]
    ∧ win0_1.index t = ![t.val / 2, 0]
    ∧ win0_2.index t = ![0, t.val % 2]
    ∧ win0_3.index t = ![1, t.val % 2]
    ∧ win0_4.index t = ![t.val / 2, t.val % 2]
    ∧ win0_5.index t = ![t.val / 2, t.val % 2] :=
  (by decide +kernel : ∀ t : Fin grid0.N, _)

theorem bound (t : Fin cfg0.N) : t.val < 32 := lt_of_lt_of_eq t.isLt N_0

/-- One row of the heads' outputs. -/
def orow (o : FVec Ideal S4x4096x2048 .f32) (R : Fin 16384) (e : Fin 2048) : EReal := o (ix3 ⟨R.val / 4096, by omega⟩ ⟨R.val % 4096, by omega⟩ e)

/-- One entry of the result. -/
def res (o : FVec Ideal S4x4096x2048 .f32) (w : FVec Ideal S1x2048x2048 .f32) (x : FVec Ideal S4x4096x2048 .f32) (R : Fin 16384) (d : Fin 2048) : EReal :=
  added (xrow x R d) (orow o R) (fun e => w (ix3 0 e d))

/-- The two parts of the product, together. -/
theorem added_added (x : EReal) (o w : Fin 2048 → EReal) :
    added (added x (fun e : Fin 1024 => o ⟨e.val, by omega⟩) (fun e => w ⟨e.val, by omega⟩)) (fun e : Fin 1024 => o ⟨1024 + e.val, by omega⟩) (fun e => w ⟨1024 + e.val, by omega⟩)
      = added x o w := by
  unfold added
  rw [add_assoc]
  exact congrArg (x + ·) (Fin.sum_univ_add (a := 1024) (b := 1024) fun e : Fin 2048 => o e * w e).symm

variable (m : (ℓ : Loc nD τ sig) → Buf (Elt Ideal) ℓ)

abbrev a0 (c : Dev nD) : FVec Ideal S4x4096x2048 .f32 := m ((c : Thread nD τ).loc main_arg0)
abbrev a1 (c : Dev nD) : FVec Ideal S1x2048x2048 .f32 := m ((c : Thread nD τ).loc main_arg1)
abbrev a2 (c : Dev nD) : FVec Ideal S4x4096x2048 .f32 := m ((c : Thread nD τ).loc main_arg2)

theorem V2_at (c : Dev nD) (R : Fin 16384) (e : Fin 1024) : V m c main_v2 (ix2 R e) = orow (a0 m c) R ⟨e.val, by omega⟩ := by
  have h : V m c main_v2 = truncf .bf16 (extractStridedSlice S16384x1024 ![0, 0] (shapeCast S16384x2048 (a0 m c) shapeCasts_S4x4096x2048_S16384x2048) slices_S16384x2048_S16384x1024_0_0) bitsLt_bf16_f32 := by
    entry_read
    rfl
  rw [h]
  generalize a0 m c = x
  unfold orow
  pointwise

theorem V4_at (c : Dev nD) (R : Fin 16384) (e : Fin 1024) : V m c main_v4 (ix2 R e) = orow (a0 m c) R ⟨1024 + e.val, by omega⟩ := by
  have h : V m c main_v4 = truncf .bf16 (extractStridedSlice S16384x1024 ![0, 1024] (shapeCast S16384x2048 (a0 m c) shapeCasts_S4x4096x2048_S16384x2048) slices_S16384x2048_S16384x1024_0_1024) bitsLt_bf16_f32 := by
    entry_read
    rfl
  rw [h]
  generalize a0 m c = x
  unfold orow
  pointwise

theorem V6_at (c : Dev nD) (e : Fin 2048) (d : Fin 2048) : V m c main_v6 (ix2 e d) = a1 m c (ix3 0 e d) := by
  have h : V m c main_v6 = truncf .bf16 (shapeCast S2048x2048 (a1 m c) shapeCasts_S1x2048x2048_S2048x2048) bitsLt_bf16_f32 := by
    entry_read
    rfl
  rw [h]
  generalize a1 m c = x
  pointwise

theorem V7_at (c : Dev nD) (R : Fin 16384) (e : Fin 2048) : V m c main_v7 (ix2 R e) = xrow (a2 m c) R e := by
  have h : V m c main_v7 = shapeCast S16384x2048 (a2 m c) shapeCasts_S4x4096x2048_S16384x2048 := by
    entry_read
    rfl
  rw [h]
  generalize a2 m c = x
  unfold xrow
  pointwise

/-- The row of the whole input that point `t` holds as its row `r`. -/
abbrev rowOf (t : Fin cfg0.N) (r : Fin 1024) : Fin 16384 := ⟨t.val / 2 * 1024 + r.val, by have := bound t; omega⟩

/-- The column of the weight that point `t` holds as its column `d`. -/
abbrev colOf (t : Fin cfg0.N) (d : Fin 1024) : Fin 2048 := ⟨t.val % 2 * 1024 + d.val, by omega⟩

theorem blk0_at (c : Dev nD) (t : Fin cfg0.N) (r e : Fin 1024) : (iblk m c 0 t : Vec Ideal S1024x1024 .bf16) (ix2 r e) = orow (a0 m c) (rowOf t r) ⟨e.val, by omega⟩ := by
  have hi := (idx t).1
  refine Eq.trans ?_ (V2_at m c (rowOf t r) e)
  unfold iblk
  refine (rd main_v2 (win0_0.rect t) (V m c main_v2) (ix2 r e)).trans (congrArg (V m c main_v2) (funext (two ?_ ?_))) <;>
    refine Fin.ext ((Pipeline.Window.rect_emb_val win0_0 t _ _ rfl).trans ?_) <;> rw [hi]
  · rfl
  · change 0 * 1024 + e.val = e.val
    omega

theorem blk1_at (c : Dev nD) (t : Fin cfg0.N) (r : Fin 1024) (e : Fin 1024) : (iblk m c 1 t : Vec Ideal S1024x1024 .bf16) (ix2 r e) = orow (a0 m c) (rowOf t r) ⟨1024 + e.val, by omega⟩ := by
  have hi := (idx t).2.1
  refine Eq.trans ?_ (V4_at m c (rowOf t r) e)
  unfold iblk
  refine (rd main_v4 (win0_1.rect t) (V m c main_v4) (ix2 r e)).trans (congrArg (V m c main_v4) (funext (two ?_ ?_))) <;>
    refine Fin.ext ((Pipeline.Window.rect_emb_val win0_1 t _ _ rfl).trans ?_) <;> rw [hi]
  · rfl
  · change 0 * 1024 + e.val = e.val
    omega

theorem blk2_at (c : Dev nD) (t : Fin cfg0.N) (e d : Fin 1024) : (iblk m c 2 t : Vec Ideal S1024x1024 .bf16) (ix2 e d) = a1 m c (ix3 0 ⟨e.val, by omega⟩ (colOf t d)) := by
  have hi := (idx t).2.2.1
  refine Eq.trans ?_ (V6_at m c ⟨e.val, by omega⟩ (colOf t d))
  unfold iblk
  refine (rd main_v6 (win0_2.rect t) (V m c main_v6) (ix2 e d)).trans (congrArg (V m c main_v6) (funext (two ?_ ?_))) <;>
    refine Fin.ext ((Pipeline.Window.rect_emb_val win0_2 t _ _ rfl).trans ?_) <;> rw [hi]
  · change 0 * 1024 + e.val = e.val
    omega
  · rfl

theorem blk3_at (c : Dev nD) (t : Fin cfg0.N) (e : Fin 1024) (d : Fin 1024) : (iblk m c 3 t : Vec Ideal S1024x1024 .bf16) (ix2 e d) = a1 m c (ix3 0 ⟨1024 + e.val, by omega⟩ (colOf t d)) := by
  have hi := (idx t).2.2.2.1
  refine Eq.trans ?_ (V6_at m c ⟨1024 + e.val, by omega⟩ (colOf t d))
  unfold iblk
  refine (rd main_v6 (win0_3.rect t) (V m c main_v6) (ix2 e d)).trans (congrArg (V m c main_v6) (funext (two ?_ ?_))) <;>
    refine Fin.ext ((Pipeline.Window.rect_emb_val win0_3 t _ _ rfl).trans ?_) <;> rw [hi]
  · change 1 * 1024 + e.val = 1024 + e.val
    omega
  · rfl

theorem blk4_at (c : Dev nD) (t : Fin cfg0.N) (r d : Fin 1024) : (iblk m c 4 t : Vec Ideal S1024x1024 .f32) (ix2 r d) = xrow (a2 m c) (rowOf t r) (colOf t d) := by
  have hi := (idx t).2.2.2.2.1
  refine Eq.trans ?_ (V7_at m c (rowOf t r) (colOf t d))
  unfold iblk
  refine (rd main_v7 (win0_4.rect t) (V m c main_v7) (ix2 r d)).trans (congrArg (V m c main_v7) (funext (two ?_ ?_))) <;>
    refine Fin.ext ((Pipeline.Window.rect_emb_val win0_4 t _ _ rfl).trans ?_) <;> rw [hi]
  · rfl
  · rfl

/-- What point `t` stores, over the whole arguments. -/
theorem point (c : Dev nD) (t : Fin cfg0.N) (r d : Fin 1024) :
    out0_5 (F := Ideal) (iblk m c 0 t) (iblk m c 1 t) (iblk m c 2 t) (iblk m c 3 t) (iblk m c 4 t) (ix2 r d) = res (a0 m c) (a1 m c) (a2 m c) (rowOf t r) (colOf t d) := by
  unfold out0_5
  canon_tiles z h
  idx_vars z
  obtain rfl : r = z0 := Fin.ext (by simpa using h0)
  obtain rfl : d = z1 := Fin.ext (by simpa using h1)
  rw [ld_all, ld_all, ld_all, ld_all, ld_all]
  rw [pay_at, blk4_at, funext fun e => blk0_at m c t r e, funext fun e => blk1_at m c t r e, funext fun e => blk2_at m c t e d,
    funext fun e => blk3_at m c t e d]
  exact added_added _ (orow (a0 m c) (rowOf t r)) (fun e => a1 m c (ix3 0 e (colOf t d)))

/-- A place of the result's block at point `t`, in the whole array. -/
theorem emb5_at (t : Fin cfg0.N) (y : S1024x1024.Idx) : (win0_5.blk t).view.emb y = (ix2 (rowOf t (y 0)) (colOf t (y 1)) : S16384x2048.Idx) := by
  have hi := (idx t).2.2.2.2.2
  change (win0_5.rect t).emb y = _
  refine funext (two ?_ ?_) <;> refine Fin.ext ((Pipeline.Window.rect_emb_val win0_5 t y _ rfl).trans ?_) <;> rw [hi] <;> rfl

/-- The result after the run. -/
theorem final (c : Dev nD) : (dats m 0 c).arrAt 5 (cfgs 0).N = fun i : S16384x2048.Idx => res (a0 m c) (a1 m c) (a2 m c) (i 0) (i 1) := by
  refine (dats m 0 c).arrAt_eq_of_covers 5 _ (by decide +kernel) fun t hf y => ?_
  blk_simp
  rw [after0_5]
  have hy : y = (ix2 (y 0) (y 1) : S1024x1024.Idx) := funext (two rfl rfl)
  have he := emb5_at t y
  refine ((congrArg (out0_5 (F := Ideal) (iblk m c 0 t) (iblk m c 1 t) (iblk m c 2 t) (iblk m c 3 t) (iblk m c 4 t)) hy).trans (point m c t (y 0) (y 1))).trans ?_
  exact (congrArg (fun i : S16384x2048.Idx => res (a0 m c) (a1 m c) (a2 m c) (i 0) (i 1)) he).symm

end Cert.OutBValue
-- ==== Proof.OutAValue.lean ====
module

public import proofs.«01_k».proof.Proof.OutBValue
public import proofs.«01_k».proof.Proof.Gen.Kernel4Ideal.Value

@[expose] public section

set_option maxRecDepth 16384

noncomputable section

namespace Cert.OutAValue

open Idealize.ShloMosaic Idealize.ShloMosaic.TcCoe Idealize.SL.Sem
open Cert.Kernel4Ideal Cert.Kernel4Ideal.Gen
open Cert.FfnValue (xrow two)
open Cert.OutBValue (added rd)

/-- The stored block is the row with both parts of the product added, one after the other. -/
theorem pay_at (x : Vec Ideal S1024x1024 .f32) (a : Vec Ideal S1024x1024 .bf16) (v : Vec Ideal S1024x1024 .bf16) (b : Vec Ideal S1024x512 .bf16)
    (w : Vec Ideal S512x1024 .bf16) (r d : Fin 1024) : k0_pay1 (F := Ideal) x a v b w (ix2 r d)
      = added (added (x (ix2 r d)) (fun e => a (ix2 r e)) (fun e => v (ix2 e d))) (fun e => b (ix2 r e)) (fun e => w (ix2 e d)) := by
  pointwise [k0_pay1]
  rfl

theorem idx : ∀ t : Fin cfg0.N, win0_0.index t = ![t.val / 2, 0]
    ∧ win0_1.index t = ![t.val / 2, 0]
    ∧ win0_2.index t = ![0, t.val % 2]
    ∧ win0_3.index t = ![2, t.val % 2]
    ∧ win0_4.index t = ![t.val / 2, t.val % 2]
    ∧ win0_5.index t = ![t.val / 2, t.val % 2] :=
  (by decide +kernel : ∀ t : Fin grid0.N, _)

theorem bound (t : Fin cfg0.N) : t.val < 32 := lt_of_lt_of_eq t.isLt N_0

/-- One row of the heads' outputs. -/
def orow (o : FVec Ideal S4x4096x1536 .f32) (R : Fin 16384) (e : Fin 1536) : EReal := o (ix3 ⟨R.val / 4096, by omega⟩ ⟨R.val % 4096, by omega⟩ e)

/-- One entry of the result. -/
def res (o : FVec Ideal S4x4096x1536 .f32) (w : FVec Ideal S1x1536x2048 .f32) (x : FVec Ideal S4x4096x2048 .f32) (R : Fin 16384) (d : Fin 2048) : EReal :=
  added (xrow x R d) (orow o R) (fun e => w (ix3 0 e d))

/-- The two parts of the product, together. -/
theorem added_added (x : EReal) (o w : Fin 1536 → EReal) :
    added (added x (fun e : Fin 1024 => o ⟨e.val, by omega⟩) (fun e => w ⟨e.val, by omega⟩)) (fun e : Fin 512 => o ⟨1024 + e.val, by omega⟩) (fun e => w ⟨1024 + e.val, by omega⟩)
      = added x o w := by
  unfold added
  rw [add_assoc]
  exact congrArg (x + ·) (Fin.sum_univ_add (a := 1024) (b := 512) fun e : Fin 1536 => o e * w e).symm

variable (m : (ℓ : Loc nD τ sig) → Buf (Elt Ideal) ℓ)

abbrev a0 (c : Dev nD) : FVec Ideal S4x4096x1536 .f32 := m ((c : Thread nD τ).loc main_arg0)
abbrev a1 (c : Dev nD) : FVec Ideal S1x1536x2048 .f32 := m ((c : Thread nD τ).loc main_arg1)
abbrev a2 (c : Dev nD) : FVec Ideal S4x4096x2048 .f32 := m ((c : Thread nD τ).loc main_arg2)

theorem V2_at (c : Dev nD) (R : Fin 16384) (e : Fin 1024) : V m c main_v2 (ix2 R e) = orow (a0 m c) R ⟨e.val, by omega⟩ := by
  have h : V m c main_v2 = truncf .bf16 (extractStridedSlice S16384x1024 ![0, 0] (shapeCast S16384x1536 (a0 m c) shapeCasts_S4x4096x1536_S16384x1536) slices_S16384x1536_S16384x1024_0_0) bitsLt_bf16_f32 := by
    entry_read
    rfl
  rw [h]
  generalize a0 m c = x
  unfold orow
  pointwise

theorem V4_at (c : Dev nD) (R : Fin 16384) (e : Fin 512) : V m c main_v4 (ix2 R e) = orow (a0 m c) R ⟨1024 + e.val, by omega⟩ := by
  have h : V m c main_v4 = truncf .bf16 (extractStridedSlice S16384x512 ![0, 1024] (shapeCast S16384x1536 (a0 m c) shapeCasts_S4x4096x1536_S16384x1536) slices_S16384x1536_S16384x512_0_1024) bitsLt_bf16_f32 := by
    entry_read
    rfl
  rw [h]
  generalize a0 m c = x
  unfold orow
  pointwise

theorem V6_at (c : Dev nD) (e : Fin 1536) (d : Fin 2048) : V m c main_v6 (ix2 e d) = a1 m c (ix3 0 e d) := by
  have h : V m c main_v6 = truncf .bf16 (shapeCast S1536x2048 (a1 m c) shapeCasts_S1x1536x2048_S1536x2048) bitsLt_bf16_f32 := by
    entry_read
    rfl
  rw [h]
  generalize a1 m c = x
  pointwise

theorem V7_at (c : Dev nD) (R : Fin 16384) (e : Fin 2048) : V m c main_v7 (ix2 R e) = xrow (a2 m c) R e := by
  have h : V m c main_v7 = shapeCast S16384x2048 (a2 m c) shapeCasts_S4x4096x2048_S16384x2048 := by
    entry_read
    rfl
  rw [h]
  generalize a2 m c = x
  unfold xrow
  pointwise

/-- The row of the whole input that point `t` holds as its row `r`. -/
abbrev rowOf (t : Fin cfg0.N) (r : Fin 1024) : Fin 16384 := ⟨t.val / 2 * 1024 + r.val, by have := bound t; omega⟩

/-- The column of the weight that point `t` holds as its column `d`. -/
abbrev colOf (t : Fin cfg0.N) (d : Fin 1024) : Fin 2048 := ⟨t.val % 2 * 1024 + d.val, by omega⟩

theorem blk0_at (c : Dev nD) (t : Fin cfg0.N) (r e : Fin 1024) : (iblk m c 0 t : Vec Ideal S1024x1024 .bf16) (ix2 r e) = orow (a0 m c) (rowOf t r) ⟨e.val, by omega⟩ := by
  have hi := (idx t).1
  refine Eq.trans ?_ (V2_at m c (rowOf t r) e)
  unfold iblk
  refine (rd main_v2 (win0_0.rect t) (V m c main_v2) (ix2 r e)).trans (congrArg (V m c main_v2) (funext (two ?_ ?_))) <;>
    refine Fin.ext ((Pipeline.Window.rect_emb_val win0_0 t _ _ rfl).trans ?_) <;> rw [hi]
  · rfl
  · change 0 * 1024 + e.val = e.val
    omega

theorem blk1_at (c : Dev nD) (t : Fin cfg0.N) (r : Fin 1024) (e : Fin 512) : (iblk m c 1 t : Vec Ideal S1024x512 .bf16) (ix2 r e) = orow (a0 m c) (rowOf t r) ⟨1024 + e.val, by omega⟩ := by
  have hi := (idx t).2.1
  refine Eq.trans ?_ (V4_at m c (rowOf t r) e)
  unfold iblk
  refine (rd main_v4 (win0_1.rect t) (V m c main_v4) (ix2 r e)).trans (congrArg (V m c main_v4) (funext (two ?_ ?_))) <;>
    refine Fin.ext ((Pipeline.Window.rect_emb_val win0_1 t _ _ rfl).trans ?_) <;> rw [hi]
  · rfl
  · change 0 * 512 + e.val = e.val
    omega

theorem blk2_at (c : Dev nD) (t : Fin cfg0.N) (e d : Fin 1024) : (X0_2 m c t : Vec Ideal S1024x1024 .bf16) (ix2 e d) = a1 m c (ix3 0 ⟨e.val, by omega⟩ (colOf t d)) := by
  have hi := (idx t).2.2.1
  refine Eq.trans ?_ (V6_at m c ⟨e.val, by omega⟩ (colOf t d))
  unfold X0_2 Pipeline.Window.fill
  rw [dif_pos (moved0_2 t _)]
  unfold iblk
  refine (rd main_v6 (win0_2.rect t) (V m c main_v6) _).trans (congrArg (V m c main_v6) (funext (two ?_ ?_))) <;>
    refine Fin.ext ((Pipeline.Window.rect_emb_val win0_2 t _ _ rfl).trans ?_) <;> rw [hi]
  · change 0 * 1024 + e.val = e.val
    omega
  · rfl

theorem blk3_at (c : Dev nD) (t : Fin cfg0.N) (e : Fin 512) (d : Fin 1024) : (iblk m c 3 t : Vec Ideal S512x1024 .bf16) (ix2 e d) = a1 m c (ix3 0 ⟨1024 + e.val, by omega⟩ (colOf t d)) := by
  have hi := (idx t).2.2.2.1
  refine Eq.trans ?_ (V6_at m c ⟨1024 + e.val, by omega⟩ (colOf t d))
  unfold iblk
  refine (rd main_v6 (win0_3.rect t) (V m c main_v6) (ix2 e d)).trans (congrArg (V m c main_v6) (funext (two ?_ ?_))) <;>
    refine Fin.ext ((Pipeline.Window.rect_emb_val win0_3 t _ _ rfl).trans ?_) <;> rw [hi]
  · change 2 * 512 + e.val = 1024 + e.val
    omega
  · rfl

theorem blk4_at (c : Dev nD) (t : Fin cfg0.N) (r d : Fin 1024) : (iblk m c 4 t : Vec Ideal S1024x1024 .f32) (ix2 r d) = xrow (a2 m c) (rowOf t r) (colOf t d) := by
  have hi := (idx t).2.2.2.2.1
  refine Eq.trans ?_ (V7_at m c (rowOf t r) (colOf t d))
  unfold iblk
  refine (rd main_v7 (win0_4.rect t) (V m c main_v7) (ix2 r d)).trans (congrArg (V m c main_v7) (funext (two ?_ ?_))) <;>
    refine Fin.ext ((Pipeline.Window.rect_emb_val win0_4 t _ _ rfl).trans ?_) <;> rw [hi]
  · rfl
  · rfl

/-- What point `t` stores, over the whole arguments. -/
theorem point (c : Dev nD) (t : Fin cfg0.N) (r d : Fin 1024) :
    outsAt0 m c t (ix2 r d) = res (a0 m c) (a1 m c) (a2 m c) (rowOf t r) (colOf t d) := by
  unfold outsAt0
  frame_out
  rw [pay_at, blk4_at, funext fun e => blk0_at m c t r e, funext fun e => blk1_at m c t r e, funext fun e => blk2_at m c t e d,
    funext fun e => blk3_at m c t e d]
  exact added_added _ (orow (a0 m c) (rowOf t r)) (fun e => a1 m c (ix3 0 e (colOf t d)))

/-- A place of the result's block at point `t`, in the whole array. -/
theorem emb5_at (t : Fin cfg0.N) (y : S1024x1024.Idx) : (win0_5.blk t).view.emb y = (ix2 (rowOf t (y 0)) (colOf t (y 1)) : S16384x2048.Idx) := by
  have hi := (idx t).2.2.2.2.2
  change (win0_5.rect t).emb y = _
  refine funext (two ?_ ?_) <;> refine Fin.ext ((Pipeline.Window.rect_emb_val win0_5 t y _ rfl).trans ?_) <;> rw [hi] <;> rfl

/-- The result after the run. -/
theorem final (c : Dev nD) : (dats m 0 c).arrAt 5 (cfgs 0).N = fun i : S16384x2048.Idx => res (a0 m c) (a1 m c) (a2 m c) (i 0) (i 1) := by
  refine (dats m 0 c).arrAt_eq_of_covers 5 _ (by decide +kernel) fun t hf y => ?_
  blk_simp
  rw [after0_5]
  have hy : y = (ix2 (y 0) (y 1) : S1024x1024.Idx) := funext (two rfl rfl)
  have he := emb5_at t y
  refine ((congrArg (outsAt0 m c t) hy).trans (point m c t (y 0) (y 1))).trans ?_
  exact (congrArg (fun i : S16384x2048.Idx => res (a0 m c) (a1 m c) (a2 m c) (i 0) (i 1)) he).symm

end Cert.OutAValue
-- ==== Proof.OutARef.lean ====
module

public import proofs.«01_k».proof.Proof.OutAValue
public import proofs.«01_k».proof.Proof.Gen.Reference4Ideal.Read

@[expose] public section

set_option maxRecDepth 16384

noncomputable section

namespace Cert.OutARef

open Idealize.ShloMosaic Idealize.ShloMosaic.TcCoe Idealize.SL.Sem
open Cert.Reference4Ideal Cert.Reference4Ideal.Gen Cert.Reference4Ideal.Read
open Cert.FfnValue (xrow two)
open Cert.OutBValue (added)
open Cert.OutAValue (orow res)

variable (o : FVec Ideal S4x4096x1536 .f32) (w : FVec Ideal S1x1536x2048 .f32) (x : FVec Ideal S4x4096x2048 .f32)

/-- The reference's result, entry by entry. -/
theorem ref_at (R : Fin 16384) (d : Fin 2048) : val_main_v3 (F := Ideal) o w x (ix2 R d) = res o w x R d := by
  unfold res added orow xrow
  pointwise [val_main_v3, val_main_v2, val_main_v1, val_main_v0]

theorem ref : val_main_v3 (F := Ideal) o w x = fun i => res o w x (i 0) (i 1) := by
  funext i
  exact (congrArg (val_main_v3 (F := Ideal) o w x) (funext (two rfl rfl) : i = (ix2 (i 0) (i 1) : S16384x2048.Idx))).trans (ref_at o w x (i 0) (i 1))

end Cert.OutARef
-- ==== Proof.OutAClaim.lean ====
module

public import proofs.«01_k».proof.Defs
public import proofs.«01_k».proof.Proof.OutARef
public import proofs.«01_k».proof.Proof.Gen.Reference4Ideal.Run
public import Idealize.ShloMosaic.Lib.Claim

@[expose] public section

set_option maxRecDepth 16384

noncomputable section

namespace Cert.OutAClaim

open Idealize.ShloMosaic Idealize.ShloMosaic.TcCoe Idealize.SL.Sem

/-- The output projection's call and the reference leave the same result, from any contents. -/
theorem algebraic : Cert.algebraic_Kernel4Ideal_Reference4Ideal := by
  intro m g m' g' hpre hagree
  refine ⟨fun c => (Cert.Kernel4Ideal.Gen.dats m 0 c).arrAt 5 Cert.Kernel4Ideal.cfg0.N, Cert.Kernel4Ideal.Value.run_blocks m g, ?_⟩
  refine θ_run_mono (Cert.Reference4Ideal.Value.run m' g') fun r hr c => ?_
  obtain ⟨h0, ha⟩ := hr c
  obtain ⟨a0, a1, a2⟩ := hagree c
  refine ⟨h0.trans ?_, ha⟩
  refine (Cert.Reference4Ideal.Read.val_main_v3_eq _ _ _).trans ?_
  rw [a0, a1, a2]
  exact (OutARef.ref _ _ _).trans (OutAValue.final m c).symm

end Cert.OutAClaim
-- ==== Proof.OutBRef.lean ====
module

public import proofs.«01_k».proof.Proof.OutBValue
public import proofs.«01_k».proof.Proof.Gen.Reference5Ideal.Read

@[expose] public section

set_option maxRecDepth 16384

noncomputable section

namespace Cert.OutBRef

open Idealize.ShloMosaic Idealize.ShloMosaic.TcCoe Idealize.SL.Sem
open Cert.Reference5Ideal Cert.Reference5Ideal.Gen Cert.Reference5Ideal.Read
open Cert.FfnValue (xrow two)
open Cert.OutBValue (added)
open Cert.OutBValue (orow res)

variable (o : FVec Ideal S4x4096x2048 .f32) (w : FVec Ideal S1x2048x2048 .f32) (x : FVec Ideal S4x4096x2048 .f32)

/-- The reference's result, entry by entry. -/
theorem ref_at (R : Fin 16384) (d : Fin 2048) : val_main_v3 (F := Ideal) o w x (ix2 R d) = res o w x R d := by
  unfold res added orow xrow
  pointwise [val_main_v3, val_main_v2, val_main_v1, val_main_v0]

theorem ref : val_main_v3 (F := Ideal) o w x = fun i => res o w x (i 0) (i 1) := by
  funext i
  exact (congrArg (val_main_v3 (F := Ideal) o w x) (funext (two rfl rfl) : i = (ix2 (i 0) (i 1) : S16384x2048.Idx))).trans (ref_at o w x (i 0) (i 1))

end Cert.OutBRef
-- ==== Proof.OutBClaim.lean ====
module

public import proofs.«01_k».proof.Defs
public import proofs.«01_k».proof.Proof.OutBRef
public import proofs.«01_k».proof.Proof.Gen.Reference5Ideal.Run
public import Idealize.ShloMosaic.Lib.Claim

@[expose] public section

set_option maxRecDepth 16384

noncomputable section

namespace Cert.OutBClaim

open Idealize.ShloMosaic Idealize.ShloMosaic.TcCoe Idealize.SL.Sem

/-- The output projection's call and the reference leave the same result, from any contents. -/
theorem algebraic : Cert.algebraic_Kernel5Ideal_Reference5Ideal := by
  intro m g m' g' hpre hagree
  refine ⟨fun c => (Cert.Kernel5Ideal.Gen.dats m 0 c).arrAt 5 Cert.Kernel5Ideal.cfg0.N, Cert.Kernel5Ideal.Value.run_blocks m g, ?_⟩
  refine θ_run_mono (Cert.Reference5Ideal.Value.run m' g') fun r hr c => ?_
  obtain ⟨h0, ha⟩ := hr c
  obtain ⟨a0, a1, a2⟩ := hagree c
  refine ⟨h0.trans ?_, ha⟩
  refine (Cert.Reference5Ideal.Read.val_main_v3_eq _ _ _).trans ?_
  rw [a0, a1, a2]
  exact (OutBRef.ref _ _ _).trans (OutBValue.final m c).symm

end Cert.OutBClaim
-- ==== Proof.RopeTab.lean ====
module

public import proofs.«01_k».proof.Proof.OutBValue
public import proofs.«01_k».proof.Proof.Gen.Kernel6Ideal.Value
public import proofs.«01_k».proof.Proof.Gen.Reference6Ideal.Read

@[expose] public section

set_option maxRecDepth 16384

noncomputable section

namespace Cert.RopeTab

open Idealize.ShloMosaic Idealize.ShloMosaic.TcCoe Idealize.SL.Sem
open Cert.Reference6Ideal.Read
open Cert.Kernel6Ideal

/-- The angle of each position and each of the 64 frequencies of a head of 128 columns. -/
def ang : FVec Ideal S4096x64 .f32 := val_main_v37 (F := Ideal)

/-- Its cosine. -/
def cosT (s : Fin 4096) (k : Fin 64) : EReal := Host.cos ang (ix2 s k)

/-- Its sine. -/
def sinT (s : Fin 4096) (k : Fin 64) : EReal := Host.sin ang (ix2 s k)

/-- The cosines of a position over a head's 128 columns. -/
def cosRow (s : Fin 4096) (u : Fin 128) : EReal := cosT s ⟨u.val % 64, by omega⟩

/-- The sines of a position over a head's 128 columns, negative in the first half. -/
def sinRow (s : Fin 4096) (u : Fin 128) : EReal := if u.val < 64 then -sinT s ⟨u.val % 64, by omega⟩ else sinT s ⟨u.val % 64, by omega⟩

/-- A head's column times the first table, plus the column half a head further on times the second. -/
def rot {n : ℕ} (y : Fin n → EReal) (a b : Fin 128 → EReal) (h : n % 128 = 0) (d : Fin n) : EReal :=
  y d * a ⟨d.val % 128, by omega⟩ + y ⟨d.val / 128 * 128 + (d.val % 128 + 128 - 64) % 128, by omega⟩ * b ⟨d.val % 128, by omega⟩

/-- The same in the head that starts at column `o`. -/
theorem rot_at {n : ℕ} (y : Fin n → EReal) (a b : Fin 128 → EReal) (h : n % 128 = 0) (d : Fin n) (o : ℕ) (u : Fin 128) (ho : o % 128 = 0) (hd : d.val = o + u.val) :
    rot y a b h d = y ⟨o + u.val, by omega⟩ * a u + y ⟨o + (u.val + 128 - 64) % 128, by omega⟩ * b u := by
  have h1 : (⟨d.val % 128, by omega⟩ : Fin 128) = u := Fin.ext (by dsimp only; omega)
  have h2 : (⟨d.val / 128 * 128 + (d.val % 128 + 128 - 64) % 128, by omega⟩ : Fin n) = ⟨o + (u.val + 128 - 64) % 128, by omega⟩ := Fin.ext (by dsimp only; omega)
  have h3 : d = ⟨o + u.val, by omega⟩ := Fin.ext hd
  unfold rot
  rw [h1, h2]
  rw [← h3]

/-- The same in the first head. -/
theorem rot_zero {n : ℕ} (y : Fin n → EReal) (a b : Fin 128 → EReal) (h : n % 128 = 0) (d : Fin n) (u : Fin 128) (hd : d.val = u.val) :
    rot y a b h d = y ⟨u.val, by omega⟩ * a u + y ⟨(u.val + 128 - 64) % 128, by omega⟩ * b u := by
  have h1 : (⟨0 + u.val, by omega⟩ : Fin n) = ⟨u.val, by omega⟩ := Fin.ext (by dsimp only; omega)
  have h2 : (⟨0 + (u.val + 128 - 64) % 128, by omega⟩ : Fin n) = ⟨(u.val + 128 - 64) % 128, by omega⟩ := Fin.ext (by dsimp only; omega)
  rw [rot_at y a b h d 0 u (by decide) (by omega), h1, h2]

/-- In the first half of a head, the rotation of the pair of columns. -/
theorem rot_lo {n : ℕ} (y : Fin n → EReal) (s : Fin 4096) (h : n % 128 = 0) (d : Fin n) (o : ℕ) (k : Fin 64) (ho : o % 128 = 0) (hd : d.val = o + k.val) :
    rot y (cosRow s) (sinRow s) h d = y ⟨o + k.val, by omega⟩ * cosT s k - y ⟨o + (64 + k.val), by omega⟩ * sinT s k := by
  rw [rot_at y _ _ h d o ⟨k.val, by omega⟩ ho hd]
  unfold cosRow sinRow
  have hk : (⟨k.val % 64, by omega⟩ : Fin 64) = k := Fin.ext (by dsimp only; omega)
  have h2 : (⟨o + (k.val + 128 - 64) % 128, by omega⟩ : Fin n) = ⟨o + (64 + k.val), by omega⟩ := Fin.ext (by dsimp only; omega)
  dsimp only
  rw [if_pos k.isLt, hk, h2, mul_neg, ← sub_eq_add_neg]

/-- In the second half. -/
theorem rot_hi {n : ℕ} (y : Fin n → EReal) (s : Fin 4096) (h : n % 128 = 0) (d : Fin n) (o : ℕ) (k : Fin 64) (ho : o % 128 = 0) (hd : d.val = o + (64 + k.val)) :
    rot y (cosRow s) (sinRow s) h d = y ⟨o + (64 + k.val), by omega⟩ * cosT s k + y ⟨o + k.val, by omega⟩ * sinT s k := by
  rw [rot_at y _ _ h d o ⟨64 + k.val, by omega⟩ ho hd]
  unfold cosRow sinRow
  have hk : (⟨(64 + k.val) % 64, by omega⟩ : Fin 64) = k := Fin.ext (by dsimp only; omega)
  have h2 : (⟨o + (64 + k.val + 128 - 64) % 128, by omega⟩ : Fin n) = ⟨o + k.val, by omega⟩ := Fin.ext (by dsimp only; omega)
  dsimp only
  rw [if_neg (by omega), hk, h2]

/-- The cosine table laid twice side by side. -/
theorem cos_table (h : Shape.Concatenates [S4096x64, S4096x64] S4096x128 1) (s : Fin 4096) (u : Fin 128) :
    concatenate S4096x128 1 [⟨S4096x64, Host.cos ang⟩, ⟨S4096x64, Host.cos ang⟩] h (ix2 s u) = cosRow s u := by
  unfold cosRow cosT
  generalize Host.cos ang = x
  pointwise
  rcases Nat.lt_or_ge u.val 64 with h0 | h0
  · rw [dif_pos h0]
    exact congrArg (fun k => x (ix2 s k)) (Fin.ext (Nat.mod_eq_of_lt h0).symm)
  · rw [dif_neg (Nat.not_lt.mpr h0)]
    exact congrArg (fun k => x (ix2 s k)) (Fin.ext (by dsimp only; omega))

/-- The sine table beside its negative. -/
theorem sin_table (h : Shape.Concatenates [S4096x64, S4096x64] S4096x128 1) (s : Fin 4096) (u : Fin 128) :
    concatenate S4096x128 1 [⟨S4096x64, Host.negf (Host.sin ang)⟩, ⟨S4096x64, Host.sin ang⟩] h (ix2 s u) = sinRow s u := by
  unfold sinRow sinT
  generalize Host.sin ang = x
  pointwise
  rcases Nat.lt_or_ge u.val 64 with h0 | h0
  · rw [dif_pos h0, if_pos h0]
    exact congrArg (fun k => -x (ix2 s k)) (Fin.ext (Nat.mod_eq_of_lt h0).symm)
  · rw [dif_neg (Nat.not_lt.mpr h0), if_neg (Nat.not_lt.mpr h0)]
    exact congrArg (fun k => x (ix2 s k)) (Fin.ext (by dsimp only; omega))

end Cert.RopeTab
-- ==== Proof.ProjBValue.lean ====
module

public import proofs.«01_k».proof.Proof.RopeTab
public import proofs.«01_k».proof.Proof.Gen.Kernel6Ideal.Value
public import Idealize.ShloMosaic.Lib.Pipeline.ValueKit

@[expose] public section

set_option maxRecDepth 16384

noncomputable section

namespace Cert.ProjBValue

open Idealize.ShloMosaic Idealize.ShloMosaic.TcCoe Idealize.SL.Sem
open Cert.Kernel6Ideal Cert.Kernel6Ideal.Gen
open Cert.FfnBlock (nrm)
open Cert.FfnValue (xrow two)
open Cert.OutBValue (rd)
open Cert.RopeTab

/-- One column of a row's product with a block of the weight. -/
def prod (z : Fin 2048 → EReal) (w : Fin 2048 → Fin 1024 → EReal) (d : Fin 1024) : EReal := ∑ e : Fin 2048, z e * w e d

/-- The queries' scale. -/
abbrev scale : EReal := Ideal.ofBits .f32 0x3E0293EE#32

theorem norm_at (x : Vec Ideal S1024x2048 .f32) (g : Vec Ideal S1x2048 .f32) (r : Fin 1024) (e : Fin 2048) :
    k0_pay1 (F := Ideal) x g (ix2 r e) = nrm (fun k => x (ix2 r k)) (fun k => g (ix2 0 k)) e := by
  pointwise [k0_pay1]
  rfl

variable (m : (ℓ : Loc nD τ sig) → Buf (Elt Ideal) ℓ)

/-- A row of the point's normalised rows, by its blocks. -/
abbrev xnAt (c : Dev nD) (t : Fin cfg0.N) (r : Fin 1024) (e : Fin 2048) : EReal :=
  nrm (fun k => (iblk m c 0 t : Vec Ideal S1024x2048 .f32) (ix2 r k)) (fun k => (iblk m c 1 t : Vec Ideal S1x2048 .f32) (ix2 0 k)) e

/-- The scratch after a row block's first point: the normalised rows. -/
theorem scrA (c : Dev nD) (t : Fin cfg0.N) (h0 : t.val % 3 = 0) (r : Fin 1024) (e : Fin 2048) :
    (outsAt0 m c t.val t.isLt).2 (ix2 r e) = xnAt m c t r e := by
  rw [outsAt0_A m c t h0 h0 (by omega) (by omega)]
  frame_out
  exact norm_at _ _ r e

/-- Later points leave it. -/
theorem scrB (c : Dev nD) (t : Fin cfg0.N) (h0 : t.val % 3 = 1) :
    (outsAt0 m c t.val t.isLt).2 = (outsAt0 m c (t.val - 1) (Nat.lt_of_le_of_lt (Nat.sub_le _ _) t.isLt)).2 := by
  rw [outsAt0_B m c t (by omega) (by omega) h0 (by omega)]
  rfl

theorem scrC (c : Dev nD) (t : Fin cfg0.N) (h0 : t.val % 3 = 2) :
    (outsAt0 m c t.val t.isLt).2 = (outsAt0 m c (t.val - 1) (Nat.lt_of_le_of_lt (Nat.sub_le _ _) t.isLt)).2 := by
  rw [outsAt0_C m c t (by omega) (by omega) (by omega) h0]
  rfl

/-- The first column block: the scaled queries, rotated. -/
theorem outA (c : Dev nD) (t : Fin cfg0.N) (h0 : t.val % 3 = 0) (r d : Fin 1024) :
    (outsAt0 m c t.val t.isLt).1 (ix2 r d) = rot (fun d => prod (xnAt m c t r) (fun e d => (iblk m c 2 t : Vec Ideal S2048x1024 .bf16) (ix2 e d)) d * scale)
      (fun u => (iblk m c 3 t : Vec Ideal S1024x128 .f32) (ix2 r u)) (fun u => (iblk m c 4 t : Vec Ideal S1024x128 .f32) (ix2 r u)) (by decide) d := by
  rw [show xnAt m c t r = fun e => k0_pay1 (F := Ideal) (iblk m c 0 t) (iblk m c 1 t) (ix2 r e) from funext fun e => (norm_at _ _ r e).symm]
  rw [outsAt0_A m c t h0 h0 (by omega) (by omega)]
  frame_out
  generalize k0_pay1 (F := Ideal) (iblk m c 0 t) (iblk m c 1 t) = z
  generalize (iblk m c 3 t : Vec Ideal S1024x128 .f32) = a
  generalize (iblk m c 4 t : Vec Ideal S1024x128 .f32) = b
  generalize (iblk m c 2 t : Vec Ideal S2048x1024 .bf16) = w
  canon_tiles x h
  case piece0 =>
    idx_vars x
    obtain rfl : r = x0 := Fin.ext (by simpa using h0)
    rw [rot_at _ _ _ _ d 896 x1 (by decide) (by simpa using h1)]
    unfold prod
    pointwise [k0_pay2, k0_pay14, k0_pay15, k0_pay16, k0_pay17, k0_pay18, k0_pay19, k0_pay20, k0_pay21, k0_pay22, k0_pay23, k0_pay24]
  case piece1 =>
    idx_vars x
    obtain rfl : r = x0 := Fin.ext (by simpa using h0)
    rw [rot_at _ _ _ _ d 768 x1 (by decide) (by simpa using h1)]
    unfold prod
    pointwise [k0_pay2, k0_pay14, k0_pay15, k0_pay16, k0_pay17, k0_pay18, k0_pay19, k0_pay20, k0_pay21, k0_pay22, k0_pay23, k0_pay24]
  case piece2 =>
    idx_vars x
    obtain rfl : r = x0 := Fin.ext (by simpa using h0)
    rw [rot_at _ _ _ _ d 640 x1 (by decide) (by simpa using h1)]
    unfold prod
    pointwise [k0_pay2, k0_pay14, k0_pay15, k0_pay16, k0_pay17, k0_pay18, k0_pay19, k0_pay20, k0_pay21, k0_pay22, k0_pay23, k0_pay24]
  case piece3 =>
    idx_vars x
    obtain rfl : r = x0 := Fin.ext (by simpa using h0)
    rw [rot_at _ _ _ _ d 512 x1 (by decide) (by simpa using h1)]
    unfold prod
    pointwise [k0_pay2, k0_pay14, k0_pay15, k0_pay16, k0_pay17, k0_pay18, k0_pay19, k0_pay20, k0_pay21, k0_pay22, k0_pay23, k0_pay24]
  case piece4 =>
    idx_vars x
    obtain rfl : r = x0 := Fin.ext (by simpa using h0)
    rw [rot_at _ _ _ _ d 384 x1 (by decide) (by simpa using h1)]
    unfold prod
    pointwise [k0_pay2, k0_pay14, k0_pay15, k0_pay16, k0_pay17, k0_pay18, k0_pay19, k0_pay20, k0_pay21, k0_pay22, k0_pay23, k0_pay24]
  case piece5 =>
    idx_vars x
    obtain rfl : r = x0 := Fin.ext (by simpa using h0)
    rw [rot_at _ _ _ _ d 256 x1 (by decide) (by simpa using h1)]
    unfold prod
    pointwise [k0_pay2, k0_pay14, k0_pay15, k0_pay16, k0_pay17, k0_pay18, k0_pay19, k0_pay20, k0_pay21, k0_pay22, k0_pay23, k0_pay24]
  case piece6 =>
    idx_vars x
    obtain rfl : r = x0 := Fin.ext (by simpa using h0)
    rw [rot_at _ _ _ _ d 128 x1 (by decide) (by simpa using h1)]
    unfold prod
    pointwise [k0_pay2, k0_pay14, k0_pay15, k0_pay16, k0_pay17, k0_pay18, k0_pay19, k0_pay20, k0_pay21, k0_pay22, k0_pay23, k0_pay24]
  case piece7 =>
    idx_vars x
    obtain rfl : r = x0 := Fin.ext (by simpa using h0)
    rw [rot_zero _ _ _ _ d x1 (by simpa using h1)]
    unfold prod
    pointwise [k0_pay2, k0_pay14, k0_pay15, k0_pay16, k0_pay17, k0_pay18, k0_pay19, k0_pay20, k0_pay21, k0_pay22, k0_pay23, k0_pay24]

/-- The second: the keys, rotated. -/
theorem outB (c : Dev nD) (t : Fin cfg0.N) (h0 : t.val % 3 = 1) (r d : Fin 1024) :
    (outsAt0 m c t.val t.isLt).1 (ix2 r d) = rot (prod (fun e => (outsAt0 m c (t.val - 1) (Nat.lt_of_le_of_lt (Nat.sub_le _ _) t.isLt)).2 (ix2 r e)) (fun e d => (iblk m c 2 t : Vec Ideal S2048x1024 .bf16) (ix2 e d)))
      (fun u => (iblk m c 3 t : Vec Ideal S1024x128 .f32) (ix2 r u)) (fun u => (iblk m c 4 t : Vec Ideal S1024x128 .f32) (ix2 r u)) (by decide) d := by
  rw [outsAt0_B m c t (by omega) (by omega) h0 (by omega)]
  frame_out
  generalize (outsAt0 m c (t.val - 1) (Nat.lt_of_le_of_lt (Nat.sub_le _ _) t.isLt)).2 = z
  generalize (iblk m c 3 t : Vec Ideal S1024x128 .f32) = a
  generalize (iblk m c 4 t : Vec Ideal S1024x128 .f32) = b
  generalize (iblk m c 2 t : Vec Ideal S2048x1024 .bf16) = w
  canon_tiles x h
  case piece0 =>
    idx_vars x
    obtain rfl : r = x0 := Fin.ext (by simpa using h0)
    rw [(Memref.isWhole_whole cc0_scratch0).read_unread _]
    rw [rot_at _ _ _ _ d 896 x1 (by decide) (by simpa using h1)]
    unfold prod
    pointwise [k0_pay3, k0_pay4, k0_pay25, k0_pay26, k0_pay27, k0_pay28, k0_pay29, k0_pay30, k0_pay31, k0_pay32, k0_pay33, k0_pay34]
  case piece1 =>
    idx_vars x
    obtain rfl : r = x0 := Fin.ext (by simpa using h0)
    rw [(Memref.isWhole_whole cc0_scratch0).read_unread _]
    rw [rot_at _ _ _ _ d 768 x1 (by decide) (by simpa using h1)]
    unfold prod
    pointwise [k0_pay3, k0_pay4, k0_pay25, k0_pay26, k0_pay27, k0_pay28, k0_pay29, k0_pay30, k0_pay31, k0_pay32, k0_pay33, k0_pay34]
  case piece2 =>
    idx_vars x
    obtain rfl : r = x0 := Fin.ext (by simpa using h0)
    rw [(Memref.isWhole_whole cc0_scratch0).read_unread _]
    rw [rot_at _ _ _ _ d 640 x1 (by decide) (by simpa using h1)]
    unfold prod
    pointwise [k0_pay3, k0_pay4, k0_pay25, k0_pay26, k0_pay27, k0_pay28, k0_pay29, k0_pay30, k0_pay31, k0_pay32, k0_pay33, k0_pay34]
  case piece3 =>
    idx_vars x
    obtain rfl : r = x0 := Fin.ext (by simpa using h0)
    rw [(Memref.isWhole_whole cc0_scratch0).read_unread _]
    rw [rot_at _ _ _ _ d 512 x1 (by decide) (by simpa using h1)]
    unfold prod
    pointwise [k0_pay3, k0_pay4, k0_pay25, k0_pay26, k0_pay27, k0_pay28, k0_pay29, k0_pay30, k0_pay31, k0_pay32, k0_pay33, k0_pay34]
  case piece4 =>
    idx_vars x
    obtain rfl : r = x0 := Fin.ext (by simpa using h0)
    rw [(Memref.isWhole_whole cc0_scratch0).read_unread _]
    rw [rot_at _ _ _ _ d 384 x1 (by decide) (by simpa using h1)]
    unfold prod
    pointwise [k0_pay3, k0_pay4, k0_pay25, k0_pay26, k0_pay27, k0_pay28, k0_pay29, k0_pay30, k0_pay31, k0_pay32, k0_pay33, k0_pay34]
  case piece5 =>
    idx_vars x
    obtain rfl : r = x0 := Fin.ext (by simpa using h0)
    rw [(Memref.isWhole_whole cc0_scratch0).read_unread _]
    rw [rot_at _ _ _ _ d 256 x1 (by decide) (by simpa using h1)]
    unfold prod
    pointwise [k0_pay3, k0_pay4, k0_pay25, k0_pay26, k0_pay27, k0_pay28, k0_pay29, k0_pay30, k0_pay31, k0_pay32, k0_pay33, k0_pay34]
  case piece6 =>
    idx_vars x
    obtain rfl : r = x0 := Fin.ext (by simpa using h0)
    rw [(Memref.isWhole_whole cc0_scratch0).read_unread _]
    rw [rot_at _ _ _ _ d 128 x1 (by decide) (by simpa using h1)]
    unfold prod
    pointwise [k0_pay3, k0_pay4, k0_pay25, k0_pay26, k0_pay27, k0_pay28, k0_pay29, k0_pay30, k0_pay31, k0_pay32, k0_pay33, k0_pay34]
  case piece7 =>
    idx_vars x
    obtain rfl : r = x0 := Fin.ext (by simpa using h0)
    rw [(Memref.isWhole_whole cc0_scratch0).read_unread _]
    rw [rot_zero _ _ _ _ d x1 (by simpa using h1)]
    unfold prod
    pointwise [k0_pay3, k0_pay4, k0_pay25, k0_pay26, k0_pay27, k0_pay28, k0_pay29, k0_pay30, k0_pay31, k0_pay32, k0_pay33, k0_pay34]

/-- The third: the values. -/
theorem outC (c : Dev nD) (t : Fin cfg0.N) (h0 : t.val % 3 = 2) (r d : Fin 1024) :
    (outsAt0 m c t.val t.isLt).1 (ix2 r d) = prod (fun e => (outsAt0 m c (t.val - 1) (Nat.lt_of_le_of_lt (Nat.sub_le _ _) t.isLt)).2 (ix2 r e)) (fun e d => (iblk m c 2 t : Vec Ideal S2048x1024 .bf16) (ix2 e d)) d := by
  rw [outsAt0_C m c t (by omega) (by omega) (by omega) h0]
  frame_out
  generalize (outsAt0 m c (t.val - 1) (Nat.lt_of_le_of_lt (Nat.sub_le _ _) t.isLt)).2 = z
  generalize (iblk m c 2 t : Vec Ideal S2048x1024 .bf16) = w
  canon_tiles x h
  case piece0 =>
    idx_vars x
    obtain rfl : r = x0 := Fin.ext (by simpa using h0)
    rw [(Memref.isWhole_whole cc0_scratch0).read_unread _]
    rw [show d = ⟨896 + x1.val, by omega⟩ from Fin.ext (by simpa using h1)]
    pointwise [k0_pay5, k0_pay6, k0_pay7, k0_pay8, k0_pay9, k0_pay10, k0_pay11, k0_pay12, k0_pay13]
    rfl
  case piece1 =>
    idx_vars x
    obtain rfl : r = x0 := Fin.ext (by simpa using h0)
    rw [(Memref.isWhole_whole cc0_scratch0).read_unread _]
    rw [show d = ⟨768 + x1.val, by omega⟩ from Fin.ext (by simpa using h1)]
    pointwise [k0_pay5, k0_pay6, k0_pay7, k0_pay8, k0_pay9, k0_pay10, k0_pay11, k0_pay12, k0_pay13]
    rfl
  case piece2 =>
    idx_vars x
    obtain rfl : r = x0 := Fin.ext (by simpa using h0)
    rw [(Memref.isWhole_whole cc0_scratch0).read_unread _]
    rw [show d = ⟨640 + x1.val, by omega⟩ from Fin.ext (by simpa using h1)]
    pointwise [k0_pay5, k0_pay6, k0_pay7, k0_pay8, k0_pay9, k0_pay10, k0_pay11, k0_pay12, k0_pay13]
    rfl
  case piece3 =>
    idx_vars x
    obtain rfl : r = x0 := Fin.ext (by simpa using h0)
    rw [(Memref.isWhole_whole cc0_scratch0).read_unread _]
    rw [show d = ⟨512 + x1.val, by omega⟩ from Fin.ext (by simpa using h1)]
    pointwise [k0_pay5, k0_pay6, k0_pay7, k0_pay8, k0_pay9, k0_pay10, k0_pay11, k0_pay12, k0_pay13]
    rfl
  case piece4 =>
    idx_vars x
    obtain rfl : r = x0 := Fin.ext (by simpa using h0)
    rw [(Memref.isWhole_whole cc0_scratch0).read_unread _]
    rw [show d = ⟨384 + x1.val, by omega⟩ from Fin.ext (by simpa using h1)]
    pointwise [k0_pay5, k0_pay6, k0_pay7, k0_pay8, k0_pay9, k0_pay10, k0_pay11, k0_pay12, k0_pay13]
    rfl
  case piece5 =>
    idx_vars x
    obtain rfl : r = x0 := Fin.ext (by simpa using h0)
    rw [(Memref.isWhole_whole cc0_scratch0).read_unread _]
    rw [show d = ⟨256 + x1.val, by omega⟩ from Fin.ext (by simpa using h1)]
    pointwise [k0_pay5, k0_pay6, k0_pay7, k0_pay8, k0_pay9, k0_pay10, k0_pay11, k0_pay12, k0_pay13]
    rfl
  case piece6 =>
    idx_vars x
    obtain rfl : r = x0 := Fin.ext (by simpa using h0)
    rw [(Memref.isWhole_whole cc0_scratch0).read_unread _]
    rw [show d = ⟨128 + x1.val, by omega⟩ from Fin.ext (by simpa using h1)]
    pointwise [k0_pay5, k0_pay6, k0_pay7, k0_pay8, k0_pay9, k0_pay10, k0_pay11, k0_pay12, k0_pay13]
    rfl
  case piece7 =>
    idx_vars x
    obtain rfl : r = x0 := Fin.ext (by simpa using h0)
    rw [(Memref.isWhole_whole cc0_scratch0).read_unread _]
    rw [show d = ⟨x1.val, by omega⟩ from Fin.ext (by simpa using h1)]
    pointwise [k0_pay5, k0_pay6, k0_pay7, k0_pay8, k0_pay9, k0_pay10, k0_pay11, k0_pay12, k0_pay13]
    rfl

theorem idx : ∀ t : Fin cfg0.N, win0_0.index t = ![t.val / 3, 0]
    ∧ win0_1.index t = ![0, 0]
    ∧ win0_2.index t = ![0, t.val % 3]
    ∧ win0_3.index t = ![t.val / 3 % 4, 0]
    ∧ win0_4.index t = ![t.val / 3 % 4, 0]
    ∧ win0_7.index t = ![t.val / 3, t.val % 3] :=
  (by decide +kernel : ∀ t : Fin grid0.N, _)

theorem bound (t : Fin cfg0.N) : t.val < 48 := lt_of_lt_of_eq t.isLt N_0

abbrev a0 (c : Dev nD) : FVec Ideal S4x4096x2048 .f32 := m ((c : Thread nD τ).loc main_arg0)
abbrev a1 (c : Dev nD) : FVec Ideal S2x2048 .f32 := m ((c : Thread nD τ).loc main_arg1)
abbrev a2 (c : Dev nD) : FVec Ideal S1x2048x3904 .f32 := m ((c : Thread nD τ).loc main_arg2)

theorem V0_at (c : Dev nD) (R : Fin 16384) (e : Fin 2048) : V m c main_v0 (ix2 R e) = xrow (a0 m c) R e := by
  have h : V m c main_v0 = shapeCast S16384x2048 (a0 m c) shapeCasts_S4x4096x2048_S16384x2048 := by
    entry_read
    rfl
  rw [h]
  generalize a0 m c = x
  unfold xrow
  pointwise

theorem V50_at (c : Dev nD) (e : Fin 2048) : V m c main_v50 (ix2 0 e) = a1 m c (ix2 1 e) := by
  have h : V m c main_v50 = shapeCast S1x2048 (shapeCast S2048 (extractStridedSlice S1x2048 ![1, 0] (a1 m c) slices_S2x2048_S1x2048_1_0) shapeCasts_S1x2048_S2048) shapeCasts_S2048_S1x2048 := by
    entry_read
    rfl
  rw [h]
  generalize a1 m c = x
  pointwise

theorem V5_at (c : Dev nD) (e : Fin 2048) (d : Fin 3072) : V m c main_v5 (ix2 e d) = a2 m c (ix3 0 e ⟨832 + d.val, by omega⟩) := by
  have h : V m c main_v5 = truncf .bf16 (extractStridedSlice S2048x3072 ![0, 832] (shapeCast S2048x3904 (a2 m c) shapeCasts_S1x2048x3904_S2048x3904) slices_S2048x3904_S2048x3072_0_832) bitsLt_bf16_f32 := by
    entry_read
    rfl
  rw [h]
  generalize a2 m c = x
  pointwise

theorem V39_at (c : Dev nD) (s : Fin 4096) (u : Fin 128) : V m c main_v39 (ix2 s u) = cosRow s u := by
  have h : V m c main_v39 = concatenate S4096x128 1 [⟨S4096x64, Host.cos ang⟩, ⟨S4096x64, Host.cos ang⟩] concatenates_S4096x64_S4096x64_S4096x128_d1 := by
    entry_read
    rfl
  rw [h]
  exact cos_table _ s u

theorem V43_at (c : Dev nD) (s : Fin 4096) (u : Fin 128) : V m c main_v43 (ix2 s u) = sinRow s u := by
  have h : V m c main_v43 = concatenate S4096x128 1 [⟨S4096x64, Host.negf (Host.sin ang)⟩, ⟨S4096x64, Host.sin ang⟩] concatenates_S4096x64_S4096x64_S4096x128_d1 := by
    entry_read
    rfl
  rw [h]
  exact sin_table _ s u

/-- The row of the whole input that point `t` holds as its row `r`. -/
abbrev rowOf (t : Fin cfg0.N) (r : Fin 1024) : Fin 16384 := ⟨t.val / 3 * 1024 + r.val, by have := bound t; omega⟩

/-- The column of the projection that point `t` holds as its column `d`. -/
abbrev colOf (t : Fin cfg0.N) (d : Fin 1024) : Fin 3072 := ⟨t.val % 3 * 1024 + d.val, by omega⟩

/-- The position of a row in its sequence. -/
abbrev posOf (R : Fin 16384) : Fin 4096 := ⟨R.val % 4096, by omega⟩

theorem blk0_at (c : Dev nD) (t : Fin cfg0.N) (r : Fin 1024) (e : Fin 2048) : (iblk m c 0 t : Vec Ideal S1024x2048 .f32) (ix2 r e) = xrow (a0 m c) (rowOf t r) e := by
  have hi := (idx t).1
  refine Eq.trans ?_ (V0_at m c (rowOf t r) e)
  unfold iblk
  refine (rd main_v0 (win0_0.rect t) (V m c main_v0) (ix2 r e)).trans (congrArg (V m c main_v0) (funext (two ?_ ?_))) <;>
    refine Fin.ext ((Pipeline.Window.rect_emb_val win0_0 t _ _ rfl).trans ?_) <;> rw [hi]
  · rfl
  · change 0 * 2048 + e.val = e.val
    omega

theorem blk1_at (c : Dev nD) (t : Fin cfg0.N) (e : Fin 2048) : (iblk m c 1 t : Vec Ideal S1x2048 .f32) (ix2 0 e) = a1 m c (ix2 1 e) := by
  have hi := (idx t).2.1
  refine Eq.trans ?_ (V50_at m c e)
  unfold iblk
  refine (rd main_v50 (win0_1.rect t) (V m c main_v50) (ix2 0 e)).trans (congrArg (V m c main_v50) (funext (two ?_ ?_))) <;>
    refine Fin.ext ((Pipeline.Window.rect_emb_val win0_1 t _ _ rfl).trans ?_) <;> rw [hi]
  · rfl
  · change 0 * 2048 + e.val = e.val
    omega

theorem blk2_at (c : Dev nD) (t : Fin cfg0.N) (e : Fin 2048) (d : Fin 1024) :
    (iblk m c 2 t : Vec Ideal S2048x1024 .bf16) (ix2 e d) = a2 m c (ix3 0 e ⟨832 + (colOf t d).val, by omega⟩) := by
  have hi := (idx t).2.2.1
  refine Eq.trans ?_ (V5_at m c e (colOf t d))
  unfold iblk
  refine (rd main_v5 (win0_2.rect t) (V m c main_v5) (ix2 e d)).trans (congrArg (V m c main_v5) (funext (two ?_ ?_))) <;>
    refine Fin.ext ((Pipeline.Window.rect_emb_val win0_2 t _ _ rfl).trans ?_) <;> rw [hi]
  · change 0 * 2048 + e.val = e.val
    omega
  · rfl

theorem blk3_at (c : Dev nD) (t : Fin cfg0.N) (r : Fin 1024) (u : Fin 128) :
    (iblk m c 3 t : Vec Ideal S1024x128 .f32) (ix2 r u) = cosRow (posOf (rowOf t r)) u := by
  have hi := (idx t).2.2.2.1
  refine Eq.trans ?_ (V39_at m c (posOf (rowOf t r)) u)
  unfold iblk
  refine (rd main_v39 (win0_3.rect t) (V m c main_v39) (ix2 r u)).trans (congrArg (V m c main_v39) (funext (two ?_ ?_))) <;>
    refine Fin.ext ((Pipeline.Window.rect_emb_val win0_3 t _ _ rfl).trans ?_) <;> rw [hi]
  · change t.val / 3 % 4 * 1024 + r.val = (t.val / 3 * 1024 + r.val) % 4096
    omega
  · change 0 * 128 + u.val = u.val
    omega

theorem blk4_at (c : Dev nD) (t : Fin cfg0.N) (r : Fin 1024) (u : Fin 128) :
    (iblk m c 4 t : Vec Ideal S1024x128 .f32) (ix2 r u) = sinRow (posOf (rowOf t r)) u := by
  have hi := (idx t).2.2.2.2.1
  refine Eq.trans ?_ (V43_at m c (posOf (rowOf t r)) u)
  unfold iblk
  refine (rd main_v43 (win0_4.rect t) (V m c main_v43) (ix2 r u)).trans (congrArg (V m c main_v43) (funext (two ?_ ?_))) <;>
    refine Fin.ext ((Pipeline.Window.rect_emb_val win0_4 t _ _ rfl).trans ?_) <;> rw [hi]
  · change t.val / 3 % 4 * 1024 + r.val = (t.val / 3 * 1024 + r.val) % 4096
    omega
  · change 0 * 128 + u.val = u.val
    omega

/-- One column of a normalised row's projection, in the column block `j`. -/
def col (x : FVec Ideal S4x4096x2048 .f32) (g : FVec Ideal S2x2048 .f32) (w : FVec Ideal S1x2048x3904 .f32) (R : Fin 16384) (j : Fin 3) (d : Fin 1024) : EReal :=
  ∑ e : Fin 2048, nrm (xrow x R) (fun e => g (ix2 1 e)) e * w (ix3 0 e ⟨832 + (j.val * 1024 + d.val), by omega⟩)

/-- One entry of the result, in the column block `j`. -/
def entry (x : FVec Ideal S4x4096x2048 .f32) (g : FVec Ideal S2x2048 .f32) (w : FVec Ideal S1x2048x3904 .f32) (R : Fin 16384) (j : Fin 3) (d : Fin 1024) : EReal :=
  if j.val = 0 then rot (fun d => col x g w R j d * scale) (cosRow (posOf R)) (sinRow (posOf R)) (by decide) d
  else if j.val = 1 then rot (col x g w R j) (cosRow (posOf R)) (sinRow (posOf R)) (by decide) d
  else col x g w R j d

/-- The result, whole. -/
def res (x : FVec Ideal S4x4096x2048 .f32) (g : FVec Ideal S2x2048 .f32) (w : FVec Ideal S1x2048x3904 .f32) (R : Fin 16384) (n : Fin 3072) : EReal :=
  entry x g w R ⟨n.val / 1024, by omega⟩ ⟨n.val % 1024, by omega⟩

theorem xnAt_eq (c : Dev nD) (t : Fin cfg0.N) (r : Fin 1024) : xnAt m c t r = nrm (xrow (a0 m c) (rowOf t r)) (fun e => a1 m c (ix2 1 e)) := by
  funext e
  unfold xnAt
  rw [funext fun k => blk0_at m c t r k, funext fun k => blk1_at m c t k]

/-- The scratch after any point: the normalised rows of its row block. -/
theorem scr (c : Dev nD) (t : Fin cfg0.N) (r : Fin 1024) :
    (fun e => (outsAt0 m c t.val t.isLt).2 (ix2 r e)) = nrm (xrow (a0 m c) (rowOf t r)) (fun e => a1 m c (ix2 1 e)) := by
  have first : ∀ t : Fin cfg0.N, t.val % 3 = 0 → ∀ r, (fun e => (outsAt0 m c t.val t.isLt).2 (ix2 r e)) = nrm (xrow (a0 m c) (rowOf t r)) (fun e => a1 m c (ix2 1 e)) :=
    fun t h r => (funext fun e => scrA m c t h r e).trans (xnAt_eq m c t r)
  have second : ∀ t : Fin cfg0.N, t.val % 3 = 1 → ∀ r, (fun e => (outsAt0 m c t.val t.isLt).2 (ix2 r e)) = nrm (xrow (a0 m c) (rowOf t r)) (fun e => a1 m c (ix2 1 e)) := fun t h r => by
    rw [scrB m c t h]
    refine (first ⟨t.val - 1, by omega⟩ (by dsimp only; omega) r).trans ?_
    rw [show rowOf ⟨t.val - 1, by omega⟩ r = rowOf t r from Fin.ext (by dsimp only; omega)]
  rcases (by omega : t.val % 3 = 0 ∨ t.val % 3 = 1 ∨ t.val % 3 = 2) with h | h | h
  · exact first t h r
  · exact second t h r
  · rw [scrC m c t h]
    refine (second ⟨t.val - 1, by omega⟩ (by dsimp only; omega) r).trans ?_
    rw [show rowOf ⟨t.val - 1, by omega⟩ r = rowOf t r from Fin.ext (by dsimp only; omega)]

/-- The same of the point before, when it is of the same row block. -/
theorem scr_before (c : Dev nD) (t : Fin cfg0.N) (h : t.val % 3 ≠ 0) (r : Fin 1024) :
    (fun e => (outsAt0 m c (t.val - 1) (Nat.lt_of_le_of_lt (Nat.sub_le _ _) t.isLt)).2 (ix2 r e)) = nrm (xrow (a0 m c) (rowOf t r)) (fun e => a1 m c (ix2 1 e)) := by
  refine (scr m c ⟨t.val - 1, by omega⟩ r).trans ?_
  rw [show rowOf ⟨t.val - 1, by omega⟩ r = rowOf t r from Fin.ext (by dsimp only; omega)]

/-- A point's columns, over the whole arguments. -/
theorem prod_at (c : Dev nD) (t : Fin cfg0.N) (r : Fin 1024) :
    prod (nrm (xrow (a0 m c) (rowOf t r)) (fun e => a1 m c (ix2 1 e))) (fun e d => (iblk m c 2 t : Vec Ideal S2048x1024 .bf16) (ix2 e d))
      = col (a0 m c) (a1 m c) (a2 m c) (rowOf t r) ⟨t.val % 3, by omega⟩ := by
  funext d
  unfold prod col
  exact Finset.sum_congr rfl fun e _ => congrArg _ (blk2_at m c t e d)

/-- What point `t` stores, over the whole arguments. -/
theorem point (c : Dev nD) (t : Fin cfg0.N) (r d : Fin 1024) :
    (outsAt0 m c t.val t.isLt).1 (ix2 r d) = entry (a0 m c) (a1 m c) (a2 m c) (rowOf t r) ⟨t.val % 3, by omega⟩ d := by
  unfold entry
  dsimp only
  rcases (by omega : t.val % 3 = 0 ∨ t.val % 3 = 1 ∨ t.val % 3 = 2) with h | h | h
  · rw [if_pos h, outA m c t h, xnAt_eq, prod_at, funext fun u => blk3_at m c t r u, funext fun u => blk4_at m c t r u]
  · rw [if_neg (by omega), if_pos h, outB m c t h, scr_before m c t (by omega), prod_at, funext fun u => blk3_at m c t r u, funext fun u => blk4_at m c t r u]
  · rw [if_neg (by omega), if_neg (by omega), outC m c t h, scr_before m c t (by omega), prod_at]

/-- A place of the result's block at point `t`, in the whole array. -/
theorem emb7_at (t : Fin cfg0.N) (y : S1024x1024.Idx) : (win0_7.blk t).view.emb y = (ix2 (rowOf t (y 0)) (colOf t (y 1)) : S16384x3072.Idx) := by
  have hi := (idx t).2.2.2.2.2
  change (win0_7.rect t).emb y = _
  refine funext (two ?_ ?_) <;> refine Fin.ext ((Pipeline.Window.rect_emb_val win0_7 t y _ rfl).trans ?_) <;> rw [hi] <;> rfl

/-- The result after the run. -/
theorem final (c : Dev nD) : (dats m 0 c).arrAt 7 (cfgs 0).N = fun i : S16384x3072.Idx => res (a0 m c) (a1 m c) (a2 m c) (i 0) (i 1) := by
  refine (dats m 0 c).arrAt_eq_of_covers 7 _ (by decide +kernel) fun t hf y => ?_
  blk_simp
  rw [after0_7]
  have hy : y = (ix2 (y 0) (y 1) : S1024x1024.Idx) := funext (two rfl rfl)
  have he := emb7_at t y
  refine ((congrArg (outsAt0 m c t.val t.isLt).1 hy).trans (point m c t (y 0) (y 1))).trans ?_
  refine Eq.trans ?_ (congrArg (fun i : S16384x3072.Idx => res (a0 m c) (a1 m c) (a2 m c) (i 0) (i 1)) he).symm
  have h1 : (y 1).val < 1024 := (y 1).isLt
  unfold res
  exact congrArg₂ (entry (a0 m c) (a1 m c) (a2 m c) (rowOf t (y 0))) (Fin.ext (by change _ = (t.val % 3 * 1024 + (y 1).val) / 1024; dsimp only; omega))
    (Fin.ext (by change (y 1).val = (t.val % 3 * 1024 + (y 1).val) % 1024; omega))

end Cert.ProjBValue
-- ==== Proof.ProjBRef.lean ====
module

public import proofs.«01_k».proof.Proof.ProjBValue
public import proofs.«01_k».proof.Proof.Gen.Reference6Ideal.Read

@[expose] public section

set_option maxRecDepth 16384

noncomputable section

namespace Cert.ProjBRef

open Idealize.ShloMosaic Idealize.ShloMosaic.TcCoe Idealize.SL.Sem
open Cert.Reference6Ideal Cert.Reference6Ideal.Gen Cert.Reference6Ideal.Read
open Cert.FfnBlock (nrm)
open Cert.FfnValue (xrow two)
open Cert.RopeTab
open Cert.ProjBValue (col scale posOf entry res)

variable (x : FVec Ideal S4x4096x2048 .f32) (g : FVec Ideal S2x2048 .f32) (w : FVec Ideal S1x2048x3904 .f32)

theorem v13_at (b : Fin 4) (s : Fin 4096) (e : Fin 2048) : val_main_v13 (F := Ideal) g (ix3 b s e) = g (ix2 1 e) := by
  pointwise [val_main_v13, val_main_v12, val_main_v1, val_main_v0]

theorem v3_at (b : Fin 4) (s : Fin 4096) : val_main_v3 (F := Ideal) x (ix2 b s) = ∑ k : Fin 2048, x (ix3 b s k) * x (ix3 b s k) := by
  unfold val_main_v3 val_main_v2
  pointwise [val_main_cst]

theorem v14_at (b : Fin 4) (s : Fin 4096) (e : Fin 2048) :
    val_main_v14 (F := Ideal) x g (ix3 b s e) = nrm (fun e => x (ix3 b s e)) (fun e => g (ix2 1 e)) e := by
  unfold nrm
  rw [val_main_v14_apply, val_main_v11_apply, v13_at, ← v3_at]
  unfold val_main_v10 val_main_v9 val_main_v8 val_main_v7 val_main_v6 val_main_v5 val_main_v4
  generalize val_main_v3 (F := Ideal) x = q
  pointwise [val_main_cst_0, val_main_cst_1]

theorem v15_at (e : Fin 2048) (n : Fin 3904) : val_main_v15 (F := Ideal) w (ix2 e n) = w (ix3 0 e n) := by
  pointwise [val_main_v15]

/-- One column of a row's projection. -/
theorem v16_at (b : Fin 4) (s : Fin 4096) (n : Fin 3904) : val_main_v16 (F := Ideal) x g w (ix3 b s n)
    = ∑ e : Fin 2048, nrm (fun e => x (ix3 b s e)) (fun e => g (ix2 1 e)) e * w (ix3 0 e n) := by
  refine Eq.trans ?_ (Finset.sum_congr rfl fun e _ => congrArg₂ (· * ·) (v14_at x g b s e) (v15_at w e n))
  unfold val_main_v16
  generalize val_main_v14 (F := Ideal) x g = y
  generalize val_main_v15 (F := Ideal) w = v
  pointwise

theorem v43_at (b : Fin 4) (h : Fin 8) (s : Fin 4096) (u : Fin 128) : val_main_v43 (F := Ideal) x g w (ix4 b h s u)
    = val_main_v16 (F := Ideal) x g w (ix3 b s ⟨832 + (h.val * 128 + u.val), by omega⟩) * scale := by
  unfold val_main_v43 val_main_v42 val_main_v41 val_main_v40 val_main_v18 val_main_v17
  generalize val_main_v16 (F := Ideal) x g w = y
  pointwise [val_main_cst_7]

theorem v62_at (b : Fin 4) (h : Fin 8) (s : Fin 4096) (u : Fin 128) : val_main_v62 (F := Ideal) x g w (ix4 b h s u)
    = val_main_v16 (F := Ideal) x g w (ix3 b s ⟨832 + (1024 + (h.val * 128 + u.val)), by omega⟩) := by
  unfold val_main_v62 val_main_v61 val_main_v19 val_main_v17
  generalize val_main_v16 (F := Ideal) x g w = y
  pointwise

theorem v60_lo (b : Fin 4) (h : Fin 8) (s : Fin 4096) (k : Fin 64) : val_main_v60 (F := Ideal) x g w (ix4 b h s ⟨k.val, by omega⟩)
    = val_main_v43 (F := Ideal) x g w (ix4 b h s ⟨k.val, by omega⟩) * cosT s k - val_main_v43 (F := Ideal) x g w (ix4 b h s ⟨64 + k.val, by omega⟩) * sinT s k := by
  unfold val_main_v60 val_main_v59 val_main_v58 val_main_v57 val_main_v56 val_main_v55 val_main_v54 val_main_v53 val_main_v52 val_main_v51 val_main_v50 val_main_v49 val_main_v48 val_main_v47 val_main_v46 val_main_v45 val_main_v44 val_main_v39 val_main_v38 cosT sinT ang
  generalize val_main_v43 (F := Ideal) x g w = y
  generalize val_main_v37 (F := Ideal) = a
  pointwise

theorem v60_hi (b : Fin 4) (h : Fin 8) (s : Fin 4096) (k : Fin 64) : val_main_v60 (F := Ideal) x g w (ix4 b h s ⟨64 + k.val, by omega⟩)
    = val_main_v43 (F := Ideal) x g w (ix4 b h s ⟨64 + k.val, by omega⟩) * cosT s k + val_main_v43 (F := Ideal) x g w (ix4 b h s ⟨k.val, by omega⟩) * sinT s k := by
  unfold val_main_v60 val_main_v59 val_main_v58 val_main_v57 val_main_v56 val_main_v55 val_main_v54 val_main_v53 val_main_v52 val_main_v51 val_main_v50 val_main_v49 val_main_v48 val_main_v47 val_main_v46 val_main_v45 val_main_v44 val_main_v39 val_main_v38 cosT sinT ang
  generalize val_main_v43 (F := Ideal) x g w = y
  generalize val_main_v37 (F := Ideal) = a
  pointwise

theorem v79_lo (b : Fin 4) (h : Fin 8) (s : Fin 4096) (k : Fin 64) : val_main_v79 (F := Ideal) x g w (ix4 b h s ⟨k.val, by omega⟩)
    = val_main_v62 (F := Ideal) x g w (ix4 b h s ⟨k.val, by omega⟩) * cosT s k - val_main_v62 (F := Ideal) x g w (ix4 b h s ⟨64 + k.val, by omega⟩) * sinT s k := by
  unfold val_main_v79 val_main_v78 val_main_v77 val_main_v76 val_main_v75 val_main_v74 val_main_v73 val_main_v72 val_main_v71 val_main_v70 val_main_v69 val_main_v68 val_main_v67 val_main_v66 val_main_v65 val_main_v64 val_main_v63 val_main_v39 val_main_v38 cosT sinT ang
  generalize val_main_v62 (F := Ideal) x g w = y
  generalize val_main_v37 (F := Ideal) = a
  pointwise

theorem v79_hi (b : Fin 4) (h : Fin 8) (s : Fin 4096) (k : Fin 64) : val_main_v79 (F := Ideal) x g w (ix4 b h s ⟨64 + k.val, by omega⟩)
    = val_main_v62 (F := Ideal) x g w (ix4 b h s ⟨64 + k.val, by omega⟩) * cosT s k + val_main_v62 (F := Ideal) x g w (ix4 b h s ⟨k.val, by omega⟩) * sinT s k := by
  unfold val_main_v79 val_main_v78 val_main_v77 val_main_v76 val_main_v75 val_main_v74 val_main_v73 val_main_v72 val_main_v71 val_main_v70 val_main_v69 val_main_v68 val_main_v67 val_main_v66 val_main_v65 val_main_v64 val_main_v63 val_main_v39 val_main_v38 cosT sinT ang
  generalize val_main_v62 (F := Ideal) x g w = y
  generalize val_main_v37 (F := Ideal) = a
  pointwise

theorem v81_at (R : Fin 16384) (d : Fin 1024) : val_main_v81 (F := Ideal) x g w (ix2 R d)
    = val_main_v60 (F := Ideal) x g w (ix4 ⟨R.val / 4096, by omega⟩ ⟨d.val / 128, by omega⟩ ⟨R.val % 4096, by omega⟩ ⟨d.val % 128, by omega⟩) := by
  unfold val_main_v81 val_main_v80
  generalize val_main_v60 (F := Ideal) x g w = y
  pointwise

theorem v84_at (R : Fin 16384) (d : Fin 1024) : val_main_v84 (F := Ideal) x g w (ix2 R d)
    = val_main_v16 (F := Ideal) x g w (ix3 ⟨R.val / 4096, by omega⟩ ⟨R.val % 4096, by omega⟩ ⟨832 + (2048 + d.val), by omega⟩) := by
  unfold val_main_v84 val_main_v20 val_main_v17
  generalize val_main_v16 (F := Ideal) x g w = y
  pointwise

theorem v83_at (R : Fin 16384) (d : Fin 1024) : val_main_v83 (F := Ideal) x g w (ix2 R d)
    = val_main_v79 (F := Ideal) x g w (ix4 ⟨R.val / 4096, by omega⟩ ⟨d.val / 128, by omega⟩ ⟨R.val % 4096, by omega⟩ ⟨d.val % 128, by omega⟩) := by
  unfold val_main_v83 val_main_v82
  generalize val_main_v79 (F := Ideal) x g w = y
  pointwise

/-- A column of the row, as the kernel's side writes it. -/
theorem col_at (R : Fin 16384) (j : Fin 3) (d : Fin 1024) (n : Fin 3904) (hn : n.val = 832 + (j.val * 1024 + d.val)) :
    val_main_v16 (F := Ideal) x g w (ix3 ⟨R.val / 4096, by omega⟩ ⟨R.val % 4096, by omega⟩ n) = col x g w R j d := by
  rw [v16_at, show n = ⟨832 + (j.val * 1024 + d.val), by omega⟩ from Fin.ext hn]
  rfl

theorem q_at (R : Fin 16384) (d : Fin 1024) : val_main_v81 (F := Ideal) x g w (ix2 R d) = entry x g w R 0 d := by
  rw [v81_at]
  show _ = rot (fun d => col x g w R 0 d * scale) (cosRow (posOf R)) (sinRow (posOf R)) (by decide) d
  rcases Nat.lt_or_ge (d.val % 128) 64 with hk | hk
  · rw [rot_lo _ _ _ d (d.val / 128 * 128) ⟨d.val % 128, hk⟩ (by omega) (by show d.val = d.val / 128 * 128 + d.val % 128; omega)]
    rw [v60_lo x g w _ _ _ ⟨d.val % 128, hk⟩, v43_at, v43_at]
    rw [col_at x g w R 0 ⟨d.val / 128 * 128 + d.val % 128, by omega⟩ _ (by simp), col_at x g w R 0 ⟨d.val / 128 * 128 + (64 + d.val % 128), by omega⟩ _ (by simp)]
  · have hm : d.val % 128 = 64 + (d.val % 128 - 64) := by omega
    rw [rot_hi _ _ _ d (d.val / 128 * 128) ⟨d.val % 128 - 64, by omega⟩ (by omega) (by show d.val = d.val / 128 * 128 + (64 + (d.val % 128 - 64)); omega)]
    rw [show (⟨d.val % 128, by omega⟩ : Fin 128) = ⟨64 + (d.val % 128 - 64), by omega⟩ from Fin.ext hm]
    rw [v60_hi x g w _ _ _ ⟨d.val % 128 - 64, by omega⟩, v43_at, v43_at]
    rw [col_at x g w R 0 ⟨d.val / 128 * 128 + (64 + (d.val % 128 - 64)), by omega⟩ _ (by simp), col_at x g w R 0 ⟨d.val / 128 * 128 + (d.val % 128 - 64), by omega⟩ _ (by simp)]

theorem k_at (R : Fin 16384) (d : Fin 1024) : val_main_v83 (F := Ideal) x g w (ix2 R d) = entry x g w R 1 d := by
  rw [v83_at]
  show _ = rot (fun d => col x g w R 1 d) (cosRow (posOf R)) (sinRow (posOf R)) (by decide) d
  rcases Nat.lt_or_ge (d.val % 128) 64 with hk | hk
  · rw [rot_lo _ _ _ d (d.val / 128 * 128) ⟨d.val % 128, hk⟩ (by omega) (by show d.val = d.val / 128 * 128 + d.val % 128; omega)]
    rw [v79_lo x g w _ _ _ ⟨d.val % 128, hk⟩, v62_at, v62_at]
    rw [col_at x g w R 1 ⟨d.val / 128 * 128 + d.val % 128, by omega⟩ _ (by simp), col_at x g w R 1 ⟨d.val / 128 * 128 + (64 + d.val % 128), by omega⟩ _ (by simp)]
  · have hm : d.val % 128 = 64 + (d.val % 128 - 64) := by omega
    rw [rot_hi _ _ _ d (d.val / 128 * 128) ⟨d.val % 128 - 64, by omega⟩ (by omega) (by show d.val = d.val / 128 * 128 + (64 + (d.val % 128 - 64)); omega)]
    rw [show (⟨d.val % 128, by omega⟩ : Fin 128) = ⟨64 + (d.val % 128 - 64), by omega⟩ from Fin.ext hm]
    rw [v79_hi x g w _ _ _ ⟨d.val % 128 - 64, by omega⟩, v62_at, v62_at]
    rw [col_at x g w R 1 ⟨d.val / 128 * 128 + (64 + (d.val % 128 - 64)), by omega⟩ _ (by simp), col_at x g w R 1 ⟨d.val / 128 * 128 + (d.val % 128 - 64), by omega⟩ _ (by simp)]

theorem val_at (R : Fin 16384) (d : Fin 1024) : val_main_v84 (F := Ideal) x g w (ix2 R d) = entry x g w R 2 d := by
  rw [v84_at, col_at x g w R 2 d _ (by simp)]
  rfl

/-- The three column blocks side by side. -/
theorem v86_at (R : Fin 16384) (n : Fin 3072) : val_main_v86 (F := Ideal) x g w (ix2 R n) = res x g w R n := by
  refine Eq.trans (b := if h : n.val < 1024 then val_main_v81 (F := Ideal) x g w (ix2 R ⟨n.val, h⟩)
    else if h : n.val - 1024 < 1024 then val_main_v83 (F := Ideal) x g w (ix2 R ⟨n.val - 1024, h⟩)
    else val_main_v84 (F := Ideal) x g w (ix2 R ⟨n.val - 1024 - 1024, by omega⟩)) ?_ ?_
  · unfold val_main_v86 val_main_v85
    generalize val_main_v81 (F := Ideal) x g w = y
    generalize val_main_v83 (F := Ideal) x g w = z
    generalize val_main_v84 (F := Ideal) x g w = v
    pointwise
  · unfold res
    rcases Nat.lt_or_ge n.val 1024 with h | h
    · rw [dif_pos h, q_at]
      exact congrArg₂ (entry x g w R) (Fin.ext (by show 0 = n.val / 1024; omega)) (Fin.ext (by show n.val = n.val % 1024; omega))
    · rw [dif_neg (by omega)]
      rcases Nat.lt_or_ge n.val 2048 with h' | h'
      · rw [dif_pos (by omega), k_at]
        exact congrArg₂ (entry x g w R) (Fin.ext (by show 1 = n.val / 1024; omega)) (Fin.ext (by show n.val - 1024 = n.val % 1024; omega))
      · rw [dif_neg (by omega), val_at]
        exact congrArg₂ (entry x g w R) (Fin.ext (by show 2 = n.val / 1024; omega)) (Fin.ext (by show n.val - 1024 - 1024 = n.val % 1024; omega))

theorem ref : val_main_v86 (F := Ideal) x g w = fun i : S16384x3072.Idx => res x g w (i 0) (i 1) := by
  refine funext fun i => ?_
  refine Eq.trans (congrArg (val_main_v86 (F := Ideal) x g w) (show i = ix2 (i 0) (i 1) from ?_)) (v86_at x g w (i 0) (i 1))
  idx_vars i
  rfl

end Cert.ProjBRef
-- ==== Proof.ProjBClaim.lean ====
module

public import proofs.«01_k».proof.Defs
public import proofs.«01_k».proof.Proof.ProjBRef
public import proofs.«01_k».proof.Proof.Gen.Reference6Ideal.Run
public import Idealize.ShloMosaic.Lib.Claim

@[expose] public section

set_option maxRecDepth 16384

noncomputable section

namespace Cert.ProjBClaim

open Idealize.ShloMosaic Idealize.ShloMosaic.TcCoe Idealize.SL.Sem

/-- The call of the query, key and value projection and the reference leave the same result, from any contents. -/
theorem algebraic : Cert.algebraic_Kernel6Ideal_Reference6Ideal := by
  intro m g m' g' hpre hagree
  refine ⟨fun c => (Cert.Kernel6Ideal.Gen.dats m 0 c).arrAt 7 Cert.Kernel6Ideal.cfg0.N, Cert.Kernel6Ideal.Value.run_blocks m g, ?_⟩
  refine θ_run_mono (Cert.Reference6Ideal.Value.run m' g') fun r hr c => ?_
  obtain ⟨h0, ha⟩ := hr c
  obtain ⟨a0, a1, a2⟩ := hagree c
  refine ⟨h0.trans ?_, ha⟩
  refine (Cert.Reference6Ideal.Read.val_main_v86_eq m' c).trans ?_
  rw [a0, a1, a2]
  exact (ProjBRef.ref _ _ _).trans (ProjBValue.final m c).symm

end Cert.ProjBClaim
-- ==== Proof.ProjATile.lean ====
module

public import proofs.«01_k».proof.Proof.RopeTab
public import proofs.«01_k».proof.Proof.Gen.Kernel8Ideal.Value
public import Idealize.ShloMosaic.Lib.Pipeline.ValueKit

@[expose] public section

set_option maxRecDepth 16384

noncomputable section

namespace Cert.ProjATile

open Idealize.ShloMosaic Idealize.ShloMosaic.TcCoe Idealize.SL.Sem
open Cert.Kernel8Ideal Cert.Kernel8Ideal.Gen
open Cert.FfnBlock (nrm)
open Cert.RopeTab

/-- The scale of the first heads' queries. -/
abbrev scaleA : EReal := Ideal.ofBits .f32 0x3E38AA3B#32

/-- The scale of the dilated heads' queries. -/
abbrev scaleB : EReal := Ideal.ofBits .f32 0x3DB504F3#32

/-- The dilation of the head that holds the chunk `q` of 128 columns. -/
def dil (q : ℕ) : ℕ := if q < 24 then 1 else if q % 12 < 4 then 1 else if q % 12 < 8 then 4 else 16

/-- What a chunk holds, of a row's columns `y`: rotated or not, scaled or not. `a` and `b` are the tables of 128 columns,
    `a'` and `b'` those of 64. -/
def val {n : ℕ} (h : n % 128 = 0) (q : ℕ) (y : Fin n → EReal) (a b a' b' : Fin 128 → EReal) : Fin n → EReal :=
  if q < 8 then rot (fun d => y d * scaleA) a' b' h
  else if q < 16 then rot y a' b' h
  else if q < 24 then y
  else if q < 36 then rot (fun d => y d * scaleB) a b h
  else if q < 48 then rot y a b h
  else y

/-- The row of a tile of 1024 that ends as row `r`, under a dilation. -/
def src (D : ℕ) (r : Fin 1024) : ℕ := r.val % (1024 / D) * D + r.val / (1024 / D)

theorem src_lt (q : ℕ) (r : Fin 1024) : src (dil q) r < 1024 := by
  have h : dil q = 1 ∨ dil q = 4 ∨ dil q = 16 := by unfold dil; split_ifs <;> simp
  unfold src
  rcases h with h | h | h <;> rw [h] <;> omega

section
variable (z : Vec Ideal S1024x2048 .bf16) (w : Vec Ideal S2048x1280 .bf16) (a b a' b' : Vec Ideal S1024x128 .f32)

/-- A column of a row's product with the block of the weight. -/
def pre (s : Fin 1024) (d : Fin 1280) : EReal := ∑ e : Fin 2048, z (ix2 s e) * w (ix2 e d)

/-- The chunk `q` of row `s`, over the tile's tables. -/
def chunk (q : ℕ) (s : Fin 1024) : Fin 1280 → EReal :=
  val (by decide) q (pre z w s) (fun u => a (ix2 s u)) (fun u => b (ix2 s u)) (fun u => a' (ix2 s u)) (fun u => b' (ix2 s u))

/-- What the tile's stores leave in the column block `j`. -/
def tile (j : ℕ) (r : Fin 1024) (d : Fin 1280) : EReal :=
  chunk z w a b a' b' (j * 10 + d.val / 128) ⟨src (dil (j * 10 + d.val / 128)) r, src_lt _ r⟩ d

theorem tile_at (j q D : ℕ) (r : Fin 1024) (d : Fin 1280) (s : Fin 1024) (hq : j * 10 + d.val / 128 = q) (hd : dil q = D)
    (hs : s.val = r.val % (1024 / D) * D + r.val / (1024 / D)) : tile z w a b a' b' j r d = chunk z w a b a' b' q s d := by
  subst hq
  subst hd
  exact congrArg (fun s => chunk z w a b a' b' _ s d) (Fin.ext hs.symm)

/-- Three kinds of chunk that are not dilated, and three that may be. -/
theorem tile_qa (j q : ℕ) (r : Fin 1024) (d : Fin 1280) (hq : j * 10 + d.val / 128 = q) (h : q < 8) :
    tile z w a b a' b' j r d = rot (fun d => pre z w r d * scaleA) (fun u => a' (ix2 r u)) (fun u => b' (ix2 r u)) (by decide) d := by
  rw [tile_at z w a b a' b' j q 1 r d r hq (by unfold dil; rw [if_pos (by omega)]) (by omega)]
  unfold chunk val
  rw [if_pos h]

theorem tile_ka (j q : ℕ) (r : Fin 1024) (d : Fin 1280) (hq : j * 10 + d.val / 128 = q) (h : 8 ≤ q ∧ q < 16) :
    tile z w a b a' b' j r d = rot (pre z w r) (fun u => a' (ix2 r u)) (fun u => b' (ix2 r u)) (by decide) d := by
  rw [tile_at z w a b a' b' j q 1 r d r hq (by unfold dil; rw [if_pos (by omega)]) (by omega)]
  unfold chunk val
  rw [if_neg (by omega), if_pos h.2]

theorem tile_va (j q : ℕ) (r : Fin 1024) (d : Fin 1280) (hq : j * 10 + d.val / 128 = q) (h : 16 ≤ q ∧ q < 24) :
    tile z w a b a' b' j r d = pre z w r d := by
  rw [tile_at z w a b a' b' j q 1 r d r hq (by unfold dil; rw [if_pos (by omega)]) (by omega)]
  unfold chunk val
  rw [if_neg (by omega), if_neg (by omega), if_pos h.2]

theorem tile_qb (j q D : ℕ) (r : Fin 1024) (d : Fin 1280) (s : Fin 1024) (hq : j * 10 + d.val / 128 = q) (h : 24 ≤ q ∧ q < 36) (hd : dil q = D)
    (hs : s.val = r.val % (1024 / D) * D + r.val / (1024 / D)) :
    tile z w a b a' b' j r d = rot (fun d => pre z w s d * scaleB) (fun u => a (ix2 s u)) (fun u => b (ix2 s u)) (by decide) d := by
  rw [tile_at z w a b a' b' j q D r d s hq hd hs]
  unfold chunk val
  rw [if_neg (by omega), if_neg (by omega), if_neg (by omega), if_pos h.2]

theorem tile_kb (j q D : ℕ) (r : Fin 1024) (d : Fin 1280) (s : Fin 1024) (hq : j * 10 + d.val / 128 = q) (h : 36 ≤ q ∧ q < 48) (hd : dil q = D)
    (hs : s.val = r.val % (1024 / D) * D + r.val / (1024 / D)) :
    tile z w a b a' b' j r d = rot (pre z w s) (fun u => a (ix2 s u)) (fun u => b (ix2 s u)) (by decide) d := by
  rw [tile_at z w a b a' b' j q D r d s hq hd hs]
  unfold chunk val
  rw [if_neg (by omega), if_neg (by omega), if_neg (by omega), if_neg (by omega), if_pos h.2]

theorem tile_vb (j q D : ℕ) (r : Fin 1024) (d : Fin 1280) (s : Fin 1024) (hq : j * 10 + d.val / 128 = q) (h : 48 ≤ q) (hd : dil q = D)
    (hs : s.val = r.val % (1024 / D) * D + r.val / (1024 / D)) : tile z w a b a' b' j r d = pre z w s d := by
  rw [tile_at z w a b a' b' j q D r d s hq hd hs]
  unfold chunk val
  rw [if_neg (by omega), if_neg (by omega), if_neg (by omega), if_neg (by omega), if_neg (by omega)]

end

/-- A strided load of a plane that was just stored. -/
theorem strided (v : View sig .tc .vmem S10x1024x128 .f32) (L : List (View.Piece (Elt Ideal) S10x1024x128 .f32)) (k D p n : ℕ)
    (inb : ∀ x, ![k, 0, 0] x + ![1, 1024, 128] x ≤ S10x1024x128.size x) (W : Vec Ideal S1x1024x128 .f32)
    (inb' : ∀ x, ![1, n, 128] x = 0 ∨ ![k, p, 0] x + ![1, D, 1] x * (![1, n, 128] x - 1) < S10x1024x128.size x)
    (i : Fin n) (u : Fin 128) (s : Fin 1024) (hs : s.val = i.val * D + p) :
    v.readCov (⟨Rect.unit (s := S10x1024x128) ![k, 0, 0] ![1, 1024, 128] inb, W⟩ :: L) ⟨![k, p, 0], ![1, n, 128], ![1, D, 1], inb'⟩ (ix3 0 i u) = W (ix3 0 s u) := by
  rw [View.readCov_eq_canon']
  have e : LoadRect.idx (s := S10x1024x128) ⟨![k, p, 0], ![1, n, 128], ![1, D, 1], inb'⟩ (ix3 0 i u)
      = (Rect.unit (s := S10x1024x128) ![k, 0, 0] ![1, 1024, 128] inb).emb (ix3 0 s u) := by
    refine funext fun x => Fin.ext ?_
    fin_cases x
    · rfl
    · show p + D * i.val = 0 + 1 * s.val
      rw [hs, Nat.mul_comm]
      omega
    · show 0 + 1 * u.val = 0 + 1 * u.val
      omega
  show View.canon _ (LoadRect.idx _ _) = _
  rw [e]
  exact View.canon_cons_emb _ _ _ _

/-- A stored slab of 256 rows, with the plane's axis dropped. -/
theorem slab256 (x : Vec Ideal S1x256x128 .f32) (i : Fin 256) (u : Fin 128) (h : S1x256x128.ShapeCasts S256x128) (hb : FTy.bf16.bits < FTy.f32.bits) :
    truncf (F := Ideal) .bf16 (shapeCast S256x128 x h) hb (ix2 i u) = x (ix3 0 i u) := by
  pointwise

/-- The same of 64 rows. -/
theorem slab64 (x : Vec Ideal S1x64x128 .f32) (i : Fin 64) (u : Fin 128) (h : S1x64x128.ShapeCasts S64x128) (hb : FTy.bf16.bits < FTy.f32.bits) :
    truncf (F := Ideal) .bf16 (shapeCast S64x128 x h) hb (ix2 i u) = x (ix3 0 i u) := by
  pointwise

end Cert.ProjATile
-- ==== Proof.ProjATileA.lean ====
module

public import proofs.«01_k».proof.Proof.ProjATile

@[expose] public section

set_option maxRecDepth 16384

noncomputable section

namespace Cert.ProjATileA

open Idealize.ShloMosaic Idealize.ShloMosaic.TcCoe Idealize.SL.Sem
open Cert.Kernel8Ideal Cert.Kernel8Ideal.Gen
open Cert.RopeTab Cert.ProjATile

section
variable (z : Vec Ideal S1024x2048 .bf16) (w : Vec Ideal S2048x1280 .bf16) (a b a' b' : Vec Ideal S1024x128 .f32)

theorem at0 (s : Fin 1024) (d : Fin 1280) (u : Fin 128) (hd : d.val = 0 + u.val) :
    k0_pay20 z w a' b' (ix2 s u) = chunk z w a b a' b' 0 s d := by
  unfold chunk val
  rw [if_pos (by omega)]
  rw [rot_zero _ _ _ _ d u (by omega)]
  unfold pre
  pointwise [k0_pay19, k0_pay20]

theorem at1 (s : Fin 1024) (d : Fin 1280) (u : Fin 128) (hd : d.val = 128 + u.val) :
    k0_pay21 z w a' b' (ix2 s u) = chunk z w a b a' b' 1 s d := by
  unfold chunk val
  rw [if_pos (by omega)]
  rw [rot_at _ _ _ _ d 128 u (by decide) hd]
  unfold pre
  pointwise [k0_pay19, k0_pay21]

theorem at2 (s : Fin 1024) (d : Fin 1280) (u : Fin 128) (hd : d.val = 256 + u.val) :
    k0_pay23 (k0_pay22 z w) a' b' (ix2 s u) = chunk z w a b a' b' 2 s d := by
  unfold chunk val
  rw [if_pos (by omega)]
  rw [rot_at _ _ _ _ d 256 u (by decide) hd]
  unfold pre
  pointwise [k0_pay19, k0_pay22, k0_pay23]

theorem at3 (s : Fin 1024) (d : Fin 1280) (u : Fin 128) (hd : d.val = 384 + u.val) :
    k0_pay24 (k0_pay19 z w) a' b' (ix2 s u) = chunk z w a b a' b' 3 s d := by
  unfold chunk val
  rw [if_pos (by omega)]
  rw [rot_at _ _ _ _ d 384 u (by decide) hd]
  unfold pre
  pointwise [k0_pay19, k0_pay24]

theorem at4 (s : Fin 1024) (d : Fin 1280) (u : Fin 128) (hd : d.val = 512 + u.val) :
    k0_pay25 (k0_pay19 z w) a' b' (ix2 s u) = chunk z w a b a' b' 4 s d := by
  unfold chunk val
  rw [if_pos (by omega)]
  rw [rot_at _ _ _ _ d 512 u (by decide) hd]
  unfold pre
  pointwise [k0_pay19, k0_pay25]

theorem at5 (s : Fin 1024) (d : Fin 1280) (u : Fin 128) (hd : d.val = 640 + u.val) :
    k0_pay27 (k0_pay26 (k0_pay19 z w)) a' b' (ix2 s u) = chunk z w a b a' b' 5 s d := by
  unfold chunk val
  rw [if_pos (by omega)]
  rw [rot_at _ _ _ _ d 640 u (by decide) hd]
  unfold pre
  pointwise [k0_pay19, k0_pay26, k0_pay27]

theorem at6 (s : Fin 1024) (d : Fin 1280) (u : Fin 128) (hd : d.val = 768 + u.val) :
    k0_pay28 (k0_pay19 z w) a' b' (ix2 s u) = chunk z w a b a' b' 6 s d := by
  unfold chunk val
  rw [if_pos (by omega)]
  rw [rot_at _ _ _ _ d 768 u (by decide) hd]
  unfold pre
  pointwise [k0_pay19, k0_pay28]

theorem at7 (s : Fin 1024) (d : Fin 1280) (u : Fin 128) (hd : d.val = 896 + u.val) :
    k0_pay2 (k0_pay29 (k0_pay19 z w) a' b') (ix2 s u) = chunk z w a b a' b' 7 s d := by
  unfold chunk val
  rw [if_pos (by omega)]
  rw [rot_at _ _ _ _ d 896 u (by decide) hd]
  unfold pre
  pointwise [k0_pay2, k0_pay19, k0_pay29]

theorem at8 (s : Fin 1024) (d : Fin 1280) (u : Fin 128) (hd : d.val = 1024 + u.val) :
    k0_pay3 (k0_pay19 z w) a' b' (ix2 s u) = chunk z w a b a' b' 8 s d := by
  unfold chunk val
  rw [if_neg (by omega), if_pos (by omega)]
  rw [rot_at _ _ _ _ d 1024 u (by decide) hd]
  unfold pre
  pointwise [k0_pay3, k0_pay19]

theorem at9 (s : Fin 1024) (d : Fin 1280) (u : Fin 128) (hd : d.val = 1152 + u.val) :
    k0_pay4 (k0_pay19 z w) a' b' (ix2 s u) = chunk z w a b a' b' 9 s d := by
  unfold chunk val
  rw [if_neg (by omega), if_pos (by omega)]
  rw [rot_at _ _ _ _ d 1152 u (by decide) hd]
  unfold pre
  pointwise [k0_pay4, k0_pay19]

end

variable (m : (ℓ : Loc nD τ sig) → Buf (Elt Ideal) ℓ)

/-- The stores of column block 0. -/
theorem out (c : Dev nD) (t : Fin cfg0.N) (h0 : t.val % 6 = 0) (r : Fin 1024) (d : Fin 1280) :
    (outsAt0 m c t.val t.isLt).1 (ix2 r d) = tile (k0_pay1 (F := Ideal) (iblk m c 0 t) (iblk m c 1 t))
      (iblk m c 2 t) (iblk m c 3 t) (iblk m c 4 t) (iblk m c 5 t) (iblk m c 6 t) 0 r d := by
  rw [outsAt0_A m c t h0 h0 (by omega) (by omega) (by omega) (by omega) (by omega)]
  frame_out
  generalize (k0_pay1 (F := Ideal) (iblk m c 0 t) (iblk m c 1 t)) = z
  generalize (iblk m c 3 t : Vec Ideal S1024x128 .f32) = a
  generalize (iblk m c 4 t : Vec Ideal S1024x128 .f32) = b
  generalize (iblk m c 5 t : Vec Ideal S1024x128 .f32) = a'
  generalize (iblk m c 6 t : Vec Ideal S1024x128 .f32) = b'
  generalize (iblk m c 2 t : Vec Ideal S2048x1280 .bf16) = w
  canon_tiles x h
  case piece0 =>
    idx_vars x
    have e0 : r.val = x0.val := by simpa using h0
    have e1 : d.val = 1152 + x1.val := by simpa using h1
    obtain rfl : r = x0 := Fin.ext e0
    exact (at9 z w a b a' b' r d x1 e1).trans (tile_at z w a b a' b' 0 9 1 r d r (by omega) rfl (by omega)).symm
  case piece1 =>
    idx_vars x
    have e0 : r.val = x0.val := by simpa using h0
    have e1 : d.val = 1024 + x1.val := by simpa using h1
    obtain rfl : r = x0 := Fin.ext e0
    exact (at8 z w a b a' b' r d x1 e1).trans (tile_at z w a b a' b' 0 8 1 r d r (by omega) rfl (by omega)).symm
  case piece2 =>
    idx_vars x
    have e0 : r.val = x0.val := by simpa using h0
    have e1 : d.val = 896 + x1.val := by simpa using h1
    obtain rfl : r = x0 := Fin.ext e0
    exact (at7 z w a b a' b' r d x1 e1).trans (tile_at z w a b a' b' 0 7 1 r d r (by omega) rfl (by omega)).symm
  case piece3 =>
    idx_vars x
    have e0 : r.val = x0.val := by simpa using h0
    have e1 : d.val = 768 + x1.val := by simpa using h1
    obtain rfl : r = x0 := Fin.ext e0
    exact (at6 z w a b a' b' r d x1 e1).trans (tile_at z w a b a' b' 0 6 1 r d r (by omega) rfl (by omega)).symm
  case piece4 =>
    idx_vars x
    have e0 : r.val = x0.val := by simpa using h0
    have e1 : d.val = 640 + x1.val := by simpa using h1
    obtain rfl : r = x0 := Fin.ext e0
    exact (at5 z w a b a' b' r d x1 e1).trans (tile_at z w a b a' b' 0 5 1 r d r (by omega) rfl (by omega)).symm
  case piece5 =>
    idx_vars x
    have e0 : r.val = x0.val := by simpa using h0
    have e1 : d.val = 512 + x1.val := by simpa using h1
    obtain rfl : r = x0 := Fin.ext e0
    exact (at4 z w a b a' b' r d x1 e1).trans (tile_at z w a b a' b' 0 4 1 r d r (by omega) rfl (by omega)).symm
  case piece6 =>
    idx_vars x
    have e0 : r.val = x0.val := by simpa using h0
    have e1 : d.val = 384 + x1.val := by simpa using h1
    obtain rfl : r = x0 := Fin.ext e0
    exact (at3 z w a b a' b' r d x1 e1).trans (tile_at z w a b a' b' 0 3 1 r d r (by omega) rfl (by omega)).symm
  case piece7 =>
    idx_vars x
    have e0 : r.val = x0.val := by simpa using h0
    have e1 : d.val = 256 + x1.val := by simpa using h1
    obtain rfl : r = x0 := Fin.ext e0
    exact (at2 z w a b a' b' r d x1 e1).trans (tile_at z w a b a' b' 0 2 1 r d r (by omega) rfl (by omega)).symm
  case piece8 =>
    idx_vars x
    have e0 : r.val = x0.val := by simpa using h0
    have e1 : d.val = 128 + x1.val := by simpa using h1
    obtain rfl : r = x0 := Fin.ext e0
    exact (at1 z w a b a' b' r d x1 e1).trans (tile_at z w a b a' b' 0 1 1 r d r (by omega) rfl (by omega)).symm
  case piece9 =>
    idx_vars x
    have e0 : r.val = x0.val := by simpa using h0
    have e1 : d.val = 0 + x1.val := by simpa using h1
    obtain rfl : r = x0 := Fin.ext e0
    exact (at0 z w a b a' b' r d x1 e1).trans (tile_at z w a b a' b' 0 0 1 r d r (by omega) rfl (by omega)).symm

end Cert.ProjATileA
-- ==== Proof.ProjATileB.lean ====
module

public import proofs.«01_k».proof.Proof.ProjATile

@[expose] public section

set_option maxRecDepth 16384

noncomputable section

namespace Cert.ProjATileB

open Idealize.ShloMosaic Idealize.ShloMosaic.TcCoe Idealize.SL.Sem
open Cert.Kernel8Ideal Cert.Kernel8Ideal.Gen
open Cert.RopeTab Cert.ProjATile

section
variable (z : Vec Ideal S1024x2048 .bf16) (w : Vec Ideal S2048x1280 .bf16) (a b a' b' : Vec Ideal S1024x128 .f32)

theorem at0 (s : Fin 1024) (d : Fin 1280) (u : Fin 128) (hd : d.val = 0 + u.val) :
    k0_pay31 z w a' b' (ix2 s u) = chunk z w a b a' b' 10 s d := by
  unfold chunk val
  rw [if_neg (by omega), if_pos (by omega)]
  rw [rot_zero _ _ _ _ d u (by omega)]
  unfold pre
  pointwise [k0_pay30, k0_pay31]

theorem at1 (s : Fin 1024) (d : Fin 1280) (u : Fin 128) (hd : d.val = 128 + u.val) :
    k0_pay32 z w a' b' (ix2 s u) = chunk z w a b a' b' 11 s d := by
  unfold chunk val
  rw [if_neg (by omega), if_pos (by omega)]
  rw [rot_at _ _ _ _ d 128 u (by decide) hd]
  unfold pre
  pointwise [k0_pay30, k0_pay32]

theorem at2 (s : Fin 1024) (d : Fin 1280) (u : Fin 128) (hd : d.val = 256 + u.val) :
    k0_pay36 (k0_pay34 z w a') (k0_pay35 z w b') (ix2 s u) = chunk z w a b a' b' 12 s d := by
  unfold chunk val
  rw [if_neg (by omega), if_pos (by omega)]
  rw [rot_at _ _ _ _ d 256 u (by decide) hd]
  unfold pre
  pointwise [k0_pay30, k0_pay33, k0_pay34, k0_pay35, k0_pay36]

theorem at3 (s : Fin 1024) (d : Fin 1280) (u : Fin 128) (hd : d.val = 384 + u.val) :
    k0_pay37 (k0_pay30 z w) a' b' (ix2 s u) = chunk z w a b a' b' 13 s d := by
  unfold chunk val
  rw [if_neg (by omega), if_pos (by omega)]
  rw [rot_at _ _ _ _ d 384 u (by decide) hd]
  unfold pre
  pointwise [k0_pay30, k0_pay37]

theorem at4 (s : Fin 1024) (d : Fin 1280) (u : Fin 128) (hd : d.val = 512 + u.val) :
    k0_pay38 (k0_pay30 z w) a' b' (ix2 s u) = chunk z w a b a' b' 14 s d := by
  unfold chunk val
  rw [if_neg (by omega), if_pos (by omega)]
  rw [rot_at _ _ _ _ d 512 u (by decide) hd]
  unfold pre
  pointwise [k0_pay30, k0_pay38]

theorem at5 (s : Fin 1024) (d : Fin 1280) (u : Fin 128) (hd : d.val = 640 + u.val) :
    k0_pay39 (k0_pay30 z w) a' b' (ix2 s u) = chunk z w a b a' b' 15 s d := by
  unfold chunk val
  rw [if_neg (by omega), if_pos (by omega)]
  rw [rot_at _ _ _ _ d 640 u (by decide) hd]
  unfold pre
  pointwise [k0_pay30, k0_pay39]

theorem at6 (s : Fin 1024) (d : Fin 1280) (u : Fin 128) (hd : d.val = 768 + u.val) :
    k0_pay5 (k0_pay30 z w) (ix2 s u) = chunk z w a b a' b' 16 s d := by
  unfold chunk val
  rw [if_neg (by omega), if_neg (by omega), if_pos (by omega)]
  rw [show d = ⟨768 + u.val, by omega⟩ from Fin.ext hd]
  unfold pre
  pointwise [k0_pay5, k0_pay30]

theorem at7 (s : Fin 1024) (d : Fin 1280) (u : Fin 128) (hd : d.val = 896 + u.val) :
    k0_pay6 (k0_pay30 z w) (ix2 s u) = chunk z w a b a' b' 17 s d := by
  unfold chunk val
  rw [if_neg (by omega), if_neg (by omega), if_pos (by omega)]
  rw [show d = ⟨896 + u.val, by omega⟩ from Fin.ext hd]
  unfold pre
  pointwise [k0_pay6, k0_pay30]

theorem at8 (s : Fin 1024) (d : Fin 1280) (u : Fin 128) (hd : d.val = 1024 + u.val) :
    k0_pay7 (k0_pay30 z w) (ix2 s u) = chunk z w a b a' b' 18 s d := by
  unfold chunk val
  rw [if_neg (by omega), if_neg (by omega), if_pos (by omega)]
  rw [show d = ⟨1024 + u.val, by omega⟩ from Fin.ext hd]
  unfold pre
  pointwise [k0_pay7, k0_pay30]

theorem at9 (s : Fin 1024) (d : Fin 1280) (u : Fin 128) (hd : d.val = 1152 + u.val) :
    k0_pay8 (k0_pay30 z w) (ix2 s u) = chunk z w a b a' b' 19 s d := by
  unfold chunk val
  rw [if_neg (by omega), if_neg (by omega), if_pos (by omega)]
  rw [show d = ⟨1152 + u.val, by omega⟩ from Fin.ext hd]
  unfold pre
  pointwise [k0_pay8, k0_pay30]

end

variable (m : (ℓ : Loc nD τ sig) → Buf (Elt Ideal) ℓ)

/-- The stores of column block 1. -/
theorem out (c : Dev nD) (t : Fin cfg0.N) (h0 : t.val % 6 = 1) (r : Fin 1024) (d : Fin 1280) :
    (outsAt0 m c t.val t.isLt).1 (ix2 r d) = tile (outsAt0 m c (t.val - 1) (Nat.lt_of_le_of_lt (Nat.sub_le _ _) t.isLt)).2
      (iblk m c 2 t) (iblk m c 3 t) (iblk m c 4 t) (iblk m c 5 t) (iblk m c 6 t) 1 r d := by
  rw [outsAt0_B m c t (by omega) (by omega) h0 (by omega) (by omega) (by omega) (by omega)]
  frame_out
  generalize (outsAt0 m c (t.val - 1) (Nat.lt_of_le_of_lt (Nat.sub_le _ _) t.isLt)).2 = z
  generalize (iblk m c 3 t : Vec Ideal S1024x128 .f32) = a
  generalize (iblk m c 4 t : Vec Ideal S1024x128 .f32) = b
  generalize (iblk m c 5 t : Vec Ideal S1024x128 .f32) = a'
  generalize (iblk m c 6 t : Vec Ideal S1024x128 .f32) = b'
  generalize (iblk m c 2 t : Vec Ideal S2048x1280 .bf16) = w
  rw [(Memref.isWhole_whole cc0_scratch0).read_unread z]
  canon_tiles x h
  case piece0 =>
    idx_vars x
    have e0 : r.val = x0.val := by simpa using h0
    have e1 : d.val = 1152 + x1.val := by simpa using h1
    obtain rfl : r = x0 := Fin.ext e0
    exact (at9 z w a b a' b' r d x1 e1).trans (tile_at z w a b a' b' 1 19 1 r d r (by omega) rfl (by omega)).symm
  case piece1 =>
    idx_vars x
    have e0 : r.val = x0.val := by simpa using h0
    have e1 : d.val = 1024 + x1.val := by simpa using h1
    obtain rfl : r = x0 := Fin.ext e0
    exact (at8 z w a b a' b' r d x1 e1).trans (tile_at z w a b a' b' 1 18 1 r d r (by omega) rfl (by omega)).symm
  case piece2 =>
    idx_vars x
    have e0 : r.val = x0.val := by simpa using h0
    have e1 : d.val = 896 + x1.val := by simpa using h1
    obtain rfl : r = x0 := Fin.ext e0
    exact (at7 z w a b a' b' r d x1 e1).trans (tile_at z w a b a' b' 1 17 1 r d r (by omega) rfl (by omega)).symm
  case piece3 =>
    idx_vars x
    have e0 : r.val = x0.val := by simpa using h0
    have e1 : d.val = 768 + x1.val := by simpa using h1
    obtain rfl : r = x0 := Fin.ext e0
    exact (at6 z w a b a' b' r d x1 e1).trans (tile_at z w a b a' b' 1 16 1 r d r (by omega) rfl (by omega)).symm
  case piece4 =>
    idx_vars x
    have e0 : r.val = x0.val := by simpa using h0
    have e1 : d.val = 640 + x1.val := by simpa using h1
    obtain rfl : r = x0 := Fin.ext e0
    exact (at5 z w a b a' b' r d x1 e1).trans (tile_at z w a b a' b' 1 15 1 r d r (by omega) rfl (by omega)).symm
  case piece5 =>
    idx_vars x
    have e0 : r.val = x0.val := by simpa using h0
    have e1 : d.val = 512 + x1.val := by simpa using h1
    obtain rfl : r = x0 := Fin.ext e0
    exact (at4 z w a b a' b' r d x1 e1).trans (tile_at z w a b a' b' 1 14 1 r d r (by omega) rfl (by omega)).symm
  case piece6 =>
    idx_vars x
    have e0 : r.val = x0.val := by simpa using h0
    have e1 : d.val = 384 + x1.val := by simpa using h1
    obtain rfl : r = x0 := Fin.ext e0
    exact (at3 z w a b a' b' r d x1 e1).trans (tile_at z w a b a' b' 1 13 1 r d r (by omega) rfl (by omega)).symm
  case piece7 =>
    idx_vars x
    have e0 : r.val = x0.val := by simpa using h0
    have e1 : d.val = 256 + x1.val := by simpa using h1
    obtain rfl : r = x0 := Fin.ext e0
    exact (at2 z w a b a' b' r d x1 e1).trans (tile_at z w a b a' b' 1 12 1 r d r (by omega) rfl (by omega)).symm
  case piece8 =>
    idx_vars x
    have e0 : r.val = x0.val := by simpa using h0
    have e1 : d.val = 128 + x1.val := by simpa using h1
    obtain rfl : r = x0 := Fin.ext e0
    exact (at1 z w a b a' b' r d x1 e1).trans (tile_at z w a b a' b' 1 11 1 r d r (by omega) rfl (by omega)).symm
  case piece9 =>
    idx_vars x
    have e0 : r.val = x0.val := by simpa using h0
    have e1 : d.val = 0 + x1.val := by simpa using h1
    obtain rfl : r = x0 := Fin.ext e0
    exact (at0 z w a b a' b' r d x1 e1).trans (tile_at z w a b a' b' 1 10 1 r d r (by omega) rfl (by omega)).symm

end Cert.ProjATileB
-- ==== Proof.ProjATileC.lean ====
module

public import proofs.«01_k».proof.Proof.ProjATile

@[expose] public section

set_option maxRecDepth 16384

noncomputable section

namespace Cert.ProjATileC

open Idealize.ShloMosaic Idealize.ShloMosaic.TcCoe Idealize.SL.Sem
open Cert.Kernel8Ideal Cert.Kernel8Ideal.Gen
open Cert.RopeTab Cert.ProjATile

section
variable (z : Vec Ideal S1024x2048 .bf16) (w : Vec Ideal S2048x1280 .bf16) (a b a' b' : Vec Ideal S1024x128 .f32)

theorem at0 (s : Fin 1024) (d : Fin 1280) (u : Fin 128) (hd : d.val = 0 + u.val) :
    k0_pay41 z w (ix2 s u) = chunk z w a b a' b' 20 s d := by
  unfold chunk val
  rw [if_neg (by omega), if_neg (by omega), if_pos (by omega)]
  rw [show d = ⟨0 + u.val, by omega⟩ from Fin.ext hd]
  unfold pre
  pointwise [k0_pay40, k0_pay41]

theorem at1 (s : Fin 1024) (d : Fin 1280) (u : Fin 128) (hd : d.val = 128 + u.val) :
    k0_pay42 z w (ix2 s u) = chunk z w a b a' b' 21 s d := by
  unfold chunk val
  rw [if_neg (by omega), if_neg (by omega), if_pos (by omega)]
  rw [show d = ⟨128 + u.val, by omega⟩ from Fin.ext hd]
  unfold pre
  pointwise [k0_pay40, k0_pay42]

theorem at2 (s : Fin 1024) (d : Fin 1280) (u : Fin 128) (hd : d.val = 256 + u.val) :
    k0_pay43 z w (ix2 s u) = chunk z w a b a' b' 22 s d := by
  unfold chunk val
  rw [if_neg (by omega), if_neg (by omega), if_pos (by omega)]
  rw [show d = ⟨256 + u.val, by omega⟩ from Fin.ext hd]
  unfold pre
  pointwise [k0_pay40, k0_pay43]

theorem at3 (s : Fin 1024) (d : Fin 1280) (u : Fin 128) (hd : d.val = 384 + u.val) :
    k0_pay44 z w (ix2 s u) = chunk z w a b a' b' 23 s d := by
  unfold chunk val
  rw [if_neg (by omega), if_neg (by omega), if_pos (by omega)]
  rw [show d = ⟨384 + u.val, by omega⟩ from Fin.ext hd]
  unfold pre
  pointwise [k0_pay40, k0_pay44]

theorem at4 (s : Fin 1024) (d : Fin 1280) (u : Fin 128) (hd : d.val = 512 + u.val) :
    k0_pay45 z w a b (ix2 s u) = chunk z w a b a' b' 24 s d := by
  unfold chunk val
  rw [if_neg (by omega), if_neg (by omega), if_neg (by omega), if_pos (by omega)]
  rw [rot_at _ _ _ _ d 512 u (by decide) hd]
  unfold pre
  pointwise [k0_pay40, k0_pay45]

theorem at5 (s : Fin 1024) (d : Fin 1280) (u : Fin 128) (hd : d.val = 640 + u.val) :
    k0_pay47 (k0_pay46 z w) a b (ix2 s u) = chunk z w a b a' b' 25 s d := by
  unfold chunk val
  rw [if_neg (by omega), if_neg (by omega), if_neg (by omega), if_pos (by omega)]
  rw [rot_at _ _ _ _ d 640 u (by decide) hd]
  unfold pre
  pointwise [k0_pay40, k0_pay46, k0_pay47]

theorem at6 (s : Fin 1024) (d : Fin 1280) (u : Fin 128) (hd : d.val = 768 + u.val) :
    k0_pay48 (k0_pay40 z w) a b (ix2 s u) = chunk z w a b a' b' 26 s d := by
  unfold chunk val
  rw [if_neg (by omega), if_neg (by omega), if_neg (by omega), if_pos (by omega)]
  rw [rot_at _ _ _ _ d 768 u (by decide) hd]
  unfold pre
  pointwise [k0_pay40, k0_pay48]

theorem at7 (s : Fin 1024) (d : Fin 1280) (u : Fin 128) (hd : d.val = 896 + u.val) :
    k0_pay49 (k0_pay40 z w) a b (ix2 s u) = chunk z w a b a' b' 27 s d := by
  unfold chunk val
  rw [if_neg (by omega), if_neg (by omega), if_neg (by omega), if_pos (by omega)]
  rw [rot_at _ _ _ _ d 896 u (by decide) hd]
  unfold pre
  pointwise [k0_pay40, k0_pay49]

theorem at8 (s : Fin 1024) (d : Fin 1280) (u : Fin 128) (hd : d.val = 1024 + u.val) :
    k0_pay50 (k0_pay40 z w) a b (ix3 0 s u) = chunk z w a b a' b' 28 s d := by
  unfold chunk val
  rw [if_neg (by omega), if_neg (by omega), if_neg (by omega), if_pos (by omega)]
  rw [rot_at _ _ _ _ d 1024 u (by decide) hd]
  unfold pre
  pointwise [k0_pay40, k0_pay50]

theorem at9 (s : Fin 1024) (d : Fin 1280) (u : Fin 128) (hd : d.val = 1152 + u.val) :
    k0_pay56 (k0_pay40 z w) a b (ix3 0 s u) = chunk z w a b a' b' 29 s d := by
  unfold chunk val
  rw [if_neg (by omega), if_neg (by omega), if_neg (by omega), if_pos (by omega)]
  rw [rot_at _ _ _ _ d 1152 u (by decide) hd]
  unfold pre
  pointwise [k0_pay40, k0_pay56]

end

variable (m : (ℓ : Loc nD τ sig) → Buf (Elt Ideal) ℓ)

/-- The stores of column block 2. -/
theorem out (c : Dev nD) (t : Fin cfg0.N) (h0 : t.val % 6 = 2) (r : Fin 1024) (d : Fin 1280) :
    (outsAt0 m c t.val t.isLt).1 (ix2 r d) = tile (outsAt0 m c (t.val - 1) (Nat.lt_of_le_of_lt (Nat.sub_le _ _) t.isLt)).2
      (iblk m c 2 t) (iblk m c 3 t) (iblk m c 4 t) (iblk m c 5 t) (iblk m c 6 t) 2 r d := by
  rw [outsAt0_C m c t (by omega) (by omega) (by omega) h0 (by omega) (by omega) (by omega)]
  frame_out
  generalize (outsAt0 m c (t.val - 1) (Nat.lt_of_le_of_lt (Nat.sub_le _ _) t.isLt)).2 = z
  generalize (iblk m c 3 t : Vec Ideal S1024x128 .f32) = a
  generalize (iblk m c 4 t : Vec Ideal S1024x128 .f32) = b
  generalize (iblk m c 5 t : Vec Ideal S1024x128 .f32) = a'
  generalize (iblk m c 6 t : Vec Ideal S1024x128 .f32) = b'
  generalize (iblk m c 2 t : Vec Ideal S2048x1280 .bf16) = w
  rw [(Memref.isWhole_whole cc0_scratch0).read_unread z]
  canon_tiles x h using View.cover_of_tiledBy _ ![256, 128] (by sl_kernel_rfl) _
  case piece0 =>
    idx_vars x
    have e0 : r.val = 768 + x0.val := by simpa using h0
    have e1 : d.val = 1152 + x1.val := by simpa using h1
    have hs : (⟨x0.val * 4 + 3, by omega⟩ : Fin 1024).val = x0.val * 4 + 3 := rfl
    exact (slab256 _ x0 x1 _ _).trans ((strided _ _ 9 4 3 256 _ _ _ x0 x1 ⟨x0.val * 4 + 3, by omega⟩ rfl).trans
      ((at9 z w a b a' b' _ d x1 e1).trans (tile_at z w a b a' b' 2 29 4 r d _ (by omega) rfl (by rw [hs]; omega)).symm))
  case piece1 =>
    idx_vars x
    have e0 : r.val = 512 + x0.val := by simpa using h0
    have e1 : d.val = 1152 + x1.val := by simpa using h1
    have hs : (⟨x0.val * 4 + 2, by omega⟩ : Fin 1024).val = x0.val * 4 + 2 := rfl
    exact (slab256 _ x0 x1 _ _).trans ((strided _ _ 9 4 2 256 _ _ _ x0 x1 ⟨x0.val * 4 + 2, by omega⟩ rfl).trans
      ((at9 z w a b a' b' _ d x1 e1).trans (tile_at z w a b a' b' 2 29 4 r d _ (by omega) rfl (by rw [hs]; omega)).symm))
  case piece2 =>
    idx_vars x
    have e0 : r.val = 256 + x0.val := by simpa using h0
    have e1 : d.val = 1152 + x1.val := by simpa using h1
    have hs : (⟨x0.val * 4 + 1, by omega⟩ : Fin 1024).val = x0.val * 4 + 1 := rfl
    exact (slab256 _ x0 x1 _ _).trans ((strided _ _ 9 4 1 256 _ _ _ x0 x1 ⟨x0.val * 4 + 1, by omega⟩ rfl).trans
      ((at9 z w a b a' b' _ d x1 e1).trans (tile_at z w a b a' b' 2 29 4 r d _ (by omega) rfl (by rw [hs]; omega)).symm))
  case piece3 =>
    idx_vars x
    have e0 : r.val = x0.val := by simpa using h0
    have e1 : d.val = 1152 + x1.val := by simpa using h1
    have hs : (⟨x0.val * 4 + 0, by omega⟩ : Fin 1024).val = x0.val * 4 + 0 := rfl
    exact (slab256 _ x0 x1 _ _).trans ((strided _ _ 9 4 0 256 _ _ _ x0 x1 ⟨x0.val * 4 + 0, by omega⟩ rfl).trans
      ((at9 z w a b a' b' _ d x1 e1).trans (tile_at z w a b a' b' 2 29 4 r d _ (by omega) rfl (by rw [hs]; omega)).symm))
  case piece4 =>
    idx_vars x
    have e0 : r.val = 768 + x0.val := by simpa using h0
    have e1 : d.val = 1024 + x1.val := by simpa using h1
    have hs : (⟨x0.val * 4 + 3, by omega⟩ : Fin 1024).val = x0.val * 4 + 3 := rfl
    exact (slab256 _ x0 x1 _ _).trans ((strided _ _ 8 4 3 256 _ _ _ x0 x1 ⟨x0.val * 4 + 3, by omega⟩ rfl).trans
      ((at8 z w a b a' b' _ d x1 e1).trans (tile_at z w a b a' b' 2 28 4 r d _ (by omega) rfl (by rw [hs]; omega)).symm))
  case piece5 =>
    idx_vars x
    have e0 : r.val = 512 + x0.val := by simpa using h0
    have e1 : d.val = 1024 + x1.val := by simpa using h1
    have hs : (⟨x0.val * 4 + 2, by omega⟩ : Fin 1024).val = x0.val * 4 + 2 := rfl
    exact (slab256 _ x0 x1 _ _).trans ((strided _ _ 8 4 2 256 _ _ _ x0 x1 ⟨x0.val * 4 + 2, by omega⟩ rfl).trans
      ((at8 z w a b a' b' _ d x1 e1).trans (tile_at z w a b a' b' 2 28 4 r d _ (by omega) rfl (by rw [hs]; omega)).symm))
  case piece6 =>
    idx_vars x
    have e0 : r.val = 256 + x0.val := by simpa using h0
    have e1 : d.val = 1024 + x1.val := by simpa using h1
    have hs : (⟨x0.val * 4 + 1, by omega⟩ : Fin 1024).val = x0.val * 4 + 1 := rfl
    exact (slab256 _ x0 x1 _ _).trans ((strided _ _ 8 4 1 256 _ _ _ x0 x1 ⟨x0.val * 4 + 1, by omega⟩ rfl).trans
      ((at8 z w a b a' b' _ d x1 e1).trans (tile_at z w a b a' b' 2 28 4 r d _ (by omega) rfl (by rw [hs]; omega)).symm))
  case piece7 =>
    idx_vars x
    have e0 : r.val = x0.val := by simpa using h0
    have e1 : d.val = 1024 + x1.val := by simpa using h1
    have hs : (⟨x0.val * 4 + 0, by omega⟩ : Fin 1024).val = x0.val * 4 + 0 := rfl
    exact (slab256 _ x0 x1 _ _).trans ((strided _ _ 8 4 0 256 _ _ _ x0 x1 ⟨x0.val * 4 + 0, by omega⟩ rfl).trans
      ((at8 z w a b a' b' _ d x1 e1).trans (tile_at z w a b a' b' 2 28 4 r d _ (by omega) rfl (by rw [hs]; omega)).symm))
  case piece8 =>
    idx_vars x
    have e0 : r.val = x0.val := by simpa using h0
    have e1 : d.val = 896 + x1.val := by simpa using h1
    obtain rfl : r = x0 := Fin.ext e0
    exact (at7 z w a b a' b' r d x1 e1).trans (tile_at z w a b a' b' 2 27 1 r d r (by omega) rfl (by omega)).symm
  case piece9 =>
    idx_vars x
    have e0 : r.val = x0.val := by simpa using h0
    have e1 : d.val = 768 + x1.val := by simpa using h1
    obtain rfl : r = x0 := Fin.ext e0
    exact (at6 z w a b a' b' r d x1 e1).trans (tile_at z w a b a' b' 2 26 1 r d r (by omega) rfl (by omega)).symm
  case piece10 =>
    idx_vars x
    have e0 : r.val = x0.val := by simpa using h0
    have e1 : d.val = 640 + x1.val := by simpa using h1
    obtain rfl : r = x0 := Fin.ext e0
    exact (at5 z w a b a' b' r d x1 e1).trans (tile_at z w a b a' b' 2 25 1 r d r (by omega) rfl (by omega)).symm
  case piece11 =>
    idx_vars x
    have e0 : r.val = x0.val := by simpa using h0
    have e1 : d.val = 512 + x1.val := by simpa using h1
    obtain rfl : r = x0 := Fin.ext e0
    exact (at4 z w a b a' b' r d x1 e1).trans (tile_at z w a b a' b' 2 24 1 r d r (by omega) rfl (by omega)).symm
  case piece12 =>
    idx_vars x
    have e0 : r.val = x0.val := by simpa using h0
    have e1 : d.val = 384 + x1.val := by simpa using h1
    obtain rfl : r = x0 := Fin.ext e0
    exact (at3 z w a b a' b' r d x1 e1).trans (tile_at z w a b a' b' 2 23 1 r d r (by omega) rfl (by omega)).symm
  case piece13 =>
    idx_vars x
    have e0 : r.val = x0.val := by simpa using h0
    have e1 : d.val = 256 + x1.val := by simpa using h1
    obtain rfl : r = x0 := Fin.ext e0
    exact (at2 z w a b a' b' r d x1 e1).trans (tile_at z w a b a' b' 2 22 1 r d r (by omega) rfl (by omega)).symm
  case piece14 =>
    idx_vars x
    have e0 : r.val = x0.val := by simpa using h0
    have e1 : d.val = 128 + x1.val := by simpa using h1
    obtain rfl : r = x0 := Fin.ext e0
    exact (at1 z w a b a' b' r d x1 e1).trans (tile_at z w a b a' b' 2 21 1 r d r (by omega) rfl (by omega)).symm
  case piece15 =>
    idx_vars x
    have e0 : r.val = x0.val := by simpa using h0
    have e1 : d.val = 0 + x1.val := by simpa using h1
    obtain rfl : r = x0 := Fin.ext e0
    exact (at0 z w a b a' b' r d x1 e1).trans (tile_at z w a b a' b' 2 20 1 r d r (by omega) rfl (by omega)).symm

end Cert.ProjATileC
-- ==== Proof.ProjATileD.lean ====
module

public import proofs.«01_k».proof.Proof.ProjATile

@[expose] public section

set_option maxRecDepth 16384

noncomputable section

namespace Cert.ProjATileD

open Idealize.ShloMosaic Idealize.ShloMosaic.TcCoe Idealize.SL.Sem
open Cert.Kernel8Ideal Cert.Kernel8Ideal.Gen
open Cert.RopeTab Cert.ProjATile

section
variable (z : Vec Ideal S1024x2048 .bf16) (w : Vec Ideal S2048x1280 .bf16) (a b a' b' : Vec Ideal S1024x128 .f32)

theorem at0 (s : Fin 1024) (d : Fin 1280) (u : Fin 128) (hd : d.val = 0 + u.val) :
    k0_pay61 z w a b (ix3 0 s u) = chunk z w a b a' b' 30 s d := by
  unfold chunk val
  rw [if_neg (by omega), if_neg (by omega), if_neg (by omega), if_pos (by omega)]
  rw [rot_zero _ _ _ _ d u (by omega)]
  unfold pre
  pointwise [k0_pay60, k0_pay61]

theorem at1 (s : Fin 1024) (d : Fin 1280) (u : Fin 128) (hd : d.val = 128 + u.val) :
    k0_pay66 (k0_pay60 z w) a b (ix3 0 s u) = chunk z w a b a' b' 31 s d := by
  unfold chunk val
  rw [if_neg (by omega), if_neg (by omega), if_neg (by omega), if_pos (by omega)]
  rw [rot_at _ _ _ _ d 128 u (by decide) hd]
  unfold pre
  pointwise [k0_pay60, k0_pay66]

theorem at2 (s : Fin 1024) (d : Fin 1280) (u : Fin 128) (hd : d.val = 256 + u.val) :
    k0_pay71 (k0_pay60 z w) a b (ix3 0 s u) = chunk z w a b a' b' 32 s d := by
  unfold chunk val
  rw [if_neg (by omega), if_neg (by omega), if_neg (by omega), if_pos (by omega)]
  rw [rot_at _ _ _ _ d 256 u (by decide) hd]
  unfold pre
  pointwise [k0_pay60, k0_pay71]

theorem at3 (s : Fin 1024) (d : Fin 1280) (u : Fin 128) (hd : d.val = 384 + u.val) :
    k0_pay88 (k0_pay60 z w) a b (ix3 0 s u) = chunk z w a b a' b' 33 s d := by
  unfold chunk val
  rw [if_neg (by omega), if_neg (by omega), if_neg (by omega), if_pos (by omega)]
  rw [rot_at _ _ _ _ d 384 u (by decide) hd]
  unfold pre
  pointwise [k0_pay60, k0_pay88]

theorem at4 (s : Fin 1024) (d : Fin 1280) (u : Fin 128) (hd : d.val = 512 + u.val) :
    k0_pay108 (k0_pay60 z w) a b (ix3 0 s u) = chunk z w a b a' b' 34 s d := by
  unfold chunk val
  rw [if_neg (by omega), if_neg (by omega), if_neg (by omega), if_pos (by omega)]
  rw [rot_at _ _ _ _ d 512 u (by decide) hd]
  unfold pre
  pointwise [k0_pay60, k0_pay108]

theorem at5 (s : Fin 1024) (d : Fin 1280) (u : Fin 128) (hd : d.val = 640 + u.val) :
    k0_pay125 (k0_pay60 z w) a b (ix3 0 s u) = chunk z w a b a' b' 35 s d := by
  unfold chunk val
  rw [if_neg (by omega), if_neg (by omega), if_neg (by omega), if_pos (by omega)]
  rw [rot_at _ _ _ _ d 640 u (by decide) hd]
  unfold pre
  pointwise [k0_pay60, k0_pay125]

theorem at6 (s : Fin 1024) (d : Fin 1280) (u : Fin 128) (hd : d.val = 768 + u.val) :
    k0_pay142 (k0_pay60 z w) a b (ix2 s u) = chunk z w a b a' b' 36 s d := by
  unfold chunk val
  rw [if_neg (by omega), if_neg (by omega), if_neg (by omega), if_neg (by omega), if_pos (by omega)]
  rw [rot_at _ _ _ _ d 768 u (by decide) hd]
  unfold pre
  pointwise [k0_pay60, k0_pay142]

theorem at7 (s : Fin 1024) (d : Fin 1280) (u : Fin 128) (hd : d.val = 896 + u.val) :
    k0_pay146 (k0_pay144 (k0_pay60 z w) a) (k0_pay145 (k0_pay60 z w)) b (ix2 s u) = chunk z w a b a' b' 37 s d := by
  unfold chunk val
  rw [if_neg (by omega), if_neg (by omega), if_neg (by omega), if_neg (by omega), if_pos (by omega)]
  rw [rot_at _ _ _ _ d 896 u (by decide) hd]
  unfold pre
  pointwise [k0_pay60, k0_pay143, k0_pay144, k0_pay145, k0_pay146]

theorem at8 (s : Fin 1024) (d : Fin 1280) (u : Fin 128) (hd : d.val = 1024 + u.val) :
    k0_pay147 (k0_pay60 z w) a b (ix2 s u) = chunk z w a b a' b' 38 s d := by
  unfold chunk val
  rw [if_neg (by omega), if_neg (by omega), if_neg (by omega), if_neg (by omega), if_pos (by omega)]
  rw [rot_at _ _ _ _ d 1024 u (by decide) hd]
  unfold pre
  pointwise [k0_pay60, k0_pay147]

theorem at9 (s : Fin 1024) (d : Fin 1280) (u : Fin 128) (hd : d.val = 1152 + u.val) :
    k0_pay148 (k0_pay60 z w) a b (ix2 s u) = chunk z w a b a' b' 39 s d := by
  unfold chunk val
  rw [if_neg (by omega), if_neg (by omega), if_neg (by omega), if_neg (by omega), if_pos (by omega)]
  rw [rot_at _ _ _ _ d 1152 u (by decide) hd]
  unfold pre
  pointwise [k0_pay60, k0_pay148]

end

variable (m : (ℓ : Loc nD τ sig) → Buf (Elt Ideal) ℓ)

set_option maxHeartbeats 4000000 in
/-- The stores of column block 3. -/
theorem out (c : Dev nD) (t : Fin cfg0.N) (h0 : t.val % 6 = 3) (r : Fin 1024) (d : Fin 1280) :
    (outsAt0 m c t.val t.isLt).1 (ix2 r d) = tile (outsAt0 m c (t.val - 1) (Nat.lt_of_le_of_lt (Nat.sub_le _ _) t.isLt)).2
      (iblk m c 2 t) (iblk m c 3 t) (iblk m c 4 t) (iblk m c 5 t) (iblk m c 6 t) 3 r d := by
  rw [outsAt0_D m c t (by omega) (by omega) (by omega) (by omega) h0 (by omega) (by omega)]
  frame_out
  generalize (outsAt0 m c (t.val - 1) (Nat.lt_of_le_of_lt (Nat.sub_le _ _) t.isLt)).2 = z
  generalize (iblk m c 3 t : Vec Ideal S1024x128 .f32) = a
  generalize (iblk m c 4 t : Vec Ideal S1024x128 .f32) = b
  generalize (iblk m c 5 t : Vec Ideal S1024x128 .f32) = a'
  generalize (iblk m c 6 t : Vec Ideal S1024x128 .f32) = b'
  generalize (iblk m c 2 t : Vec Ideal S2048x1280 .bf16) = w
  rw [(Memref.isWhole_whole cc0_scratch0).read_unread z]
  canon_tiles x h using View.cover_of_tiledBy _ ![64, 128] (by sl_kernel_rfl) _
  case piece0 =>
    idx_vars x
    have e0 : r.val = x0.val := by simpa using h0
    have e1 : d.val = 1152 + x1.val := by simpa using h1
    obtain rfl : r = x0 := Fin.ext e0
    exact (at9 z w a b a' b' r d x1 e1).trans (tile_at z w a b a' b' 3 39 1 r d r (by omega) rfl (by omega)).symm
  case piece1 =>
    idx_vars x
    have e0 : r.val = x0.val := by simpa using h0
    have e1 : d.val = 1024 + x1.val := by simpa using h1
    obtain rfl : r = x0 := Fin.ext e0
    exact (at8 z w a b a' b' r d x1 e1).trans (tile_at z w a b a' b' 3 38 1 r d r (by omega) rfl (by omega)).symm
  case piece2 =>
    idx_vars x
    have e0 : r.val = x0.val := by simpa using h0
    have e1 : d.val = 896 + x1.val := by simpa using h1
    obtain rfl : r = x0 := Fin.ext e0
    exact (at7 z w a b a' b' r d x1 e1).trans (tile_at z w a b a' b' 3 37 1 r d r (by omega) rfl (by omega)).symm
  case piece3 =>
    idx_vars x
    have e0 : r.val = x0.val := by simpa using h0
    have e1 : d.val = 768 + x1.val := by simpa using h1
    obtain rfl : r = x0 := Fin.ext e0
    exact (at6 z w a b a' b' r d x1 e1).trans (tile_at z w a b a' b' 3 36 1 r d r (by omega) rfl (by omega)).symm
  case piece4 =>
    idx_vars x
    have e0 : r.val = 960 + x0.val := by simpa using h0
    have e1 : d.val = 640 + x1.val := by simpa using h1
    have hs : (⟨x0.val * 16 + 15, by omega⟩ : Fin 1024).val = x0.val * 16 + 15 := rfl
    exact (slab64 _ x0 x1 _ _).trans ((strided _ _ 5 16 15 64 _ _ _ x0 x1 ⟨x0.val * 16 + 15, by omega⟩ rfl).trans
      ((at5 z w a b a' b' _ d x1 e1).trans (tile_at z w a b a' b' 3 35 16 r d _ (by omega) rfl (by rw [hs]; omega)).symm))
  case piece5 =>
    idx_vars x
    have e0 : r.val = 896 + x0.val := by simpa using h0
    have e1 : d.val = 640 + x1.val := by simpa using h1
    have hs : (⟨x0.val * 16 + 14, by omega⟩ : Fin 1024).val = x0.val * 16 + 14 := rfl
    exact (slab64 _ x0 x1 _ _).trans ((strided _ _ 5 16 14 64 _ _ _ x0 x1 ⟨x0.val * 16 + 14, by omega⟩ rfl).trans
      ((at5 z w a b a' b' _ d x1 e1).trans (tile_at z w a b a' b' 3 35 16 r d _ (by omega) rfl (by rw [hs]; omega)).symm))
  case piece6 =>
    idx_vars x
    have e0 : r.val = 832 + x0.val := by simpa using h0
    have e1 : d.val = 640 + x1.val := by simpa using h1
    have hs : (⟨x0.val * 16 + 13, by omega⟩ : Fin 1024).val = x0.val * 16 + 13 := rfl
    exact (slab64 _ x0 x1 _ _).trans ((strided _ _ 5 16 13 64 _ _ _ x0 x1 ⟨x0.val * 16 + 13, by omega⟩ rfl).trans
      ((at5 z w a b a' b' _ d x1 e1).trans (tile_at z w a b a' b' 3 35 16 r d _ (by omega) rfl (by rw [hs]; omega)).symm))
  case piece7 =>
    idx_vars x
    have e0 : r.val = 768 + x0.val := by simpa using h0
    have e1 : d.val = 640 + x1.val := by simpa using h1
    have hs : (⟨x0.val * 16 + 12, by omega⟩ : Fin 1024).val = x0.val * 16 + 12 := rfl
    exact (slab64 _ x0 x1 _ _).trans ((strided _ _ 5 16 12 64 _ _ _ x0 x1 ⟨x0.val * 16 + 12, by omega⟩ rfl).trans
      ((at5 z w a b a' b' _ d x1 e1).trans (tile_at z w a b a' b' 3 35 16 r d _ (by omega) rfl (by rw [hs]; omega)).symm))
  case piece8 =>
    idx_vars x
    have e0 : r.val = 704 + x0.val := by simpa using h0
    have e1 : d.val = 640 + x1.val := by simpa using h1
    have hs : (⟨x0.val * 16 + 11, by omega⟩ : Fin 1024).val = x0.val * 16 + 11 := rfl
    exact (slab64 _ x0 x1 _ _).trans ((strided _ _ 5 16 11 64 _ _ _ x0 x1 ⟨x0.val * 16 + 11, by omega⟩ rfl).trans
      ((at5 z w a b a' b' _ d x1 e1).trans (tile_at z w a b a' b' 3 35 16 r d _ (by omega) rfl (by rw [hs]; omega)).symm))
  case piece9 =>
    idx_vars x
    have e0 : r.val = 640 + x0.val := by simpa using h0
    have e1 : d.val = 640 + x1.val := by simpa using h1
    have hs : (⟨x0.val * 16 + 10, by omega⟩ : Fin 1024).val = x0.val * 16 + 10 := rfl
    exact (slab64 _ x0 x1 _ _).trans ((strided _ _ 5 16 10 64 _ _ _ x0 x1 ⟨x0.val * 16 + 10, by omega⟩ rfl).trans
      ((at5 z w a b a' b' _ d x1 e1).trans (tile_at z w a b a' b' 3 35 16 r d _ (by omega) rfl (by rw [hs]; omega)).symm))
  case piece10 =>
    idx_vars x
    have e0 : r.val = 576 + x0.val := by simpa using h0
    have e1 : d.val = 640 + x1.val := by simpa using h1
    have hs : (⟨x0.val * 16 + 9, by omega⟩ : Fin 1024).val = x0.val * 16 + 9 := rfl
    exact (slab64 _ x0 x1 _ _).trans ((strided _ _ 5 16 9 64 _ _ _ x0 x1 ⟨x0.val * 16 + 9, by omega⟩ rfl).trans
      ((at5 z w a b a' b' _ d x1 e1).trans (tile_at z w a b a' b' 3 35 16 r d _ (by omega) rfl (by rw [hs]; omega)).symm))
  case piece11 =>
    idx_vars x
    have e0 : r.val = 512 + x0.val := by simpa using h0
    have e1 : d.val = 640 + x1.val := by simpa using h1
    have hs : (⟨x0.val * 16 + 8, by omega⟩ : Fin 1024).val = x0.val * 16 + 8 := rfl
    exact (slab64 _ x0 x1 _ _).trans ((strided _ _ 5 16 8 64 _ _ _ x0 x1 ⟨x0.val * 16 + 8, by omega⟩ rfl).trans
      ((at5 z w a b a' b' _ d x1 e1).trans (tile_at z w a b a' b' 3 35 16 r d _ (by omega) rfl (by rw [hs]; omega)).symm))
  case piece12 =>
    idx_vars x
    have e0 : r.val = 448 + x0.val := by simpa using h0
    have e1 : d.val = 640 + x1.val := by simpa using h1
    have hs : (⟨x0.val * 16 + 7, by omega⟩ : Fin 1024).val = x0.val * 16 + 7 := rfl
    exact (slab64 _ x0 x1 _ _).trans ((strided _ _ 5 16 7 64 _ _ _ x0 x1 ⟨x0.val * 16 + 7, by omega⟩ rfl).trans
      ((at5 z w a b a' b' _ d x1 e1).trans (tile_at z w a b a' b' 3 35 16 r d _ (by omega) rfl (by rw [hs]; omega)).symm))
  case piece13 =>
    idx_vars x
    have e0 : r.val = 384 + x0.val := by simpa using h0
    have e1 : d.val = 640 + x1.val := by simpa using h1
    have hs : (⟨x0.val * 16 + 6, by omega⟩ : Fin 1024).val = x0.val * 16 + 6 := rfl
    exact (slab64 _ x0 x1 _ _).trans ((strided _ _ 5 16 6 64 _ _ _ x0 x1 ⟨x0.val * 16 + 6, by omega⟩ rfl).trans
      ((at5 z w a b a' b' _ d x1 e1).trans (tile_at z w a b a' b' 3 35 16 r d _ (by omega) rfl (by rw [hs]; omega)).symm))
  case piece14 =>
    idx_vars x
    have e0 : r.val = 320 + x0.val := by simpa using h0
    have e1 : d.val = 640 + x1.val := by simpa using h1
    have hs : (⟨x0.val * 16 + 5, by omega⟩ : Fin 1024).val = x0.val * 16 + 5 := rfl
    exact (slab64 _ x0 x1 _ _).trans ((strided _ _ 5 16 5 64 _ _ _ x0 x1 ⟨x0.val * 16 + 5, by omega⟩ rfl).trans
      ((at5 z w a b a' b' _ d x1 e1).trans (tile_at z w a b a' b' 3 35 16 r d _ (by omega) rfl (by rw [hs]; omega)).symm))
  case piece15 =>
    idx_vars x
    have e0 : r.val = 256 + x0.val := by simpa using h0
    have e1 : d.val = 640 + x1.val := by simpa using h1
    have hs : (⟨x0.val * 16 + 4, by omega⟩ : Fin 1024).val = x0.val * 16 + 4 := rfl
    exact (slab64 _ x0 x1 _ _).trans ((strided _ _ 5 16 4 64 _ _ _ x0 x1 ⟨x0.val * 16 + 4, by omega⟩ rfl).trans
      ((at5 z w a b a' b' _ d x1 e1).trans (tile_at z w a b a' b' 3 35 16 r d _ (by omega) rfl (by rw [hs]; omega)).symm))
  case piece16 =>
    idx_vars x
    have e0 : r.val = 192 + x0.val := by simpa using h0
    have e1 : d.val = 640 + x1.val := by simpa using h1
    have hs : (⟨x0.val * 16 + 3, by omega⟩ : Fin 1024).val = x0.val * 16 + 3 := rfl
    exact (slab64 _ x0 x1 _ _).trans ((strided _ _ 5 16 3 64 _ _ _ x0 x1 ⟨x0.val * 16 + 3, by omega⟩ rfl).trans
      ((at5 z w a b a' b' _ d x1 e1).trans (tile_at z w a b a' b' 3 35 16 r d _ (by omega) rfl (by rw [hs]; omega)).symm))
  case piece17 =>
    idx_vars x
    have e0 : r.val = 128 + x0.val := by simpa using h0
    have e1 : d.val = 640 + x1.val := by simpa using h1
    have hs : (⟨x0.val * 16 + 2, by omega⟩ : Fin 1024).val = x0.val * 16 + 2 := rfl
    exact (slab64 _ x0 x1 _ _).trans ((strided _ _ 5 16 2 64 _ _ _ x0 x1 ⟨x0.val * 16 + 2, by omega⟩ rfl).trans
      ((at5 z w a b a' b' _ d x1 e1).trans (tile_at z w a b a' b' 3 35 16 r d _ (by omega) rfl (by rw [hs]; omega)).symm))
  case piece18 =>
    idx_vars x
    have e0 : r.val = 64 + x0.val := by simpa using h0
    have e1 : d.val = 640 + x1.val := by simpa using h1
    have hs : (⟨x0.val * 16 + 1, by omega⟩ : Fin 1024).val = x0.val * 16 + 1 := rfl
    exact (slab64 _ x0 x1 _ _).trans ((strided _ _ 5 16 1 64 _ _ _ x0 x1 ⟨x0.val * 16 + 1, by omega⟩ rfl).trans
      ((at5 z w a b a' b' _ d x1 e1).trans (tile_at z w a b a' b' 3 35 16 r d _ (by omega) rfl (by rw [hs]; omega)).symm))
  case piece19 =>
    idx_vars x
    have e0 : r.val = x0.val := by simpa using h0
    have e1 : d.val = 640 + x1.val := by simpa using h1
    have hs : (⟨x0.val * 16 + 0, by omega⟩ : Fin 1024).val = x0.val * 16 + 0 := rfl
    exact (slab64 _ x0 x1 _ _).trans ((strided _ _ 5 16 0 64 _ _ _ x0 x1 ⟨x0.val * 16 + 0, by omega⟩ rfl).trans
      ((at5 z w a b a' b' _ d x1 e1).trans (tile_at z w a b a' b' 3 35 16 r d _ (by omega) rfl (by rw [hs]; omega)).symm))
  case piece20 =>
    idx_vars x
    have e0 : r.val = 960 + x0.val := by simpa using h0
    have e1 : d.val = 512 + x1.val := by simpa using h1
    have hs : (⟨x0.val * 16 + 15, by omega⟩ : Fin 1024).val = x0.val * 16 + 15 := rfl
    exact (slab64 _ x0 x1 _ _).trans ((strided _ _ 4 16 15 64 _ _ _ x0 x1 ⟨x0.val * 16 + 15, by omega⟩ rfl).trans
      ((at4 z w a b a' b' _ d x1 e1).trans (tile_at z w a b a' b' 3 34 16 r d _ (by omega) rfl (by rw [hs]; omega)).symm))
  case piece21 =>
    idx_vars x
    have e0 : r.val = 896 + x0.val := by simpa using h0
    have e1 : d.val = 512 + x1.val := by simpa using h1
    have hs : (⟨x0.val * 16 + 14, by omega⟩ : Fin 1024).val = x0.val * 16 + 14 := rfl
    exact (slab64 _ x0 x1 _ _).trans ((strided _ _ 4 16 14 64 _ _ _ x0 x1 ⟨x0.val * 16 + 14, by omega⟩ rfl).trans
      ((at4 z w a b a' b' _ d x1 e1).trans (tile_at z w a b a' b' 3 34 16 r d _ (by omega) rfl (by rw [hs]; omega)).symm))
  case piece22 =>
    idx_vars x
    have e0 : r.val = 832 + x0.val := by simpa using h0
    have e1 : d.val = 512 + x1.val := by simpa using h1
    have hs : (⟨x0.val * 16 + 13, by omega⟩ : Fin 1024).val = x0.val * 16 + 13 := rfl
    exact (slab64 _ x0 x1 _ _).trans ((strided _ _ 4 16 13 64 _ _ _ x0 x1 ⟨x0.val * 16 + 13, by omega⟩ rfl).trans
      ((at4 z w a b a' b' _ d x1 e1).trans (tile_at z w a b a' b' 3 34 16 r d _ (by omega) rfl (by rw [hs]; omega)).symm))
  case piece23 =>
    idx_vars x
    have e0 : r.val = 768 + x0.val := by simpa using h0
    have e1 : d.val = 512 + x1.val := by simpa using h1
    have hs : (⟨x0.val * 16 + 12, by omega⟩ : Fin 1024).val = x0.val * 16 + 12 := rfl
    exact (slab64 _ x0 x1 _ _).trans ((strided _ _ 4 16 12 64 _ _ _ x0 x1 ⟨x0.val * 16 + 12, by omega⟩ rfl).trans
      ((at4 z w a b a' b' _ d x1 e1).trans (tile_at z w a b a' b' 3 34 16 r d _ (by omega) rfl (by rw [hs]; omega)).symm))
  case piece24 =>
    idx_vars x
    have e0 : r.val = 704 + x0.val := by simpa using h0
    have e1 : d.val = 512 + x1.val := by simpa using h1
    have hs : (⟨x0.val * 16 + 11, by omega⟩ : Fin 1024).val = x0.val * 16 + 11 := rfl
    exact (slab64 _ x0 x1 _ _).trans ((strided _ _ 4 16 11 64 _ _ _ x0 x1 ⟨x0.val * 16 + 11, by omega⟩ rfl).trans
      ((at4 z w a b a' b' _ d x1 e1).trans (tile_at z w a b a' b' 3 34 16 r d _ (by omega) rfl (by rw [hs]; omega)).symm))
  case piece25 =>
    idx_vars x
    have e0 : r.val = 640 + x0.val := by simpa using h0
    have e1 : d.val = 512 + x1.val := by simpa using h1
    have hs : (⟨x0.val * 16 + 10, by omega⟩ : Fin 1024).val = x0.val * 16 + 10 := rfl
    exact (slab64 _ x0 x1 _ _).trans ((strided _ _ 4 16 10 64 _ _ _ x0 x1 ⟨x0.val * 16 + 10, by omega⟩ rfl).trans
      ((at4 z w a b a' b' _ d x1 e1).trans (tile_at z w a b a' b' 3 34 16 r d _ (by omega) rfl (by rw [hs]; omega)).symm))
  case piece26 =>
    idx_vars x
    have e0 : r.val = 576 + x0.val := by simpa using h0
    have e1 : d.val = 512 + x1.val := by simpa using h1
    have hs : (⟨x0.val * 16 + 9, by omega⟩ : Fin 1024).val = x0.val * 16 + 9 := rfl
    exact (slab64 _ x0 x1 _ _).trans ((strided _ _ 4 16 9 64 _ _ _ x0 x1 ⟨x0.val * 16 + 9, by omega⟩ rfl).trans
      ((at4 z w a b a' b' _ d x1 e1).trans (tile_at z w a b a' b' 3 34 16 r d _ (by omega) rfl (by rw [hs]; omega)).symm))
  case piece27 =>
    idx_vars x
    have e0 : r.val = 512 + x0.val := by simpa using h0
    have e1 : d.val = 512 + x1.val := by simpa using h1
    have hs : (⟨x0.val * 16 + 8, by omega⟩ : Fin 1024).val = x0.val * 16 + 8 := rfl
    exact (slab64 _ x0 x1 _ _).trans ((strided _ _ 4 16 8 64 _ _ _ x0 x1 ⟨x0.val * 16 + 8, by omega⟩ rfl).trans
      ((at4 z w a b a' b' _ d x1 e1).trans (tile_at z w a b a' b' 3 34 16 r d _ (by omega) rfl (by rw [hs]; omega)).symm))
  case piece28 =>
    idx_vars x
    have e0 : r.val = 448 + x0.val := by simpa using h0
    have e1 : d.val = 512 + x1.val := by simpa using h1
    have hs : (⟨x0.val * 16 + 7, by omega⟩ : Fin 1024).val = x0.val * 16 + 7 := rfl
    exact (slab64 _ x0 x1 _ _).trans ((strided _ _ 4 16 7 64 _ _ _ x0 x1 ⟨x0.val * 16 + 7, by omega⟩ rfl).trans
      ((at4 z w a b a' b' _ d x1 e1).trans (tile_at z w a b a' b' 3 34 16 r d _ (by omega) rfl (by rw [hs]; omega)).symm))
  case piece29 =>
    idx_vars x
    have e0 : r.val = 384 + x0.val := by simpa using h0
    have e1 : d.val = 512 + x1.val := by simpa using h1
    have hs : (⟨x0.val * 16 + 6, by omega⟩ : Fin 1024).val = x0.val * 16 + 6 := rfl
    exact (slab64 _ x0 x1 _ _).trans ((strided _ _ 4 16 6 64 _ _ _ x0 x1 ⟨x0.val * 16 + 6, by omega⟩ rfl).trans
      ((at4 z w a b a' b' _ d x1 e1).trans (tile_at z w a b a' b' 3 34 16 r d _ (by omega) rfl (by rw [hs]; omega)).symm))
  case piece30 =>
    idx_vars x
    have e0 : r.val = 320 + x0.val := by simpa using h0
    have e1 : d.val = 512 + x1.val := by simpa using h1
    have hs : (⟨x0.val * 16 + 5, by omega⟩ : Fin 1024).val = x0.val * 16 + 5 := rfl
    exact (slab64 _ x0 x1 _ _).trans ((strided _ _ 4 16 5 64 _ _ _ x0 x1 ⟨x0.val * 16 + 5, by omega⟩ rfl).trans
      ((at4 z w a b a' b' _ d x1 e1).trans (tile_at z w a b a' b' 3 34 16 r d _ (by omega) rfl (by rw [hs]; omega)).symm))
  case piece31 =>
    idx_vars x
    have e0 : r.val = 256 + x0.val := by simpa using h0
    have e1 : d.val = 512 + x1.val := by simpa using h1
    have hs : (⟨x0.val * 16 + 4, by omega⟩ : Fin 1024).val = x0.val * 16 + 4 := rfl
    exact (slab64 _ x0 x1 _ _).trans ((strided _ _ 4 16 4 64 _ _ _ x0 x1 ⟨x0.val * 16 + 4, by omega⟩ rfl).trans
      ((at4 z w a b a' b' _ d x1 e1).trans (tile_at z w a b a' b' 3 34 16 r d _ (by omega) rfl (by rw [hs]; omega)).symm))
  case piece32 =>
    idx_vars x
    have e0 : r.val = 192 + x0.val := by simpa using h0
    have e1 : d.val = 512 + x1.val := by simpa using h1
    have hs : (⟨x0.val * 16 + 3, by omega⟩ : Fin 1024).val = x0.val * 16 + 3 := rfl
    exact (slab64 _ x0 x1 _ _).trans ((strided _ _ 4 16 3 64 _ _ _ x0 x1 ⟨x0.val * 16 + 3, by omega⟩ rfl).trans
      ((at4 z w a b a' b' _ d x1 e1).trans (tile_at z w a b a' b' 3 34 16 r d _ (by omega) rfl (by rw [hs]; omega)).symm))
  case piece33 =>
    idx_vars x
    have e0 : r.val = 128 + x0.val := by simpa using h0
    have e1 : d.val = 512 + x1.val := by simpa using h1
    have hs : (⟨x0.val * 16 + 2, by omega⟩ : Fin 1024).val = x0.val * 16 + 2 := rfl
    exact (slab64 _ x0 x1 _ _).trans ((strided _ _ 4 16 2 64 _ _ _ x0 x1 ⟨x0.val * 16 + 2, by omega⟩ rfl).trans
      ((at4 z w a b a' b' _ d x1 e1).trans (tile_at z w a b a' b' 3 34 16 r d _ (by omega) rfl (by rw [hs]; omega)).symm))
  case piece34 =>
    idx_vars x
    have e0 : r.val = 64 + x0.val := by simpa using h0
    have e1 : d.val = 512 + x1.val := by simpa using h1
    have hs : (⟨x0.val * 16 + 1, by omega⟩ : Fin 1024).val = x0.val * 16 + 1 := rfl
    exact (slab64 _ x0 x1 _ _).trans ((strided _ _ 4 16 1 64 _ _ _ x0 x1 ⟨x0.val * 16 + 1, by omega⟩ rfl).trans
      ((at4 z w a b a' b' _ d x1 e1).trans (tile_at z w a b a' b' 3 34 16 r d _ (by omega) rfl (by rw [hs]; omega)).symm))
  case piece35 =>
    idx_vars x
    have e0 : r.val = x0.val := by simpa using h0
    have e1 : d.val = 512 + x1.val := by simpa using h1
    have hs : (⟨x0.val * 16 + 0, by omega⟩ : Fin 1024).val = x0.val * 16 + 0 := rfl
    exact (slab64 _ x0 x1 _ _).trans ((strided _ _ 4 16 0 64 _ _ _ x0 x1 ⟨x0.val * 16 + 0, by omega⟩ rfl).trans
      ((at4 z w a b a' b' _ d x1 e1).trans (tile_at z w a b a' b' 3 34 16 r d _ (by omega) rfl (by rw [hs]; omega)).symm))
  case piece36 =>
    idx_vars x
    have e0 : r.val = 960 + x0.val := by simpa using h0
    have e1 : d.val = 384 + x1.val := by simpa using h1
    have hs : (⟨x0.val * 16 + 15, by omega⟩ : Fin 1024).val = x0.val * 16 + 15 := rfl
    exact (slab64 _ x0 x1 _ _).trans ((strided _ _ 3 16 15 64 _ _ _ x0 x1 ⟨x0.val * 16 + 15, by omega⟩ rfl).trans
      ((at3 z w a b a' b' _ d x1 e1).trans (tile_at z w a b a' b' 3 33 16 r d _ (by omega) rfl (by rw [hs]; omega)).symm))
  case piece37 =>
    idx_vars x
    have e0 : r.val = 896 + x0.val := by simpa using h0
    have e1 : d.val = 384 + x1.val := by simpa using h1
    have hs : (⟨x0.val * 16 + 14, by omega⟩ : Fin 1024).val = x0.val * 16 + 14 := rfl
    exact (slab64 _ x0 x1 _ _).trans ((strided _ _ 3 16 14 64 _ _ _ x0 x1 ⟨x0.val * 16 + 14, by omega⟩ rfl).trans
      ((at3 z w a b a' b' _ d x1 e1).trans (tile_at z w a b a' b' 3 33 16 r d _ (by omega) rfl (by rw [hs]; omega)).symm))
  case piece38 =>
    idx_vars x
    have e0 : r.val = 832 + x0.val := by simpa using h0
    have e1 : d.val = 384 + x1.val := by simpa using h1
    have hs : (⟨x0.val * 16 + 13, by omega⟩ : Fin 1024).val = x0.val * 16 + 13 := rfl
    exact (slab64 _ x0 x1 _ _).trans ((strided _ _ 3 16 13 64 _ _ _ x0 x1 ⟨x0.val * 16 + 13, by omega⟩ rfl).trans
      ((at3 z w a b a' b' _ d x1 e1).trans (tile_at z w a b a' b' 3 33 16 r d _ (by omega) rfl (by rw [hs]; omega)).symm))
  case piece39 =>
    idx_vars x
    have e0 : r.val = 768 + x0.val := by simpa using h0
    have e1 : d.val = 384 + x1.val := by simpa using h1
    have hs : (⟨x0.val * 16 + 12, by omega⟩ : Fin 1024).val = x0.val * 16 + 12 := rfl
    exact (slab64 _ x0 x1 _ _).trans ((strided _ _ 3 16 12 64 _ _ _ x0 x1 ⟨x0.val * 16 + 12, by omega⟩ rfl).trans
      ((at3 z w a b a' b' _ d x1 e1).trans (tile_at z w a b a' b' 3 33 16 r d _ (by omega) rfl (by rw [hs]; omega)).symm))
  case piece40 =>
    idx_vars x
    have e0 : r.val = 704 + x0.val := by simpa using h0
    have e1 : d.val = 384 + x1.val := by simpa using h1
    have hs : (⟨x0.val * 16 + 11, by omega⟩ : Fin 1024).val = x0.val * 16 + 11 := rfl
    exact (slab64 _ x0 x1 _ _).trans ((strided _ _ 3 16 11 64 _ _ _ x0 x1 ⟨x0.val * 16 + 11, by omega⟩ rfl).trans
      ((at3 z w a b a' b' _ d x1 e1).trans (tile_at z w a b a' b' 3 33 16 r d _ (by omega) rfl (by rw [hs]; omega)).symm))
  case piece41 =>
    idx_vars x
    have e0 : r.val = 640 + x0.val := by simpa using h0
    have e1 : d.val = 384 + x1.val := by simpa using h1
    have hs : (⟨x0.val * 16 + 10, by omega⟩ : Fin 1024).val = x0.val * 16 + 10 := rfl
    exact (slab64 _ x0 x1 _ _).trans ((strided _ _ 3 16 10 64 _ _ _ x0 x1 ⟨x0.val * 16 + 10, by omega⟩ rfl).trans
      ((at3 z w a b a' b' _ d x1 e1).trans (tile_at z w a b a' b' 3 33 16 r d _ (by omega) rfl (by rw [hs]; omega)).symm))
  case piece42 =>
    idx_vars x
    have e0 : r.val = 576 + x0.val := by simpa using h0
    have e1 : d.val = 384 + x1.val := by simpa using h1
    have hs : (⟨x0.val * 16 + 9, by omega⟩ : Fin 1024).val = x0.val * 16 + 9 := rfl
    exact (slab64 _ x0 x1 _ _).trans ((strided _ _ 3 16 9 64 _ _ _ x0 x1 ⟨x0.val * 16 + 9, by omega⟩ rfl).trans
      ((at3 z w a b a' b' _ d x1 e1).trans (tile_at z w a b a' b' 3 33 16 r d _ (by omega) rfl (by rw [hs]; omega)).symm))
  case piece43 =>
    idx_vars x
    have e0 : r.val = 512 + x0.val := by simpa using h0
    have e1 : d.val = 384 + x1.val := by simpa using h1
    have hs : (⟨x0.val * 16 + 8, by omega⟩ : Fin 1024).val = x0.val * 16 + 8 := rfl
    exact (slab64 _ x0 x1 _ _).trans ((strided _ _ 3 16 8 64 _ _ _ x0 x1 ⟨x0.val * 16 + 8, by omega⟩ rfl).trans
      ((at3 z w a b a' b' _ d x1 e1).trans (tile_at z w a b a' b' 3 33 16 r d _ (by omega) rfl (by rw [hs]; omega)).symm))
  case piece44 =>
    idx_vars x
    have e0 : r.val = 448 + x0.val := by simpa using h0
    have e1 : d.val = 384 + x1.val := by simpa using h1
    have hs : (⟨x0.val * 16 + 7, by omega⟩ : Fin 1024).val = x0.val * 16 + 7 := rfl
    exact (slab64 _ x0 x1 _ _).trans ((strided _ _ 3 16 7 64 _ _ _ x0 x1 ⟨x0.val * 16 + 7, by omega⟩ rfl).trans
      ((at3 z w a b a' b' _ d x1 e1).trans (tile_at z w a b a' b' 3 33 16 r d _ (by omega) rfl (by rw [hs]; omega)).symm))
  case piece45 =>
    idx_vars x
    have e0 : r.val = 384 + x0.val := by simpa using h0
    have e1 : d.val = 384 + x1.val := by simpa using h1
    have hs : (⟨x0.val * 16 + 6, by omega⟩ : Fin 1024).val = x0.val * 16 + 6 := rfl
    exact (slab64 _ x0 x1 _ _).trans ((strided _ _ 3 16 6 64 _ _ _ x0 x1 ⟨x0.val * 16 + 6, by omega⟩ rfl).trans
      ((at3 z w a b a' b' _ d x1 e1).trans (tile_at z w a b a' b' 3 33 16 r d _ (by omega) rfl (by rw [hs]; omega)).symm))
  case piece46 =>
    idx_vars x
    have e0 : r.val = 320 + x0.val := by simpa using h0
    have e1 : d.val = 384 + x1.val := by simpa using h1
    have hs : (⟨x0.val * 16 + 5, by omega⟩ : Fin 1024).val = x0.val * 16 + 5 := rfl
    exact (slab64 _ x0 x1 _ _).trans ((strided _ _ 3 16 5 64 _ _ _ x0 x1 ⟨x0.val * 16 + 5, by omega⟩ rfl).trans
      ((at3 z w a b a' b' _ d x1 e1).trans (tile_at z w a b a' b' 3 33 16 r d _ (by omega) rfl (by rw [hs]; omega)).symm))
  case piece47 =>
    idx_vars x
    have e0 : r.val = 256 + x0.val := by simpa using h0
    have e1 : d.val = 384 + x1.val := by simpa using h1
    have hs : (⟨x0.val * 16 + 4, by omega⟩ : Fin 1024).val = x0.val * 16 + 4 := rfl
    exact (slab64 _ x0 x1 _ _).trans ((strided _ _ 3 16 4 64 _ _ _ x0 x1 ⟨x0.val * 16 + 4, by omega⟩ rfl).trans
      ((at3 z w a b a' b' _ d x1 e1).trans (tile_at z w a b a' b' 3 33 16 r d _ (by omega) rfl (by rw [hs]; omega)).symm))
  case piece48 =>
    idx_vars x
    have e0 : r.val = 192 + x0.val := by simpa using h0
    have e1 : d.val = 384 + x1.val := by simpa using h1
    have hs : (⟨x0.val * 16 + 3, by omega⟩ : Fin 1024).val = x0.val * 16 + 3 := rfl
    exact (slab64 _ x0 x1 _ _).trans ((strided _ _ 3 16 3 64 _ _ _ x0 x1 ⟨x0.val * 16 + 3, by omega⟩ rfl).trans
      ((at3 z w a b a' b' _ d x1 e1).trans (tile_at z w a b a' b' 3 33 16 r d _ (by omega) rfl (by rw [hs]; omega)).symm))
  case piece49 =>
    idx_vars x
    have e0 : r.val = 128 + x0.val := by simpa using h0
    have e1 : d.val = 384 + x1.val := by simpa using h1
    have hs : (⟨x0.val * 16 + 2, by omega⟩ : Fin 1024).val = x0.val * 16 + 2 := rfl
    exact (slab64 _ x0 x1 _ _).trans ((strided _ _ 3 16 2 64 _ _ _ x0 x1 ⟨x0.val * 16 + 2, by omega⟩ rfl).trans
      ((at3 z w a b a' b' _ d x1 e1).trans (tile_at z w a b a' b' 3 33 16 r d _ (by omega) rfl (by rw [hs]; omega)).symm))
  case piece50 =>
    idx_vars x
    have e0 : r.val = 64 + x0.val := by simpa using h0
    have e1 : d.val = 384 + x1.val := by simpa using h1
    have hs : (⟨x0.val * 16 + 1, by omega⟩ : Fin 1024).val = x0.val * 16 + 1 := rfl
    exact (slab64 _ x0 x1 _ _).trans ((strided _ _ 3 16 1 64 _ _ _ x0 x1 ⟨x0.val * 16 + 1, by omega⟩ rfl).trans
      ((at3 z w a b a' b' _ d x1 e1).trans (tile_at z w a b a' b' 3 33 16 r d _ (by omega) rfl (by rw [hs]; omega)).symm))
  case piece51 =>
    idx_vars x
    have e0 : r.val = x0.val := by simpa using h0
    have e1 : d.val = 384 + x1.val := by simpa using h1
    have hs : (⟨x0.val * 16 + 0, by omega⟩ : Fin 1024).val = x0.val * 16 + 0 := rfl
    exact (slab64 _ x0 x1 _ _).trans ((strided _ _ 3 16 0 64 _ _ _ x0 x1 ⟨x0.val * 16 + 0, by omega⟩ rfl).trans
      ((at3 z w a b a' b' _ d x1 e1).trans (tile_at z w a b a' b' 3 33 16 r d _ (by omega) rfl (by rw [hs]; omega)).symm))
  case piece52 =>
    idx_vars x
    have e0 : r.val = 960 + x0.val := by simpa using h0
    have e1 : d.val = 256 + x1.val := by simpa using h1
    have hs : (⟨x0.val * 16 + 15, by omega⟩ : Fin 1024).val = x0.val * 16 + 15 := rfl
    exact (slab64 _ x0 x1 _ _).trans ((strided _ _ 2 16 15 64 _ _ _ x0 x1 ⟨x0.val * 16 + 15, by omega⟩ rfl).trans
      ((at2 z w a b a' b' _ d x1 e1).trans (tile_at z w a b a' b' 3 32 16 r d _ (by omega) rfl (by rw [hs]; omega)).symm))
  case piece53 =>
    idx_vars x
    have e0 : r.val = 896 + x0.val := by simpa using h0
    have e1 : d.val = 256 + x1.val := by simpa using h1
    have hs : (⟨x0.val * 16 + 14, by omega⟩ : Fin 1024).val = x0.val * 16 + 14 := rfl
    exact (slab64 _ x0 x1 _ _).trans ((strided _ _ 2 16 14 64 _ _ _ x0 x1 ⟨x0.val * 16 + 14, by omega⟩ rfl).trans
      ((at2 z w a b a' b' _ d x1 e1).trans (tile_at z w a b a' b' 3 32 16 r d _ (by omega) rfl (by rw [hs]; omega)).symm))
  case piece54 =>
    idx_vars x
    have e0 : r.val = 832 + x0.val := by simpa using h0
    have e1 : d.val = 256 + x1.val := by simpa using h1
    have hs : (⟨x0.val * 16 + 13, by omega⟩ : Fin 1024).val = x0.val * 16 + 13 := rfl
    exact (slab64 _ x0 x1 _ _).trans ((strided _ _ 2 16 13 64 _ _ _ x0 x1 ⟨x0.val * 16 + 13, by omega⟩ rfl).trans
      ((at2 z w a b a' b' _ d x1 e1).trans (tile_at z w a b a' b' 3 32 16 r d _ (by omega) rfl (by rw [hs]; omega)).symm))
  case piece55 =>
    idx_vars x
    have e0 : r.val = 768 + x0.val := by simpa using h0
    have e1 : d.val = 256 + x1.val := by simpa using h1
    have hs : (⟨x0.val * 16 + 12, by omega⟩ : Fin 1024).val = x0.val * 16 + 12 := rfl
    exact (slab64 _ x0 x1 _ _).trans ((strided _ _ 2 16 12 64 _ _ _ x0 x1 ⟨x0.val * 16 + 12, by omega⟩ rfl).trans
      ((at2 z w a b a' b' _ d x1 e1).trans (tile_at z w a b a' b' 3 32 16 r d _ (by omega) rfl (by rw [hs]; omega)).symm))
  case piece56 =>
    idx_vars x
    have e0 : r.val = 704 + x0.val := by simpa using h0
    have e1 : d.val = 256 + x1.val := by simpa using h1
    have hs : (⟨x0.val * 16 + 11, by omega⟩ : Fin 1024).val = x0.val * 16 + 11 := rfl
    exact (slab64 _ x0 x1 _ _).trans ((strided _ _ 2 16 11 64 _ _ _ x0 x1 ⟨x0.val * 16 + 11, by omega⟩ rfl).trans
      ((at2 z w a b a' b' _ d x1 e1).trans (tile_at z w a b a' b' 3 32 16 r d _ (by omega) rfl (by rw [hs]; omega)).symm))
  case piece57 =>
    idx_vars x
    have e0 : r.val = 640 + x0.val := by simpa using h0
    have e1 : d.val = 256 + x1.val := by simpa using h1
    have hs : (⟨x0.val * 16 + 10, by omega⟩ : Fin 1024).val = x0.val * 16 + 10 := rfl
    exact (slab64 _ x0 x1 _ _).trans ((strided _ _ 2 16 10 64 _ _ _ x0 x1 ⟨x0.val * 16 + 10, by omega⟩ rfl).trans
      ((at2 z w a b a' b' _ d x1 e1).trans (tile_at z w a b a' b' 3 32 16 r d _ (by omega) rfl (by rw [hs]; omega)).symm))
  case piece58 =>
    idx_vars x
    have e0 : r.val = 576 + x0.val := by simpa using h0
    have e1 : d.val = 256 + x1.val := by simpa using h1
    have hs : (⟨x0.val * 16 + 9, by omega⟩ : Fin 1024).val = x0.val * 16 + 9 := rfl
    exact (slab64 _ x0 x1 _ _).trans ((strided _ _ 2 16 9 64 _ _ _ x0 x1 ⟨x0.val * 16 + 9, by omega⟩ rfl).trans
      ((at2 z w a b a' b' _ d x1 e1).trans (tile_at z w a b a' b' 3 32 16 r d _ (by omega) rfl (by rw [hs]; omega)).symm))
  case piece59 =>
    idx_vars x
    have e0 : r.val = 512 + x0.val := by simpa using h0
    have e1 : d.val = 256 + x1.val := by simpa using h1
    have hs : (⟨x0.val * 16 + 8, by omega⟩ : Fin 1024).val = x0.val * 16 + 8 := rfl
    exact (slab64 _ x0 x1 _ _).trans ((strided _ _ 2 16 8 64 _ _ _ x0 x1 ⟨x0.val * 16 + 8, by omega⟩ rfl).trans
      ((at2 z w a b a' b' _ d x1 e1).trans (tile_at z w a b a' b' 3 32 16 r d _ (by omega) rfl (by rw [hs]; omega)).symm))
  case piece60 =>
    idx_vars x
    have e0 : r.val = 448 + x0.val := by simpa using h0
    have e1 : d.val = 256 + x1.val := by simpa using h1
    have hs : (⟨x0.val * 16 + 7, by omega⟩ : Fin 1024).val = x0.val * 16 + 7 := rfl
    exact (slab64 _ x0 x1 _ _).trans ((strided _ _ 2 16 7 64 _ _ _ x0 x1 ⟨x0.val * 16 + 7, by omega⟩ rfl).trans
      ((at2 z w a b a' b' _ d x1 e1).trans (tile_at z w a b a' b' 3 32 16 r d _ (by omega) rfl (by rw [hs]; omega)).symm))
  case piece61 =>
    idx_vars x
    have e0 : r.val = 384 + x0.val := by simpa using h0
    have e1 : d.val = 256 + x1.val := by simpa using h1
    have hs : (⟨x0.val * 16 + 6, by omega⟩ : Fin 1024).val = x0.val * 16 + 6 := rfl
    exact (slab64 _ x0 x1 _ _).trans ((strided _ _ 2 16 6 64 _ _ _ x0 x1 ⟨x0.val * 16 + 6, by omega⟩ rfl).trans
      ((at2 z w a b a' b' _ d x1 e1).trans (tile_at z w a b a' b' 3 32 16 r d _ (by omega) rfl (by rw [hs]; omega)).symm))
  case piece62 =>
    idx_vars x
    have e0 : r.val = 320 + x0.val := by simpa using h0
    have e1 : d.val = 256 + x1.val := by simpa using h1
    have hs : (⟨x0.val * 16 + 5, by omega⟩ : Fin 1024).val = x0.val * 16 + 5 := rfl
    exact (slab64 _ x0 x1 _ _).trans ((strided _ _ 2 16 5 64 _ _ _ x0 x1 ⟨x0.val * 16 + 5, by omega⟩ rfl).trans
      ((at2 z w a b a' b' _ d x1 e1).trans (tile_at z w a b a' b' 3 32 16 r d _ (by omega) rfl (by rw [hs]; omega)).symm))
  case piece63 =>
    idx_vars x
    have e0 : r.val = 256 + x0.val := by simpa using h0
    have e1 : d.val = 256 + x1.val := by simpa using h1
    have hs : (⟨x0.val * 16 + 4, by omega⟩ : Fin 1024).val = x0.val * 16 + 4 := rfl
    exact (slab64 _ x0 x1 _ _).trans ((strided _ _ 2 16 4 64 _ _ _ x0 x1 ⟨x0.val * 16 + 4, by omega⟩ rfl).trans
      ((at2 z w a b a' b' _ d x1 e1).trans (tile_at z w a b a' b' 3 32 16 r d _ (by omega) rfl (by rw [hs]; omega)).symm))
  case piece64 =>
    idx_vars x
    have e0 : r.val = 192 + x0.val := by simpa using h0
    have e1 : d.val = 256 + x1.val := by simpa using h1
    have hs : (⟨x0.val * 16 + 3, by omega⟩ : Fin 1024).val = x0.val * 16 + 3 := rfl
    exact (slab64 _ x0 x1 _ _).trans ((strided _ _ 2 16 3 64 _ _ _ x0 x1 ⟨x0.val * 16 + 3, by omega⟩ rfl).trans
      ((at2 z w a b a' b' _ d x1 e1).trans (tile_at z w a b a' b' 3 32 16 r d _ (by omega) rfl (by rw [hs]; omega)).symm))
  case piece65 =>
    idx_vars x
    have e0 : r.val = 128 + x0.val := by simpa using h0
    have e1 : d.val = 256 + x1.val := by simpa using h1
    have hs : (⟨x0.val * 16 + 2, by omega⟩ : Fin 1024).val = x0.val * 16 + 2 := rfl
    exact (slab64 _ x0 x1 _ _).trans ((strided _ _ 2 16 2 64 _ _ _ x0 x1 ⟨x0.val * 16 + 2, by omega⟩ rfl).trans
      ((at2 z w a b a' b' _ d x1 e1).trans (tile_at z w a b a' b' 3 32 16 r d _ (by omega) rfl (by rw [hs]; omega)).symm))
  case piece66 =>
    idx_vars x
    have e0 : r.val = 64 + x0.val := by simpa using h0
    have e1 : d.val = 256 + x1.val := by simpa using h1
    have hs : (⟨x0.val * 16 + 1, by omega⟩ : Fin 1024).val = x0.val * 16 + 1 := rfl
    exact (slab64 _ x0 x1 _ _).trans ((strided _ _ 2 16 1 64 _ _ _ x0 x1 ⟨x0.val * 16 + 1, by omega⟩ rfl).trans
      ((at2 z w a b a' b' _ d x1 e1).trans (tile_at z w a b a' b' 3 32 16 r d _ (by omega) rfl (by rw [hs]; omega)).symm))
  case piece67 =>
    idx_vars x
    have e0 : r.val = x0.val := by simpa using h0
    have e1 : d.val = 256 + x1.val := by simpa using h1
    have hs : (⟨x0.val * 16 + 0, by omega⟩ : Fin 1024).val = x0.val * 16 + 0 := rfl
    exact (slab64 _ x0 x1 _ _).trans ((strided _ _ 2 16 0 64 _ _ _ x0 x1 ⟨x0.val * 16 + 0, by omega⟩ rfl).trans
      ((at2 z w a b a' b' _ d x1 e1).trans (tile_at z w a b a' b' 3 32 16 r d _ (by omega) rfl (by rw [hs]; omega)).symm))
  case piece68 =>
    idx_vars x
    have e0 : r.val = 768 + x0.val := by simpa using h0
    have e1 : d.val = 128 + x1.val := by simpa using h1
    have hs : (⟨x0.val * 4 + 3, by omega⟩ : Fin 1024).val = x0.val * 4 + 3 := rfl
    exact (slab256 _ x0 x1 _ _).trans ((strided _ _ 1 4 3 256 _ _ _ x0 x1 ⟨x0.val * 4 + 3, by omega⟩ rfl).trans
      ((at1 z w a b a' b' _ d x1 e1).trans (tile_at z w a b a' b' 3 31 4 r d _ (by omega) rfl (by rw [hs]; omega)).symm))
  case piece69 =>
    idx_vars x
    have e0 : r.val = 512 + x0.val := by simpa using h0
    have e1 : d.val = 128 + x1.val := by simpa using h1
    have hs : (⟨x0.val * 4 + 2, by omega⟩ : Fin 1024).val = x0.val * 4 + 2 := rfl
    exact (slab256 _ x0 x1 _ _).trans ((strided _ _ 1 4 2 256 _ _ _ x0 x1 ⟨x0.val * 4 + 2, by omega⟩ rfl).trans
      ((at1 z w a b a' b' _ d x1 e1).trans (tile_at z w a b a' b' 3 31 4 r d _ (by omega) rfl (by rw [hs]; omega)).symm))
  case piece70 =>
    idx_vars x
    have e0 : r.val = 256 + x0.val := by simpa using h0
    have e1 : d.val = 128 + x1.val := by simpa using h1
    have hs : (⟨x0.val * 4 + 1, by omega⟩ : Fin 1024).val = x0.val * 4 + 1 := rfl
    exact (slab256 _ x0 x1 _ _).trans ((strided _ _ 1 4 1 256 _ _ _ x0 x1 ⟨x0.val * 4 + 1, by omega⟩ rfl).trans
      ((at1 z w a b a' b' _ d x1 e1).trans (tile_at z w a b a' b' 3 31 4 r d _ (by omega) rfl (by rw [hs]; omega)).symm))
  case piece71 =>
    idx_vars x
    have e0 : r.val = x0.val := by simpa using h0
    have e1 : d.val = 128 + x1.val := by simpa using h1
    have hs : (⟨x0.val * 4 + 0, by omega⟩ : Fin 1024).val = x0.val * 4 + 0 := rfl
    exact (slab256 _ x0 x1 _ _).trans ((strided _ _ 1 4 0 256 _ _ _ x0 x1 ⟨x0.val * 4 + 0, by omega⟩ rfl).trans
      ((at1 z w a b a' b' _ d x1 e1).trans (tile_at z w a b a' b' 3 31 4 r d _ (by omega) rfl (by rw [hs]; omega)).symm))
  case piece72 =>
    idx_vars x
    have e0 : r.val = 768 + x0.val := by simpa using h0
    have e1 : d.val = 0 + x1.val := by simpa using h1
    have hs : (⟨x0.val * 4 + 3, by omega⟩ : Fin 1024).val = x0.val * 4 + 3 := rfl
    exact (slab256 _ x0 x1 _ _).trans ((strided _ _ 0 4 3 256 _ _ _ x0 x1 ⟨x0.val * 4 + 3, by omega⟩ rfl).trans
      ((at0 z w a b a' b' _ d x1 e1).trans (tile_at z w a b a' b' 3 30 4 r d _ (by omega) rfl (by rw [hs]; omega)).symm))
  case piece73 =>
    idx_vars x
    have e0 : r.val = 512 + x0.val := by simpa using h0
    have e1 : d.val = 0 + x1.val := by simpa using h1
    have hs : (⟨x0.val * 4 + 2, by omega⟩ : Fin 1024).val = x0.val * 4 + 2 := rfl
    exact (slab256 _ x0 x1 _ _).trans ((strided _ _ 0 4 2 256 _ _ _ x0 x1 ⟨x0.val * 4 + 2, by omega⟩ rfl).trans
      ((at0 z w a b a' b' _ d x1 e1).trans (tile_at z w a b a' b' 3 30 4 r d _ (by omega) rfl (by rw [hs]; omega)).symm))
  case piece74 =>
    idx_vars x
    have e0 : r.val = 256 + x0.val := by simpa using h0
    have e1 : d.val = 0 + x1.val := by simpa using h1
    have hs : (⟨x0.val * 4 + 1, by omega⟩ : Fin 1024).val = x0.val * 4 + 1 := rfl
    exact (slab256 _ x0 x1 _ _).trans ((strided _ _ 0 4 1 256 _ _ _ x0 x1 ⟨x0.val * 4 + 1, by omega⟩ rfl).trans
      ((at0 z w a b a' b' _ d x1 e1).trans (tile_at z w a b a' b' 3 30 4 r d _ (by omega) rfl (by rw [hs]; omega)).symm))
  case piece75 =>
    idx_vars x
    have e0 : r.val = x0.val := by simpa using h0
    have e1 : d.val = 0 + x1.val := by simpa using h1
    have hs : (⟨x0.val * 4 + 0, by omega⟩ : Fin 1024).val = x0.val * 4 + 0 := rfl
    exact (slab256 _ x0 x1 _ _).trans ((strided _ _ 0 4 0 256 _ _ _ x0 x1 ⟨x0.val * 4 + 0, by omega⟩ rfl).trans
      ((at0 z w a b a' b' _ d x1 e1).trans (tile_at z w a b a' b' 3 30 4 r d _ (by omega) rfl (by rw [hs]; omega)).symm))

end Cert.ProjATileD
-- ==== Proof.ProjATileE.lean ====
module

public import proofs.«01_k».proof.Proof.ProjATile

@[expose] public section

set_option maxRecDepth 16384

noncomputable section

namespace Cert.ProjATileE

open Idealize.ShloMosaic Idealize.ShloMosaic.TcCoe Idealize.SL.Sem
open Cert.Kernel8Ideal Cert.Kernel8Ideal.Gen
open Cert.RopeTab Cert.ProjATile

section
variable (z : Vec Ideal S1024x2048 .bf16) (w : Vec Ideal S2048x1280 .bf16) (a b a' b' : Vec Ideal S1024x128 .f32)

theorem at0 (s : Fin 1024) (d : Fin 1280) (u : Fin 128) (hd : d.val = 0 + u.val) :
    k0_pay150 z w a b (ix3 0 s u) = chunk z w a b a' b' 40 s d := by
  unfold chunk val
  rw [if_neg (by omega), if_neg (by omega), if_neg (by omega), if_neg (by omega), if_pos (by omega)]
  rw [rot_zero _ _ _ _ d u (by omega)]
  unfold pre
  pointwise [k0_pay149, k0_pay150]

theorem at1 (s : Fin 1024) (d : Fin 1280) (u : Fin 128) (hd : d.val = 128 + u.val) :
    k0_pay155 (k0_pay149 z w) a b (ix3 0 s u) = chunk z w a b a' b' 41 s d := by
  unfold chunk val
  rw [if_neg (by omega), if_neg (by omega), if_neg (by omega), if_neg (by omega), if_pos (by omega)]
  rw [rot_at _ _ _ _ d 128 u (by decide) hd]
  unfold pre
  pointwise [k0_pay149, k0_pay155]

theorem at2 (s : Fin 1024) (d : Fin 1280) (u : Fin 128) (hd : d.val = 256 + u.val) :
    k0_pay160 (k0_pay149 z w) a b (ix3 0 s u) = chunk z w a b a' b' 42 s d := by
  unfold chunk val
  rw [if_neg (by omega), if_neg (by omega), if_neg (by omega), if_neg (by omega), if_pos (by omega)]
  rw [rot_at _ _ _ _ d 256 u (by decide) hd]
  unfold pre
  pointwise [k0_pay149, k0_pay160]

theorem at3 (s : Fin 1024) (d : Fin 1280) (u : Fin 128) (hd : d.val = 384 + u.val) :
    k0_pay165 (k0_pay149 z w) a b (ix3 0 s u) = chunk z w a b a' b' 43 s d := by
  unfold chunk val
  rw [if_neg (by omega), if_neg (by omega), if_neg (by omega), if_neg (by omega), if_pos (by omega)]
  rw [rot_at _ _ _ _ d 384 u (by decide) hd]
  unfold pre
  pointwise [k0_pay149, k0_pay165]

theorem at4 (s : Fin 1024) (d : Fin 1280) (u : Fin 128) (hd : d.val = 512 + u.val) :
    k0_pay170 (k0_pay149 z w) a b (ix3 0 s u) = chunk z w a b a' b' 44 s d := by
  unfold chunk val
  rw [if_neg (by omega), if_neg (by omega), if_neg (by omega), if_neg (by omega), if_pos (by omega)]
  rw [rot_at _ _ _ _ d 512 u (by decide) hd]
  unfold pre
  pointwise [k0_pay149, k0_pay170]

theorem at5 (s : Fin 1024) (d : Fin 1280) (u : Fin 128) (hd : d.val = 640 + u.val) :
    k0_pay187 (k0_pay149 z w) a b (ix3 0 s u) = chunk z w a b a' b' 45 s d := by
  unfold chunk val
  rw [if_neg (by omega), if_neg (by omega), if_neg (by omega), if_neg (by omega), if_pos (by omega)]
  rw [rot_at _ _ _ _ d 640 u (by decide) hd]
  unfold pre
  pointwise [k0_pay149, k0_pay187]

theorem at6 (s : Fin 1024) (d : Fin 1280) (u : Fin 128) (hd : d.val = 768 + u.val) :
    k0_pay207 (k0_pay149 z w) a b (ix3 0 s u) = chunk z w a b a' b' 46 s d := by
  unfold chunk val
  rw [if_neg (by omega), if_neg (by omega), if_neg (by omega), if_neg (by omega), if_pos (by omega)]
  rw [rot_at _ _ _ _ d 768 u (by decide) hd]
  unfold pre
  pointwise [k0_pay149, k0_pay207]

theorem at7 (s : Fin 1024) (d : Fin 1280) (u : Fin 128) (hd : d.val = 896 + u.val) :
    k0_pay224 (k0_pay149 z w) a b (ix3 0 s u) = chunk z w a b a' b' 47 s d := by
  unfold chunk val
  rw [if_neg (by omega), if_neg (by omega), if_neg (by omega), if_neg (by omega), if_pos (by omega)]
  rw [rot_at _ _ _ _ d 896 u (by decide) hd]
  unfold pre
  pointwise [k0_pay149, k0_pay224]

theorem at8 (s : Fin 1024) (d : Fin 1280) (u : Fin 128) (hd : d.val = 1024 + u.val) :
    k0_pay12 (k0_pay149 z w) (ix2 s u) = chunk z w a b a' b' 48 s d := by
  unfold chunk val
  rw [if_neg (by omega), if_neg (by omega), if_neg (by omega), if_neg (by omega), if_neg (by omega)]
  rw [show d = ⟨1024 + u.val, by omega⟩ from Fin.ext hd]
  unfold pre
  pointwise [k0_pay12, k0_pay149]

theorem at9 (s : Fin 1024) (d : Fin 1280) (u : Fin 128) (hd : d.val = 1152 + u.val) :
    k0_pay13 (k0_pay149 z w) (ix2 s u) = chunk z w a b a' b' 49 s d := by
  unfold chunk val
  rw [if_neg (by omega), if_neg (by omega), if_neg (by omega), if_neg (by omega), if_neg (by omega)]
  rw [show d = ⟨1152 + u.val, by omega⟩ from Fin.ext hd]
  unfold pre
  pointwise [k0_pay13, k0_pay149]

end

variable (m : (ℓ : Loc nD τ sig) → Buf (Elt Ideal) ℓ)

set_option maxHeartbeats 4000000 in
/-- The stores of column block 4. -/
theorem out (c : Dev nD) (t : Fin cfg0.N) (h0 : t.val % 6 = 4) (r : Fin 1024) (d : Fin 1280) :
    (outsAt0 m c t.val t.isLt).1 (ix2 r d) = tile (outsAt0 m c (t.val - 1) (Nat.lt_of_le_of_lt (Nat.sub_le _ _) t.isLt)).2
      (iblk m c 2 t) (iblk m c 3 t) (iblk m c 4 t) (iblk m c 5 t) (iblk m c 6 t) 4 r d := by
  rw [outsAt0_E m c t (by omega) (by omega) (by omega) (by omega) (by omega) h0 (by omega)]
  frame_out
  generalize (outsAt0 m c (t.val - 1) (Nat.lt_of_le_of_lt (Nat.sub_le _ _) t.isLt)).2 = z
  generalize (iblk m c 3 t : Vec Ideal S1024x128 .f32) = a
  generalize (iblk m c 4 t : Vec Ideal S1024x128 .f32) = b
  generalize (iblk m c 5 t : Vec Ideal S1024x128 .f32) = a'
  generalize (iblk m c 6 t : Vec Ideal S1024x128 .f32) = b'
  generalize (iblk m c 2 t : Vec Ideal S2048x1280 .bf16) = w
  rw [(Memref.isWhole_whole cc0_scratch0).read_unread z]
  canon_tiles x h using View.cover_of_tiledBy _ ![64, 128] (by sl_kernel_rfl) _
  case piece0 =>
    idx_vars x
    have e0 : r.val = x0.val := by simpa using h0
    have e1 : d.val = 1152 + x1.val := by simpa using h1
    obtain rfl : r = x0 := Fin.ext e0
    exact (at9 z w a b a' b' r d x1 e1).trans (tile_at z w a b a' b' 4 49 1 r d r (by omega) rfl (by omega)).symm
  case piece1 =>
    idx_vars x
    have e0 : r.val = x0.val := by simpa using h0
    have e1 : d.val = 1024 + x1.val := by simpa using h1
    obtain rfl : r = x0 := Fin.ext e0
    exact (at8 z w a b a' b' r d x1 e1).trans (tile_at z w a b a' b' 4 48 1 r d r (by omega) rfl (by omega)).symm
  case piece2 =>
    idx_vars x
    have e0 : r.val = 960 + x0.val := by simpa using h0
    have e1 : d.val = 896 + x1.val := by simpa using h1
    have hs : (⟨x0.val * 16 + 15, by omega⟩ : Fin 1024).val = x0.val * 16 + 15 := rfl
    exact (slab64 _ x0 x1 _ _).trans ((strided _ _ 7 16 15 64 _ _ _ x0 x1 ⟨x0.val * 16 + 15, by omega⟩ rfl).trans
      ((at7 z w a b a' b' _ d x1 e1).trans (tile_at z w a b a' b' 4 47 16 r d _ (by omega) rfl (by rw [hs]; omega)).symm))
  case piece3 =>
    idx_vars x
    have e0 : r.val = 896 + x0.val := by simpa using h0
    have e1 : d.val = 896 + x1.val := by simpa using h1
    have hs : (⟨x0.val * 16 + 14, by omega⟩ : Fin 1024).val = x0.val * 16 + 14 := rfl
    exact (slab64 _ x0 x1 _ _).trans ((strided _ _ 7 16 14 64 _ _ _ x0 x1 ⟨x0.val * 16 + 14, by omega⟩ rfl).trans
      ((at7 z w a b a' b' _ d x1 e1).trans (tile_at z w a b a' b' 4 47 16 r d _ (by omega) rfl (by rw [hs]; omega)).symm))
  case piece4 =>
    idx_vars x
    have e0 : r.val = 832 + x0.val := by simpa using h0
    have e1 : d.val = 896 + x1.val := by simpa using h1
    have hs : (⟨x0.val * 16 + 13, by omega⟩ : Fin 1024).val = x0.val * 16 + 13 := rfl
    exact (slab64 _ x0 x1 _ _).trans ((strided _ _ 7 16 13 64 _ _ _ x0 x1 ⟨x0.val * 16 + 13, by omega⟩ rfl).trans
      ((at7 z w a b a' b' _ d x1 e1).trans (tile_at z w a b a' b' 4 47 16 r d _ (by omega) rfl (by rw [hs]; omega)).symm))
  case piece5 =>
    idx_vars x
    have e0 : r.val = 768 + x0.val := by simpa using h0
    have e1 : d.val = 896 + x1.val := by simpa using h1
    have hs : (⟨x0.val * 16 + 12, by omega⟩ : Fin 1024).val = x0.val * 16 + 12 := rfl
    exact (slab64 _ x0 x1 _ _).trans ((strided _ _ 7 16 12 64 _ _ _ x0 x1 ⟨x0.val * 16 + 12, by omega⟩ rfl).trans
      ((at7 z w a b a' b' _ d x1 e1).trans (tile_at z w a b a' b' 4 47 16 r d _ (by omega) rfl (by rw [hs]; omega)).symm))
  case piece6 =>
    idx_vars x
    have e0 : r.val = 704 + x0.val := by simpa using h0
    have e1 : d.val = 896 + x1.val := by simpa using h1
    have hs : (⟨x0.val * 16 + 11, by omega⟩ : Fin 1024).val = x0.val * 16 + 11 := rfl
    exact (slab64 _ x0 x1 _ _).trans ((strided _ _ 7 16 11 64 _ _ _ x0 x1 ⟨x0.val * 16 + 11, by omega⟩ rfl).trans
      ((at7 z w a b a' b' _ d x1 e1).trans (tile_at z w a b a' b' 4 47 16 r d _ (by omega) rfl (by rw [hs]; omega)).symm))
  case piece7 =>
    idx_vars x
    have e0 : r.val = 640 + x0.val := by simpa using h0
    have e1 : d.val = 896 + x1.val := by simpa using h1
    have hs : (⟨x0.val * 16 + 10, by omega⟩ : Fin 1024).val = x0.val * 16 + 10 := rfl
    exact (slab64 _ x0 x1 _ _).trans ((strided _ _ 7 16 10 64 _ _ _ x0 x1 ⟨x0.val * 16 + 10, by omega⟩ rfl).trans
      ((at7 z w a b a' b' _ d x1 e1).trans (tile_at z w a b a' b' 4 47 16 r d _ (by omega) rfl (by rw [hs]; omega)).symm))
  case piece8 =>
    idx_vars x
    have e0 : r.val = 576 + x0.val := by simpa using h0
    have e1 : d.val = 896 + x1.val := by simpa using h1
    have hs : (⟨x0.val * 16 + 9, by omega⟩ : Fin 1024).val = x0.val * 16 + 9 := rfl
    exact (slab64 _ x0 x1 _ _).trans ((strided _ _ 7 16 9 64 _ _ _ x0 x1 ⟨x0.val * 16 + 9, by omega⟩ rfl).trans
      ((at7 z w a b a' b' _ d x1 e1).trans (tile_at z w a b a' b' 4 47 16 r d _ (by omega) rfl (by rw [hs]; omega)).symm))
  case piece9 =>
    idx_vars x
    have e0 : r.val = 512 + x0.val := by simpa using h0
    have e1 : d.val = 896 + x1.val := by simpa using h1
    have hs : (⟨x0.val * 16 + 8, by omega⟩ : Fin 1024).val = x0.val * 16 + 8 := rfl
    exact (slab64 _ x0 x1 _ _).trans ((strided _ _ 7 16 8 64 _ _ _ x0 x1 ⟨x0.val * 16 + 8, by omega⟩ rfl).trans
      ((at7 z w a b a' b' _ d x1 e1).trans (tile_at z w a b a' b' 4 47 16 r d _ (by omega) rfl (by rw [hs]; omega)).symm))
  case piece10 =>
    idx_vars x
    have e0 : r.val = 448 + x0.val := by simpa using h0
    have e1 : d.val = 896 + x1.val := by simpa using h1
    have hs : (⟨x0.val * 16 + 7, by omega⟩ : Fin 1024).val = x0.val * 16 + 7 := rfl
    exact (slab64 _ x0 x1 _ _).trans ((strided _ _ 7 16 7 64 _ _ _ x0 x1 ⟨x0.val * 16 + 7, by omega⟩ rfl).trans
      ((at7 z w a b a' b' _ d x1 e1).trans (tile_at z w a b a' b' 4 47 16 r d _ (by omega) rfl (by rw [hs]; omega)).symm))
  case piece11 =>
    idx_vars x
    have e0 : r.val = 384 + x0.val := by simpa using h0
    have e1 : d.val = 896 + x1.val := by simpa using h1
    have hs : (⟨x0.val * 16 + 6, by omega⟩ : Fin 1024).val = x0.val * 16 + 6 := rfl
    exact (slab64 _ x0 x1 _ _).trans ((strided _ _ 7 16 6 64 _ _ _ x0 x1 ⟨x0.val * 16 + 6, by omega⟩ rfl).trans
      ((at7 z w a b a' b' _ d x1 e1).trans (tile_at z w a b a' b' 4 47 16 r d _ (by omega) rfl (by rw [hs]; omega)).symm))
  case piece12 =>
    idx_vars x
    have e0 : r.val = 320 + x0.val := by simpa using h0
    have e1 : d.val = 896 + x1.val := by simpa using h1
    have hs : (⟨x0.val * 16 + 5, by omega⟩ : Fin 1024).val = x0.val * 16 + 5 := rfl
    exact (slab64 _ x0 x1 _ _).trans ((strided _ _ 7 16 5 64 _ _ _ x0 x1 ⟨x0.val * 16 + 5, by omega⟩ rfl).trans
      ((at7 z w a b a' b' _ d x1 e1).trans (tile_at z w a b a' b' 4 47 16 r d _ (by omega) rfl (by rw [hs]; omega)).symm))
  case piece13 =>
    idx_vars x
    have e0 : r.val = 256 + x0.val := by simpa using h0
    have e1 : d.val = 896 + x1.val := by simpa using h1
    have hs : (⟨x0.val * 16 + 4, by omega⟩ : Fin 1024).val = x0.val * 16 + 4 := rfl
    exact (slab64 _ x0 x1 _ _).trans ((strided _ _ 7 16 4 64 _ _ _ x0 x1 ⟨x0.val * 16 + 4, by omega⟩ rfl).trans
      ((at7 z w a b a' b' _ d x1 e1).trans (tile_at z w a b a' b' 4 47 16 r d _ (by omega) rfl (by rw [hs]; omega)).symm))
  case piece14 =>
    idx_vars x
    have e0 : r.val = 192 + x0.val := by simpa using h0
    have e1 : d.val = 896 + x1.val := by simpa using h1
    have hs : (⟨x0.val * 16 + 3, by omega⟩ : Fin 1024).val = x0.val * 16 + 3 := rfl
    exact (slab64 _ x0 x1 _ _).trans ((strided _ _ 7 16 3 64 _ _ _ x0 x1 ⟨x0.val * 16 + 3, by omega⟩ rfl).trans
      ((at7 z w a b a' b' _ d x1 e1).trans (tile_at z w a b a' b' 4 47 16 r d _ (by omega) rfl (by rw [hs]; omega)).symm))
  case piece15 =>
    idx_vars x
    have e0 : r.val = 128 + x0.val := by simpa using h0
    have e1 : d.val = 896 + x1.val := by simpa using h1
    have hs : (⟨x0.val * 16 + 2, by omega⟩ : Fin 1024).val = x0.val * 16 + 2 := rfl
    exact (slab64 _ x0 x1 _ _).trans ((strided _ _ 7 16 2 64 _ _ _ x0 x1 ⟨x0.val * 16 + 2, by omega⟩ rfl).trans
      ((at7 z w a b a' b' _ d x1 e1).trans (tile_at z w a b a' b' 4 47 16 r d _ (by omega) rfl (by rw [hs]; omega)).symm))
  case piece16 =>
    idx_vars x
    have e0 : r.val = 64 + x0.val := by simpa using h0
    have e1 : d.val = 896 + x1.val := by simpa using h1
    have hs : (⟨x0.val * 16 + 1, by omega⟩ : Fin 1024).val = x0.val * 16 + 1 := rfl
    exact (slab64 _ x0 x1 _ _).trans ((strided _ _ 7 16 1 64 _ _ _ x0 x1 ⟨x0.val * 16 + 1, by omega⟩ rfl).trans
      ((at7 z w a b a' b' _ d x1 e1).trans (tile_at z w a b a' b' 4 47 16 r d _ (by omega) rfl (by rw [hs]; omega)).symm))
  case piece17 =>
    idx_vars x
    have e0 : r.val = x0.val := by simpa using h0
    have e1 : d.val = 896 + x1.val := by simpa using h1
    have hs : (⟨x0.val * 16 + 0, by omega⟩ : Fin 1024).val = x0.val * 16 + 0 := rfl
    exact (slab64 _ x0 x1 _ _).trans ((strided _ _ 7 16 0 64 _ _ _ x0 x1 ⟨x0.val * 16 + 0, by omega⟩ rfl).trans
      ((at7 z w a b a' b' _ d x1 e1).trans (tile_at z w a b a' b' 4 47 16 r d _ (by omega) rfl (by rw [hs]; omega)).symm))
  case piece18 =>
    idx_vars x
    have e0 : r.val = 960 + x0.val := by simpa using h0
    have e1 : d.val = 768 + x1.val := by simpa using h1
    have hs : (⟨x0.val * 16 + 15, by omega⟩ : Fin 1024).val = x0.val * 16 + 15 := rfl
    exact (slab64 _ x0 x1 _ _).trans ((strided _ _ 6 16 15 64 _ _ _ x0 x1 ⟨x0.val * 16 + 15, by omega⟩ rfl).trans
      ((at6 z w a b a' b' _ d x1 e1).trans (tile_at z w a b a' b' 4 46 16 r d _ (by omega) rfl (by rw [hs]; omega)).symm))
  case piece19 =>
    idx_vars x
    have e0 : r.val = 896 + x0.val := by simpa using h0
    have e1 : d.val = 768 + x1.val := by simpa using h1
    have hs : (⟨x0.val * 16 + 14, by omega⟩ : Fin 1024).val = x0.val * 16 + 14 := rfl
    exact (slab64 _ x0 x1 _ _).trans ((strided _ _ 6 16 14 64 _ _ _ x0 x1 ⟨x0.val * 16 + 14, by omega⟩ rfl).trans
      ((at6 z w a b a' b' _ d x1 e1).trans (tile_at z w a b a' b' 4 46 16 r d _ (by omega) rfl (by rw [hs]; omega)).symm))
  case piece20 =>
    idx_vars x
    have e0 : r.val = 832 + x0.val := by simpa using h0
    have e1 : d.val = 768 + x1.val := by simpa using h1
    have hs : (⟨x0.val * 16 + 13, by omega⟩ : Fin 1024).val = x0.val * 16 + 13 := rfl
    exact (slab64 _ x0 x1 _ _).trans ((strided _ _ 6 16 13 64 _ _ _ x0 x1 ⟨x0.val * 16 + 13, by omega⟩ rfl).trans
      ((at6 z w a b a' b' _ d x1 e1).trans (tile_at z w a b a' b' 4 46 16 r d _ (by omega) rfl (by rw [hs]; omega)).symm))
  case piece21 =>
    idx_vars x
    have e0 : r.val = 768 + x0.val := by simpa using h0
    have e1 : d.val = 768 + x1.val := by simpa using h1
    have hs : (⟨x0.val * 16 + 12, by omega⟩ : Fin 1024).val = x0.val * 16 + 12 := rfl
    exact (slab64 _ x0 x1 _ _).trans ((strided _ _ 6 16 12 64 _ _ _ x0 x1 ⟨x0.val * 16 + 12, by omega⟩ rfl).trans
      ((at6 z w a b a' b' _ d x1 e1).trans (tile_at z w a b a' b' 4 46 16 r d _ (by omega) rfl (by rw [hs]; omega)).symm))
  case piece22 =>
    idx_vars x
    have e0 : r.val = 704 + x0.val := by simpa using h0
    have e1 : d.val = 768 + x1.val := by simpa using h1
    have hs : (⟨x0.val * 16 + 11, by omega⟩ : Fin 1024).val = x0.val * 16 + 11 := rfl
    exact (slab64 _ x0 x1 _ _).trans ((strided _ _ 6 16 11 64 _ _ _ x0 x1 ⟨x0.val * 16 + 11, by omega⟩ rfl).trans
      ((at6 z w a b a' b' _ d x1 e1).trans (tile_at z w a b a' b' 4 46 16 r d _ (by omega) rfl (by rw [hs]; omega)).symm))
  case piece23 =>
    idx_vars x
    have e0 : r.val = 640 + x0.val := by simpa using h0
    have e1 : d.val = 768 + x1.val := by simpa using h1
    have hs : (⟨x0.val * 16 + 10, by omega⟩ : Fin 1024).val = x0.val * 16 + 10 := rfl
    exact (slab64 _ x0 x1 _ _).trans ((strided _ _ 6 16 10 64 _ _ _ x0 x1 ⟨x0.val * 16 + 10, by omega⟩ rfl).trans
      ((at6 z w a b a' b' _ d x1 e1).trans (tile_at z w a b a' b' 4 46 16 r d _ (by omega) rfl (by rw [hs]; omega)).symm))
  case piece24 =>
    idx_vars x
    have e0 : r.val = 576 + x0.val := by simpa using h0
    have e1 : d.val = 768 + x1.val := by simpa using h1
    have hs : (⟨x0.val * 16 + 9, by omega⟩ : Fin 1024).val = x0.val * 16 + 9 := rfl
    exact (slab64 _ x0 x1 _ _).trans ((strided _ _ 6 16 9 64 _ _ _ x0 x1 ⟨x0.val * 16 + 9, by omega⟩ rfl).trans
      ((at6 z w a b a' b' _ d x1 e1).trans (tile_at z w a b a' b' 4 46 16 r d _ (by omega) rfl (by rw [hs]; omega)).symm))
  case piece25 =>
    idx_vars x
    have e0 : r.val = 512 + x0.val := by simpa using h0
    have e1 : d.val = 768 + x1.val := by simpa using h1
    have hs : (⟨x0.val * 16 + 8, by omega⟩ : Fin 1024).val = x0.val * 16 + 8 := rfl
    exact (slab64 _ x0 x1 _ _).trans ((strided _ _ 6 16 8 64 _ _ _ x0 x1 ⟨x0.val * 16 + 8, by omega⟩ rfl).trans
      ((at6 z w a b a' b' _ d x1 e1).trans (tile_at z w a b a' b' 4 46 16 r d _ (by omega) rfl (by rw [hs]; omega)).symm))
  case piece26 =>
    idx_vars x
    have e0 : r.val = 448 + x0.val := by simpa using h0
    have e1 : d.val = 768 + x1.val := by simpa using h1
    have hs : (⟨x0.val * 16 + 7, by omega⟩ : Fin 1024).val = x0.val * 16 + 7 := rfl
    exact (slab64 _ x0 x1 _ _).trans ((strided _ _ 6 16 7 64 _ _ _ x0 x1 ⟨x0.val * 16 + 7, by omega⟩ rfl).trans
      ((at6 z w a b a' b' _ d x1 e1).trans (tile_at z w a b a' b' 4 46 16 r d _ (by omega) rfl (by rw [hs]; omega)).symm))
  case piece27 =>
    idx_vars x
    have e0 : r.val = 384 + x0.val := by simpa using h0
    have e1 : d.val = 768 + x1.val := by simpa using h1
    have hs : (⟨x0.val * 16 + 6, by omega⟩ : Fin 1024).val = x0.val * 16 + 6 := rfl
    exact (slab64 _ x0 x1 _ _).trans ((strided _ _ 6 16 6 64 _ _ _ x0 x1 ⟨x0.val * 16 + 6, by omega⟩ rfl).trans
      ((at6 z w a b a' b' _ d x1 e1).trans (tile_at z w a b a' b' 4 46 16 r d _ (by omega) rfl (by rw [hs]; omega)).symm))
  case piece28 =>
    idx_vars x
    have e0 : r.val = 320 + x0.val := by simpa using h0
    have e1 : d.val = 768 + x1.val := by simpa using h1
    have hs : (⟨x0.val * 16 + 5, by omega⟩ : Fin 1024).val = x0.val * 16 + 5 := rfl
    exact (slab64 _ x0 x1 _ _).trans ((strided _ _ 6 16 5 64 _ _ _ x0 x1 ⟨x0.val * 16 + 5, by omega⟩ rfl).trans
      ((at6 z w a b a' b' _ d x1 e1).trans (tile_at z w a b a' b' 4 46 16 r d _ (by omega) rfl (by rw [hs]; omega)).symm))
  case piece29 =>
    idx_vars x
    have e0 : r.val = 256 + x0.val := by simpa using h0
    have e1 : d.val = 768 + x1.val := by simpa using h1
    have hs : (⟨x0.val * 16 + 4, by omega⟩ : Fin 1024).val = x0.val * 16 + 4 := rfl
    exact (slab64 _ x0 x1 _ _).trans ((strided _ _ 6 16 4 64 _ _ _ x0 x1 ⟨x0.val * 16 + 4, by omega⟩ rfl).trans
      ((at6 z w a b a' b' _ d x1 e1).trans (tile_at z w a b a' b' 4 46 16 r d _ (by omega) rfl (by rw [hs]; omega)).symm))
  case piece30 =>
    idx_vars x
    have e0 : r.val = 192 + x0.val := by simpa using h0
    have e1 : d.val = 768 + x1.val := by simpa using h1
    have hs : (⟨x0.val * 16 + 3, by omega⟩ : Fin 1024).val = x0.val * 16 + 3 := rfl
    exact (slab64 _ x0 x1 _ _).trans ((strided _ _ 6 16 3 64 _ _ _ x0 x1 ⟨x0.val * 16 + 3, by omega⟩ rfl).trans
      ((at6 z w a b a' b' _ d x1 e1).trans (tile_at z w a b a' b' 4 46 16 r d _ (by omega) rfl (by rw [hs]; omega)).symm))
  case piece31 =>
    idx_vars x
    have e0 : r.val = 128 + x0.val := by simpa using h0
    have e1 : d.val = 768 + x1.val := by simpa using h1
    have hs : (⟨x0.val * 16 + 2, by omega⟩ : Fin 1024).val = x0.val * 16 + 2 := rfl
    exact (slab64 _ x0 x1 _ _).trans ((strided _ _ 6 16 2 64 _ _ _ x0 x1 ⟨x0.val * 16 + 2, by omega⟩ rfl).trans
      ((at6 z w a b a' b' _ d x1 e1).trans (tile_at z w a b a' b' 4 46 16 r d _ (by omega) rfl (by rw [hs]; omega)).symm))
  case piece32 =>
    idx_vars x
    have e0 : r.val = 64 + x0.val := by simpa using h0
    have e1 : d.val = 768 + x1.val := by simpa using h1
    have hs : (⟨x0.val * 16 + 1, by omega⟩ : Fin 1024).val = x0.val * 16 + 1 := rfl
    exact (slab64 _ x0 x1 _ _).trans ((strided _ _ 6 16 1 64 _ _ _ x0 x1 ⟨x0.val * 16 + 1, by omega⟩ rfl).trans
      ((at6 z w a b a' b' _ d x1 e1).trans (tile_at z w a b a' b' 4 46 16 r d _ (by omega) rfl (by rw [hs]; omega)).symm))
  case piece33 =>
    idx_vars x
    have e0 : r.val = x0.val := by simpa using h0
    have e1 : d.val = 768 + x1.val := by simpa using h1
    have hs : (⟨x0.val * 16 + 0, by omega⟩ : Fin 1024).val = x0.val * 16 + 0 := rfl
    exact (slab64 _ x0 x1 _ _).trans ((strided _ _ 6 16 0 64 _ _ _ x0 x1 ⟨x0.val * 16 + 0, by omega⟩ rfl).trans
      ((at6 z w a b a' b' _ d x1 e1).trans (tile_at z w a b a' b' 4 46 16 r d _ (by omega) rfl (by rw [hs]; omega)).symm))
  case piece34 =>
    idx_vars x
    have e0 : r.val = 960 + x0.val := by simpa using h0
    have e1 : d.val = 640 + x1.val := by simpa using h1
    have hs : (⟨x0.val * 16 + 15, by omega⟩ : Fin 1024).val = x0.val * 16 + 15 := rfl
    exact (slab64 _ x0 x1 _ _).trans ((strided _ _ 5 16 15 64 _ _ _ x0 x1 ⟨x0.val * 16 + 15, by omega⟩ rfl).trans
      ((at5 z w a b a' b' _ d x1 e1).trans (tile_at z w a b a' b' 4 45 16 r d _ (by omega) rfl (by rw [hs]; omega)).symm))
  case piece35 =>
    idx_vars x
    have e0 : r.val = 896 + x0.val := by simpa using h0
    have e1 : d.val = 640 + x1.val := by simpa using h1
    have hs : (⟨x0.val * 16 + 14, by omega⟩ : Fin 1024).val = x0.val * 16 + 14 := rfl
    exact (slab64 _ x0 x1 _ _).trans ((strided _ _ 5 16 14 64 _ _ _ x0 x1 ⟨x0.val * 16 + 14, by omega⟩ rfl).trans
      ((at5 z w a b a' b' _ d x1 e1).trans (tile_at z w a b a' b' 4 45 16 r d _ (by omega) rfl (by rw [hs]; omega)).symm))
  case piece36 =>
    idx_vars x
    have e0 : r.val = 832 + x0.val := by simpa using h0
    have e1 : d.val = 640 + x1.val := by simpa using h1
    have hs : (⟨x0.val * 16 + 13, by omega⟩ : Fin 1024).val = x0.val * 16 + 13 := rfl
    exact (slab64 _ x0 x1 _ _).trans ((strided _ _ 5 16 13 64 _ _ _ x0 x1 ⟨x0.val * 16 + 13, by omega⟩ rfl).trans
      ((at5 z w a b a' b' _ d x1 e1).trans (tile_at z w a b a' b' 4 45 16 r d _ (by omega) rfl (by rw [hs]; omega)).symm))
  case piece37 =>
    idx_vars x
    have e0 : r.val = 768 + x0.val := by simpa using h0
    have e1 : d.val = 640 + x1.val := by simpa using h1
    have hs : (⟨x0.val * 16 + 12, by omega⟩ : Fin 1024).val = x0.val * 16 + 12 := rfl
    exact (slab64 _ x0 x1 _ _).trans ((strided _ _ 5 16 12 64 _ _ _ x0 x1 ⟨x0.val * 16 + 12, by omega⟩ rfl).trans
      ((at5 z w a b a' b' _ d x1 e1).trans (tile_at z w a b a' b' 4 45 16 r d _ (by omega) rfl (by rw [hs]; omega)).symm))
  case piece38 =>
    idx_vars x
    have e0 : r.val = 704 + x0.val := by simpa using h0
    have e1 : d.val = 640 + x1.val := by simpa using h1
    have hs : (⟨x0.val * 16 + 11, by omega⟩ : Fin 1024).val = x0.val * 16 + 11 := rfl
    exact (slab64 _ x0 x1 _ _).trans ((strided _ _ 5 16 11 64 _ _ _ x0 x1 ⟨x0.val * 16 + 11, by omega⟩ rfl).trans
      ((at5 z w a b a' b' _ d x1 e1).trans (tile_at z w a b a' b' 4 45 16 r d _ (by omega) rfl (by rw [hs]; omega)).symm))
  case piece39 =>
    idx_vars x
    have e0 : r.val = 640 + x0.val := by simpa using h0
    have e1 : d.val = 640 + x1.val := by simpa using h1
    have hs : (⟨x0.val * 16 + 10, by omega⟩ : Fin 1024).val = x0.val * 16 + 10 := rfl
    exact (slab64 _ x0 x1 _ _).trans ((strided _ _ 5 16 10 64 _ _ _ x0 x1 ⟨x0.val * 16 + 10, by omega⟩ rfl).trans
      ((at5 z w a b a' b' _ d x1 e1).trans (tile_at z w a b a' b' 4 45 16 r d _ (by omega) rfl (by rw [hs]; omega)).symm))
  case piece40 =>
    idx_vars x
    have e0 : r.val = 576 + x0.val := by simpa using h0
    have e1 : d.val = 640 + x1.val := by simpa using h1
    have hs : (⟨x0.val * 16 + 9, by omega⟩ : Fin 1024).val = x0.val * 16 + 9 := rfl
    exact (slab64 _ x0 x1 _ _).trans ((strided _ _ 5 16 9 64 _ _ _ x0 x1 ⟨x0.val * 16 + 9, by omega⟩ rfl).trans
      ((at5 z w a b a' b' _ d x1 e1).trans (tile_at z w a b a' b' 4 45 16 r d _ (by omega) rfl (by rw [hs]; omega)).symm))
  case piece41 =>
    idx_vars x
    have e0 : r.val = 512 + x0.val := by simpa using h0
    have e1 : d.val = 640 + x1.val := by simpa using h1
    have hs : (⟨x0.val * 16 + 8, by omega⟩ : Fin 1024).val = x0.val * 16 + 8 := rfl
    exact (slab64 _ x0 x1 _ _).trans ((strided _ _ 5 16 8 64 _ _ _ x0 x1 ⟨x0.val * 16 + 8, by omega⟩ rfl).trans
      ((at5 z w a b a' b' _ d x1 e1).trans (tile_at z w a b a' b' 4 45 16 r d _ (by omega) rfl (by rw [hs]; omega)).symm))
  case piece42 =>
    idx_vars x
    have e0 : r.val = 448 + x0.val := by simpa using h0
    have e1 : d.val = 640 + x1.val := by simpa using h1
    have hs : (⟨x0.val * 16 + 7, by omega⟩ : Fin 1024).val = x0.val * 16 + 7 := rfl
    exact (slab64 _ x0 x1 _ _).trans ((strided _ _ 5 16 7 64 _ _ _ x0 x1 ⟨x0.val * 16 + 7, by omega⟩ rfl).trans
      ((at5 z w a b a' b' _ d x1 e1).trans (tile_at z w a b a' b' 4 45 16 r d _ (by omega) rfl (by rw [hs]; omega)).symm))
  case piece43 =>
    idx_vars x
    have e0 : r.val = 384 + x0.val := by simpa using h0
    have e1 : d.val = 640 + x1.val := by simpa using h1
    have hs : (⟨x0.val * 16 + 6, by omega⟩ : Fin 1024).val = x0.val * 16 + 6 := rfl
    exact (slab64 _ x0 x1 _ _).trans ((strided _ _ 5 16 6 64 _ _ _ x0 x1 ⟨x0.val * 16 + 6, by omega⟩ rfl).trans
      ((at5 z w a b a' b' _ d x1 e1).trans (tile_at z w a b a' b' 4 45 16 r d _ (by omega) rfl (by rw [hs]; omega)).symm))
  case piece44 =>
    idx_vars x
    have e0 : r.val = 320 + x0.val := by simpa using h0
    have e1 : d.val = 640 + x1.val := by simpa using h1
    have hs : (⟨x0.val * 16 + 5, by omega⟩ : Fin 1024).val = x0.val * 16 + 5 := rfl
    exact (slab64 _ x0 x1 _ _).trans ((strided _ _ 5 16 5 64 _ _ _ x0 x1 ⟨x0.val * 16 + 5, by omega⟩ rfl).trans
      ((at5 z w a b a' b' _ d x1 e1).trans (tile_at z w a b a' b' 4 45 16 r d _ (by omega) rfl (by rw [hs]; omega)).symm))
  case piece45 =>
    idx_vars x
    have e0 : r.val = 256 + x0.val := by simpa using h0
    have e1 : d.val = 640 + x1.val := by simpa using h1
    have hs : (⟨x0.val * 16 + 4, by omega⟩ : Fin 1024).val = x0.val * 16 + 4 := rfl
    exact (slab64 _ x0 x1 _ _).trans ((strided _ _ 5 16 4 64 _ _ _ x0 x1 ⟨x0.val * 16 + 4, by omega⟩ rfl).trans
      ((at5 z w a b a' b' _ d x1 e1).trans (tile_at z w a b a' b' 4 45 16 r d _ (by omega) rfl (by rw [hs]; omega)).symm))
  case piece46 =>
    idx_vars x
    have e0 : r.val = 192 + x0.val := by simpa using h0
    have e1 : d.val = 640 + x1.val := by simpa using h1
    have hs : (⟨x0.val * 16 + 3, by omega⟩ : Fin 1024).val = x0.val * 16 + 3 := rfl
    exact (slab64 _ x0 x1 _ _).trans ((strided _ _ 5 16 3 64 _ _ _ x0 x1 ⟨x0.val * 16 + 3, by omega⟩ rfl).trans
      ((at5 z w a b a' b' _ d x1 e1).trans (tile_at z w a b a' b' 4 45 16 r d _ (by omega) rfl (by rw [hs]; omega)).symm))
  case piece47 =>
    idx_vars x
    have e0 : r.val = 128 + x0.val := by simpa using h0
    have e1 : d.val = 640 + x1.val := by simpa using h1
    have hs : (⟨x0.val * 16 + 2, by omega⟩ : Fin 1024).val = x0.val * 16 + 2 := rfl
    exact (slab64 _ x0 x1 _ _).trans ((strided _ _ 5 16 2 64 _ _ _ x0 x1 ⟨x0.val * 16 + 2, by omega⟩ rfl).trans
      ((at5 z w a b a' b' _ d x1 e1).trans (tile_at z w a b a' b' 4 45 16 r d _ (by omega) rfl (by rw [hs]; omega)).symm))
  case piece48 =>
    idx_vars x
    have e0 : r.val = 64 + x0.val := by simpa using h0
    have e1 : d.val = 640 + x1.val := by simpa using h1
    have hs : (⟨x0.val * 16 + 1, by omega⟩ : Fin 1024).val = x0.val * 16 + 1 := rfl
    exact (slab64 _ x0 x1 _ _).trans ((strided _ _ 5 16 1 64 _ _ _ x0 x1 ⟨x0.val * 16 + 1, by omega⟩ rfl).trans
      ((at5 z w a b a' b' _ d x1 e1).trans (tile_at z w a b a' b' 4 45 16 r d _ (by omega) rfl (by rw [hs]; omega)).symm))
  case piece49 =>
    idx_vars x
    have e0 : r.val = x0.val := by simpa using h0
    have e1 : d.val = 640 + x1.val := by simpa using h1
    have hs : (⟨x0.val * 16 + 0, by omega⟩ : Fin 1024).val = x0.val * 16 + 0 := rfl
    exact (slab64 _ x0 x1 _ _).trans ((strided _ _ 5 16 0 64 _ _ _ x0 x1 ⟨x0.val * 16 + 0, by omega⟩ rfl).trans
      ((at5 z w a b a' b' _ d x1 e1).trans (tile_at z w a b a' b' 4 45 16 r d _ (by omega) rfl (by rw [hs]; omega)).symm))
  case piece50 =>
    idx_vars x
    have e0 : r.val = 960 + x0.val := by simpa using h0
    have e1 : d.val = 512 + x1.val := by simpa using h1
    have hs : (⟨x0.val * 16 + 15, by omega⟩ : Fin 1024).val = x0.val * 16 + 15 := rfl
    exact (slab64 _ x0 x1 _ _).trans ((strided _ _ 4 16 15 64 _ _ _ x0 x1 ⟨x0.val * 16 + 15, by omega⟩ rfl).trans
      ((at4 z w a b a' b' _ d x1 e1).trans (tile_at z w a b a' b' 4 44 16 r d _ (by omega) rfl (by rw [hs]; omega)).symm))
  case piece51 =>
    idx_vars x
    have e0 : r.val = 896 + x0.val := by simpa using h0
    have e1 : d.val = 512 + x1.val := by simpa using h1
    have hs : (⟨x0.val * 16 + 14, by omega⟩ : Fin 1024).val = x0.val * 16 + 14 := rfl
    exact (slab64 _ x0 x1 _ _).trans ((strided _ _ 4 16 14 64 _ _ _ x0 x1 ⟨x0.val * 16 + 14, by omega⟩ rfl).trans
      ((at4 z w a b a' b' _ d x1 e1).trans (tile_at z w a b a' b' 4 44 16 r d _ (by omega) rfl (by rw [hs]; omega)).symm))
  case piece52 =>
    idx_vars x
    have e0 : r.val = 832 + x0.val := by simpa using h0
    have e1 : d.val = 512 + x1.val := by simpa using h1
    have hs : (⟨x0.val * 16 + 13, by omega⟩ : Fin 1024).val = x0.val * 16 + 13 := rfl
    exact (slab64 _ x0 x1 _ _).trans ((strided _ _ 4 16 13 64 _ _ _ x0 x1 ⟨x0.val * 16 + 13, by omega⟩ rfl).trans
      ((at4 z w a b a' b' _ d x1 e1).trans (tile_at z w a b a' b' 4 44 16 r d _ (by omega) rfl (by rw [hs]; omega)).symm))
  case piece53 =>
    idx_vars x
    have e0 : r.val = 768 + x0.val := by simpa using h0
    have e1 : d.val = 512 + x1.val := by simpa using h1
    have hs : (⟨x0.val * 16 + 12, by omega⟩ : Fin 1024).val = x0.val * 16 + 12 := rfl
    exact (slab64 _ x0 x1 _ _).trans ((strided _ _ 4 16 12 64 _ _ _ x0 x1 ⟨x0.val * 16 + 12, by omega⟩ rfl).trans
      ((at4 z w a b a' b' _ d x1 e1).trans (tile_at z w a b a' b' 4 44 16 r d _ (by omega) rfl (by rw [hs]; omega)).symm))
  case piece54 =>
    idx_vars x
    have e0 : r.val = 704 + x0.val := by simpa using h0
    have e1 : d.val = 512 + x1.val := by simpa using h1
    have hs : (⟨x0.val * 16 + 11, by omega⟩ : Fin 1024).val = x0.val * 16 + 11 := rfl
    exact (slab64 _ x0 x1 _ _).trans ((strided _ _ 4 16 11 64 _ _ _ x0 x1 ⟨x0.val * 16 + 11, by omega⟩ rfl).trans
      ((at4 z w a b a' b' _ d x1 e1).trans (tile_at z w a b a' b' 4 44 16 r d _ (by omega) rfl (by rw [hs]; omega)).symm))
  case piece55 =>
    idx_vars x
    have e0 : r.val = 640 + x0.val := by simpa using h0
    have e1 : d.val = 512 + x1.val := by simpa using h1
    have hs : (⟨x0.val * 16 + 10, by omega⟩ : Fin 1024).val = x0.val * 16 + 10 := rfl
    exact (slab64 _ x0 x1 _ _).trans ((strided _ _ 4 16 10 64 _ _ _ x0 x1 ⟨x0.val * 16 + 10, by omega⟩ rfl).trans
      ((at4 z w a b a' b' _ d x1 e1).trans (tile_at z w a b a' b' 4 44 16 r d _ (by omega) rfl (by rw [hs]; omega)).symm))
  case piece56 =>
    idx_vars x
    have e0 : r.val = 576 + x0.val := by simpa using h0
    have e1 : d.val = 512 + x1.val := by simpa using h1
    have hs : (⟨x0.val * 16 + 9, by omega⟩ : Fin 1024).val = x0.val * 16 + 9 := rfl
    exact (slab64 _ x0 x1 _ _).trans ((strided _ _ 4 16 9 64 _ _ _ x0 x1 ⟨x0.val * 16 + 9, by omega⟩ rfl).trans
      ((at4 z w a b a' b' _ d x1 e1).trans (tile_at z w a b a' b' 4 44 16 r d _ (by omega) rfl (by rw [hs]; omega)).symm))
  case piece57 =>
    idx_vars x
    have e0 : r.val = 512 + x0.val := by simpa using h0
    have e1 : d.val = 512 + x1.val := by simpa using h1
    have hs : (⟨x0.val * 16 + 8, by omega⟩ : Fin 1024).val = x0.val * 16 + 8 := rfl
    exact (slab64 _ x0 x1 _ _).trans ((strided _ _ 4 16 8 64 _ _ _ x0 x1 ⟨x0.val * 16 + 8, by omega⟩ rfl).trans
      ((at4 z w a b a' b' _ d x1 e1).trans (tile_at z w a b a' b' 4 44 16 r d _ (by omega) rfl (by rw [hs]; omega)).symm))
  case piece58 =>
    idx_vars x
    have e0 : r.val = 448 + x0.val := by simpa using h0
    have e1 : d.val = 512 + x1.val := by simpa using h1
    have hs : (⟨x0.val * 16 + 7, by omega⟩ : Fin 1024).val = x0.val * 16 + 7 := rfl
    exact (slab64 _ x0 x1 _ _).trans ((strided _ _ 4 16 7 64 _ _ _ x0 x1 ⟨x0.val * 16 + 7, by omega⟩ rfl).trans
      ((at4 z w a b a' b' _ d x1 e1).trans (tile_at z w a b a' b' 4 44 16 r d _ (by omega) rfl (by rw [hs]; omega)).symm))
  case piece59 =>
    idx_vars x
    have e0 : r.val = 384 + x0.val := by simpa using h0
    have e1 : d.val = 512 + x1.val := by simpa using h1
    have hs : (⟨x0.val * 16 + 6, by omega⟩ : Fin 1024).val = x0.val * 16 + 6 := rfl
    exact (slab64 _ x0 x1 _ _).trans ((strided _ _ 4 16 6 64 _ _ _ x0 x1 ⟨x0.val * 16 + 6, by omega⟩ rfl).trans
      ((at4 z w a b a' b' _ d x1 e1).trans (tile_at z w a b a' b' 4 44 16 r d _ (by omega) rfl (by rw [hs]; omega)).symm))
  case piece60 =>
    idx_vars x
    have e0 : r.val = 320 + x0.val := by simpa using h0
    have e1 : d.val = 512 + x1.val := by simpa using h1
    have hs : (⟨x0.val * 16 + 5, by omega⟩ : Fin 1024).val = x0.val * 16 + 5 := rfl
    exact (slab64 _ x0 x1 _ _).trans ((strided _ _ 4 16 5 64 _ _ _ x0 x1 ⟨x0.val * 16 + 5, by omega⟩ rfl).trans
      ((at4 z w a b a' b' _ d x1 e1).trans (tile_at z w a b a' b' 4 44 16 r d _ (by omega) rfl (by rw [hs]; omega)).symm))
  case piece61 =>
    idx_vars x
    have e0 : r.val = 256 + x0.val := by simpa using h0
    have e1 : d.val = 512 + x1.val := by simpa using h1
    have hs : (⟨x0.val * 16 + 4, by omega⟩ : Fin 1024).val = x0.val * 16 + 4 := rfl
    exact (slab64 _ x0 x1 _ _).trans ((strided _ _ 4 16 4 64 _ _ _ x0 x1 ⟨x0.val * 16 + 4, by omega⟩ rfl).trans
      ((at4 z w a b a' b' _ d x1 e1).trans (tile_at z w a b a' b' 4 44 16 r d _ (by omega) rfl (by rw [hs]; omega)).symm))
  case piece62 =>
    idx_vars x
    have e0 : r.val = 192 + x0.val := by simpa using h0
    have e1 : d.val = 512 + x1.val := by simpa using h1
    have hs : (⟨x0.val * 16 + 3, by omega⟩ : Fin 1024).val = x0.val * 16 + 3 := rfl
    exact (slab64 _ x0 x1 _ _).trans ((strided _ _ 4 16 3 64 _ _ _ x0 x1 ⟨x0.val * 16 + 3, by omega⟩ rfl).trans
      ((at4 z w a b a' b' _ d x1 e1).trans (tile_at z w a b a' b' 4 44 16 r d _ (by omega) rfl (by rw [hs]; omega)).symm))
  case piece63 =>
    idx_vars x
    have e0 : r.val = 128 + x0.val := by simpa using h0
    have e1 : d.val = 512 + x1.val := by simpa using h1
    have hs : (⟨x0.val * 16 + 2, by omega⟩ : Fin 1024).val = x0.val * 16 + 2 := rfl
    exact (slab64 _ x0 x1 _ _).trans ((strided _ _ 4 16 2 64 _ _ _ x0 x1 ⟨x0.val * 16 + 2, by omega⟩ rfl).trans
      ((at4 z w a b a' b' _ d x1 e1).trans (tile_at z w a b a' b' 4 44 16 r d _ (by omega) rfl (by rw [hs]; omega)).symm))
  case piece64 =>
    idx_vars x
    have e0 : r.val = 64 + x0.val := by simpa using h0
    have e1 : d.val = 512 + x1.val := by simpa using h1
    have hs : (⟨x0.val * 16 + 1, by omega⟩ : Fin 1024).val = x0.val * 16 + 1 := rfl
    exact (slab64 _ x0 x1 _ _).trans ((strided _ _ 4 16 1 64 _ _ _ x0 x1 ⟨x0.val * 16 + 1, by omega⟩ rfl).trans
      ((at4 z w a b a' b' _ d x1 e1).trans (tile_at z w a b a' b' 4 44 16 r d _ (by omega) rfl (by rw [hs]; omega)).symm))
  case piece65 =>
    idx_vars x
    have e0 : r.val = x0.val := by simpa using h0
    have e1 : d.val = 512 + x1.val := by simpa using h1
    have hs : (⟨x0.val * 16 + 0, by omega⟩ : Fin 1024).val = x0.val * 16 + 0 := rfl
    exact (slab64 _ x0 x1 _ _).trans ((strided _ _ 4 16 0 64 _ _ _ x0 x1 ⟨x0.val * 16 + 0, by omega⟩ rfl).trans
      ((at4 z w a b a' b' _ d x1 e1).trans (tile_at z w a b a' b' 4 44 16 r d _ (by omega) rfl (by rw [hs]; omega)).symm))
  case piece66 =>
    idx_vars x
    have e0 : r.val = 768 + x0.val := by simpa using h0
    have e1 : d.val = 384 + x1.val := by simpa using h1
    have hs : (⟨x0.val * 4 + 3, by omega⟩ : Fin 1024).val = x0.val * 4 + 3 := rfl
    exact (slab256 _ x0 x1 _ _).trans ((strided _ _ 3 4 3 256 _ _ _ x0 x1 ⟨x0.val * 4 + 3, by omega⟩ rfl).trans
      ((at3 z w a b a' b' _ d x1 e1).trans (tile_at z w a b a' b' 4 43 4 r d _ (by omega) rfl (by rw [hs]; omega)).symm))
  case piece67 =>
    idx_vars x
    have e0 : r.val = 512 + x0.val := by simpa using h0
    have e1 : d.val = 384 + x1.val := by simpa using h1
    have hs : (⟨x0.val * 4 + 2, by omega⟩ : Fin 1024).val = x0.val * 4 + 2 := rfl
    exact (slab256 _ x0 x1 _ _).trans ((strided _ _ 3 4 2 256 _ _ _ x0 x1 ⟨x0.val * 4 + 2, by omega⟩ rfl).trans
      ((at3 z w a b a' b' _ d x1 e1).trans (tile_at z w a b a' b' 4 43 4 r d _ (by omega) rfl (by rw [hs]; omega)).symm))
  case piece68 =>
    idx_vars x
    have e0 : r.val = 256 + x0.val := by simpa using h0
    have e1 : d.val = 384 + x1.val := by simpa using h1
    have hs : (⟨x0.val * 4 + 1, by omega⟩ : Fin 1024).val = x0.val * 4 + 1 := rfl
    exact (slab256 _ x0 x1 _ _).trans ((strided _ _ 3 4 1 256 _ _ _ x0 x1 ⟨x0.val * 4 + 1, by omega⟩ rfl).trans
      ((at3 z w a b a' b' _ d x1 e1).trans (tile_at z w a b a' b' 4 43 4 r d _ (by omega) rfl (by rw [hs]; omega)).symm))
  case piece69 =>
    idx_vars x
    have e0 : r.val = x0.val := by simpa using h0
    have e1 : d.val = 384 + x1.val := by simpa using h1
    have hs : (⟨x0.val * 4 + 0, by omega⟩ : Fin 1024).val = x0.val * 4 + 0 := rfl
    exact (slab256 _ x0 x1 _ _).trans ((strided _ _ 3 4 0 256 _ _ _ x0 x1 ⟨x0.val * 4 + 0, by omega⟩ rfl).trans
      ((at3 z w a b a' b' _ d x1 e1).trans (tile_at z w a b a' b' 4 43 4 r d _ (by omega) rfl (by rw [hs]; omega)).symm))
  case piece70 =>
    idx_vars x
    have e0 : r.val = 768 + x0.val := by simpa using h0
    have e1 : d.val = 256 + x1.val := by simpa using h1
    have hs : (⟨x0.val * 4 + 3, by omega⟩ : Fin 1024).val = x0.val * 4 + 3 := rfl
    exact (slab256 _ x0 x1 _ _).trans ((strided _ _ 2 4 3 256 _ _ _ x0 x1 ⟨x0.val * 4 + 3, by omega⟩ rfl).trans
      ((at2 z w a b a' b' _ d x1 e1).trans (tile_at z w a b a' b' 4 42 4 r d _ (by omega) rfl (by rw [hs]; omega)).symm))
  case piece71 =>
    idx_vars x
    have e0 : r.val = 512 + x0.val := by simpa using h0
    have e1 : d.val = 256 + x1.val := by simpa using h1
    have hs : (⟨x0.val * 4 + 2, by omega⟩ : Fin 1024).val = x0.val * 4 + 2 := rfl
    exact (slab256 _ x0 x1 _ _).trans ((strided _ _ 2 4 2 256 _ _ _ x0 x1 ⟨x0.val * 4 + 2, by omega⟩ rfl).trans
      ((at2 z w a b a' b' _ d x1 e1).trans (tile_at z w a b a' b' 4 42 4 r d _ (by omega) rfl (by rw [hs]; omega)).symm))
  case piece72 =>
    idx_vars x
    have e0 : r.val = 256 + x0.val := by simpa using h0
    have e1 : d.val = 256 + x1.val := by simpa using h1
    have hs : (⟨x0.val * 4 + 1, by omega⟩ : Fin 1024).val = x0.val * 4 + 1 := rfl
    exact (slab256 _ x0 x1 _ _).trans ((strided _ _ 2 4 1 256 _ _ _ x0 x1 ⟨x0.val * 4 + 1, by omega⟩ rfl).trans
      ((at2 z w a b a' b' _ d x1 e1).trans (tile_at z w a b a' b' 4 42 4 r d _ (by omega) rfl (by rw [hs]; omega)).symm))
  case piece73 =>
    idx_vars x
    have e0 : r.val = x0.val := by simpa using h0
    have e1 : d.val = 256 + x1.val := by simpa using h1
    have hs : (⟨x0.val * 4 + 0, by omega⟩ : Fin 1024).val = x0.val * 4 + 0 := rfl
    exact (slab256 _ x0 x1 _ _).trans ((strided _ _ 2 4 0 256 _ _ _ x0 x1 ⟨x0.val * 4 + 0, by omega⟩ rfl).trans
      ((at2 z w a b a' b' _ d x1 e1).trans (tile_at z w a b a' b' 4 42 4 r d _ (by omega) rfl (by rw [hs]; omega)).symm))
  case piece74 =>
    idx_vars x
    have e0 : r.val = 768 + x0.val := by simpa using h0
    have e1 : d.val = 128 + x1.val := by simpa using h1
    have hs : (⟨x0.val * 4 + 3, by omega⟩ : Fin 1024).val = x0.val * 4 + 3 := rfl
    exact (slab256 _ x0 x1 _ _).trans ((strided _ _ 1 4 3 256 _ _ _ x0 x1 ⟨x0.val * 4 + 3, by omega⟩ rfl).trans
      ((at1 z w a b a' b' _ d x1 e1).trans (tile_at z w a b a' b' 4 41 4 r d _ (by omega) rfl (by rw [hs]; omega)).symm))
  case piece75 =>
    idx_vars x
    have e0 : r.val = 512 + x0.val := by simpa using h0
    have e1 : d.val = 128 + x1.val := by simpa using h1
    have hs : (⟨x0.val * 4 + 2, by omega⟩ : Fin 1024).val = x0.val * 4 + 2 := rfl
    exact (slab256 _ x0 x1 _ _).trans ((strided _ _ 1 4 2 256 _ _ _ x0 x1 ⟨x0.val * 4 + 2, by omega⟩ rfl).trans
      ((at1 z w a b a' b' _ d x1 e1).trans (tile_at z w a b a' b' 4 41 4 r d _ (by omega) rfl (by rw [hs]; omega)).symm))
  case piece76 =>
    idx_vars x
    have e0 : r.val = 256 + x0.val := by simpa using h0
    have e1 : d.val = 128 + x1.val := by simpa using h1
    have hs : (⟨x0.val * 4 + 1, by omega⟩ : Fin 1024).val = x0.val * 4 + 1 := rfl
    exact (slab256 _ x0 x1 _ _).trans ((strided _ _ 1 4 1 256 _ _ _ x0 x1 ⟨x0.val * 4 + 1, by omega⟩ rfl).trans
      ((at1 z w a b a' b' _ d x1 e1).trans (tile_at z w a b a' b' 4 41 4 r d _ (by omega) rfl (by rw [hs]; omega)).symm))
  case piece77 =>
    idx_vars x
    have e0 : r.val = x0.val := by simpa using h0
    have e1 : d.val = 128 + x1.val := by simpa using h1
    have hs : (⟨x0.val * 4 + 0, by omega⟩ : Fin 1024).val = x0.val * 4 + 0 := rfl
    exact (slab256 _ x0 x1 _ _).trans ((strided _ _ 1 4 0 256 _ _ _ x0 x1 ⟨x0.val * 4 + 0, by omega⟩ rfl).trans
      ((at1 z w a b a' b' _ d x1 e1).trans (tile_at z w a b a' b' 4 41 4 r d _ (by omega) rfl (by rw [hs]; omega)).symm))
  case piece78 =>
    idx_vars x
    have e0 : r.val = 768 + x0.val := by simpa using h0
    have e1 : d.val = 0 + x1.val := by simpa using h1
    have hs : (⟨x0.val * 4 + 3, by omega⟩ : Fin 1024).val = x0.val * 4 + 3 := rfl
    exact (slab256 _ x0 x1 _ _).trans ((strided _ _ 0 4 3 256 _ _ _ x0 x1 ⟨x0.val * 4 + 3, by omega⟩ rfl).trans
      ((at0 z w a b a' b' _ d x1 e1).trans (tile_at z w a b a' b' 4 40 4 r d _ (by omega) rfl (by rw [hs]; omega)).symm))
  case piece79 =>
    idx_vars x
    have e0 : r.val = 512 + x0.val := by simpa using h0
    have e1 : d.val = 0 + x1.val := by simpa using h1
    have hs : (⟨x0.val * 4 + 2, by omega⟩ : Fin 1024).val = x0.val * 4 + 2 := rfl
    exact (slab256 _ x0 x1 _ _).trans ((strided _ _ 0 4 2 256 _ _ _ x0 x1 ⟨x0.val * 4 + 2, by omega⟩ rfl).trans
      ((at0 z w a b a' b' _ d x1 e1).trans (tile_at z w a b a' b' 4 40 4 r d _ (by omega) rfl (by rw [hs]; omega)).symm))
  case piece80 =>
    idx_vars x
    have e0 : r.val = 256 + x0.val := by simpa using h0
    have e1 : d.val = 0 + x1.val := by simpa using h1
    have hs : (⟨x0.val * 4 + 1, by omega⟩ : Fin 1024).val = x0.val * 4 + 1 := rfl
    exact (slab256 _ x0 x1 _ _).trans ((strided _ _ 0 4 1 256 _ _ _ x0 x1 ⟨x0.val * 4 + 1, by omega⟩ rfl).trans
      ((at0 z w a b a' b' _ d x1 e1).trans (tile_at z w a b a' b' 4 40 4 r d _ (by omega) rfl (by rw [hs]; omega)).symm))
  case piece81 =>
    idx_vars x
    have e0 : r.val = x0.val := by simpa using h0
    have e1 : d.val = 0 + x1.val := by simpa using h1
    have hs : (⟨x0.val * 4 + 0, by omega⟩ : Fin 1024).val = x0.val * 4 + 0 := rfl
    exact (slab256 _ x0 x1 _ _).trans ((strided _ _ 0 4 0 256 _ _ _ x0 x1 ⟨x0.val * 4 + 0, by omega⟩ rfl).trans
      ((at0 z w a b a' b' _ d x1 e1).trans (tile_at z w a b a' b' 4 40 4 r d _ (by omega) rfl (by rw [hs]; omega)).symm))

end Cert.ProjATileE
-- ==== Proof.ProjATileF.lean ====
module

public import proofs.«01_k».proof.Proof.ProjATile

@[expose] public section

set_option maxRecDepth 16384

noncomputable section

namespace Cert.ProjATileF

open Idealize.ShloMosaic Idealize.ShloMosaic.TcCoe Idealize.SL.Sem
open Cert.Kernel8Ideal Cert.Kernel8Ideal.Gen
open Cert.RopeTab Cert.ProjATile

section
variable (z : Vec Ideal S1024x2048 .bf16) (w : Vec Ideal S2048x1280 .bf16) (a b a' b' : Vec Ideal S1024x128 .f32)

theorem at0 (s : Fin 1024) (d : Fin 1280) (u : Fin 128) (hd : d.val = 0 + u.val) :
    k0_pay240 z w (ix2 s u) = chunk z w a b a' b' 50 s d := by
  unfold chunk val
  rw [if_neg (by omega), if_neg (by omega), if_neg (by omega), if_neg (by omega), if_neg (by omega)]
  rw [show d = ⟨0 + u.val, by omega⟩ from Fin.ext hd]
  unfold pre
  pointwise [k0_pay239, k0_pay240]

theorem at1 (s : Fin 1024) (d : Fin 1280) (u : Fin 128) (hd : d.val = 128 + u.val) :
    k0_pay241 z w (ix2 s u) = chunk z w a b a' b' 51 s d := by
  unfold chunk val
  rw [if_neg (by omega), if_neg (by omega), if_neg (by omega), if_neg (by omega), if_neg (by omega)]
  rw [show d = ⟨128 + u.val, by omega⟩ from Fin.ext hd]
  unfold pre
  pointwise [k0_pay239, k0_pay241]

theorem at2 (s : Fin 1024) (d : Fin 1280) (u : Fin 128) (hd : d.val = 256 + u.val) :
    k0_pay242 z w (ix3 0 s u) = chunk z w a b a' b' 52 s d := by
  unfold chunk val
  rw [if_neg (by omega), if_neg (by omega), if_neg (by omega), if_neg (by omega), if_neg (by omega)]
  rw [show d = ⟨256 + u.val, by omega⟩ from Fin.ext hd]
  unfold pre
  pointwise [k0_pay239, k0_pay242]

theorem at3 (s : Fin 1024) (d : Fin 1280) (u : Fin 128) (hd : d.val = 384 + u.val) :
    k0_pay247 (k0_pay239 z w) (ix3 0 s u) = chunk z w a b a' b' 53 s d := by
  unfold chunk val
  rw [if_neg (by omega), if_neg (by omega), if_neg (by omega), if_neg (by omega), if_neg (by omega)]
  rw [show d = ⟨384 + u.val, by omega⟩ from Fin.ext hd]
  unfold pre
  pointwise [k0_pay239, k0_pay247]

theorem at4 (s : Fin 1024) (d : Fin 1280) (u : Fin 128) (hd : d.val = 512 + u.val) :
    k0_pay253 (k0_pay252 (k0_pay239 z w)) (ix3 0 s u) = chunk z w a b a' b' 54 s d := by
  unfold chunk val
  rw [if_neg (by omega), if_neg (by omega), if_neg (by omega), if_neg (by omega), if_neg (by omega)]
  rw [show d = ⟨512 + u.val, by omega⟩ from Fin.ext hd]
  unfold pre
  pointwise [k0_pay239, k0_pay252, k0_pay253]

theorem at5 (s : Fin 1024) (d : Fin 1280) (u : Fin 128) (hd : d.val = 640 + u.val) :
    k0_pay258 (k0_pay239 z w) (ix3 0 s u) = chunk z w a b a' b' 55 s d := by
  unfold chunk val
  rw [if_neg (by omega), if_neg (by omega), if_neg (by omega), if_neg (by omega), if_neg (by omega)]
  rw [show d = ⟨640 + u.val, by omega⟩ from Fin.ext hd]
  unfold pre
  pointwise [k0_pay239, k0_pay258]

theorem at6 (s : Fin 1024) (d : Fin 1280) (u : Fin 128) (hd : d.val = 768 + u.val) :
    k0_pay263 (k0_pay239 z w) (ix3 0 s u) = chunk z w a b a' b' 56 s d := by
  unfold chunk val
  rw [if_neg (by omega), if_neg (by omega), if_neg (by omega), if_neg (by omega), if_neg (by omega)]
  rw [show d = ⟨768 + u.val, by omega⟩ from Fin.ext hd]
  unfold pre
  pointwise [k0_pay239, k0_pay263]

theorem at7 (s : Fin 1024) (d : Fin 1280) (u : Fin 128) (hd : d.val = 896 + u.val) :
    k0_pay280 (k0_pay239 z w) (ix3 0 s u) = chunk z w a b a' b' 57 s d := by
  unfold chunk val
  rw [if_neg (by omega), if_neg (by omega), if_neg (by omega), if_neg (by omega), if_neg (by omega)]
  rw [show d = ⟨896 + u.val, by omega⟩ from Fin.ext hd]
  unfold pre
  pointwise [k0_pay239, k0_pay280]

theorem at8 (s : Fin 1024) (d : Fin 1280) (u : Fin 128) (hd : d.val = 1024 + u.val) :
    k0_pay297 (k0_pay239 z w) (ix3 0 s u) = chunk z w a b a' b' 58 s d := by
  unfold chunk val
  rw [if_neg (by omega), if_neg (by omega), if_neg (by omega), if_neg (by omega), if_neg (by omega)]
  rw [show d = ⟨1024 + u.val, by omega⟩ from Fin.ext hd]
  unfold pre
  pointwise [k0_pay239, k0_pay297]

theorem at9 (s : Fin 1024) (d : Fin 1280) (u : Fin 128) (hd : d.val = 1152 + u.val) :
    k0_pay315 (k0_pay314 (k0_pay239 z w)) (ix3 0 s u) = chunk z w a b a' b' 59 s d := by
  unfold chunk val
  rw [if_neg (by omega), if_neg (by omega), if_neg (by omega), if_neg (by omega), if_neg (by omega)]
  rw [show d = ⟨1152 + u.val, by omega⟩ from Fin.ext hd]
  unfold pre
  pointwise [k0_pay239, k0_pay314, k0_pay315]

end

variable (m : (ℓ : Loc nD τ sig) → Buf (Elt Ideal) ℓ)

set_option maxHeartbeats 4000000 in
/-- The stores of column block 5. -/
theorem out (c : Dev nD) (t : Fin cfg0.N) (h0 : t.val % 6 = 5) (r : Fin 1024) (d : Fin 1280) :
    (outsAt0 m c t.val t.isLt).1 (ix2 r d) = tile (outsAt0 m c (t.val - 1) (Nat.lt_of_le_of_lt (Nat.sub_le _ _) t.isLt)).2
      (iblk m c 2 t) (iblk m c 3 t) (iblk m c 4 t) (iblk m c 5 t) (iblk m c 6 t) 5 r d := by
  rw [outsAt0_F m c t (by omega) (by omega) (by omega) (by omega) (by omega) (by omega) h0]
  frame_out
  generalize (outsAt0 m c (t.val - 1) (Nat.lt_of_le_of_lt (Nat.sub_le _ _) t.isLt)).2 = z
  generalize (iblk m c 3 t : Vec Ideal S1024x128 .f32) = a
  generalize (iblk m c 4 t : Vec Ideal S1024x128 .f32) = b
  generalize (iblk m c 5 t : Vec Ideal S1024x128 .f32) = a'
  generalize (iblk m c 6 t : Vec Ideal S1024x128 .f32) = b'
  generalize (iblk m c 2 t : Vec Ideal S2048x1280 .bf16) = w
  rw [(Memref.isWhole_whole cc0_scratch0).read_unread z]
  canon_tiles x h using View.cover_of_tiledBy _ ![64, 128] (by sl_kernel_rfl) _
  case piece0 =>
    idx_vars x
    have e0 : r.val = 960 + x0.val := by simpa using h0
    have e1 : d.val = 1152 + x1.val := by simpa using h1
    have hs : (⟨x0.val * 16 + 15, by omega⟩ : Fin 1024).val = x0.val * 16 + 15 := rfl
    exact (slab64 _ x0 x1 _ _).trans ((strided _ _ 9 16 15 64 _ _ _ x0 x1 ⟨x0.val * 16 + 15, by omega⟩ rfl).trans
      ((at9 z w a b a' b' _ d x1 e1).trans (tile_at z w a b a' b' 5 59 16 r d _ (by omega) rfl (by rw [hs]; omega)).symm))
  case piece1 =>
    idx_vars x
    have e0 : r.val = 896 + x0.val := by simpa using h0
    have e1 : d.val = 1152 + x1.val := by simpa using h1
    have hs : (⟨x0.val * 16 + 14, by omega⟩ : Fin 1024).val = x0.val * 16 + 14 := rfl
    exact (slab64 _ x0 x1 _ _).trans ((strided _ _ 9 16 14 64 _ _ _ x0 x1 ⟨x0.val * 16 + 14, by omega⟩ rfl).trans
      ((at9 z w a b a' b' _ d x1 e1).trans (tile_at z w a b a' b' 5 59 16 r d _ (by omega) rfl (by rw [hs]; omega)).symm))
  case piece2 =>
    idx_vars x
    have e0 : r.val = 832 + x0.val := by simpa using h0
    have e1 : d.val = 1152 + x1.val := by simpa using h1
    have hs : (⟨x0.val * 16 + 13, by omega⟩ : Fin 1024).val = x0.val * 16 + 13 := rfl
    exact (slab64 _ x0 x1 _ _).trans ((strided _ _ 9 16 13 64 _ _ _ x0 x1 ⟨x0.val * 16 + 13, by omega⟩ rfl).trans
      ((at9 z w a b a' b' _ d x1 e1).trans (tile_at z w a b a' b' 5 59 16 r d _ (by omega) rfl (by rw [hs]; omega)).symm))
  case piece3 =>
    idx_vars x
    have e0 : r.val = 768 + x0.val := by simpa using h0
    have e1 : d.val = 1152 + x1.val := by simpa using h1
    have hs : (⟨x0.val * 16 + 12, by omega⟩ : Fin 1024).val = x0.val * 16 + 12 := rfl
    exact (slab64 _ x0 x1 _ _).trans ((strided _ _ 9 16 12 64 _ _ _ x0 x1 ⟨x0.val * 16 + 12, by omega⟩ rfl).trans
      ((at9 z w a b a' b' _ d x1 e1).trans (tile_at z w a b a' b' 5 59 16 r d _ (by omega) rfl (by rw [hs]; omega)).symm))
  case piece4 =>
    idx_vars x
    have e0 : r.val = 704 + x0.val := by simpa using h0
    have e1 : d.val = 1152 + x1.val := by simpa using h1
    have hs : (⟨x0.val * 16 + 11, by omega⟩ : Fin 1024).val = x0.val * 16 + 11 := rfl
    exact (slab64 _ x0 x1 _ _).trans ((strided _ _ 9 16 11 64 _ _ _ x0 x1 ⟨x0.val * 16 + 11, by omega⟩ rfl).trans
      ((at9 z w a b a' b' _ d x1 e1).trans (tile_at z w a b a' b' 5 59 16 r d _ (by omega) rfl (by rw [hs]; omega)).symm))
  case piece5 =>
    idx_vars x
    have e0 : r.val = 640 + x0.val := by simpa using h0
    have e1 : d.val = 1152 + x1.val := by simpa using h1
    have hs : (⟨x0.val * 16 + 10, by omega⟩ : Fin 1024).val = x0.val * 16 + 10 := rfl
    exact (slab64 _ x0 x1 _ _).trans ((strided _ _ 9 16 10 64 _ _ _ x0 x1 ⟨x0.val * 16 + 10, by omega⟩ rfl).trans
      ((at9 z w a b a' b' _ d x1 e1).trans (tile_at z w a b a' b' 5 59 16 r d _ (by omega) rfl (by rw [hs]; omega)).symm))
  case piece6 =>
    idx_vars x
    have e0 : r.val = 576 + x0.val := by simpa using h0
    have e1 : d.val = 1152 + x1.val := by simpa using h1
    have hs : (⟨x0.val * 16 + 9, by omega⟩ : Fin 1024).val = x0.val * 16 + 9 := rfl
    exact (slab64 _ x0 x1 _ _).trans ((strided _ _ 9 16 9 64 _ _ _ x0 x1 ⟨x0.val * 16 + 9, by omega⟩ rfl).trans
      ((at9 z w a b a' b' _ d x1 e1).trans (tile_at z w a b a' b' 5 59 16 r d _ (by omega) rfl (by rw [hs]; omega)).symm))
  case piece7 =>
    idx_vars x
    have e0 : r.val = 512 + x0.val := by simpa using h0
    have e1 : d.val = 1152 + x1.val := by simpa using h1
    have hs : (⟨x0.val * 16 + 8, by omega⟩ : Fin 1024).val = x0.val * 16 + 8 := rfl
    exact (slab64 _ x0 x1 _ _).trans ((strided _ _ 9 16 8 64 _ _ _ x0 x1 ⟨x0.val * 16 + 8, by omega⟩ rfl).trans
      ((at9 z w a b a' b' _ d x1 e1).trans (tile_at z w a b a' b' 5 59 16 r d _ (by omega) rfl (by rw [hs]; omega)).symm))
  case piece8 =>
    idx_vars x
    have e0 : r.val = 448 + x0.val := by simpa using h0
    have e1 : d.val = 1152 + x1.val := by simpa using h1
    have hs : (⟨x0.val * 16 + 7, by omega⟩ : Fin 1024).val = x0.val * 16 + 7 := rfl
    exact (slab64 _ x0 x1 _ _).trans ((strided _ _ 9 16 7 64 _ _ _ x0 x1 ⟨x0.val * 16 + 7, by omega⟩ rfl).trans
      ((at9 z w a b a' b' _ d x1 e1).trans (tile_at z w a b a' b' 5 59 16 r d _ (by omega) rfl (by rw [hs]; omega)).symm))
  case piece9 =>
    idx_vars x
    have e0 : r.val = 384 + x0.val := by simpa using h0
    have e1 : d.val = 1152 + x1.val := by simpa using h1
    have hs : (⟨x0.val * 16 + 6, by omega⟩ : Fin 1024).val = x0.val * 16 + 6 := rfl
    exact (slab64 _ x0 x1 _ _).trans ((strided _ _ 9 16 6 64 _ _ _ x0 x1 ⟨x0.val * 16 + 6, by omega⟩ rfl).trans
      ((at9 z w a b a' b' _ d x1 e1).trans (tile_at z w a b a' b' 5 59 16 r d _ (by omega) rfl (by rw [hs]; omega)).symm))
  case piece10 =>
    idx_vars x
    have e0 : r.val = 320 + x0.val := by simpa using h0
    have e1 : d.val = 1152 + x1.val := by simpa using h1
    have hs : (⟨x0.val * 16 + 5, by omega⟩ : Fin 1024).val = x0.val * 16 + 5 := rfl
    exact (slab64 _ x0 x1 _ _).trans ((strided _ _ 9 16 5 64 _ _ _ x0 x1 ⟨x0.val * 16 + 5, by omega⟩ rfl).trans
      ((at9 z w a b a' b' _ d x1 e1).trans (tile_at z w a b a' b' 5 59 16 r d _ (by omega) rfl (by rw [hs]; omega)).symm))
  case piece11 =>
    idx_vars x
    have e0 : r.val = 256 + x0.val := by simpa using h0
    have e1 : d.val = 1152 + x1.val := by simpa using h1
    have hs : (⟨x0.val * 16 + 4, by omega⟩ : Fin 1024).val = x0.val * 16 + 4 := rfl
    exact (slab64 _ x0 x1 _ _).trans ((strided _ _ 9 16 4 64 _ _ _ x0 x1 ⟨x0.val * 16 + 4, by omega⟩ rfl).trans
      ((at9 z w a b a' b' _ d x1 e1).trans (tile_at z w a b a' b' 5 59 16 r d _ (by omega) rfl (by rw [hs]; omega)).symm))
  case piece12 =>
    idx_vars x
    have e0 : r.val = 192 + x0.val := by simpa using h0
    have e1 : d.val = 1152 + x1.val := by simpa using h1
    have hs : (⟨x0.val * 16 + 3, by omega⟩ : Fin 1024).val = x0.val * 16 + 3 := rfl
    exact (slab64 _ x0 x1 _ _).trans ((strided _ _ 9 16 3 64 _ _ _ x0 x1 ⟨x0.val * 16 + 3, by omega⟩ rfl).trans
      ((at9 z w a b a' b' _ d x1 e1).trans (tile_at z w a b a' b' 5 59 16 r d _ (by omega) rfl (by rw [hs]; omega)).symm))
  case piece13 =>
    idx_vars x
    have e0 : r.val = 128 + x0.val := by simpa using h0
    have e1 : d.val = 1152 + x1.val := by simpa using h1
    have hs : (⟨x0.val * 16 + 2, by omega⟩ : Fin 1024).val = x0.val * 16 + 2 := rfl
    exact (slab64 _ x0 x1 _ _).trans ((strided _ _ 9 16 2 64 _ _ _ x0 x1 ⟨x0.val * 16 + 2, by omega⟩ rfl).trans
      ((at9 z w a b a' b' _ d x1 e1).trans (tile_at z w a b a' b' 5 59 16 r d _ (by omega) rfl (by rw [hs]; omega)).symm))
  case piece14 =>
    idx_vars x
    have e0 : r.val = 64 + x0.val := by simpa using h0
    have e1 : d.val = 1152 + x1.val := by simpa using h1
    have hs : (⟨x0.val * 16 + 1, by omega⟩ : Fin 1024).val = x0.val * 16 + 1 := rfl
    exact (slab64 _ x0 x1 _ _).trans ((strided _ _ 9 16 1 64 _ _ _ x0 x1 ⟨x0.val * 16 + 1, by omega⟩ rfl).trans
      ((at9 z w a b a' b' _ d x1 e1).trans (tile_at z w a b a' b' 5 59 16 r d _ (by omega) rfl (by rw [hs]; omega)).symm))
  case piece15 =>
    idx_vars x
    have e0 : r.val = x0.val := by simpa using h0
    have e1 : d.val = 1152 + x1.val := by simpa using h1
    have hs : (⟨x0.val * 16 + 0, by omega⟩ : Fin 1024).val = x0.val * 16 + 0 := rfl
    exact (slab64 _ x0 x1 _ _).trans ((strided _ _ 9 16 0 64 _ _ _ x0 x1 ⟨x0.val * 16 + 0, by omega⟩ rfl).trans
      ((at9 z w a b a' b' _ d x1 e1).trans (tile_at z w a b a' b' 5 59 16 r d _ (by omega) rfl (by rw [hs]; omega)).symm))
  case piece16 =>
    idx_vars x
    have e0 : r.val = 960 + x0.val := by simpa using h0
    have e1 : d.val = 1024 + x1.val := by simpa using h1
    have hs : (⟨x0.val * 16 + 15, by omega⟩ : Fin 1024).val = x0.val * 16 + 15 := rfl
    exact (slab64 _ x0 x1 _ _).trans ((strided _ _ 8 16 15 64 _ _ _ x0 x1 ⟨x0.val * 16 + 15, by omega⟩ rfl).trans
      ((at8 z w a b a' b' _ d x1 e1).trans (tile_at z w a b a' b' 5 58 16 r d _ (by omega) rfl (by rw [hs]; omega)).symm))
  case piece17 =>
    idx_vars x
    have e0 : r.val = 896 + x0.val := by simpa using h0
    have e1 : d.val = 1024 + x1.val := by simpa using h1
    have hs : (⟨x0.val * 16 + 14, by omega⟩ : Fin 1024).val = x0.val * 16 + 14 := rfl
    exact (slab64 _ x0 x1 _ _).trans ((strided _ _ 8 16 14 64 _ _ _ x0 x1 ⟨x0.val * 16 + 14, by omega⟩ rfl).trans
      ((at8 z w a b a' b' _ d x1 e1).trans (tile_at z w a b a' b' 5 58 16 r d _ (by omega) rfl (by rw [hs]; omega)).symm))
  case piece18 =>
    idx_vars x
    have e0 : r.val = 832 + x0.val := by simpa using h0
    have e1 : d.val = 1024 + x1.val := by simpa using h1
    have hs : (⟨x0.val * 16 + 13, by omega⟩ : Fin 1024).val = x0.val * 16 + 13 := rfl
    exact (slab64 _ x0 x1 _ _).trans ((strided _ _ 8 16 13 64 _ _ _ x0 x1 ⟨x0.val * 16 + 13, by omega⟩ rfl).trans
      ((at8 z w a b a' b' _ d x1 e1).trans (tile_at z w a b a' b' 5 58 16 r d _ (by omega) rfl (by rw [hs]; omega)).symm))
  case piece19 =>
    idx_vars x
    have e0 : r.val = 768 + x0.val := by simpa using h0
    have e1 : d.val = 1024 + x1.val := by simpa using h1
    have hs : (⟨x0.val * 16 + 12, by omega⟩ : Fin 1024).val = x0.val * 16 + 12 := rfl
    exact (slab64 _ x0 x1 _ _).trans ((strided _ _ 8 16 12 64 _ _ _ x0 x1 ⟨x0.val * 16 + 12, by omega⟩ rfl).trans
      ((at8 z w a b a' b' _ d x1 e1).trans (tile_at z w a b a' b' 5 58 16 r d _ (by omega) rfl (by rw [hs]; omega)).symm))
  case piece20 =>
    idx_vars x
    have e0 : r.val = 704 + x0.val := by simpa using h0
    have e1 : d.val = 1024 + x1.val := by simpa using h1
    have hs : (⟨x0.val * 16 + 11, by omega⟩ : Fin 1024).val = x0.val * 16 + 11 := rfl
    exact (slab64 _ x0 x1 _ _).trans ((strided _ _ 8 16 11 64 _ _ _ x0 x1 ⟨x0.val * 16 + 11, by omega⟩ rfl).trans
      ((at8 z w a b a' b' _ d x1 e1).trans (tile_at z w a b a' b' 5 58 16 r d _ (by omega) rfl (by rw [hs]; omega)).symm))
  case piece21 =>
    idx_vars x
    have e0 : r.val = 640 + x0.val := by simpa using h0
    have e1 : d.val = 1024 + x1.val := by simpa using h1
    have hs : (⟨x0.val * 16 + 10, by omega⟩ : Fin 1024).val = x0.val * 16 + 10 := rfl
    exact (slab64 _ x0 x1 _ _).trans ((strided _ _ 8 16 10 64 _ _ _ x0 x1 ⟨x0.val * 16 + 10, by omega⟩ rfl).trans
      ((at8 z w a b a' b' _ d x1 e1).trans (tile_at z w a b a' b' 5 58 16 r d _ (by omega) rfl (by rw [hs]; omega)).symm))
  case piece22 =>
    idx_vars x
    have e0 : r.val = 576 + x0.val := by simpa using h0
    have e1 : d.val = 1024 + x1.val := by simpa using h1
    have hs : (⟨x0.val * 16 + 9, by omega⟩ : Fin 1024).val = x0.val * 16 + 9 := rfl
    exact (slab64 _ x0 x1 _ _).trans ((strided _ _ 8 16 9 64 _ _ _ x0 x1 ⟨x0.val * 16 + 9, by omega⟩ rfl).trans
      ((at8 z w a b a' b' _ d x1 e1).trans (tile_at z w a b a' b' 5 58 16 r d _ (by omega) rfl (by rw [hs]; omega)).symm))
  case piece23 =>
    idx_vars x
    have e0 : r.val = 512 + x0.val := by simpa using h0
    have e1 : d.val = 1024 + x1.val := by simpa using h1
    have hs : (⟨x0.val * 16 + 8, by omega⟩ : Fin 1024).val = x0.val * 16 + 8 := rfl
    exact (slab64 _ x0 x1 _ _).trans ((strided _ _ 8 16 8 64 _ _ _ x0 x1 ⟨x0.val * 16 + 8, by omega⟩ rfl).trans
      ((at8 z w a b a' b' _ d x1 e1).trans (tile_at z w a b a' b' 5 58 16 r d _ (by omega) rfl (by rw [hs]; omega)).symm))
  case piece24 =>
    idx_vars x
    have e0 : r.val = 448 + x0.val := by simpa using h0
    have e1 : d.val = 1024 + x1.val := by simpa using h1
    have hs : (⟨x0.val * 16 + 7, by omega⟩ : Fin 1024).val = x0.val * 16 + 7 := rfl
    exact (slab64 _ x0 x1 _ _).trans ((strided _ _ 8 16 7 64 _ _ _ x0 x1 ⟨x0.val * 16 + 7, by omega⟩ rfl).trans
      ((at8 z w a b a' b' _ d x1 e1).trans (tile_at z w a b a' b' 5 58 16 r d _ (by omega) rfl (by rw [hs]; omega)).symm))
  case piece25 =>
    idx_vars x
    have e0 : r.val = 384 + x0.val := by simpa using h0
    have e1 : d.val = 1024 + x1.val := by simpa using h1
    have hs : (⟨x0.val * 16 + 6, by omega⟩ : Fin 1024).val = x0.val * 16 + 6 := rfl
    exact (slab64 _ x0 x1 _ _).trans ((strided _ _ 8 16 6 64 _ _ _ x0 x1 ⟨x0.val * 16 + 6, by omega⟩ rfl).trans
      ((at8 z w a b a' b' _ d x1 e1).trans (tile_at z w a b a' b' 5 58 16 r d _ (by omega) rfl (by rw [hs]; omega)).symm))
  case piece26 =>
    idx_vars x
    have e0 : r.val = 320 + x0.val := by simpa using h0
    have e1 : d.val = 1024 + x1.val := by simpa using h1
    have hs : (⟨x0.val * 16 + 5, by omega⟩ : Fin 1024).val = x0.val * 16 + 5 := rfl
    exact (slab64 _ x0 x1 _ _).trans ((strided _ _ 8 16 5 64 _ _ _ x0 x1 ⟨x0.val * 16 + 5, by omega⟩ rfl).trans
      ((at8 z w a b a' b' _ d x1 e1).trans (tile_at z w a b a' b' 5 58 16 r d _ (by omega) rfl (by rw [hs]; omega)).symm))
  case piece27 =>
    idx_vars x
    have e0 : r.val = 256 + x0.val := by simpa using h0
    have e1 : d.val = 1024 + x1.val := by simpa using h1
    have hs : (⟨x0.val * 16 + 4, by omega⟩ : Fin 1024).val = x0.val * 16 + 4 := rfl
    exact (slab64 _ x0 x1 _ _).trans ((strided _ _ 8 16 4 64 _ _ _ x0 x1 ⟨x0.val * 16 + 4, by omega⟩ rfl).trans
      ((at8 z w a b a' b' _ d x1 e1).trans (tile_at z w a b a' b' 5 58 16 r d _ (by omega) rfl (by rw [hs]; omega)).symm))
  case piece28 =>
    idx_vars x
    have e0 : r.val = 192 + x0.val := by simpa using h0
    have e1 : d.val = 1024 + x1.val := by simpa using h1
    have hs : (⟨x0.val * 16 + 3, by omega⟩ : Fin 1024).val = x0.val * 16 + 3 := rfl
    exact (slab64 _ x0 x1 _ _).trans ((strided _ _ 8 16 3 64 _ _ _ x0 x1 ⟨x0.val * 16 + 3, by omega⟩ rfl).trans
      ((at8 z w a b a' b' _ d x1 e1).trans (tile_at z w a b a' b' 5 58 16 r d _ (by omega) rfl (by rw [hs]; omega)).symm))
  case piece29 =>
    idx_vars x
    have e0 : r.val = 128 + x0.val := by simpa using h0
    have e1 : d.val = 1024 + x1.val := by simpa using h1
    have hs : (⟨x0.val * 16 + 2, by omega⟩ : Fin 1024).val = x0.val * 16 + 2 := rfl
    exact (slab64 _ x0 x1 _ _).trans ((strided _ _ 8 16 2 64 _ _ _ x0 x1 ⟨x0.val * 16 + 2, by omega⟩ rfl).trans
      ((at8 z w a b a' b' _ d x1 e1).trans (tile_at z w a b a' b' 5 58 16 r d _ (by omega) rfl (by rw [hs]; omega)).symm))
  case piece30 =>
    idx_vars x
    have e0 : r.val = 64 + x0.val := by simpa using h0
    have e1 : d.val = 1024 + x1.val := by simpa using h1
    have hs : (⟨x0.val * 16 + 1, by omega⟩ : Fin 1024).val = x0.val * 16 + 1 := rfl
    exact (slab64 _ x0 x1 _ _).trans ((strided _ _ 8 16 1 64 _ _ _ x0 x1 ⟨x0.val * 16 + 1, by omega⟩ rfl).trans
      ((at8 z w a b a' b' _ d x1 e1).trans (tile_at z w a b a' b' 5 58 16 r d _ (by omega) rfl (by rw [hs]; omega)).symm))
  case piece31 =>
    idx_vars x
    have e0 : r.val = x0.val := by simpa using h0
    have e1 : d.val = 1024 + x1.val := by simpa using h1
    have hs : (⟨x0.val * 16 + 0, by omega⟩ : Fin 1024).val = x0.val * 16 + 0 := rfl
    exact (slab64 _ x0 x1 _ _).trans ((strided _ _ 8 16 0 64 _ _ _ x0 x1 ⟨x0.val * 16 + 0, by omega⟩ rfl).trans
      ((at8 z w a b a' b' _ d x1 e1).trans (tile_at z w a b a' b' 5 58 16 r d _ (by omega) rfl (by rw [hs]; omega)).symm))
  case piece32 =>
    idx_vars x
    have e0 : r.val = 960 + x0.val := by simpa using h0
    have e1 : d.val = 896 + x1.val := by simpa using h1
    have hs : (⟨x0.val * 16 + 15, by omega⟩ : Fin 1024).val = x0.val * 16 + 15 := rfl
    exact (slab64 _ x0 x1 _ _).trans ((strided _ _ 7 16 15 64 _ _ _ x0 x1 ⟨x0.val * 16 + 15, by omega⟩ rfl).trans
      ((at7 z w a b a' b' _ d x1 e1).trans (tile_at z w a b a' b' 5 57 16 r d _ (by omega) rfl (by rw [hs]; omega)).symm))
  case piece33 =>
    idx_vars x
    have e0 : r.val = 896 + x0.val := by simpa using h0
    have e1 : d.val = 896 + x1.val := by simpa using h1
    have hs : (⟨x0.val * 16 + 14, by omega⟩ : Fin 1024).val = x0.val * 16 + 14 := rfl
    exact (slab64 _ x0 x1 _ _).trans ((strided _ _ 7 16 14 64 _ _ _ x0 x1 ⟨x0.val * 16 + 14, by omega⟩ rfl).trans
      ((at7 z w a b a' b' _ d x1 e1).trans (tile_at z w a b a' b' 5 57 16 r d _ (by omega) rfl (by rw [hs]; omega)).symm))
  case piece34 =>
    idx_vars x
    have e0 : r.val = 832 + x0.val := by simpa using h0
    have e1 : d.val = 896 + x1.val := by simpa using h1
    have hs : (⟨x0.val * 16 + 13, by omega⟩ : Fin 1024).val = x0.val * 16 + 13 := rfl
    exact (slab64 _ x0 x1 _ _).trans ((strided _ _ 7 16 13 64 _ _ _ x0 x1 ⟨x0.val * 16 + 13, by omega⟩ rfl).trans
      ((at7 z w a b a' b' _ d x1 e1).trans (tile_at z w a b a' b' 5 57 16 r d _ (by omega) rfl (by rw [hs]; omega)).symm))
  case piece35 =>
    idx_vars x
    have e0 : r.val = 768 + x0.val := by simpa using h0
    have e1 : d.val = 896 + x1.val := by simpa using h1
    have hs : (⟨x0.val * 16 + 12, by omega⟩ : Fin 1024).val = x0.val * 16 + 12 := rfl
    exact (slab64 _ x0 x1 _ _).trans ((strided _ _ 7 16 12 64 _ _ _ x0 x1 ⟨x0.val * 16 + 12, by omega⟩ rfl).trans
      ((at7 z w a b a' b' _ d x1 e1).trans (tile_at z w a b a' b' 5 57 16 r d _ (by omega) rfl (by rw [hs]; omega)).symm))
  case piece36 =>
    idx_vars x
    have e0 : r.val = 704 + x0.val := by simpa using h0
    have e1 : d.val = 896 + x1.val := by simpa using h1
    have hs : (⟨x0.val * 16 + 11, by omega⟩ : Fin 1024).val = x0.val * 16 + 11 := rfl
    exact (slab64 _ x0 x1 _ _).trans ((strided _ _ 7 16 11 64 _ _ _ x0 x1 ⟨x0.val * 16 + 11, by omega⟩ rfl).trans
      ((at7 z w a b a' b' _ d x1 e1).trans (tile_at z w a b a' b' 5 57 16 r d _ (by omega) rfl (by rw [hs]; omega)).symm))
  case piece37 =>
    idx_vars x
    have e0 : r.val = 640 + x0.val := by simpa using h0
    have e1 : d.val = 896 + x1.val := by simpa using h1
    have hs : (⟨x0.val * 16 + 10, by omega⟩ : Fin 1024).val = x0.val * 16 + 10 := rfl
    exact (slab64 _ x0 x1 _ _).trans ((strided _ _ 7 16 10 64 _ _ _ x0 x1 ⟨x0.val * 16 + 10, by omega⟩ rfl).trans
      ((at7 z w a b a' b' _ d x1 e1).trans (tile_at z w a b a' b' 5 57 16 r d _ (by omega) rfl (by rw [hs]; omega)).symm))
  case piece38 =>
    idx_vars x
    have e0 : r.val = 576 + x0.val := by simpa using h0
    have e1 : d.val = 896 + x1.val := by simpa using h1
    have hs : (⟨x0.val * 16 + 9, by omega⟩ : Fin 1024).val = x0.val * 16 + 9 := rfl
    exact (slab64 _ x0 x1 _ _).trans ((strided _ _ 7 16 9 64 _ _ _ x0 x1 ⟨x0.val * 16 + 9, by omega⟩ rfl).trans
      ((at7 z w a b a' b' _ d x1 e1).trans (tile_at z w a b a' b' 5 57 16 r d _ (by omega) rfl (by rw [hs]; omega)).symm))
  case piece39 =>
    idx_vars x
    have e0 : r.val = 512 + x0.val := by simpa using h0
    have e1 : d.val = 896 + x1.val := by simpa using h1
    have hs : (⟨x0.val * 16 + 8, by omega⟩ : Fin 1024).val = x0.val * 16 + 8 := rfl
    exact (slab64 _ x0 x1 _ _).trans ((strided _ _ 7 16 8 64 _ _ _ x0 x1 ⟨x0.val * 16 + 8, by omega⟩ rfl).trans
      ((at7 z w a b a' b' _ d x1 e1).trans (tile_at z w a b a' b' 5 57 16 r d _ (by omega) rfl (by rw [hs]; omega)).symm))
  case piece40 =>
    idx_vars x
    have e0 : r.val = 448 + x0.val := by simpa using h0
    have e1 : d.val = 896 + x1.val := by simpa using h1
    have hs : (⟨x0.val * 16 + 7, by omega⟩ : Fin 1024).val = x0.val * 16 + 7 := rfl
    exact (slab64 _ x0 x1 _ _).trans ((strided _ _ 7 16 7 64 _ _ _ x0 x1 ⟨x0.val * 16 + 7, by omega⟩ rfl).trans
      ((at7 z w a b a' b' _ d x1 e1).trans (tile_at z w a b a' b' 5 57 16 r d _ (by omega) rfl (by rw [hs]; omega)).symm))
  case piece41 =>
    idx_vars x
    have e0 : r.val = 384 + x0.val := by simpa using h0
    have e1 : d.val = 896 + x1.val := by simpa using h1
    have hs : (⟨x0.val * 16 + 6, by omega⟩ : Fin 1024).val = x0.val * 16 + 6 := rfl
    exact (slab64 _ x0 x1 _ _).trans ((strided _ _ 7 16 6 64 _ _ _ x0 x1 ⟨x0.val * 16 + 6, by omega⟩ rfl).trans
      ((at7 z w a b a' b' _ d x1 e1).trans (tile_at z w a b a' b' 5 57 16 r d _ (by omega) rfl (by rw [hs]; omega)).symm))
  case piece42 =>
    idx_vars x
    have e0 : r.val = 320 + x0.val := by simpa using h0
    have e1 : d.val = 896 + x1.val := by simpa using h1
    have hs : (⟨x0.val * 16 + 5, by omega⟩ : Fin 1024).val = x0.val * 16 + 5 := rfl
    exact (slab64 _ x0 x1 _ _).trans ((strided _ _ 7 16 5 64 _ _ _ x0 x1 ⟨x0.val * 16 + 5, by omega⟩ rfl).trans
      ((at7 z w a b a' b' _ d x1 e1).trans (tile_at z w a b a' b' 5 57 16 r d _ (by omega) rfl (by rw [hs]; omega)).symm))
  case piece43 =>
    idx_vars x
    have e0 : r.val = 256 + x0.val := by simpa using h0
    have e1 : d.val = 896 + x1.val := by simpa using h1
    have hs : (⟨x0.val * 16 + 4, by omega⟩ : Fin 1024).val = x0.val * 16 + 4 := rfl
    exact (slab64 _ x0 x1 _ _).trans ((strided _ _ 7 16 4 64 _ _ _ x0 x1 ⟨x0.val * 16 + 4, by omega⟩ rfl).trans
      ((at7 z w a b a' b' _ d x1 e1).trans (tile_at z w a b a' b' 5 57 16 r d _ (by omega) rfl (by rw [hs]; omega)).symm))
  case piece44 =>
    idx_vars x
    have e0 : r.val = 192 + x0.val := by simpa using h0
    have e1 : d.val = 896 + x1.val := by simpa using h1
    have hs : (⟨x0.val * 16 + 3, by omega⟩ : Fin 1024).val = x0.val * 16 + 3 := rfl
    exact (slab64 _ x0 x1 _ _).trans ((strided _ _ 7 16 3 64 _ _ _ x0 x1 ⟨x0.val * 16 + 3, by omega⟩ rfl).trans
      ((at7 z w a b a' b' _ d x1 e1).trans (tile_at z w a b a' b' 5 57 16 r d _ (by omega) rfl (by rw [hs]; omega)).symm))
  case piece45 =>
    idx_vars x
    have e0 : r.val = 128 + x0.val := by simpa using h0
    have e1 : d.val = 896 + x1.val := by simpa using h1
    have hs : (⟨x0.val * 16 + 2, by omega⟩ : Fin 1024).val = x0.val * 16 + 2 := rfl
    exact (slab64 _ x0 x1 _ _).trans ((strided _ _ 7 16 2 64 _ _ _ x0 x1 ⟨x0.val * 16 + 2, by omega⟩ rfl).trans
      ((at7 z w a b a' b' _ d x1 e1).trans (tile_at z w a b a' b' 5 57 16 r d _ (by omega) rfl (by rw [hs]; omega)).symm))
  case piece46 =>
    idx_vars x
    have e0 : r.val = 64 + x0.val := by simpa using h0
    have e1 : d.val = 896 + x1.val := by simpa using h1
    have hs : (⟨x0.val * 16 + 1, by omega⟩ : Fin 1024).val = x0.val * 16 + 1 := rfl
    exact (slab64 _ x0 x1 _ _).trans ((strided _ _ 7 16 1 64 _ _ _ x0 x1 ⟨x0.val * 16 + 1, by omega⟩ rfl).trans
      ((at7 z w a b a' b' _ d x1 e1).trans (tile_at z w a b a' b' 5 57 16 r d _ (by omega) rfl (by rw [hs]; omega)).symm))
  case piece47 =>
    idx_vars x
    have e0 : r.val = x0.val := by simpa using h0
    have e1 : d.val = 896 + x1.val := by simpa using h1
    have hs : (⟨x0.val * 16 + 0, by omega⟩ : Fin 1024).val = x0.val * 16 + 0 := rfl
    exact (slab64 _ x0 x1 _ _).trans ((strided _ _ 7 16 0 64 _ _ _ x0 x1 ⟨x0.val * 16 + 0, by omega⟩ rfl).trans
      ((at7 z w a b a' b' _ d x1 e1).trans (tile_at z w a b a' b' 5 57 16 r d _ (by omega) rfl (by rw [hs]; omega)).symm))
  case piece48 =>
    idx_vars x
    have e0 : r.val = 960 + x0.val := by simpa using h0
    have e1 : d.val = 768 + x1.val := by simpa using h1
    have hs : (⟨x0.val * 16 + 15, by omega⟩ : Fin 1024).val = x0.val * 16 + 15 := rfl
    exact (slab64 _ x0 x1 _ _).trans ((strided _ _ 6 16 15 64 _ _ _ x0 x1 ⟨x0.val * 16 + 15, by omega⟩ rfl).trans
      ((at6 z w a b a' b' _ d x1 e1).trans (tile_at z w a b a' b' 5 56 16 r d _ (by omega) rfl (by rw [hs]; omega)).symm))
  case piece49 =>
    idx_vars x
    have e0 : r.val = 896 + x0.val := by simpa using h0
    have e1 : d.val = 768 + x1.val := by simpa using h1
    have hs : (⟨x0.val * 16 + 14, by omega⟩ : Fin 1024).val = x0.val * 16 + 14 := rfl
    exact (slab64 _ x0 x1 _ _).trans ((strided _ _ 6 16 14 64 _ _ _ x0 x1 ⟨x0.val * 16 + 14, by omega⟩ rfl).trans
      ((at6 z w a b a' b' _ d x1 e1).trans (tile_at z w a b a' b' 5 56 16 r d _ (by omega) rfl (by rw [hs]; omega)).symm))
  case piece50 =>
    idx_vars x
    have e0 : r.val = 832 + x0.val := by simpa using h0
    have e1 : d.val = 768 + x1.val := by simpa using h1
    have hs : (⟨x0.val * 16 + 13, by omega⟩ : Fin 1024).val = x0.val * 16 + 13 := rfl
    exact (slab64 _ x0 x1 _ _).trans ((strided _ _ 6 16 13 64 _ _ _ x0 x1 ⟨x0.val * 16 + 13, by omega⟩ rfl).trans
      ((at6 z w a b a' b' _ d x1 e1).trans (tile_at z w a b a' b' 5 56 16 r d _ (by omega) rfl (by rw [hs]; omega)).symm))
  case piece51 =>
    idx_vars x
    have e0 : r.val = 768 + x0.val := by simpa using h0
    have e1 : d.val = 768 + x1.val := by simpa using h1
    have hs : (⟨x0.val * 16 + 12, by omega⟩ : Fin 1024).val = x0.val * 16 + 12 := rfl
    exact (slab64 _ x0 x1 _ _).trans ((strided _ _ 6 16 12 64 _ _ _ x0 x1 ⟨x0.val * 16 + 12, by omega⟩ rfl).trans
      ((at6 z w a b a' b' _ d x1 e1).trans (tile_at z w a b a' b' 5 56 16 r d _ (by omega) rfl (by rw [hs]; omega)).symm))
  case piece52 =>
    idx_vars x
    have e0 : r.val = 704 + x0.val := by simpa using h0
    have e1 : d.val = 768 + x1.val := by simpa using h1
    have hs : (⟨x0.val * 16 + 11, by omega⟩ : Fin 1024).val = x0.val * 16 + 11 := rfl
    exact (slab64 _ x0 x1 _ _).trans ((strided _ _ 6 16 11 64 _ _ _ x0 x1 ⟨x0.val * 16 + 11, by omega⟩ rfl).trans
      ((at6 z w a b a' b' _ d x1 e1).trans (tile_at z w a b a' b' 5 56 16 r d _ (by omega) rfl (by rw [hs]; omega)).symm))
  case piece53 =>
    idx_vars x
    have e0 : r.val = 640 + x0.val := by simpa using h0
    have e1 : d.val = 768 + x1.val := by simpa using h1
    have hs : (⟨x0.val * 16 + 10, by omega⟩ : Fin 1024).val = x0.val * 16 + 10 := rfl
    exact (slab64 _ x0 x1 _ _).trans ((strided _ _ 6 16 10 64 _ _ _ x0 x1 ⟨x0.val * 16 + 10, by omega⟩ rfl).trans
      ((at6 z w a b a' b' _ d x1 e1).trans (tile_at z w a b a' b' 5 56 16 r d _ (by omega) rfl (by rw [hs]; omega)).symm))
  case piece54 =>
    idx_vars x
    have e0 : r.val = 576 + x0.val := by simpa using h0
    have e1 : d.val = 768 + x1.val := by simpa using h1
    have hs : (⟨x0.val * 16 + 9, by omega⟩ : Fin 1024).val = x0.val * 16 + 9 := rfl
    exact (slab64 _ x0 x1 _ _).trans ((strided _ _ 6 16 9 64 _ _ _ x0 x1 ⟨x0.val * 16 + 9, by omega⟩ rfl).trans
      ((at6 z w a b a' b' _ d x1 e1).trans (tile_at z w a b a' b' 5 56 16 r d _ (by omega) rfl (by rw [hs]; omega)).symm))
  case piece55 =>
    idx_vars x
    have e0 : r.val = 512 + x0.val := by simpa using h0
    have e1 : d.val = 768 + x1.val := by simpa using h1
    have hs : (⟨x0.val * 16 + 8, by omega⟩ : Fin 1024).val = x0.val * 16 + 8 := rfl
    exact (slab64 _ x0 x1 _ _).trans ((strided _ _ 6 16 8 64 _ _ _ x0 x1 ⟨x0.val * 16 + 8, by omega⟩ rfl).trans
      ((at6 z w a b a' b' _ d x1 e1).trans (tile_at z w a b a' b' 5 56 16 r d _ (by omega) rfl (by rw [hs]; omega)).symm))
  case piece56 =>
    idx_vars x
    have e0 : r.val = 448 + x0.val := by simpa using h0
    have e1 : d.val = 768 + x1.val := by simpa using h1
    have hs : (⟨x0.val * 16 + 7, by omega⟩ : Fin 1024).val = x0.val * 16 + 7 := rfl
    exact (slab64 _ x0 x1 _ _).trans ((strided _ _ 6 16 7 64 _ _ _ x0 x1 ⟨x0.val * 16 + 7, by omega⟩ rfl).trans
      ((at6 z w a b a' b' _ d x1 e1).trans (tile_at z w a b a' b' 5 56 16 r d _ (by omega) rfl (by rw [hs]; omega)).symm))
  case piece57 =>
    idx_vars x
    have e0 : r.val = 384 + x0.val := by simpa using h0
    have e1 : d.val = 768 + x1.val := by simpa using h1
    have hs : (⟨x0.val * 16 + 6, by omega⟩ : Fin 1024).val = x0.val * 16 + 6 := rfl
    exact (slab64 _ x0 x1 _ _).trans ((strided _ _ 6 16 6 64 _ _ _ x0 x1 ⟨x0.val * 16 + 6, by omega⟩ rfl).trans
      ((at6 z w a b a' b' _ d x1 e1).trans (tile_at z w a b a' b' 5 56 16 r d _ (by omega) rfl (by rw [hs]; omega)).symm))
  case piece58 =>
    idx_vars x
    have e0 : r.val = 320 + x0.val := by simpa using h0
    have e1 : d.val = 768 + x1.val := by simpa using h1
    have hs : (⟨x0.val * 16 + 5, by omega⟩ : Fin 1024).val = x0.val * 16 + 5 := rfl
    exact (slab64 _ x0 x1 _ _).trans ((strided _ _ 6 16 5 64 _ _ _ x0 x1 ⟨x0.val * 16 + 5, by omega⟩ rfl).trans
      ((at6 z w a b a' b' _ d x1 e1).trans (tile_at z w a b a' b' 5 56 16 r d _ (by omega) rfl (by rw [hs]; omega)).symm))
  case piece59 =>
    idx_vars x
    have e0 : r.val = 256 + x0.val := by simpa using h0
    have e1 : d.val = 768 + x1.val := by simpa using h1
    have hs : (⟨x0.val * 16 + 4, by omega⟩ : Fin 1024).val = x0.val * 16 + 4 := rfl
    exact (slab64 _ x0 x1 _ _).trans ((strided _ _ 6 16 4 64 _ _ _ x0 x1 ⟨x0.val * 16 + 4, by omega⟩ rfl).trans
      ((at6 z w a b a' b' _ d x1 e1).trans (tile_at z w a b a' b' 5 56 16 r d _ (by omega) rfl (by rw [hs]; omega)).symm))
  case piece60 =>
    idx_vars x
    have e0 : r.val = 192 + x0.val := by simpa using h0
    have e1 : d.val = 768 + x1.val := by simpa using h1
    have hs : (⟨x0.val * 16 + 3, by omega⟩ : Fin 1024).val = x0.val * 16 + 3 := rfl
    exact (slab64 _ x0 x1 _ _).trans ((strided _ _ 6 16 3 64 _ _ _ x0 x1 ⟨x0.val * 16 + 3, by omega⟩ rfl).trans
      ((at6 z w a b a' b' _ d x1 e1).trans (tile_at z w a b a' b' 5 56 16 r d _ (by omega) rfl (by rw [hs]; omega)).symm))
  case piece61 =>
    idx_vars x
    have e0 : r.val = 128 + x0.val := by simpa using h0
    have e1 : d.val = 768 + x1.val := by simpa using h1
    have hs : (⟨x0.val * 16 + 2, by omega⟩ : Fin 1024).val = x0.val * 16 + 2 := rfl
    exact (slab64 _ x0 x1 _ _).trans ((strided _ _ 6 16 2 64 _ _ _ x0 x1 ⟨x0.val * 16 + 2, by omega⟩ rfl).trans
      ((at6 z w a b a' b' _ d x1 e1).trans (tile_at z w a b a' b' 5 56 16 r d _ (by omega) rfl (by rw [hs]; omega)).symm))
  case piece62 =>
    idx_vars x
    have e0 : r.val = 64 + x0.val := by simpa using h0
    have e1 : d.val = 768 + x1.val := by simpa using h1
    have hs : (⟨x0.val * 16 + 1, by omega⟩ : Fin 1024).val = x0.val * 16 + 1 := rfl
    exact (slab64 _ x0 x1 _ _).trans ((strided _ _ 6 16 1 64 _ _ _ x0 x1 ⟨x0.val * 16 + 1, by omega⟩ rfl).trans
      ((at6 z w a b a' b' _ d x1 e1).trans (tile_at z w a b a' b' 5 56 16 r d _ (by omega) rfl (by rw [hs]; omega)).symm))
  case piece63 =>
    idx_vars x
    have e0 : r.val = x0.val := by simpa using h0
    have e1 : d.val = 768 + x1.val := by simpa using h1
    have hs : (⟨x0.val * 16 + 0, by omega⟩ : Fin 1024).val = x0.val * 16 + 0 := rfl
    exact (slab64 _ x0 x1 _ _).trans ((strided _ _ 6 16 0 64 _ _ _ x0 x1 ⟨x0.val * 16 + 0, by omega⟩ rfl).trans
      ((at6 z w a b a' b' _ d x1 e1).trans (tile_at z w a b a' b' 5 56 16 r d _ (by omega) rfl (by rw [hs]; omega)).symm))
  case piece64 =>
    idx_vars x
    have e0 : r.val = 768 + x0.val := by simpa using h0
    have e1 : d.val = 640 + x1.val := by simpa using h1
    have hs : (⟨x0.val * 4 + 3, by omega⟩ : Fin 1024).val = x0.val * 4 + 3 := rfl
    exact (slab256 _ x0 x1 _ _).trans ((strided _ _ 5 4 3 256 _ _ _ x0 x1 ⟨x0.val * 4 + 3, by omega⟩ rfl).trans
      ((at5 z w a b a' b' _ d x1 e1).trans (tile_at z w a b a' b' 5 55 4 r d _ (by omega) rfl (by rw [hs]; omega)).symm))
  case piece65 =>
    idx_vars x
    have e0 : r.val = 512 + x0.val := by simpa using h0
    have e1 : d.val = 640 + x1.val := by simpa using h1
    have hs : (⟨x0.val * 4 + 2, by omega⟩ : Fin 1024).val = x0.val * 4 + 2 := rfl
    exact (slab256 _ x0 x1 _ _).trans ((strided _ _ 5 4 2 256 _ _ _ x0 x1 ⟨x0.val * 4 + 2, by omega⟩ rfl).trans
      ((at5 z w a b a' b' _ d x1 e1).trans (tile_at z w a b a' b' 5 55 4 r d _ (by omega) rfl (by rw [hs]; omega)).symm))
  case piece66 =>
    idx_vars x
    have e0 : r.val = 256 + x0.val := by simpa using h0
    have e1 : d.val = 640 + x1.val := by simpa using h1
    have hs : (⟨x0.val * 4 + 1, by omega⟩ : Fin 1024).val = x0.val * 4 + 1 := rfl
    exact (slab256 _ x0 x1 _ _).trans ((strided _ _ 5 4 1 256 _ _ _ x0 x1 ⟨x0.val * 4 + 1, by omega⟩ rfl).trans
      ((at5 z w a b a' b' _ d x1 e1).trans (tile_at z w a b a' b' 5 55 4 r d _ (by omega) rfl (by rw [hs]; omega)).symm))
  case piece67 =>
    idx_vars x
    have e0 : r.val = x0.val := by simpa using h0
    have e1 : d.val = 640 + x1.val := by simpa using h1
    have hs : (⟨x0.val * 4 + 0, by omega⟩ : Fin 1024).val = x0.val * 4 + 0 := rfl
    exact (slab256 _ x0 x1 _ _).trans ((strided _ _ 5 4 0 256 _ _ _ x0 x1 ⟨x0.val * 4 + 0, by omega⟩ rfl).trans
      ((at5 z w a b a' b' _ d x1 e1).trans (tile_at z w a b a' b' 5 55 4 r d _ (by omega) rfl (by rw [hs]; omega)).symm))
  case piece68 =>
    idx_vars x
    have e0 : r.val = 768 + x0.val := by simpa using h0
    have e1 : d.val = 512 + x1.val := by simpa using h1
    have hs : (⟨x0.val * 4 + 3, by omega⟩ : Fin 1024).val = x0.val * 4 + 3 := rfl
    exact (slab256 _ x0 x1 _ _).trans ((strided _ _ 4 4 3 256 _ _ _ x0 x1 ⟨x0.val * 4 + 3, by omega⟩ rfl).trans
      ((at4 z w a b a' b' _ d x1 e1).trans (tile_at z w a b a' b' 5 54 4 r d _ (by omega) rfl (by rw [hs]; omega)).symm))
  case piece69 =>
    idx_vars x
    have e0 : r.val = 512 + x0.val := by simpa using h0
    have e1 : d.val = 512 + x1.val := by simpa using h1
    have hs : (⟨x0.val * 4 + 2, by omega⟩ : Fin 1024).val = x0.val * 4 + 2 := rfl
    exact (slab256 _ x0 x1 _ _).trans ((strided _ _ 4 4 2 256 _ _ _ x0 x1 ⟨x0.val * 4 + 2, by omega⟩ rfl).trans
      ((at4 z w a b a' b' _ d x1 e1).trans (tile_at z w a b a' b' 5 54 4 r d _ (by omega) rfl (by rw [hs]; omega)).symm))
  case piece70 =>
    idx_vars x
    have e0 : r.val = 256 + x0.val := by simpa using h0
    have e1 : d.val = 512 + x1.val := by simpa using h1
    have hs : (⟨x0.val * 4 + 1, by omega⟩ : Fin 1024).val = x0.val * 4 + 1 := rfl
    exact (slab256 _ x0 x1 _ _).trans ((strided _ _ 4 4 1 256 _ _ _ x0 x1 ⟨x0.val * 4 + 1, by omega⟩ rfl).trans
      ((at4 z w a b a' b' _ d x1 e1).trans (tile_at z w a b a' b' 5 54 4 r d _ (by omega) rfl (by rw [hs]; omega)).symm))
  case piece71 =>
    idx_vars x
    have e0 : r.val = x0.val := by simpa using h0
    have e1 : d.val = 512 + x1.val := by simpa using h1
    have hs : (⟨x0.val * 4 + 0, by omega⟩ : Fin 1024).val = x0.val * 4 + 0 := rfl
    exact (slab256 _ x0 x1 _ _).trans ((strided _ _ 4 4 0 256 _ _ _ x0 x1 ⟨x0.val * 4 + 0, by omega⟩ rfl).trans
      ((at4 z w a b a' b' _ d x1 e1).trans (tile_at z w a b a' b' 5 54 4 r d _ (by omega) rfl (by rw [hs]; omega)).symm))
  case piece72 =>
    idx_vars x
    have e0 : r.val = 768 + x0.val := by simpa using h0
    have e1 : d.val = 384 + x1.val := by simpa using h1
    have hs : (⟨x0.val * 4 + 3, by omega⟩ : Fin 1024).val = x0.val * 4 + 3 := rfl
    exact (slab256 _ x0 x1 _ _).trans ((strided _ _ 3 4 3 256 _ _ _ x0 x1 ⟨x0.val * 4 + 3, by omega⟩ rfl).trans
      ((at3 z w a b a' b' _ d x1 e1).trans (tile_at z w a b a' b' 5 53 4 r d _ (by omega) rfl (by rw [hs]; omega)).symm))
  case piece73 =>
    idx_vars x
    have e0 : r.val = 512 + x0.val := by simpa using h0
    have e1 : d.val = 384 + x1.val := by simpa using h1
    have hs : (⟨x0.val * 4 + 2, by omega⟩ : Fin 1024).val = x0.val * 4 + 2 := rfl
    exact (slab256 _ x0 x1 _ _).trans ((strided _ _ 3 4 2 256 _ _ _ x0 x1 ⟨x0.val * 4 + 2, by omega⟩ rfl).trans
      ((at3 z w a b a' b' _ d x1 e1).trans (tile_at z w a b a' b' 5 53 4 r d _ (by omega) rfl (by rw [hs]; omega)).symm))
  case piece74 =>
    idx_vars x
    have e0 : r.val = 256 + x0.val := by simpa using h0
    have e1 : d.val = 384 + x1.val := by simpa using h1
    have hs : (⟨x0.val * 4 + 1, by omega⟩ : Fin 1024).val = x0.val * 4 + 1 := rfl
    exact (slab256 _ x0 x1 _ _).trans ((strided _ _ 3 4 1 256 _ _ _ x0 x1 ⟨x0.val * 4 + 1, by omega⟩ rfl).trans
      ((at3 z w a b a' b' _ d x1 e1).trans (tile_at z w a b a' b' 5 53 4 r d _ (by omega) rfl (by rw [hs]; omega)).symm))
  case piece75 =>
    idx_vars x
    have e0 : r.val = x0.val := by simpa using h0
    have e1 : d.val = 384 + x1.val := by simpa using h1
    have hs : (⟨x0.val * 4 + 0, by omega⟩ : Fin 1024).val = x0.val * 4 + 0 := rfl
    exact (slab256 _ x0 x1 _ _).trans ((strided _ _ 3 4 0 256 _ _ _ x0 x1 ⟨x0.val * 4 + 0, by omega⟩ rfl).trans
      ((at3 z w a b a' b' _ d x1 e1).trans (tile_at z w a b a' b' 5 53 4 r d _ (by omega) rfl (by rw [hs]; omega)).symm))
  case piece76 =>
    idx_vars x
    have e0 : r.val = 768 + x0.val := by simpa using h0
    have e1 : d.val = 256 + x1.val := by simpa using h1
    have hs : (⟨x0.val * 4 + 3, by omega⟩ : Fin 1024).val = x0.val * 4 + 3 := rfl
    exact (slab256 _ x0 x1 _ _).trans ((strided _ _ 2 4 3 256 _ _ _ x0 x1 ⟨x0.val * 4 + 3, by omega⟩ rfl).trans
      ((at2 z w a b a' b' _ d x1 e1).trans (tile_at z w a b a' b' 5 52 4 r d _ (by omega) rfl (by rw [hs]; omega)).symm))
  case piece77 =>
    idx_vars x
    have e0 : r.val = 512 + x0.val := by simpa using h0
    have e1 : d.val = 256 + x1.val := by simpa using h1
    have hs : (⟨x0.val * 4 + 2, by omega⟩ : Fin 1024).val = x0.val * 4 + 2 := rfl
    exact (slab256 _ x0 x1 _ _).trans ((strided _ _ 2 4 2 256 _ _ _ x0 x1 ⟨x0.val * 4 + 2, by omega⟩ rfl).trans
      ((at2 z w a b a' b' _ d x1 e1).trans (tile_at z w a b a' b' 5 52 4 r d _ (by omega) rfl (by rw [hs]; omega)).symm))
  case piece78 =>
    idx_vars x
    have e0 : r.val = 256 + x0.val := by simpa using h0
    have e1 : d.val = 256 + x1.val := by simpa using h1
    have hs : (⟨x0.val * 4 + 1, by omega⟩ : Fin 1024).val = x0.val * 4 + 1 := rfl
    exact (slab256 _ x0 x1 _ _).trans ((strided _ _ 2 4 1 256 _ _ _ x0 x1 ⟨x0.val * 4 + 1, by omega⟩ rfl).trans
      ((at2 z w a b a' b' _ d x1 e1).trans (tile_at z w a b a' b' 5 52 4 r d _ (by omega) rfl (by rw [hs]; omega)).symm))
  case piece79 =>
    idx_vars x
    have e0 : r.val = x0.val := by simpa using h0
    have e1 : d.val = 256 + x1.val := by simpa using h1
    have hs : (⟨x0.val * 4 + 0, by omega⟩ : Fin 1024).val = x0.val * 4 + 0 := rfl
    exact (slab256 _ x0 x1 _ _).trans ((strided _ _ 2 4 0 256 _ _ _ x0 x1 ⟨x0.val * 4 + 0, by omega⟩ rfl).trans
      ((at2 z w a b a' b' _ d x1 e1).trans (tile_at z w a b a' b' 5 52 4 r d _ (by omega) rfl (by rw [hs]; omega)).symm))
  case piece80 =>
    idx_vars x
    have e0 : r.val = x0.val := by simpa using h0
    have e1 : d.val = 128 + x1.val := by simpa using h1
    obtain rfl : r = x0 := Fin.ext e0
    exact (at1 z w a b a' b' r d x1 e1).trans (tile_at z w a b a' b' 5 51 1 r d r (by omega) rfl (by omega)).symm
  case piece81 =>
    idx_vars x
    have e0 : r.val = x0.val := by simpa using h0
    have e1 : d.val = 0 + x1.val := by simpa using h1
    obtain rfl : r = x0 := Fin.ext e0
    exact (at0 z w a b a' b' r d x1 e1).trans (tile_at z w a b a' b' 5 50 1 r d r (by omega) rfl (by omega)).symm

end Cert.ProjATileF
-- ==== Proof.ProjAValue.lean ====
module

public import proofs.«01_k».proof.Proof.ProjATileA
public import proofs.«01_k».proof.Proof.ProjATileB
public import proofs.«01_k».proof.Proof.ProjATileC
public import proofs.«01_k».proof.Proof.ProjATileD
public import proofs.«01_k».proof.Proof.ProjATileE
public import proofs.«01_k».proof.Proof.ProjATileF
public import proofs.«01_k».proof.Proof.Gen.Reference8Ideal.Read

@[expose] public section

set_option maxRecDepth 16384

noncomputable section

namespace Cert.ProjAValue

open Idealize.ShloMosaic Idealize.ShloMosaic.TcCoe Idealize.SL.Sem
open Cert.Kernel8Ideal Cert.Kernel8Ideal.Gen
open Cert.FfnBlock (nrm)
open Cert.FfnValue (xrow two)
open Cert.OutBValue (rd)
open Cert.RopeTab Cert.ProjATile

/-- The angle of each position and each of the 32 frequencies of a map of 64 columns. -/
def angA : FVec Ideal S4096x32 .f32 := Cert.Reference8Ideal.Read.val_main_v39 (F := Ideal)

/-- Its cosine. -/
def cosA (s : Fin 4096) (k : Fin 32) : EReal := Host.cos angA (ix2 s k)

/-- Its sine. -/
def sinA (s : Fin 4096) (k : Fin 32) : EReal := Host.sin angA (ix2 s k)

/-- The cosines of a position over the 128 columns of a head's two maps. -/
def cosRowA (s : Fin 4096) (u : Fin 128) : EReal := cosA s ⟨u.val % 32, by omega⟩

/-- The sines, negative in the first half. -/
def sinRowA (s : Fin 4096) (u : Fin 128) : EReal := if u.val < 64 then -sinA s ⟨u.val % 32, by omega⟩ else sinA s ⟨u.val % 32, by omega⟩

theorem cos_tableA (h : Shape.Concatenates [S4096x32, S4096x32, S4096x32, S4096x32] S4096x128 1) (s : Fin 4096) (u : Fin 128) :
    concatenate S4096x128 1 [⟨S4096x32, Host.cos angA⟩, ⟨S4096x32, Host.cos angA⟩, ⟨S4096x32, Host.cos angA⟩, ⟨S4096x32, Host.cos angA⟩] h (ix2 s u) = cosRowA s u := by
  unfold cosRowA cosA
  generalize Host.cos angA = x
  pointwise
  split_ifs <;> exact congrArg (fun k => x (ix2 s k)) (Fin.ext (by dsimp only; omega))

theorem sin_tableA (h : Shape.Concatenates [S4096x32, S4096x32, S4096x32, S4096x32] S4096x128 1) (s : Fin 4096) (u : Fin 128) :
    concatenate S4096x128 1 [⟨S4096x32, Host.negf (Host.sin angA)⟩, ⟨S4096x32, Host.negf (Host.sin angA)⟩, ⟨S4096x32, Host.sin angA⟩, ⟨S4096x32, Host.sin angA⟩] h (ix2 s u) = sinRowA s u := by
  unfold sinRowA sinA
  generalize Host.sin angA = x
  have key : ∀ k k' : Fin 32, k.val = k'.val → x (ix2 s k) = x (ix2 s k') := fun k k' h => congrArg (fun k => x (ix2 s k)) (Fin.ext h)
  have keyn : ∀ k k' : Fin 32, k.val = k'.val → -x (ix2 s k) = -x (ix2 s k') := fun k k' h => congrArg (fun k => -x (ix2 s k)) (Fin.ext h)
  rcases Nat.lt_or_ge u.val 64 with h0 | h0
  · rw [if_pos h0]
    pointwise
    split_ifs <;> first
      | omega
      | (apply keyn; first | rfl | omega | (dsimp only; omega))
  · rw [if_neg (Nat.not_lt.mpr h0)]
    pointwise
    split_ifs <;> first
      | omega
      | (apply key; first | rfl | omega | (dsimp only; omega))

/-- The columns of the first 16 heads are laid out by halves, then by maps. -/
theorem inter_at (x : FVec Ideal S2048x1024 .f32) (h1 : S2048x1024.ShapeCasts S2048x8x2x2x32) (h2 : S2048x8x2x2x32.Transposes [0, 1, 3, 2, 4] S2048x8x2x2x32)
    (h3 : S2048x8x2x2x32.ShapeCasts S2048x1024) (e : Fin 2048) (n : Fin 1024) :
    shapeCast S2048x1024 (transpose S2048x8x2x2x32 [0, 1, 3, 2, 4] (shapeCast S2048x8x2x2x32 x h1) h2) h3 (ix2 e n)
      = x (ix2 e ⟨n.val / 128 * 128 + n.val / 32 % 2 * 64 + n.val / 64 % 2 * 32 + n.val % 32, by omega⟩) := by
  pointwise

theorem idx : ∀ t : Fin cfg0.N, win0_0.index t = ![t.val / 6, 0]
    ∧ win0_1.index t = ![0, 0]
    ∧ win0_2.index t = ![0, t.val % 6]
    ∧ win0_3.index t = ![t.val / 6 % 4, 0]
    ∧ win0_4.index t = ![t.val / 6 % 4, 0]
    ∧ win0_5.index t = ![t.val / 6 % 4, 0]
    ∧ win0_6.index t = ![t.val / 6 % 4, 0]
    ∧ win0_7.index t = ![t.val / 6, t.val % 6] :=
  (by decide +kernel : ∀ t : Fin grid0.N, _)

theorem bound (t : Fin cfg0.N) : t.val < 96 := lt_of_lt_of_eq t.isLt N_0

variable (m : (ℓ : Loc nD τ sig) → Buf (Elt Ideal) ℓ)

abbrev a0 (c : Dev nD) : FVec Ideal S4x4096x2048 .f32 := m ((c : Thread nD τ).loc main_arg0)
abbrev a1 (c : Dev nD) : FVec Ideal S2x2048 .f32 := m ((c : Thread nD τ).loc main_arg1)
abbrev a2 (c : Dev nD) : FVec Ideal S1x2048x7680 .f32 := m ((c : Thread nD τ).loc main_arg2)

theorem V12_at (c : Dev nD) (R : Fin 16384) (e : Fin 2048) : V m c main_v12 (ix2 R e) = xrow (a0 m c) R e := by
  have h : V m c main_v12 = shapeCast S16384x2048 (a0 m c) shapeCasts_S4x4096x2048_S16384x2048 := by
    entry_read
    rfl
  rw [h]
  generalize a0 m c = x
  unfold xrow
  pointwise

theorem V59_at (c : Dev nD) (e : Fin 2048) : V m c main_v59 (ix2 0 e) = a1 m c (ix2 0 e) := by
  have h : V m c main_v59 = shapeCast S1x2048 (shapeCast S2048 (extractStridedSlice S1x2048 ![0, 0] (a1 m c) slices_S2x2048_S1x2048_0_0) shapeCasts_S1x2048_S2048) shapeCasts_S2048_S1x2048 := by
    entry_read
    rfl
  rw [h]
  generalize a1 m c = x
  pointwise

/-- The column of the given weight that column `n` of the call's weight is. -/
def perm (n : Fin 7680) : Fin 7680 :=
  if n.val < 2048 then ⟨n.val / 128 * 128 + n.val / 32 % 2 * 64 + n.val / 64 % 2 * 32 + n.val % 32, by omega⟩ else n

set_option maxHeartbeats 4000000 in
theorem V10_read (c : Dev nD) : V m c main_v10 = concatenate S2048x7680 1 [⟨S2048x1024, V m c main_v4⟩, ⟨S2048x1024, V m c main_v8⟩, ⟨S2048x5632, V m c main_v9⟩] concatenates_S2048x1024_S2048x1024_S2048x5632_S2048x7680_d1 := by
  unfold V hostOps0
  simp (disch := decide) only [StableHlo.after_cons, StableHlo.after_nil, StableHlo.nullary_result_ne', StableHlo.unary_result_ne', StableHlo.binary_result_ne', StableHlo.reshape_result_ne', StableHlo.nary_result_ne']
  rw [StableHlo.nary_result]
  rfl

set_option maxHeartbeats 4000000 in
theorem V11_read (c : Dev nD) : V m c main_v11 = truncf (F := Ideal) .bf16 (V m c main_v10 : FVec Ideal S2048x7680 .f32) bitsLt_bf16_f32 := by
  unfold V hostOps0
  simp (disch := decide) only [StableHlo.after_cons, StableHlo.after_nil, StableHlo.nullary_result_ne', StableHlo.unary_result_ne', StableHlo.binary_result_ne', StableHlo.reshape_result_ne', StableHlo.nary_result_ne']
  rw [StableHlo.unary_result]

theorem V4_at (c : Dev nD) (e : Fin 2048) (n : Fin 1024) : V m c main_v4 (ix2 e n) = a2 m c (ix3 0 e ⟨n.val / 128 * 128 + n.val / 32 % 2 * 64 + n.val / 64 % 2 * 32 + n.val % 32, by omega⟩) := by
  have h : V m c main_v4 = shapeCast S2048x1024 (transpose S2048x8x2x2x32 [0, 1, 3, 2, 4] (shapeCast S2048x8x2x2x32 (extractStridedSlice S2048x1024 ![0, 0] (shapeCast S2048x7680 (a2 m c) shapeCasts_S1x2048x7680_S2048x7680) slices_S2048x7680_S2048x1024_0_0) shapeCasts_S2048x1024_S2048x8x2x2x32) transposes_S2048x8x2x2x32_S2048x8x2x2x32_0_1_3_2_4) shapeCasts_S2048x8x2x2x32_S2048x1024 := by
    entry_read
    rfl
  rw [h, inter_at]
  generalize a2 m c = x
  pointwise

theorem V8_at (c : Dev nD) (e : Fin 2048) (n : Fin 1024) : V m c main_v8 (ix2 e n) = a2 m c (ix3 0 e ⟨1024 + (n.val / 128 * 128 + n.val / 32 % 2 * 64 + n.val / 64 % 2 * 32 + n.val % 32), by omega⟩) := by
  have h : V m c main_v8 = shapeCast S2048x1024 (transpose S2048x8x2x2x32 [0, 1, 3, 2, 4] (shapeCast S2048x8x2x2x32 (extractStridedSlice S2048x1024 ![0, 1024] (shapeCast S2048x7680 (a2 m c) shapeCasts_S1x2048x7680_S2048x7680) slices_S2048x7680_S2048x1024_0_1024) shapeCasts_S2048x1024_S2048x8x2x2x32) transposes_S2048x8x2x2x32_S2048x8x2x2x32_0_1_3_2_4) shapeCasts_S2048x8x2x2x32_S2048x1024 := by
    entry_read
    rfl
  rw [h, inter_at]
  generalize a2 m c = x
  pointwise

theorem V9_at (c : Dev nD) (e : Fin 2048) (n : Fin 5632) : V m c main_v9 (ix2 e n) = a2 m c (ix3 0 e ⟨2048 + n.val, by omega⟩) := by
  have h : V m c main_v9 = extractStridedSlice S2048x5632 ![0, 2048] (shapeCast S2048x7680 (a2 m c) shapeCasts_S1x2048x7680_S2048x7680) slices_S2048x7680_S2048x5632_0_2048 := by
    entry_read
    rfl
  rw [h]
  generalize a2 m c = x
  pointwise

theorem V11_at (c : Dev nD) (e : Fin 2048) (n : Fin 7680) : V m c main_v11 (ix2 e n) = a2 m c (ix3 0 e (perm n)) := by
  rw [V11_read, V10_read]
  have e0 := V4_at m c e
  have e1 := V8_at m c e
  have e2 := V9_at m c e
  revert e0 e1 e2
  generalize V m c main_v4 = y
  generalize V m c main_v8 = z
  generalize V m c main_v9 = v
  intro e0 e1 e2
  refine Eq.trans (b := if h : n.val < 1024 then y (ix2 e ⟨n.val, h⟩) else if h : n.val - 1024 < 1024 then z (ix2 e ⟨n.val - 1024, h⟩) else v (ix2 e ⟨n.val - 1024 - 1024, by omega⟩)) ?_ ?_
  · pointwise
  · unfold perm
    have key : ∀ k k' : Fin 7680, k.val = k'.val → a2 m c (ix3 0 e k) = a2 m c (ix3 0 e k') := fun k k' h => congrArg (fun k => a2 m c (ix3 0 e k)) (Fin.ext h)
    rcases Nat.lt_or_ge n.val 1024 with h | h
    · rw [dif_pos h, e0, if_pos (by omega)]
    · rw [dif_neg (by omega)]
      rcases Nat.lt_or_ge n.val 2048 with h' | h'
      · rw [dif_pos (by omega), e1, if_pos h']
        apply key
        dsimp only
        omega
      · rw [dif_neg (by omega), e2, if_neg (by omega)]
        apply key
        dsimp only
        omega

theorem V48_at (c : Dev nD) (s : Fin 4096) (u : Fin 128) : V m c main_v48 (ix2 s u) = cosRow s u := by
  have h : V m c main_v48 = concatenate S4096x128 1 [⟨S4096x64, Host.cos ang⟩, ⟨S4096x64, Host.cos ang⟩] concatenates_S4096x64_S4096x64_S4096x128_d1 := by
    entry_read
    rfl
  rw [h]
  exact cos_table _ s u

theorem V52_at (c : Dev nD) (s : Fin 4096) (u : Fin 128) : V m c main_v52 (ix2 s u) = sinRow s u := by
  have h : V m c main_v52 = concatenate S4096x128 1 [⟨S4096x64, Host.negf (Host.sin ang)⟩, ⟨S4096x64, Host.sin ang⟩] concatenates_S4096x64_S4096x64_S4096x128_d1 := by
    entry_read
    rfl
  rw [h]
  exact sin_table _ s u

set_option maxHeartbeats 4000000 in
/-- A concatenation of the host line, at its operands' own contents. -/
theorem V54_read (c : Dev nD) : V m c main_v54 = concatenate S4096x128 1 [⟨S4096x32, V m c main_v53⟩, ⟨S4096x32, V m c main_v53⟩, ⟨S4096x32, V m c main_v53⟩, ⟨S4096x32, V m c main_v53⟩] concatenates_S4096x32_S4096x32_S4096x32_S4096x32_S4096x128_d1 := by
  unfold V hostOps0
  simp (disch := decide) only [StableHlo.after_cons, StableHlo.after_nil, StableHlo.nullary_result_ne', StableHlo.unary_result_ne', StableHlo.binary_result_ne', StableHlo.reshape_result_ne', StableHlo.nary_result_ne']
  rw [StableHlo.nary_result]
  rfl

set_option maxHeartbeats 4000000 in
theorem V58_read (c : Dev nD) : V m c main_v58 = concatenate S4096x128 1 [⟨S4096x32, V m c main_v56⟩, ⟨S4096x32, V m c main_v56⟩, ⟨S4096x32, V m c main_v57⟩, ⟨S4096x32, V m c main_v57⟩] concatenates_S4096x32_S4096x32_S4096x32_S4096x32_S4096x128_d1 := by
  unfold V hostOps0
  simp (disch := decide) only [StableHlo.after_cons, StableHlo.after_nil, StableHlo.nullary_result_ne', StableHlo.unary_result_ne', StableHlo.binary_result_ne', StableHlo.reshape_result_ne', StableHlo.nary_result_ne']
  rw [StableHlo.nary_result]
  rfl

theorem V54_at (c : Dev nD) (s : Fin 4096) (u : Fin 128) : V m c main_v54 (ix2 s u) = cosRowA s u := by
  have h : V m c main_v53 = Host.cos angA := by
    entry_read
    rfl
  rw [V54_read, h]
  exact cos_tableA _ s u

theorem V58_at (c : Dev nD) (s : Fin 4096) (u : Fin 128) : V m c main_v58 (ix2 s u) = sinRowA s u := by
  have h : V m c main_v56 = Host.negf (Host.sin angA) := by
    entry_read
    rfl
  have h' : V m c main_v57 = Host.sin angA := by
    entry_read
    rfl
  rw [V58_read, h, h']
  exact sin_tableA _ s u

/-- The row of the whole input that point `t` holds as its row `r`. -/
abbrev rowOf (t : Fin cfg0.N) (r : Fin 1024) : Fin 16384 := ⟨t.val / 6 * 1024 + r.val, by have := bound t; omega⟩

/-- The column of the projection that point `t` holds as its column `d`. -/
abbrev colOf (t : Fin cfg0.N) (d : Fin 1280) : Fin 7680 := ⟨t.val % 6 * 1280 + d.val, by omega⟩

/-- The position of a row in its sequence. -/
abbrev posOf (R : Fin 16384) : Fin 4096 := ⟨R.val % 4096, by omega⟩

theorem blk0_at (c : Dev nD) (t : Fin cfg0.N) (r : Fin 1024) (e : Fin 2048) : (iblk m c 0 t : Vec Ideal S1024x2048 .f32) (ix2 r e) = xrow (a0 m c) (rowOf t r) e := by
  have hi := (idx t).1
  refine Eq.trans ?_ (V12_at m c (rowOf t r) e)
  unfold iblk
  refine (rd main_v12 (win0_0.rect t) (V m c main_v12) (ix2 r e)).trans (congrArg (V m c main_v12) (funext (two ?_ ?_))) <;>
    refine Fin.ext ((Pipeline.Window.rect_emb_val win0_0 t _ _ rfl).trans ?_) <;> rw [hi]
  · rfl
  · change 0 * 2048 + e.val = e.val
    omega

theorem blk1_at (c : Dev nD) (t : Fin cfg0.N) (e : Fin 2048) : (iblk m c 1 t : Vec Ideal S1x2048 .f32) (ix2 0 e) = a1 m c (ix2 0 e) := by
  have hi := (idx t).2.1
  refine Eq.trans ?_ (V59_at m c e)
  unfold iblk
  refine (rd main_v59 (win0_1.rect t) (V m c main_v59) (ix2 0 e)).trans (congrArg (V m c main_v59) (funext (two ?_ ?_))) <;>
    refine Fin.ext ((Pipeline.Window.rect_emb_val win0_1 t _ _ rfl).trans ?_) <;> rw [hi]
  · rfl
  · change 0 * 2048 + e.val = e.val
    omega

theorem blk2_at (c : Dev nD) (t : Fin cfg0.N) (e : Fin 2048) (d : Fin 1280) :
    (iblk m c 2 t : Vec Ideal S2048x1280 .bf16) (ix2 e d) = a2 m c (ix3 0 e (perm (colOf t d))) := by
  have hi := (idx t).2.2.1
  refine Eq.trans ?_ (V11_at m c e (colOf t d))
  unfold iblk
  refine (rd main_v11 (win0_2.rect t) (V m c main_v11) (ix2 e d)).trans (congrArg (V m c main_v11) (funext (two ?_ ?_))) <;>
    refine Fin.ext ((Pipeline.Window.rect_emb_val win0_2 t _ _ rfl).trans ?_) <;> rw [hi]
  · change 0 * 2048 + e.val = e.val
    omega
  · rfl

theorem blk3_at (c : Dev nD) (t : Fin cfg0.N) (r : Fin 1024) (u : Fin 128) :
    (iblk m c 3 t : Vec Ideal S1024x128 .f32) (ix2 r u) = cosRow (posOf (rowOf t r)) u := by
  have hi := (idx t).2.2.2.1
  refine Eq.trans ?_ (V48_at m c (posOf (rowOf t r)) u)
  unfold iblk
  refine (rd main_v48 (win0_3.rect t) (V m c main_v48) (ix2 r u)).trans (congrArg (V m c main_v48) (funext (two ?_ ?_))) <;>
    refine Fin.ext ((Pipeline.Window.rect_emb_val win0_3 t _ _ rfl).trans ?_) <;> rw [hi]
  · change t.val / 6 % 4 * 1024 + r.val = (t.val / 6 * 1024 + r.val) % 4096
    omega
  · change 0 * 128 + u.val = u.val
    omega

theorem blk4_at (c : Dev nD) (t : Fin cfg0.N) (r : Fin 1024) (u : Fin 128) :
    (iblk m c 4 t : Vec Ideal S1024x128 .f32) (ix2 r u) = sinRow (posOf (rowOf t r)) u := by
  have hi := (idx t).2.2.2.2.1
  refine Eq.trans ?_ (V52_at m c (posOf (rowOf t r)) u)
  unfold iblk
  refine (rd main_v52 (win0_4.rect t) (V m c main_v52) (ix2 r u)).trans (congrArg (V m c main_v52) (funext (two ?_ ?_))) <;>
    refine Fin.ext ((Pipeline.Window.rect_emb_val win0_4 t _ _ rfl).trans ?_) <;> rw [hi]
  · change t.val / 6 % 4 * 1024 + r.val = (t.val / 6 * 1024 + r.val) % 4096
    omega
  · change 0 * 128 + u.val = u.val
    omega

theorem blk5_at (c : Dev nD) (t : Fin cfg0.N) (r : Fin 1024) (u : Fin 128) :
    (iblk m c 5 t : Vec Ideal S1024x128 .f32) (ix2 r u) = cosRowA (posOf (rowOf t r)) u := by
  have hi := (idx t).2.2.2.2.2.1
  refine Eq.trans ?_ (V54_at m c (posOf (rowOf t r)) u)
  unfold iblk
  refine (rd main_v54 (win0_5.rect t) (V m c main_v54) (ix2 r u)).trans (congrArg (V m c main_v54) (funext (two ?_ ?_))) <;>
    refine Fin.ext ((Pipeline.Window.rect_emb_val win0_5 t _ _ rfl).trans ?_) <;> rw [hi]
  · change t.val / 6 % 4 * 1024 + r.val = (t.val / 6 * 1024 + r.val) % 4096
    omega
  · change 0 * 128 + u.val = u.val
    omega

theorem blk6_at (c : Dev nD) (t : Fin cfg0.N) (r : Fin 1024) (u : Fin 128) :
    (iblk m c 6 t : Vec Ideal S1024x128 .f32) (ix2 r u) = sinRowA (posOf (rowOf t r)) u := by
  have hi := (idx t).2.2.2.2.2.2.1
  refine Eq.trans ?_ (V58_at m c (posOf (rowOf t r)) u)
  unfold iblk
  refine (rd main_v58 (win0_6.rect t) (V m c main_v58) (ix2 r u)).trans (congrArg (V m c main_v58) (funext (two ?_ ?_))) <;>
    refine Fin.ext ((Pipeline.Window.rect_emb_val win0_6 t _ _ rfl).trans ?_) <;> rw [hi]
  · change t.val / 6 % 4 * 1024 + r.val = (t.val / 6 * 1024 + r.val) % 4096
    omega
  · change 0 * 128 + u.val = u.val
    omega

/-- One column of a normalised row's projection. -/
def col (x : FVec Ideal S4x4096x2048 .f32) (g : FVec Ideal S2x2048 .f32) (w : FVec Ideal S1x2048x7680 .f32) (R : Fin 16384) (n : Fin 7680) : EReal :=
  ∑ e : Fin 2048, nrm (xrow x R) (fun e => g (ix2 0 e)) e * w (ix3 0 e (perm n))

/-- The row that ends as row `R`, in a chunk of the given dilation. -/
def srcRow (q : ℕ) (R : Fin 16384) : Fin 16384 :=
  ⟨R.val / 1024 * 1024 + src (dil q) ⟨R.val % 1024, by omega⟩, by have := src_lt q ⟨R.val % 1024, by omega⟩; omega⟩

/-- The result, whole. -/
def res (x : FVec Ideal S4x4096x2048 .f32) (g : FVec Ideal S2x2048 .f32) (w : FVec Ideal S1x2048x7680 .f32) (R : Fin 16384) (n : Fin 7680) : EReal :=
  val (by decide) (n.val / 128) (col x g w (srcRow (n.val / 128) R)) (cosRow (posOf (srcRow (n.val / 128) R))) (sinRow (posOf (srcRow (n.val / 128) R)))
    (cosRowA (posOf (srcRow (n.val / 128) R))) (sinRowA (posOf (srcRow (n.val / 128) R))) n

theorem norm_at (x : Vec Ideal S1024x2048 .f32) (g : Vec Ideal S1x2048 .f32) (r : Fin 1024) (e : Fin 2048) :
    k0_pay1 (F := Ideal) x g (ix2 r e) = nrm (fun k => x (ix2 r k)) (fun k => g (ix2 0 k)) e := by
  pointwise [k0_pay1]
  rfl

/-- The rotation of a column block is that of the whole row. -/
theorem rot_shift (y : Fin 7680 → EReal) (a b : Fin 128 → EReal) (j : ℕ) (hj : j < 6) (d : Fin 1280) (n : Fin 7680) (hn : n.val = j * 1280 + d.val) :
    rot (fun d : Fin 1280 => y ⟨j * 1280 + d.val, by omega⟩) a b (by decide) d = rot y a b (by decide) n := by
  unfold rot
  have h1 : (⟨j * 1280 + d.val, by omega⟩ : Fin 7680) = n := Fin.ext hn.symm
  have h2 : (⟨d.val % 128, by omega⟩ : Fin 128) = ⟨n.val % 128, by omega⟩ := Fin.ext (by dsimp only; omega)
  have h3 : (⟨j * 1280 + (d.val / 128 * 128 + (d.val % 128 + 128 - 64) % 128), by omega⟩ : Fin 7680) = ⟨n.val / 128 * 128 + (n.val % 128 + 128 - 64) % 128, by omega⟩ := Fin.ext (by dsimp only; omega)
  dsimp only
  rw [h1, h2, h3]

theorem val_shift (q : ℕ) (y : Fin 7680 → EReal) (a b a' b' : Fin 128 → EReal) (j : ℕ) (hj : j < 6) (d : Fin 1280) (n : Fin 7680) (hn : n.val = j * 1280 + d.val) :
    val (by decide) q (fun d : Fin 1280 => y ⟨j * 1280 + d.val, by omega⟩) a b a' b' d = val (by decide) q y a b a' b' n := by
  unfold val
  split_ifs
  · exact rot_shift (fun n => y n * scaleA) a' b' j hj d n hn
  · exact rot_shift y a' b' j hj d n hn
  · exact congrArg y (Fin.ext hn.symm)
  · exact rot_shift (fun n => y n * scaleB) a b j hj d n hn
  · exact rot_shift y a b j hj d n hn
  · exact congrArg y (Fin.ext hn.symm)

/-- What a point's stores leave, over the whole arguments, from the normalised rows of its row block. -/
theorem tile_res (c : Dev nD) (t : Fin cfg0.N) (z : Vec Ideal S1024x2048 .bf16)
    (hz : ∀ r, (fun e => z (ix2 r e)) = nrm (xrow (a0 m c) (rowOf t r)) (fun e => a1 m c (ix2 0 e))) (r : Fin 1024) (d : Fin 1280) :
    tile z (iblk m c 2 t) (iblk m c 3 t) (iblk m c 4 t) (iblk m c 5 t) (iblk m c 6 t) (t.val % 6) r d = res (a0 m c) (a1 m c) (a2 m c) (rowOf t r) (colOf t d) := by
  have hq : t.val % 6 * 10 + d.val / 128 = (colOf t d).val / 128 := by dsimp only; omega
  have hr : rowOf t ⟨src (dil (t.val % 6 * 10 + d.val / 128)) r, src_lt _ r⟩ = srcRow ((colOf t d).val / 128) (rowOf t r) := by
    have e : (⟨(rowOf t r).val % 1024, by omega⟩ : Fin 1024) = r := Fin.ext (by dsimp only; omega)
    have e' : src (dil ((colOf t d).val / 128)) ⟨(rowOf t r).val % 1024, by omega⟩ = src (dil (t.val % 6 * 10 + d.val / 128)) r := by rw [e, hq]
    refine Fin.ext ?_
    unfold srcRow
    change t.val / 6 * 1024 + src (dil (t.val % 6 * 10 + d.val / 128)) r = (t.val / 6 * 1024 + r.val) / 1024 * 1024 + src (dil ((colOf t d).val / 128)) ⟨(rowOf t r).val % 1024, _⟩
    rw [e']
    omega
  have hp : ∀ s, pre z (iblk m c 2 t) s = fun d => col (a0 m c) (a1 m c) (a2 m c) (rowOf t s) ⟨t.val % 6 * 1280 + d.val, by omega⟩ := fun s => by
    funext d
    unfold pre col
    exact Finset.sum_congr rfl fun e _ => congrArg₂ (· * ·) (congrFun (hz s) e) (blk2_at m c t e d)
  unfold tile chunk res
  rw [hp, funext fun u => blk3_at m c t _ u, funext fun u => blk4_at m c t _ u, funext fun u => blk5_at m c t _ u, funext fun u => blk6_at m c t _ u, hr, hq]
  exact val_shift _ _ _ _ _ _ (t.val % 6) (by omega) d _ rfl

/-- The scratch after a row block's first point: the normalised rows. -/
theorem scrA (c : Dev nD) (t : Fin cfg0.N) (h0 : t.val % 6 = 0) : (outsAt0 m c t.val t.isLt).2 = k0_pay1 (F := Ideal) (iblk m c 0 t) (iblk m c 1 t) := by
  rw [outsAt0_A m c t h0 h0 (by omega) (by omega) (by omega) (by omega) (by omega)]
  frame_out

/-- Later points leave it. -/
theorem scrS (c : Dev nD) (t : Fin cfg0.N) (h0 : t.val % 6 ≠ 0) :
    (outsAt0 m c t.val t.isLt).2 = (outsAt0 m c (t.val - 1) (Nat.lt_of_le_of_lt (Nat.sub_le _ _) t.isLt)).2 := by
  rcases (by omega : t.val % 6 = 1 ∨ t.val % 6 = 2 ∨ t.val % 6 = 3 ∨ t.val % 6 = 4 ∨ t.val % 6 = 5) with h | h | h | h | h
  · rw [outsAt0_B m c t (by omega) (by omega) h (by omega) (by omega) (by omega) (by omega)]
    rfl
  · rw [outsAt0_C m c t (by omega) (by omega) (by omega) h (by omega) (by omega) (by omega)]
    rfl
  · rw [outsAt0_D m c t (by omega) (by omega) (by omega) (by omega) h (by omega) (by omega)]
    rfl
  · rw [outsAt0_E m c t (by omega) (by omega) (by omega) (by omega) (by omega) h (by omega)]
    rfl
  · rw [outsAt0_F m c t (by omega) (by omega) (by omega) (by omega) (by omega) (by omega) h]
    rfl

theorem first (c : Dev nD) (t : Fin cfg0.N) (r : Fin 1024) :
    (fun e => k0_pay1 (F := Ideal) (iblk m c 0 t) (iblk m c 1 t) (ix2 r e)) = nrm (xrow (a0 m c) (rowOf t r)) (fun e => a1 m c (ix2 0 e)) := by
  funext e
  rw [norm_at, funext fun k => blk0_at m c t r k, funext fun k => blk1_at m c t k]

/-- The scratch after any point: the normalised rows of its row block. -/
theorem scr (c : Dev nD) : ∀ (k : ℕ) (t : Fin cfg0.N), t.val % 6 = k → ∀ r,
    (fun e => (outsAt0 m c t.val t.isLt).2 (ix2 r e)) = nrm (xrow (a0 m c) (rowOf t r)) (fun e => a1 m c (ix2 0 e)) := by
  intro k
  induction k with
  | zero =>
    intro t h r
    rw [scrA m c t h]
    exact first m c t r
  | succ k ih =>
    intro t h r
    rw [scrS m c t (by omega)]
    refine (ih ⟨t.val - 1, by omega⟩ (by dsimp only; omega) r).trans ?_
    rw [show rowOf ⟨t.val - 1, by omega⟩ r = rowOf t r from Fin.ext (by dsimp only; omega)]

/-- The same of the point before, when it is of the same row block. -/
theorem scr_before (c : Dev nD) (t : Fin cfg0.N) (h : t.val % 6 ≠ 0) (r : Fin 1024) :
    (fun e => (outsAt0 m c (t.val - 1) (Nat.lt_of_le_of_lt (Nat.sub_le _ _) t.isLt)).2 (ix2 r e)) = nrm (xrow (a0 m c) (rowOf t r)) (fun e => a1 m c (ix2 0 e)) := by
  refine (scr m c _ ⟨t.val - 1, by omega⟩ rfl r).trans ?_
  rw [show rowOf ⟨t.val - 1, by omega⟩ r = rowOf t r from Fin.ext (by dsimp only; omega)]

/-- What point `t` stores, over the whole arguments. -/
theorem point (c : Dev nD) (t : Fin cfg0.N) (r : Fin 1024) (d : Fin 1280) :
    (outsAt0 m c t.val t.isLt).1 (ix2 r d) = res (a0 m c) (a1 m c) (a2 m c) (rowOf t r) (colOf t d) := by
  rcases (by omega : t.val % 6 = 0 ∨ t.val % 6 = 1 ∨ t.val % 6 = 2 ∨ t.val % 6 = 3 ∨ t.val % 6 = 4 ∨ t.val % 6 = 5) with h | h | h | h | h | h
  · rw [← tile_res m c t _ (first m c t) r d, h]
    exact ProjATileA.out m c t h r d
  · rw [← tile_res m c t _ (scr_before m c t (by omega)) r d, h]
    exact ProjATileB.out m c t h r d
  · rw [← tile_res m c t _ (scr_before m c t (by omega)) r d, h]
    exact ProjATileC.out m c t h r d
  · rw [← tile_res m c t _ (scr_before m c t (by omega)) r d, h]
    exact ProjATileD.out m c t h r d
  · rw [← tile_res m c t _ (scr_before m c t (by omega)) r d, h]
    exact ProjATileE.out m c t h r d
  · rw [← tile_res m c t _ (scr_before m c t (by omega)) r d, h]
    exact ProjATileF.out m c t h r d

/-- A place of the result's block at point `t`, in the whole array. -/
theorem emb7_at (t : Fin cfg0.N) (y : S1024x1280.Idx) : (win0_7.blk t).view.emb y = (ix2 (rowOf t (y 0)) (colOf t (y 1)) : S16384x7680.Idx) := by
  have hi := (idx t).2.2.2.2.2.2.2
  change (win0_7.rect t).emb y = _
  refine funext (two ?_ ?_) <;> refine Fin.ext ((Pipeline.Window.rect_emb_val win0_7 t y _ rfl).trans ?_) <;> rw [hi] <;> rfl

/-- The result after the run. -/
theorem final (c : Dev nD) : (dats m 0 c).arrAt 7 (cfgs 0).N = fun i : S16384x7680.Idx => res (a0 m c) (a1 m c) (a2 m c) (i 0) (i 1) := by
  refine (dats m 0 c).arrAt_eq_of_covers 7 _ (by decide +kernel) fun t hf y => ?_
  blk_simp
  rw [after0_7]
  have hy : y = (ix2 (y 0) (y 1) : S1024x1280.Idx) := funext (two rfl rfl)
  have he := emb7_at t y
  refine ((congrArg (outsAt0 m c t.val t.isLt).1 hy).trans (point m c t (y 0) (y 1))).trans ?_
  exact (congrArg (fun i : S16384x7680.Idx => res (a0 m c) (a1 m c) (a2 m c) (i 0) (i 1)) he).symm

end Cert.ProjAValue
-- ==== Proof.ProjARef.lean ====
module

public import proofs.«01_k».proof.Proof.ProjAValue

@[expose] public section

set_option maxRecDepth 16384

noncomputable section

namespace Cert.ProjARef

open Idealize.ShloMosaic Idealize.ShloMosaic.TcCoe Idealize.SL.Sem
open Cert.Reference8Ideal Cert.Reference8Ideal.Gen Cert.Reference8Ideal.Read
open Cert.FfnBlock (nrm)
open Cert.FfnValue (xrow two)
open Cert.RopeTab
open Cert.ProjATile (scaleA scaleB dil src src_lt val)
open Cert.ProjAValue (angA cosA sinA cosRowA sinRowA perm col posOf srcRow res)

/-- Two maps from a head's columns: the halves apart, then exchanged with the maps, then flat. -/
theorem halves_at (y : FVec Ideal S4x8x2x4096x64 .f32) (h : S4x8x2x4096x64.ShapeCasts S4x8x2x4096x2x32) (b : Fin 4) (e : Fin 8) (p : Fin 2) (s : Fin 4096) (q : Fin 2) (k : Fin 32) :
    shapeCast S4x8x2x4096x2x32 y h (ix6 b e p s q k) = y (ix5 b e p s ⟨q.val * 32 + k.val, by omega⟩) := by
  pointwise

theorem swap_at (z : FVec Ideal S4x8x2x4096x2x32 .f32) (h : S4x8x2x4096x2x32.Transposes [0, 3, 1, 4, 2, 5] S4x4096x8x2x2x32) (b : Fin 4) (s : Fin 4096) (e : Fin 8) (q p : Fin 2) (k : Fin 32) :
    transpose S4x4096x8x2x2x32 [0, 3, 1, 4, 2, 5] z h (ix6 b s e q p k) = z (ix6 b e p s q k) := by
  pointwise

theorem flat_at (z : FVec Ideal S4x4096x8x2x2x32 .f32) (h : S4x4096x8x2x2x32.ShapeCasts S16384x1024) (R : Fin 16384) (d : Fin 1024) :
    shapeCast S16384x1024 z h (ix2 R d) = z (ix6 ⟨R.val / 4096, by omega⟩ ⟨R.val % 4096, by omega⟩ ⟨d.val / 128, by omega⟩ ⟨d.val / 64 % 2, by omega⟩ ⟨d.val / 32 % 2, by omega⟩ ⟨d.val % 32, by omega⟩) := by
  pointwise

variable (x : FVec Ideal S4x4096x2048 .f32) (g : FVec Ideal S2x2048 .f32) (w : FVec Ideal S1x2048x7680 .f32)

theorem v13_at (b : Fin 4) (s : Fin 4096) (e : Fin 2048) : val_main_v13 (F := Ideal) g (ix3 b s e) = g (ix2 0 e) := by
  pointwise [val_main_v13, val_main_v12, val_main_v1, val_main_v0]

theorem v3_at (b : Fin 4) (s : Fin 4096) : val_main_v3 (F := Ideal) x (ix2 b s) = ∑ k : Fin 2048, x (ix3 b s k) * x (ix3 b s k) := by
  unfold val_main_v3 val_main_v2
  pointwise [val_main_cst]

theorem v14_at (b : Fin 4) (s : Fin 4096) (e : Fin 2048) :
    val_main_v14 (F := Ideal) x g (ix3 b s e) = nrm (fun e => x (ix3 b s e)) (fun e => g (ix2 0 e)) e := by
  unfold nrm
  rw [val_main_v14_apply, val_main_v11_apply, v13_at, ← v3_at]
  unfold val_main_v10 val_main_v9 val_main_v8 val_main_v7 val_main_v6 val_main_v5 val_main_v4
  generalize val_main_v3 (F := Ideal) x = q
  pointwise [val_main_cst_0, val_main_cst_1]

theorem v15_at (e : Fin 2048) (n : Fin 7680) : val_main_v15 (F := Ideal) w (ix2 e n) = w (ix3 0 e n) := by
  pointwise [val_main_v15]

/-- One column of a row's projection. -/
theorem v16_at (b : Fin 4) (s : Fin 4096) (n : Fin 7680) : val_main_v16 (F := Ideal) x g w (ix3 b s n)
    = ∑ e : Fin 2048, nrm (fun e => x (ix3 b s e)) (fun e => g (ix2 0 e)) e * w (ix3 0 e n) := by
  refine Eq.trans ?_ (Finset.sum_congr rfl fun e _ => congrArg₂ (· * ·) (v14_at x g b s e) (v15_at w e n))
  unfold val_main_v16
  generalize val_main_v14 (F := Ideal) x g = y
  generalize val_main_v15 (F := Ideal) w = v
  pointwise

/-- A column of the row, as the kernel's side writes it. -/
theorem col_at (R : Fin 16384) (n n' : Fin 7680) (hn : n'.val = (perm n).val) :
    val_main_v16 (F := Ideal) x g w (ix3 ⟨R.val / 4096, by omega⟩ ⟨R.val % 4096, by omega⟩ n') = col x g w R n := by
  rw [v16_at, show n' = perm n from Fin.ext hn]
  rfl

theorem perm_lo (n : Fin 7680) (h : n.val < 2048) : (perm n).val = n.val / 128 * 128 + n.val / 32 % 2 * 64 + n.val / 64 % 2 * 32 + n.val % 32 := by
  unfold perm
  rw [if_pos h]

theorem perm_hi (n : Fin 7680) (h : 2048 ≤ n.val) : (perm n).val = n.val := by
  unfold perm
  rw [if_neg (by omega)]

/-- The rotation of two maps side by side, in the first half of a head. -/
theorem rotA_lo (y : Fin 7680 → EReal) (s : Fin 4096) (n : Fin 7680) (h : n.val % 128 < 64) :
    rot y (cosRowA s) (sinRowA s) (by decide) n = y n * cosA s ⟨n.val % 32, by omega⟩ - y ⟨n.val + 64, by omega⟩ * sinA s ⟨n.val % 32, by omega⟩ := by
  unfold rot cosRowA sinRowA
  have h1 : (⟨n.val % 128 % 32, by omega⟩ : Fin 32) = ⟨n.val % 32, by omega⟩ := Fin.ext (by dsimp only; omega)
  have h2 : (⟨n.val / 128 * 128 + (n.val % 128 + 128 - 64) % 128, by omega⟩ : Fin 7680) = ⟨n.val + 64, by omega⟩ := Fin.ext (by dsimp only; omega)
  dsimp only
  rw [if_pos h, h1, h2, mul_neg, ← sub_eq_add_neg]

/-- In the second half. -/
theorem rotA_hi (y : Fin 7680 → EReal) (s : Fin 4096) (n : Fin 7680) (h : 64 ≤ n.val % 128) :
    rot y (cosRowA s) (sinRowA s) (by decide) n = y n * cosA s ⟨n.val % 32, by omega⟩ + y ⟨n.val - 64, by omega⟩ * sinA s ⟨n.val % 32, by omega⟩ := by
  unfold rot cosRowA sinRowA
  have h1 : (⟨n.val % 128 % 32, by omega⟩ : Fin 32) = ⟨n.val % 32, by omega⟩ := Fin.ext (by dsimp only; omega)
  have h2 : (⟨n.val / 128 * 128 + (n.val % 128 + 128 - 64) % 128, by omega⟩ : Fin 7680) = ⟨n.val - 64, by omega⟩ := Fin.ext (by dsimp only; omega)
  dsimp only
  rw [if_neg (by omega), h1, h2]

theorem v64_at (b : Fin 4) (h : Fin 8) (p : Fin 2) (s : Fin 4096) (j : Fin 64) : val_main_v64 (F := Ideal) x g w (ix5 b h p s j)
    = val_main_v16 (F := Ideal) x g w (ix3 b s ⟨0 + (h.val * 128 + p.val * 64 + j.val), by omega⟩) * scaleA := by
  unfold val_main_v64 val_main_v63 val_main_v62 val_main_v61 val_main_v17
  generalize val_main_v16 (F := Ideal) x g w = y
  pointwise [val_main_cst_12]

theorem v81_lo (b : Fin 4) (h : Fin 8) (p : Fin 2) (s : Fin 4096) (k : Fin 32) : val_main_v81 (F := Ideal) x g w (ix5 b h p s ⟨k.val, by omega⟩)
    = val_main_v64 (F := Ideal) x g w (ix5 b h p s ⟨k.val, by omega⟩) * cosA s k - val_main_v64 (F := Ideal) x g w (ix5 b h p s ⟨32 + k.val, by omega⟩) * sinA s k := by
  unfold val_main_v81 val_main_v80 val_main_v79 val_main_v78 val_main_v77 val_main_v76 val_main_v75 val_main_v74 val_main_v73 val_main_v72 val_main_v71 val_main_v70 val_main_v69 val_main_v68 val_main_v67 val_main_v66 val_main_v65 val_main_v41 val_main_v40 cosA sinA angA
  generalize val_main_v64 (F := Ideal) x g w = y
  generalize val_main_v39 (F := Ideal) = a
  pointwise

theorem v81_hi (b : Fin 4) (h : Fin 8) (p : Fin 2) (s : Fin 4096) (k : Fin 32) : val_main_v81 (F := Ideal) x g w (ix5 b h p s ⟨32 + k.val, by omega⟩)
    = val_main_v64 (F := Ideal) x g w (ix5 b h p s ⟨32 + k.val, by omega⟩) * cosA s k + val_main_v64 (F := Ideal) x g w (ix5 b h p s ⟨k.val, by omega⟩) * sinA s k := by
  unfold val_main_v81 val_main_v80 val_main_v79 val_main_v78 val_main_v77 val_main_v76 val_main_v75 val_main_v74 val_main_v73 val_main_v72 val_main_v71 val_main_v70 val_main_v69 val_main_v68 val_main_v67 val_main_v66 val_main_v65 val_main_v41 val_main_v40 cosA sinA angA
  generalize val_main_v64 (F := Ideal) x g w = y
  generalize val_main_v39 (F := Ideal) = a
  pointwise

theorem v84_at (R : Fin 16384) (d : Fin 1024) : val_main_v84 (F := Ideal) x g w (ix2 R d)
    = val_main_v81 (F := Ideal) x g w (ix5 ⟨R.val / 4096, by omega⟩ ⟨d.val / 128, by omega⟩ ⟨d.val / 32 % 2, by omega⟩ ⟨R.val % 4096, by omega⟩ ⟨d.val / 64 % 2 * 32 + d.val % 32, by omega⟩) := by
  unfold val_main_v84 val_main_v83 val_main_v82
  rw [flat_at, swap_at, halves_at]

theorem qa_at (R : Fin 16384) (n : Fin 7680) (d : Fin 1024) (hn : n.val = 0 + d.val) : val_main_v84 (F := Ideal) x g w (ix2 R d)
    = rot (fun n => col x g w R n * scaleA) (cosRowA (posOf R)) (sinRowA (posOf R)) (by decide) n := by
  rw [v84_at]
  rcases Nat.lt_or_ge (n.val % 128) 64 with h | h
  · rw [rotA_lo _ _ _ h]
    rw [show (⟨d.val / 64 % 2 * 32 + d.val % 32, by omega⟩ : Fin 64) = ⟨d.val % 32, by omega⟩ from Fin.ext (by dsimp only; omega)]
    rw [show (⟨n.val % 32, by omega⟩ : Fin 32) = ⟨d.val % 32, by omega⟩ from Fin.ext (by dsimp only; omega)]
    rw [v81_lo x g w _ _ _ _ ⟨d.val % 32, by omega⟩, v64_at, v64_at]
    rw [col_at x g w R n _ (by rw [perm_lo n (by omega)]; dsimp only; omega), col_at x g w R ⟨n.val + 64, by omega⟩ _ (by rw [perm_lo _ (by dsimp only; omega)]; dsimp only; omega)]
  · rw [rotA_hi _ _ _ h]
    rw [show (⟨d.val / 64 % 2 * 32 + d.val % 32, by omega⟩ : Fin 64) = ⟨32 + d.val % 32, by omega⟩ from Fin.ext (by dsimp only; omega)]
    rw [show (⟨n.val % 32, by omega⟩ : Fin 32) = ⟨d.val % 32, by omega⟩ from Fin.ext (by dsimp only; omega)]
    rw [v81_hi x g w _ _ _ _ ⟨d.val % 32, by omega⟩, v64_at, v64_at]
    rw [col_at x g w R n _ (by rw [perm_lo n (by omega)]; dsimp only; omega), col_at x g w R ⟨n.val - 64, by omega⟩ _ (by rw [perm_lo _ (by dsimp only; omega)]; dsimp only; omega)]

theorem v86_at (b : Fin 4) (h : Fin 8) (p : Fin 2) (s : Fin 4096) (j : Fin 64) : val_main_v86 (F := Ideal) x g w (ix5 b h p s j)
    = val_main_v16 (F := Ideal) x g w (ix3 b s ⟨1024 + (h.val * 128 + p.val * 64 + j.val), by omega⟩) := by
  unfold val_main_v86 val_main_v85 val_main_v18
  generalize val_main_v16 (F := Ideal) x g w = y
  pointwise

theorem v103_lo (b : Fin 4) (h : Fin 8) (p : Fin 2) (s : Fin 4096) (k : Fin 32) : val_main_v103 (F := Ideal) x g w (ix5 b h p s ⟨k.val, by omega⟩)
    = val_main_v86 (F := Ideal) x g w (ix5 b h p s ⟨k.val, by omega⟩) * cosA s k - val_main_v86 (F := Ideal) x g w (ix5 b h p s ⟨32 + k.val, by omega⟩) * sinA s k := by
  unfold val_main_v103 val_main_v102 val_main_v101 val_main_v100 val_main_v99 val_main_v98 val_main_v97 val_main_v96 val_main_v95 val_main_v94 val_main_v93 val_main_v92 val_main_v91 val_main_v90 val_main_v89 val_main_v88 val_main_v87 val_main_v41 val_main_v40 cosA sinA angA
  generalize val_main_v86 (F := Ideal) x g w = y
  generalize val_main_v39 (F := Ideal) = a
  pointwise

theorem v103_hi (b : Fin 4) (h : Fin 8) (p : Fin 2) (s : Fin 4096) (k : Fin 32) : val_main_v103 (F := Ideal) x g w (ix5 b h p s ⟨32 + k.val, by omega⟩)
    = val_main_v86 (F := Ideal) x g w (ix5 b h p s ⟨32 + k.val, by omega⟩) * cosA s k + val_main_v86 (F := Ideal) x g w (ix5 b h p s ⟨k.val, by omega⟩) * sinA s k := by
  unfold val_main_v103 val_main_v102 val_main_v101 val_main_v100 val_main_v99 val_main_v98 val_main_v97 val_main_v96 val_main_v95 val_main_v94 val_main_v93 val_main_v92 val_main_v91 val_main_v90 val_main_v89 val_main_v88 val_main_v87 val_main_v41 val_main_v40 cosA sinA angA
  generalize val_main_v86 (F := Ideal) x g w = y
  generalize val_main_v39 (F := Ideal) = a
  pointwise

theorem v106_at (R : Fin 16384) (d : Fin 1024) : val_main_v106 (F := Ideal) x g w (ix2 R d)
    = val_main_v103 (F := Ideal) x g w (ix5 ⟨R.val / 4096, by omega⟩ ⟨d.val / 128, by omega⟩ ⟨d.val / 32 % 2, by omega⟩ ⟨R.val % 4096, by omega⟩ ⟨d.val / 64 % 2 * 32 + d.val % 32, by omega⟩) := by
  unfold val_main_v106 val_main_v105 val_main_v104
  rw [flat_at, swap_at, halves_at]

theorem ka_at (R : Fin 16384) (n : Fin 7680) (d : Fin 1024) (hn : n.val = 1024 + d.val) : val_main_v106 (F := Ideal) x g w (ix2 R d)
    = rot (fun n => col x g w R n) (cosRowA (posOf R)) (sinRowA (posOf R)) (by decide) n := by
  rw [v106_at]
  rcases Nat.lt_or_ge (n.val % 128) 64 with h | h
  · rw [rotA_lo _ _ _ h]
    rw [show (⟨d.val / 64 % 2 * 32 + d.val % 32, by omega⟩ : Fin 64) = ⟨d.val % 32, by omega⟩ from Fin.ext (by dsimp only; omega)]
    rw [show (⟨n.val % 32, by omega⟩ : Fin 32) = ⟨d.val % 32, by omega⟩ from Fin.ext (by dsimp only; omega)]
    rw [v103_lo x g w _ _ _ _ ⟨d.val % 32, by omega⟩, v86_at, v86_at]
    rw [col_at x g w R n _ (by rw [perm_lo n (by omega)]; dsimp only; omega), col_at x g w R ⟨n.val + 64, by omega⟩ _ (by rw [perm_lo _ (by dsimp only; omega)]; dsimp only; omega)]
  · rw [rotA_hi _ _ _ h]
    rw [show (⟨d.val / 64 % 2 * 32 + d.val % 32, by omega⟩ : Fin 64) = ⟨32 + d.val % 32, by omega⟩ from Fin.ext (by dsimp only; omega)]
    rw [show (⟨n.val % 32, by omega⟩ : Fin 32) = ⟨d.val % 32, by omega⟩ from Fin.ext (by dsimp only; omega)]
    rw [v103_hi x g w _ _ _ _ ⟨d.val % 32, by omega⟩, v86_at, v86_at]
    rw [col_at x g w R n _ (by rw [perm_lo n (by omega)]; dsimp only; omega), col_at x g w R ⟨n.val - 64, by omega⟩ _ (by rw [perm_lo _ (by dsimp only; omega)]; dsimp only; omega)]

theorem va_at (R : Fin 16384) (n : Fin 7680) (d : Fin 1024) (hn : n.val = 2048 + d.val) : val_main_v107 (F := Ideal) x g w (ix2 R d) = col x g w R n := by
  refine Eq.trans ?_ (col_at x g w R n ⟨2048 + d.val, by omega⟩ (by rw [perm_hi n (by omega)]; exact hn.symm))
  unfold val_main_v107 val_main_v19
  generalize val_main_v16 (F := Ideal) x g w = y
  pointwise

theorem ang_eq : val_main_v58 (F := Ideal) = ang := rfl

theorem v111_at (b : Fin 4) (h : Fin 12) (s : Fin 4096) (u : Fin 128) : val_main_v111 (F := Ideal) x g w (ix4 b h s u)
    = val_main_v16 (F := Ideal) x g w (ix3 b s ⟨3072 + (h.val * 128 + u.val), by omega⟩) * scaleB := by
  unfold val_main_v111 val_main_v110 val_main_v109 val_main_v108 val_main_v20
  generalize val_main_v16 (F := Ideal) x g w = y
  pointwise [val_main_cst_13]

theorem v128_lo (b : Fin 4) (h : Fin 12) (s : Fin 4096) (k : Fin 64) : val_main_v128 (F := Ideal) x g w (ix4 b h s ⟨k.val, by omega⟩)
    = val_main_v111 (F := Ideal) x g w (ix4 b h s ⟨k.val, by omega⟩) * cosT s k - val_main_v111 (F := Ideal) x g w (ix4 b h s ⟨64 + k.val, by omega⟩) * sinT s k := by
  unfold val_main_v128 val_main_v127 val_main_v126 val_main_v125 val_main_v124 val_main_v123 val_main_v122 val_main_v121 val_main_v120 val_main_v119 val_main_v118 val_main_v117 val_main_v116 val_main_v115 val_main_v114 val_main_v113 val_main_v112 val_main_v60 val_main_v59 cosT sinT
  rw [ang_eq]
  generalize val_main_v111 (F := Ideal) x g w = y
  generalize ang = a
  pointwise

theorem v128_hi (b : Fin 4) (h : Fin 12) (s : Fin 4096) (k : Fin 64) : val_main_v128 (F := Ideal) x g w (ix4 b h s ⟨64 + k.val, by omega⟩)
    = val_main_v111 (F := Ideal) x g w (ix4 b h s ⟨64 + k.val, by omega⟩) * cosT s k + val_main_v111 (F := Ideal) x g w (ix4 b h s ⟨k.val, by omega⟩) * sinT s k := by
  unfold val_main_v128 val_main_v127 val_main_v126 val_main_v125 val_main_v124 val_main_v123 val_main_v122 val_main_v121 val_main_v120 val_main_v119 val_main_v118 val_main_v117 val_main_v116 val_main_v115 val_main_v114 val_main_v113 val_main_v112 val_main_v60 val_main_v59 cosT sinT
  rw [ang_eq]
  generalize val_main_v111 (F := Ideal) x g w = y
  generalize ang = a
  pointwise

theorem v130_at (b : Fin 4) (s : Fin 4096) (d : Fin 1536) : val_main_v130 (F := Ideal) x g w (ix3 b s d)
    = val_main_v128 (F := Ideal) x g w (ix4 b ⟨d.val / 128, by omega⟩ s ⟨d.val % 128, by omega⟩) := by
  unfold val_main_v130 val_main_v129
  generalize val_main_v128 (F := Ideal) x g w = y
  pointwise

theorem qb_at (R : Fin 16384) (n : Fin 7680) (d : Fin 1536) (hn : n.val = 3072 + d.val) :
    val_main_v130 (F := Ideal) x g w (ix3 ⟨R.val / 4096, by omega⟩ ⟨R.val % 4096, by omega⟩ d)
      = rot (fun n => col x g w R n * scaleB) (cosRow (posOf R)) (sinRow (posOf R)) (by decide) n := by
  rw [v130_at]
  rcases Nat.lt_or_ge (d.val % 128) 64 with h | h
  · rw [rot_lo _ _ _ n (3072 + d.val / 128 * 128) ⟨d.val % 128, h⟩ (by omega) (by dsimp only; omega)]
    rw [v128_lo x g w _ _ _ ⟨d.val % 128, h⟩, v111_at, v111_at]
    rw [col_at x g w R ⟨3072 + d.val / 128 * 128 + d.val % 128, by omega⟩ _ (by rw [perm_hi _ (by dsimp only; omega)]; dsimp only; omega),
      col_at x g w R ⟨3072 + d.val / 128 * 128 + (64 + d.val % 128), by omega⟩ _ (by rw [perm_hi _ (by dsimp only; omega)]; dsimp only; omega)]
  · have hm : d.val % 128 = 64 + (d.val % 128 - 64) := by omega
    rw [rot_hi _ _ _ n (3072 + d.val / 128 * 128) ⟨d.val % 128 - 64, by omega⟩ (by omega) (by dsimp only; omega)]
    rw [show (⟨d.val % 128, by omega⟩ : Fin 128) = ⟨64 + (d.val % 128 - 64), by omega⟩ from Fin.ext hm]
    rw [v128_hi x g w _ _ _ ⟨d.val % 128 - 64, by omega⟩, v111_at, v111_at]
    rw [col_at x g w R ⟨3072 + d.val / 128 * 128 + (64 + (d.val % 128 - 64)), by omega⟩ _ (by rw [perm_hi _ (by dsimp only; omega)]; dsimp only; omega),
      col_at x g w R ⟨3072 + d.val / 128 * 128 + (d.val % 128 - 64), by omega⟩ _ (by rw [perm_hi _ (by dsimp only; omega)]; dsimp only; omega)]

theorem v145_at (b : Fin 4) (h : Fin 12) (s : Fin 4096) (u : Fin 128) : val_main_v145 (F := Ideal) x g w (ix4 b h s u)
    = val_main_v16 (F := Ideal) x g w (ix3 b s ⟨4608 + (h.val * 128 + u.val), by omega⟩) := by
  unfold val_main_v145 val_main_v144 val_main_v21
  generalize val_main_v16 (F := Ideal) x g w = y
  pointwise

theorem v162_lo (b : Fin 4) (h : Fin 12) (s : Fin 4096) (k : Fin 64) : val_main_v162 (F := Ideal) x g w (ix4 b h s ⟨k.val, by omega⟩)
    = val_main_v145 (F := Ideal) x g w (ix4 b h s ⟨k.val, by omega⟩) * cosT s k - val_main_v145 (F := Ideal) x g w (ix4 b h s ⟨64 + k.val, by omega⟩) * sinT s k := by
  unfold val_main_v162 val_main_v161 val_main_v160 val_main_v159 val_main_v158 val_main_v157 val_main_v156 val_main_v155 val_main_v154 val_main_v153 val_main_v152 val_main_v151 val_main_v150 val_main_v149 val_main_v148 val_main_v147 val_main_v146 val_main_v60 val_main_v59 cosT sinT
  rw [ang_eq]
  generalize val_main_v145 (F := Ideal) x g w = y
  generalize ang = a
  pointwise

theorem v162_hi (b : Fin 4) (h : Fin 12) (s : Fin 4096) (k : Fin 64) : val_main_v162 (F := Ideal) x g w (ix4 b h s ⟨64 + k.val, by omega⟩)
    = val_main_v145 (F := Ideal) x g w (ix4 b h s ⟨64 + k.val, by omega⟩) * cosT s k + val_main_v145 (F := Ideal) x g w (ix4 b h s ⟨k.val, by omega⟩) * sinT s k := by
  unfold val_main_v162 val_main_v161 val_main_v160 val_main_v159 val_main_v158 val_main_v157 val_main_v156 val_main_v155 val_main_v154 val_main_v153 val_main_v152 val_main_v151 val_main_v150 val_main_v149 val_main_v148 val_main_v147 val_main_v146 val_main_v60 val_main_v59 cosT sinT
  rw [ang_eq]
  generalize val_main_v145 (F := Ideal) x g w = y
  generalize ang = a
  pointwise

theorem v164_at (b : Fin 4) (s : Fin 4096) (d : Fin 1536) : val_main_v164 (F := Ideal) x g w (ix3 b s d)
    = val_main_v162 (F := Ideal) x g w (ix4 b ⟨d.val / 128, by omega⟩ s ⟨d.val % 128, by omega⟩) := by
  unfold val_main_v164 val_main_v163
  generalize val_main_v162 (F := Ideal) x g w = y
  pointwise

theorem kb_at (R : Fin 16384) (n : Fin 7680) (d : Fin 1536) (hn : n.val = 4608 + d.val) :
    val_main_v164 (F := Ideal) x g w (ix3 ⟨R.val / 4096, by omega⟩ ⟨R.val % 4096, by omega⟩ d)
      = rot (fun n => col x g w R n) (cosRow (posOf R)) (sinRow (posOf R)) (by decide) n := by
  rw [v164_at]
  rcases Nat.lt_or_ge (d.val % 128) 64 with h | h
  · rw [rot_lo _ _ _ n (4608 + d.val / 128 * 128) ⟨d.val % 128, h⟩ (by omega) (by dsimp only; omega)]
    rw [v162_lo x g w _ _ _ ⟨d.val % 128, h⟩, v145_at, v145_at]
    rw [col_at x g w R ⟨4608 + d.val / 128 * 128 + d.val % 128, by omega⟩ _ (by rw [perm_hi _ (by dsimp only; omega)]; dsimp only; omega),
      col_at x g w R ⟨4608 + d.val / 128 * 128 + (64 + d.val % 128), by omega⟩ _ (by rw [perm_hi _ (by dsimp only; omega)]; dsimp only; omega)]
  · have hm : d.val % 128 = 64 + (d.val % 128 - 64) := by omega
    rw [rot_hi _ _ _ n (4608 + d.val / 128 * 128) ⟨d.val % 128 - 64, by omega⟩ (by omega) (by dsimp only; omega)]
    rw [show (⟨d.val % 128, by omega⟩ : Fin 128) = ⟨64 + (d.val % 128 - 64), by omega⟩ from Fin.ext hm]
    rw [v162_hi x g w _ _ _ ⟨d.val % 128 - 64, by omega⟩, v145_at, v145_at]
    rw [col_at x g w R ⟨4608 + d.val / 128 * 128 + (64 + (d.val % 128 - 64)), by omega⟩ _ (by rw [perm_hi _ (by dsimp only; omega)]; dsimp only; omega),
      col_at x g w R ⟨4608 + d.val / 128 * 128 + (d.val % 128 - 64), by omega⟩ _ (by rw [perm_hi _ (by dsimp only; omega)]; dsimp only; omega)]

theorem vb_at (R : Fin 16384) (n : Fin 7680) (d : Fin 1536) (hn : n.val = 6144 + d.val) :
    val_main_v22 (F := Ideal) x g w (ix3 ⟨R.val / 4096, by omega⟩ ⟨R.val % 4096, by omega⟩ d) = col x g w R n := by
  refine Eq.trans ?_ (col_at x g w R n ⟨6144 + d.val, by omega⟩ (by rw [perm_hi n (by omega)]; exact hn.symm))
  unfold val_main_v22
  generalize val_main_v16 (F := Ideal) x g w = y
  pointwise

section
variable (y : FVec Ideal S4x4096x1536 .f32)

/-- The rows of each tile by residue, for each of the three dilations. -/
def byRes1 : FVec Ideal S16384x512 .f32 :=
  shapeCast S16384x512 (transpose S4x4x1x1024x512 [0, 1, 3, 2, 4] (shapeCast S4x4x1024x1x512 (extractStridedSlice S4x4096x512 ![0, 0, 0] y slices_S4x4096x1536_S4x4096x512_0_0_0)
    shapeCasts_S4x4096x512_S4x4x1024x1x512) transposes_S4x4x1024x1x512_S4x4x1x1024x512_0_1_3_2_4) shapeCasts_S4x4x1x1024x512_S16384x512

def byRes4 : FVec Ideal S16384x512 .f32 :=
  shapeCast S16384x512 (transpose S4x4x4x256x512 [0, 1, 3, 2, 4] (shapeCast S4x4x256x4x512 (extractStridedSlice S4x4096x512 ![0, 0, 512] y slices_S4x4096x1536_S4x4096x512_0_0_512)
    shapeCasts_S4x4096x512_S4x4x256x4x512) transposes_S4x4x256x4x512_S4x4x4x256x512_0_1_3_2_4) shapeCasts_S4x4x4x256x512_S16384x512

def byRes16 : FVec Ideal S16384x512 .f32 :=
  shapeCast S16384x512 (transpose S4x4x16x64x512 [0, 1, 3, 2, 4] (shapeCast S4x4x64x16x512 (extractStridedSlice S4x4096x512 ![0, 0, 1024] y slices_S4x4096x1536_S4x4096x512_0_0_1024)
    shapeCasts_S4x4096x512_S4x4x64x16x512) transposes_S4x4x64x16x512_S4x4x16x64x512_0_1_3_2_4) shapeCasts_S4x4x16x64x512_S16384x512

theorem byRes1_at (R : Fin 16384) (k : Fin 512) : byRes1 y (ix2 R k) = y (ix3 ⟨R.val / 4096, by omega⟩ ⟨R.val / 1024 % 4 * 1024 + R.val % 1024, by omega⟩ ⟨k.val, by omega⟩) := by
  unfold byRes1
  pointwise

theorem byRes4_at (R : Fin 16384) (k : Fin 512) : byRes4 y (ix2 R k)
    = y (ix3 ⟨R.val / 4096, by omega⟩ ⟨R.val / 1024 % 4 * 1024 + R.val % 256 * 4 + R.val / 256 % 4, by omega⟩ ⟨512 + k.val, by omega⟩) := by
  unfold byRes4
  pointwise

theorem byRes16_at (R : Fin 16384) (k : Fin 512) : byRes16 y (ix2 R k)
    = y (ix3 ⟨R.val / 4096, by omega⟩ ⟨R.val / 1024 % 4 * 1024 + R.val % 64 * 16 + R.val / 64 % 16, by omega⟩ ⟨1024 + k.val, by omega⟩) := by
  unfold byRes16
  pointwise

theorem dil_one (q : ℕ) (h : q < 24 ∨ q % 12 < 4) : dil q = 1 := by
  unfold dil
  rcases h with h | h
  · rw [if_pos h]
  · split_ifs <;> rfl

theorem dil_four (q : ℕ) (h : 24 ≤ q) (h' : 4 ≤ q % 12 ∧ q % 12 < 8) : dil q = 4 := by
  unfold dil
  rw [if_neg (by omega), if_neg (by omega), if_pos h'.2]

theorem dil_sixteen (q : ℕ) (h : 24 ≤ q) (h' : 8 ≤ q % 12) : dil q = 16 := by
  unfold dil
  rw [if_neg (by omega), if_neg (by omega), if_neg (by omega)]

theorem src_one (q : ℕ) (R : Fin 16384) (h : dil q = 1) : srcRow q R = R := by
  refine Fin.ext ?_
  change R.val / 1024 * 1024 + src (dil q) ⟨R.val % 1024, by omega⟩ = R.val
  rw [h]
  unfold src
  dsimp only
  omega

theorem mix (S R t : ℕ) (hS : S = R / 1024 * 1024 + t) (ht : t < 1024) : S / 4096 = R / 4096 ∧ S % 4096 = R / 1024 % 4 * 1024 + t := by
  generalize hF : R / 1024 = f at hS ⊢
  have h1 : R / 4096 = f / 4 := by omega
  rw [h1, hS]
  clear h1 hF hS
  constructor <;> omega

theorem src_four (q : ℕ) (R : Fin 16384) (h : dil q = 4) :
    (srcRow q R).val / 4096 = R.val / 4096 ∧ (srcRow q R).val % 4096 = R.val / 1024 % 4 * 1024 + (R.val % 256 * 4 + R.val / 256 % 4) := by
  refine mix _ _ _ ?_ (by omega)
  change R.val / 1024 * 1024 + src (dil q) ⟨R.val % 1024, by omega⟩ = _
  rw [h]
  unfold src
  have h1 : R.val % 1024 % 256 = R.val % 256 := by omega
  have h2 : R.val % 1024 / 256 = R.val / 256 % 4 := by omega
  change _ + (R.val % 1024 % 256 * 4 + R.val % 1024 / 256) = _
  rw [h1, h2]

theorem src_sixteen (q : ℕ) (R : Fin 16384) (h : dil q = 16) :
    (srcRow q R).val / 4096 = R.val / 4096 ∧ (srcRow q R).val % 4096 = R.val / 1024 % 4 * 1024 + (R.val % 64 * 16 + R.val / 64 % 16) := by
  refine mix _ _ _ ?_ (by omega)
  change R.val / 1024 * 1024 + src (dil q) ⟨R.val % 1024, by omega⟩ = _
  rw [h]
  unfold src
  have h1 : R.val % 1024 % 64 = R.val % 64 := by omega
  have h2 : R.val % 1024 / 64 = R.val / 64 % 16 := by omega
  change _ + (R.val % 1024 % 64 * 16 + R.val % 1024 / 64) = _
  rw [h1, h2]

/-- The three dilations side by side: each row is read where it comes from. -/
theorem byRes_at (h : Shape.Concatenates [S16384x512, S16384x512, S16384x512] S16384x1536 1) (q : ℕ) (R : Fin 16384) (d : Fin 1536) (hq : 24 ≤ q) (hd : q % 12 = d.val / 128) :
    concatenate S16384x1536 1 [⟨S16384x512, byRes1 y⟩, ⟨S16384x512, byRes4 y⟩, ⟨S16384x512, byRes16 y⟩] h (ix2 R d)
      = y (ix3 ⟨(srcRow q R).val / 4096, by omega⟩ ⟨(srcRow q R).val % 4096, by omega⟩ d) := by
  have key : ∀ (b b' : Fin 4) (s s' : Fin 4096) (k k' : Fin 1536), b.val = b'.val → s.val = s'.val → k.val = k'.val → y (ix3 b s k) = y (ix3 b' s' k') :=
    fun b b' s s' k k' h1 h2 h3 => by rw [Fin.ext h1, Fin.ext h2, Fin.ext h3]
  refine Eq.trans (b := if h : d.val < 512 then byRes1 y (ix2 R ⟨d.val, h⟩) else if h : d.val - 512 < 512 then byRes4 y (ix2 R ⟨d.val - 512, h⟩) else byRes16 y (ix2 R ⟨d.val - 512 - 512, by omega⟩)) ?_ ?_
  · generalize byRes1 y = y1
    generalize byRes4 y = y2
    generalize byRes16 y = y3
    pointwise
  · rcases Nat.lt_or_ge d.val 512 with h1 | h1
    · rw [dif_pos h1, byRes1_at]
      have e := src_one q R (dil_one q (by omega))
      have e' : (srcRow q R).val = R.val := congrArg Fin.val e
      exact key _ _ _ _ _ _ (by dsimp only; omega) (by dsimp only; omega) rfl
    · rw [dif_neg (by omega)]
      rcases Nat.lt_or_ge d.val 1024 with h2 | h2
      · rw [dif_pos (by omega), byRes4_at]
        obtain ⟨e1, e2⟩ := src_four q R (dil_four q hq (by omega))
        exact key _ _ _ _ _ _ e1.symm ((Nat.add_assoc _ _ _).trans e2.symm) (by dsimp only; omega)
      · rw [dif_neg (by omega), byRes16_at]
        obtain ⟨e1, e2⟩ := src_sixteen q R (dil_sixteen q hq (by omega))
        exact key _ _ _ _ _ _ e1.symm ((Nat.add_assoc _ _ _).trans e2.symm) (by dsimp only; omega)

end

theorem v143_at (q : ℕ) (R : Fin 16384) (d : Fin 1536) (hq : 24 ≤ q) (hd : q % 12 = d.val / 128) : val_main_v143 (F := Ideal) x g w (ix2 R d)
    = val_main_v130 (F := Ideal) x g w (ix3 ⟨(srcRow q R).val / 4096, by omega⟩ ⟨(srcRow q R).val % 4096, by omega⟩ d) :=
  byRes_at (val_main_v130 (F := Ideal) x g w) _ q R d hq hd

theorem v177_at (q : ℕ) (R : Fin 16384) (d : Fin 1536) (hq : 24 ≤ q) (hd : q % 12 = d.val / 128) : val_main_v177 (F := Ideal) x g w (ix2 R d)
    = val_main_v164 (F := Ideal) x g w (ix3 ⟨(srcRow q R).val / 4096, by omega⟩ ⟨(srcRow q R).val % 4096, by omega⟩ d) :=
  byRes_at (val_main_v164 (F := Ideal) x g w) _ q R d hq hd

theorem v190_at (q : ℕ) (R : Fin 16384) (d : Fin 1536) (hq : 24 ≤ q) (hd : q % 12 = d.val / 128) : val_main_v190 (F := Ideal) x g w (ix2 R d)
    = val_main_v22 (F := Ideal) x g w (ix3 ⟨(srcRow q R).val / 4096, by omega⟩ ⟨(srcRow q R).val % 4096, by omega⟩ d) :=
  byRes_at (val_main_v22 (F := Ideal) x g w) _ q R d hq hd

/-- The six parts side by side. -/
theorem v192_cases (R : Fin 16384) (n : Fin 7680) : val_main_v192 (F := Ideal) x g w (ix2 R n)
    = if h : n.val < 1024 then val_main_v84 (F := Ideal) x g w (ix2 R ⟨n.val, h⟩)
      else if h : n.val - 1024 < 1024 then val_main_v106 (F := Ideal) x g w (ix2 R ⟨n.val - 1024, h⟩)
      else if h : n.val - 1024 - 1024 < 1024 then val_main_v107 (F := Ideal) x g w (ix2 R ⟨n.val - 1024 - 1024, h⟩)
      else if h : n.val - 1024 - 1024 - 1024 < 1536 then val_main_v143 (F := Ideal) x g w (ix2 R ⟨n.val - 1024 - 1024 - 1024, h⟩)
      else if h : n.val - 1024 - 1024 - 1024 - 1536 < 1536 then val_main_v177 (F := Ideal) x g w (ix2 R ⟨n.val - 1024 - 1024 - 1024 - 1536, h⟩)
      else val_main_v190 (F := Ideal) x g w (ix2 R ⟨n.val - 1024 - 1024 - 1024 - 1536 - 1536, by omega⟩) := by
  unfold val_main_v192 val_main_v191
  generalize val_main_v84 (F := Ideal) x g w = y1
  generalize val_main_v106 (F := Ideal) x g w = y2
  generalize val_main_v107 (F := Ideal) x g w = y3
  generalize val_main_v143 (F := Ideal) x g w = y4
  generalize val_main_v177 (F := Ideal) x g w = y5
  generalize val_main_v190 (F := Ideal) x g w = y6
  pointwise

theorem v192_at (R : Fin 16384) (n : Fin 7680) : val_main_v192 (F := Ideal) x g w (ix2 R n) = res x g w R n := by
  rw [v192_cases]
  unfold res val
  rcases Nat.lt_or_ge n.val 1024 with h | h
  · rw [dif_pos h, if_pos (by omega), src_one _ R (dil_one _ (by omega))]
    exact qa_at x g w R n _ (by dsimp only; omega)
  rw [dif_neg (by omega), if_neg (by omega)]
  rcases Nat.lt_or_ge n.val 2048 with h1 | h1
  · rw [dif_pos (by omega), if_pos (by omega), src_one _ R (dil_one _ (by omega))]
    exact ka_at x g w R n _ (by dsimp only; omega)
  rw [dif_neg (by omega), if_neg (by omega)]
  rcases Nat.lt_or_ge n.val 3072 with h2 | h2
  · rw [dif_pos (by omega), if_pos (by omega), src_one _ R (dil_one _ (by omega))]
    exact va_at x g w R n _ (by dsimp only; omega)
  rw [dif_neg (by omega), if_neg (by omega)]
  rcases Nat.lt_or_ge n.val 4608 with h3 | h3
  · rw [dif_pos (by omega), if_pos (by omega), v143_at x g w (n.val / 128) R _ (by omega) (by dsimp only; omega)]
    exact qb_at x g w _ n _ (by dsimp only; omega)
  rw [dif_neg (by omega), if_neg (by omega)]
  rcases Nat.lt_or_ge n.val 6144 with h4 | h4
  · rw [dif_pos (by omega), if_pos (by omega), v177_at x g w (n.val / 128) R _ (by omega) (by dsimp only; omega)]
    exact kb_at x g w _ n _ (by dsimp only; omega)
  rw [dif_neg (by omega), if_neg (by omega), v190_at x g w (n.val / 128) R _ (by omega) (by dsimp only; omega)]
  exact vb_at x g w _ n _ (by dsimp only; omega)

theorem ref : val_main_v192 (F := Ideal) x g w = fun i : S16384x7680.Idx => res x g w (i 0) (i 1) := by
  refine funext fun i => ?_
  refine Eq.trans (congrArg (val_main_v192 (F := Ideal) x g w) (show i = ix2 (i 0) (i 1) from ?_)) (v192_at x g w (i 0) (i 1))
  idx_vars i
  rfl

end Cert.ProjARef
-- ==== Proof.ProjAClaim.lean ====
module

public import proofs.«01_k».proof.Defs
public import proofs.«01_k».proof.Proof.ProjARef
public import proofs.«01_k».proof.Proof.Gen.Reference8Ideal.Run
public import Idealize.ShloMosaic.Lib.Claim

@[expose] public section

set_option maxRecDepth 16384

noncomputable section

namespace Cert.ProjAClaim

open Idealize.ShloMosaic Idealize.ShloMosaic.TcCoe Idealize.SL.Sem

/-- The call of the first mixer's query, key and value projection and the reference leave the same result, from any contents. -/
theorem algebraic : Cert.algebraic_Kernel8Ideal_Reference8Ideal := by
  intro m g m' g' hpre hagree
  refine ⟨fun c => (Cert.Kernel8Ideal.Gen.dats m 0 c).arrAt 7 Cert.Kernel8Ideal.cfg0.N, Cert.Kernel8Ideal.Value.run_blocks m g, ?_⟩
  refine θ_run_mono (Cert.Reference8Ideal.Value.run m' g') fun r hr c => ?_
  obtain ⟨h0, ha⟩ := hr c
  obtain ⟨a0, a1, a2⟩ := hagree c
  refine ⟨h0.trans ?_, ha⟩
  refine (Cert.Reference8Ideal.Read.val_main_v192_eq _).trans ?_
  change Cert.Reference8Ideal.Read.val_main_v192 (F := Ideal) (m' (c.tc.loc Cert.Reference8Ideal.main_arg0)) (m' (c.tc.loc Cert.Reference8Ideal.main_arg1))
    (m' (c.tc.loc Cert.Reference8Ideal.main_arg2)) = (Cert.Kernel8Ideal.Gen.dats m 0 c).arrAt 7 Cert.Kernel8Ideal.cfg0.N
  rw [a0, a1, a2]
  exact (ProjARef.ref _ _ _).trans (ProjAValue.final m c).symm

end Cert.ProjAClaim
-- ==== Proof.Ple0Value.lean ====
module

public import proofs.«01_k».proof.Proof.PleValue
public import proofs.«01_k».proof.Proof.Gen.Kernel9Ideal.Value

@[expose] public section

set_option maxRecDepth 16384

noncomputable section

namespace Cert.Ple0Value

open Idealize.ShloMosaic Idealize.ShloMosaic.TcCoe Idealize.SL.Sem
open Cert.Kernel9Ideal Cert.Kernel9Ideal.Gen
open Cert.FfnBlock (nrm)
open Cert.FfnValue (xrow two)
open Cert.PleValue (gated rd)

/-- What the first 256 rows' store holds. -/
theorem lo_at (x : Vec Ideal S256x2048 .f32) (g : Vec Ideal S1x2048 .f32) (w : Vec Ideal S2048x2048 .bf16) (p : Vec Ideal S256x256 .f32)
    (v : Vec Ideal S256x2048 .bf16) (r : Fin 256) (d : Fin 2048) : k0_pay2 (F := Ideal) x g w p v (ix2 r d)
      = gated (fun e => x (ix2 r e)) (fun e => g (ix2 0 e)) (fun e d => w (ix2 e d)) (fun k => p (ix2 r k)) (fun k d => v (ix2 k d)) d := by
  pointwise [k0_pay2]
  rfl

/-- What the last 256 rows' store holds. -/
theorem hi_at (x : Vec Ideal S256x2048 .f32) (g : Vec Ideal S1x2048 .f32) (w : Vec Ideal S2048x2048 .bf16) (p : Vec Ideal S256x256 .f32)
    (v : Vec Ideal S256x2048 .bf16) (r : Fin 256) (d : Fin 2048) : k0_pay1 (F := Ideal) (k0_pay3 x) (k0_pay4 g) (k0_pay5 x) w p v (ix2 r d)
      = gated (fun e => x (ix2 r e)) (fun e => g (ix2 0 e)) (fun e d => w (ix2 e d)) (fun k => p (ix2 r k)) (fun k d => v (ix2 k d)) d := by
  pointwise [k0_pay1, k0_pay3, k0_pay4, k0_pay5]
  rfl

/-- One row of a point's output, from its blocks. -/
theorem out_at (x : Vec Ideal S512x2048 .f32) (p : Vec Ideal S512x256 .f32) (g : Vec Ideal S1x2048 .f32) (w : Vec Ideal S2048x2048 .bf16)
    (v : Vec Ideal S256x2048 .bf16) (fg : Vec Ideal S1x2048 .f32) (r : Fin 512) (d : Fin 2048) :
    out0_6 (F := Ideal) x p g w v fg (ix2 r d) = gated (fun e => x (ix2 r e)) (fun e => g (ix2 0 e)) (fun e d => w (ix2 e d)) (fun k => p (ix2 r k)) (fun k d => v (ix2 k d)) d := by
  unfold out0_6
  have hg : View.ld g r0_1 = g := by
    funext y
    obtain ⟨a, b, rfl⟩ : ∃ a b, y = (ix2 a b : S1x2048.Idx) := ⟨y 0, y 1, funext (two rfl rfl)⟩
    rw [Subsingleton.elim a 0]
    pointwise [r0_1]
  have hw : View.ld w r0_2 = w := by
    funext y
    obtain ⟨a, b, rfl⟩ : ∃ a b, y = (ix2 a b : S2048x2048.Idx) := ⟨y 0, y 1, funext (two rfl rfl)⟩
    pointwise [r0_2]
  have hv : View.ld v r0_4 = v := by
    funext y
    obtain ⟨a, b, rfl⟩ : ∃ a b, y = (ix2 a b : S256x2048.Idx) := ⟨y 0, y 1, funext (two rfl rfl)⟩
    pointwise [r0_4]
  rw [hg, hw, hv]
  canon_tiles z h
  case piece0 =>
    idx_vars z
    obtain rfl : d = z1 := Fin.ext h1
    rw [show r = ⟨256 + z0.val, by omega⟩ from Fin.ext h0, hi_at]
    pointwise [r0_5, r0_6]
  case piece1 =>
    idx_vars z
    obtain rfl : d = z1 := Fin.ext (by simpa using h1)
    rw [show r = ⟨z0.val, by omega⟩ from Fin.ext (by simpa using h0), lo_at]
    pointwise [r0_0, r0_3]

theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0] :=
  (by decide +kernel : ∀ t : Fin grid0.N, _)

theorem bound (t : Fin cfg0.N) : t.val < 32 := lt_of_lt_of_eq t.isLt N_0

/-- One row of the first layer's embedding. -/
def prow (p : FVec Ideal S2x4x4096x256 .f32) (R : Fin 16384) (k : Fin 256) : EReal :=
  p (ix4 0 ⟨R.val / 4096, by omega⟩ ⟨R.val % 4096, by omega⟩ k)

/-- One entry of the result. -/
def ple (x : FVec Ideal S4x4096x2048 .f32) (p : FVec Ideal S2x4x4096x256 .f32) (g : FVec Ideal S2x2048 .f32) (w : FVec Ideal S2x2048x2048 .f32)
    (v : FVec Ideal S2x256x2048 .f32) (R : Fin 16384) (d : Fin 2048) : EReal :=
  gated (xrow x R) (fun e => g (ix2 0 e)) (fun e d => w (ix3 0 e d)) (prow p R) (fun k d => v (ix3 0 k d)) d

variable (m : (ℓ : Loc nD τ sig) → Buf (Elt Ideal) ℓ)

abbrev a0 (c : Dev nD) : FVec Ideal S4x4096x2048 .f32 := m ((c : Thread nD τ).loc main_arg0)
abbrev a1 (c : Dev nD) : FVec Ideal S2x4x4096x256 .f32 := m ((c : Thread nD τ).loc main_arg1)
abbrev a2 (c : Dev nD) : FVec Ideal S2x2048 .f32 := m ((c : Thread nD τ).loc main_arg2)
abbrev a3 (c : Dev nD) : FVec Ideal S2x2048x2048 .f32 := m ((c : Thread nD τ).loc main_arg3)
abbrev a4 (c : Dev nD) : FVec Ideal S2x256x2048 .f32 := m ((c : Thread nD τ).loc main_arg4)

theorem V0_at (c : Dev nD) (R : Fin 16384) (e : Fin 2048) : V m c main_v0 (ix2 R e) = xrow (a0 m c) R e := by
  have h : V m c main_v0 = shapeCast S16384x2048 (a0 m c) shapeCasts_S4x4096x2048_S16384x2048 := by
    entry_read
    rfl
  rw [h]
  generalize a0 m c = x
  unfold xrow
  pointwise

/-- The embeddings as the call gets them: both layers' rows on one axis. -/
theorem V1_at (c : Dev nD) (R : Fin 16384) (k : Fin 256) : V m c main_v1 (ix2 ⟨R.val, by omega⟩ k) = prow (a1 m c) R k := by
  have h : V m c main_v1 = shapeCast S32768x256 (a1 m c) shapeCasts_S2x4x4096x256_S32768x256 := by
    entry_read
    rfl
  rw [h]
  generalize a1 m c = x
  unfold prow
  pointwise
  blk_ext

theorem V10_at (c : Dev nD) (e : Fin 2048) : V m c main_v10 (ix2 0 e) = a2 m c (ix2 0 e) := by
  have h : V m c main_v10 = shapeCast S1x2048 (shapeCast S2048 (extractStridedSlice S1x2048 ![0, 0] (a2 m c) slices_S2x2048_S1x2048_0_0) shapeCasts_S1x2048_S2048) shapeCasts_S2048_S1x2048 := by
    entry_read
    rfl
  rw [h]
  generalize a2 m c = x
  pointwise

theorem V6_at (c : Dev nD) (e d : Fin 2048) : V m c main_v6 (ix2 e d) = a3 m c (ix3 0 e d) := by
  have h : V m c main_v6 = truncf .bf16 (shapeCast S2048x2048 (extractStridedSlice S1x2048x2048 ![0, 0, 0] (a3 m c) slices_S2x2048x2048_S1x2048x2048_0_0_0) shapeCasts_S1x2048x2048_S2048x2048) bitsLt_bf16_f32 := by
    entry_read
    rfl
  rw [h]
  generalize a3 m c = x
  pointwise

theorem V9_at (c : Dev nD) (k : Fin 256) (d : Fin 2048) : V m c main_v9 (ix2 k d) = a4 m c (ix3 0 k d) := by
  have h : V m c main_v9 = truncf .bf16 (shapeCast S256x2048 (extractStridedSlice S1x256x2048 ![0, 0, 0] (a4 m c) slices_S2x256x2048_S1x256x2048_0_0_0) shapeCasts_S1x256x2048_S256x2048) bitsLt_bf16_f32 := by
    entry_read
    rfl
  rw [h]
  generalize a4 m c = x
  pointwise

/-- The row of the whole input that point `t` holds as its row `r`. -/
abbrev rowOf (t : Fin cfg0.N) (r : Fin 512) : Fin 16384 := ⟨t.val * 512 + r.val, by have := bound t; omega⟩

theorem blk0_at (c : Dev nD) (t : Fin cfg0.N) (r : Fin 512) (e : Fin 2048) :
    (iblk m c 0 t : Vec Ideal S512x2048 .f32) (ix2 r e) = xrow (a0 m c) (rowOf t r) e := by
  have hi := (idx t).1
  refine Eq.trans ?_ (V0_at m c _ e)
  unfold iblk
  refine (rd main_v0 (win0_0.rect t) (V m c main_v0) (ix2 r e)).trans (congrArg (V m c main_v0) (funext (two ?_ ?_))) <;>
    refine Fin.ext ((Pipeline.Window.rect_emb_val win0_0 t _ _ rfl).trans ?_) <;> rw [hi]
  · rfl
  · change 0 * 2048 + e.val = e.val
    omega

theorem blk1_at (c : Dev nD) (t : Fin cfg0.N) (r : Fin 512) (k : Fin 256) :
    (iblk m c 1 t : Vec Ideal S512x256 .f32) (ix2 r k) = prow (a1 m c) (rowOf t r) k := by
  have hi := (idx t).2.1
  refine Eq.trans ?_ (V1_at m c _ k)
  unfold iblk
  refine (rd main_v1 (win0_1.rect t) (V m c main_v1) (ix2 r k)).trans (congrArg (V m c main_v1) (funext (two ?_ ?_))) <;>
    refine Fin.ext ((Pipeline.Window.rect_emb_val win0_1 t _ _ rfl).trans ?_) <;> rw [hi]
  · rfl
  · change 0 * 256 + k.val = k.val
    omega

theorem blk2_at (c : Dev nD) (t : Fin cfg0.N) (e : Fin 2048) : (iblk m c 2 t : Vec Ideal S1x2048 .f32) (ix2 0 e) = a2 m c (ix2 0 e) := by
  have hi := (idx t).2.2.1
  refine Eq.trans ?_ (V10_at m c e)
  unfold iblk
  refine (rd main_v10 (win0_2.rect t) (V m c main_v10) (ix2 0 e)).trans (congrArg (V m c main_v10) (funext (two ?_ ?_))) <;>
    refine Fin.ext ((Pipeline.Window.rect_emb_val win0_2 t _ _ rfl).trans ?_) <;> rw [hi]
  · rfl
  · change 0 * 2048 + e.val = e.val
    omega

theorem blk3_at (c : Dev nD) (t : Fin cfg0.N) (e d : Fin 2048) : (iblk m c 3 t : Vec Ideal S2048x2048 .bf16) (ix2 e d) = a3 m c (ix3 0 e d) := by
  have hi := (idx t).2.2.2.1
  refine Eq.trans ?_ (V6_at m c e d)
  unfold iblk
  refine (rd main_v6 (win0_3.rect t) (V m c main_v6) (ix2 e d)).trans (congrArg (V m c main_v6) (funext (two ?_ ?_))) <;>
    refine Fin.ext ((Pipeline.Window.rect_emb_val win0_3 t _ _ rfl).trans ?_) <;> rw [hi]
  · change 0 * 2048 + e.val = e.val
    omega
  · change 0 * 2048 + d.val = d.val
    omega

theorem blk4_at (c : Dev nD) (t : Fin cfg0.N) (k : Fin 256) (d : Fin 2048) : (iblk m c 4 t : Vec Ideal S256x2048 .bf16) (ix2 k d) = a4 m c (ix3 0 k d) := by
  have hi := (idx t).2.2.2.2.1
  refine Eq.trans ?_ (V9_at m c k d)
  unfold iblk
  refine (rd main_v9 (win0_4.rect t) (V m c main_v9) (ix2 k d)).trans (congrArg (V m c main_v9) (funext (two ?_ ?_))) <;>
    refine Fin.ext ((Pipeline.Window.rect_emb_val win0_4 t _ _ rfl).trans ?_) <;> rw [hi]
  · change 0 * 256 + k.val = k.val
    omega
  · change 0 * 2048 + d.val = d.val
    omega

/-- What point `t` stores, over the whole arguments. -/
theorem point (c : Dev nD) (t : Fin cfg0.N) (r : Fin 512) (d : Fin 2048) :
    out0_6 (F := Ideal) (iblk m c 0 t) (iblk m c 1 t) (iblk m c 2 t) (iblk m c 3 t) (iblk m c 4 t) (iblk m c 5 t) (ix2 r d)
      = ple (a0 m c) (a1 m c) (a2 m c) (a3 m c) (a4 m c) (rowOf t r) d := by
  rw [out_at, funext fun e => blk0_at m c t r e, funext fun k => blk1_at m c t r k, funext fun e => blk2_at m c t e, funext₂ fun e d => blk3_at m c t e d,
    funext₂ fun k d => blk4_at m c t k d]
  rfl

/-- A place of the result's block at point `t`, in the whole array. -/
theorem emb6_at (t : Fin cfg0.N) (y : S512x2048.Idx) : (win0_6.blk t).view.emb y = (ix2 (rowOf t (y 0)) (y 1) : S16384x2048.Idx) := by
  have hi := (idx t).2.2.2.2.2.2
  change (win0_6.rect t).emb y = _
  refine funext (two ?_ ?_) <;> refine Fin.ext ((Pipeline.Window.rect_emb_val win0_6 t y _ rfl).trans ?_) <;> rw [hi]
  · rfl
  · change 0 * 2048 + (y 1).val = (y 1).val
    omega

/-- The result after the run. -/
theorem final (c : Dev nD) : (dats m 0 c).arrAt 6 (cfgs 0).N = fun i : S16384x2048.Idx =>
    ple (a0 m c) (a1 m c) (a2 m c) (a3 m c) (a4 m c) (i 0) (i 1) := by
  refine (dats m 0 c).arrAt_eq_of_covers 6 _ (by decide +kernel) fun t hf y => ?_
  blk_simp
  rw [after0_6]
  have hy : y = (ix2 (y 0) (y 1) : S512x2048.Idx) := funext (two rfl rfl)
  have he := emb6_at t y
  refine ((congrArg (out0_6 (iblk m c 0 t) (iblk m c 1 t) (iblk m c 2 t) (iblk m c 3 t) (iblk m c 4 t) (iblk m c 5 t)) hy).trans (point m c t (y 0) (y 1))).trans ?_
  exact (congrArg (fun i : S16384x2048.Idx => ple (a0 m c) (a1 m c) (a2 m c) (a3 m c) (a4 m c) (i 0) (i 1)) he).symm

end Cert.Ple0Value
-- ==== Proof.Ple0Ref.lean ====
module

public import proofs.«01_k».proof.Proof.Ple0Value
public import proofs.«01_k».proof.Proof.Gen.Reference9Ideal.Read

@[expose] public section

set_option maxRecDepth 16384

noncomputable section

namespace Cert.Ple0Ref

open Idealize.ShloMosaic Idealize.ShloMosaic.TcCoe Idealize.SL.Sem
open Cert.Reference9Ideal Cert.Reference9Ideal.Gen Cert.Reference9Ideal.Read
open Cert.FfnBlock (nrm)
open Cert.FfnValue (xrow two)
open Cert.PleValue (gated)
open Cert.Ple0Value (prow ple)

variable (x : FVec Ideal S4x4096x2048 .f32) (p : FVec Ideal S2x4x4096x256 .f32) (g : FVec Ideal S2x2048 .f32) (w : FVec Ideal S2x2048x2048 .f32)
  (v : FVec Ideal S2x256x2048 .f32)

theorem v0_at (R : Fin 16384) (e : Fin 2048) : val_main_v0 (F := Ideal) x (ix2 R e) = xrow x R e := by
  unfold xrow
  pointwise [val_main_v0]

theorem v14_at (R : Fin 16384) (e : Fin 2048) : val_main_v14 (F := Ideal) g (ix2 R e) = g (ix2 0 e) := by
  pointwise [val_main_v14, val_main_v13, val_main_v2, val_main_v1]

/-- The reference's sum of squares of a row. -/
theorem v4_at (R : Fin 16384) : val_main_v4 (F := Ideal) x (ix1 R) = ∑ k : Fin 2048, xrow x R k * xrow x R k := by
  have h : ∀ k : Fin 2048, val_main_v3 (F := Ideal) x (ix2 R k) = xrow x R k * xrow x R k := fun k => by
    rw [val_main_v3_apply, v0_at]
    rfl
  rw [← funext h]
  unfold val_main_v4
  generalize val_main_v3 (F := Ideal) x = a
  pointwise [val_main_cst]

theorem v15_at (R : Fin 16384) (e : Fin 2048) : val_main_v15 (F := Ideal) x g (ix2 R e) = nrm (xrow x R) (fun e => g (ix2 0 e)) e := by
  unfold nrm
  rw [val_main_v15_apply, val_main_v12_apply, v0_at, v14_at, ← v4_at]
  unfold val_main_v11 val_main_v10 val_main_v9 val_main_v8 val_main_v7 val_main_v6 val_main_v5
  generalize val_main_v4 (F := Ideal) x = s
  pointwise [val_main_cst_0, val_main_cst_1]

theorem v17_at (e d : Fin 2048) : val_main_v17 (F := Ideal) w (ix2 e d) = w (ix3 0 e d) := by
  pointwise [val_main_v17, val_main_v16]

theorem v27_at (R : Fin 16384) (k : Fin 256) : val_main_v27 (F := Ideal) p (ix2 R k) = prow p R k := by
  unfold prow
  pointwise [val_main_v27, val_main_v26, val_main_v25]

theorem v29_at (k : Fin 256) (d : Fin 2048) : val_main_v29 (F := Ideal) v (ix2 k d) = v (ix3 0 k d) := by
  pointwise [val_main_v29, val_main_v28]

theorem v18_at (R : Fin 16384) (d : Fin 2048) :
    val_main_v18 (F := Ideal) x g w (ix2 R d) = ∑ e : Fin 2048, nrm (xrow x R) (fun e => g (ix2 0 e)) e * w (ix3 0 e d) := by
  refine Eq.trans ?_ (Finset.sum_congr rfl fun e _ => congrArg₂ (· * ·) (v15_at x g R e) (v17_at w e d))
  unfold val_main_v18
  generalize val_main_v15 (F := Ideal) x g = a
  generalize val_main_v17 (F := Ideal) w = b
  pointwise

theorem v30_at (R : Fin 16384) (d : Fin 2048) : val_main_v30 (F := Ideal) p v (ix2 R d) = ∑ k : Fin 256, prow p R k * v (ix3 0 k d) := by
  refine Eq.trans ?_ (Finset.sum_congr rfl fun k _ => congrArg₂ (· * ·) (v27_at p R k) (v29_at v k d))
  unfold val_main_v30
  generalize val_main_v27 (F := Ideal) p = a
  generalize val_main_v29 (F := Ideal) v = b
  pointwise

/-- One entry of the residual sum. -/
theorem v32_at (R : Fin 16384) (d : Fin 2048) : val_main_v32 (F := Ideal) x p g w v (ix2 R d)
    = gated (xrow x R) (fun e => g (ix2 0 e)) (fun e d => w (ix3 0 e d)) (prow p R) (fun k d => v (ix3 0 k d)) d := by
  unfold gated
  rw [← v18_at, ← v30_at, ← v0_at]
  unfold val_main_v32 val_main_v31 val_main_v24 val_main_v23 val_main_v22 val_main_v21 val_main_v20 val_main_v19
  generalize val_main_v18 (F := Ideal) x g w = a
  generalize val_main_v30 (F := Ideal) p v = b
  generalize val_main_v0 (F := Ideal) x = z
  pointwise [val_main_cst_2, val_main_cst_3]
  unfold Ideal.logistic
  rfl

theorem ref : val_main_v32 (F := Ideal) x p g w v = fun i => ple x p g w v (i 0) (i 1) := by
  funext i
  exact (congrArg (val_main_v32 (F := Ideal) x p g w v) (funext (two rfl rfl) : i = (ix2 (i 0) (i 1) : S16384x2048.Idx))).trans (v32_at x p g w v (i 0) (i 1))

end Cert.Ple0Ref
-- ==== Proof.Ple0Claim.lean ====
module

public import proofs.«01_k».proof.Defs
public import proofs.«01_k».proof.Proof.Ple0Ref
public import proofs.«01_k».proof.Proof.Gen.Reference9Ideal.Run
public import Idealize.ShloMosaic.Lib.Claim

@[expose] public section

set_option maxRecDepth 16384

noncomputable section

namespace Cert.Ple0Claim

open Idealize.ShloMosaic Idealize.ShloMosaic.TcCoe Idealize.SL.Sem

/-- The first layer's gated embedding's call and the reference leave the same result, from any contents. -/
theorem algebraic : Cert.algebraic_Kernel9Ideal_Reference9Ideal := by
  intro m g m' g' hpre hagree
  refine ⟨fun c => (Cert.Kernel9Ideal.Gen.dats m 0 c).arrAt 6 Cert.Kernel9Ideal.cfg0.N, Cert.Kernel9Ideal.Value.run_blocks m g, ?_⟩
  refine θ_run_mono (Cert.Reference9Ideal.Value.run m' g') fun r hr c => ?_
  obtain ⟨h0, ha⟩ := hr c
  obtain ⟨a0, a1, a2, a3, a4, a5⟩ := hagree c
  refine ⟨h0.trans ?_, ha⟩
  refine (Cert.Reference9Ideal.Read.val_main_v32_eq _ _ _ _ _).trans ?_
  rw [a0, a1, a2, a3, a4]
  exact (Ple0Ref.ref _ _ _ _ _).trans (Ple0Value.final m c).symm

end Cert.Ple0Claim
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.DilClaim
public import proofs.«01_k».proof.Proof.FfnClaim
public import proofs.«01_k».proof.Proof.PleClaim
public import proofs.«01_k».proof.Proof.OutAClaim
public import proofs.«01_k».proof.Proof.OutBClaim
public import proofs.«01_k».proof.Proof.ProjBClaim
public import proofs.«01_k».proof.Proof.ProjAClaim
public import proofs.«01_k».proof.Proof.Ple0Claim

@[expose] public section

noncomputable section

namespace Cert.Proof

open Idealize.ShloMosaic Idealize.SL.Sem

/-- The reference of the dilated group ends with its arguments unchanged and every counter at zero. -/
theorem frame_reference : Cert.quiescent_ReferenceIdeal := fun m ρ _ =>
  θ_run_mono (Cert.ReferenceIdeal.Value.run m ρ) fun r h => ⟨fun c => (h c).2.2, sem_eq_zero_of_no_sems (by decide) r.2⟩

/-- The reference of the feed-forward block ends with its arguments unchanged and every counter at zero. -/
theorem frame_reference2 : Cert.quiescent_Reference2Ideal := fun m ρ _ =>
  θ_run_mono (Cert.Reference2Ideal.Value.run m ρ) fun r h => ⟨fun c => (h c).2, sem_eq_zero_of_no_sems (by decide) r.2⟩

/-- The reference of the gated embedding with the final norm ends with its arguments unchanged and every counter at zero. -/
theorem frame_reference3 : Cert.quiescent_Reference3Ideal := fun m ρ _ =>
  θ_run_mono (Cert.Reference3Ideal.Value.run m ρ) fun r h => ⟨fun c => (h c).2, sem_eq_zero_of_no_sems (by decide) r.2⟩

/-- The reference of the output projection of the first mixer ends with its arguments unchanged and every counter at zero. -/
theorem frame_reference4 : Cert.quiescent_Reference4Ideal := fun m ρ _ =>
  θ_run_mono (Cert.Reference4Ideal.Value.run m ρ) fun r h => ⟨fun c => (h c).2, sem_eq_zero_of_no_sems (by decide) r.2⟩

/-- The reference of the output projection of the second mixer ends with its arguments unchanged and every counter at zero. -/
theorem frame_reference5 : Cert.quiescent_Reference5Ideal := fun m ρ _ =>
  θ_run_mono (Cert.Reference5Ideal.Value.run m ρ) fun r h => ⟨fun c => (h c).2, sem_eq_zero_of_no_sems (by decide) r.2⟩

/-- The reference of the query, key and value projection of the second mixer ends with its arguments unchanged and every counter at zero. -/
theorem frame_reference6 : Cert.quiescent_Reference6Ideal := fun m ρ _ =>
  θ_run_mono (Cert.Reference6Ideal.Value.run m ρ) fun r h => ⟨fun c => (h c).2, sem_eq_zero_of_no_sems (by decide) r.2⟩

/-- The reference of the latent projections ends with its arguments unchanged and every counter at zero. -/
theorem frame_reference7 : Cert.quiescent_Reference7Ideal := fun m ρ _ =>
  θ_run_mono (Cert.Reference7Ideal.Value.run m ρ) fun r h => ⟨fun c => (h c).2.2.2, sem_eq_zero_of_no_sems (by decide) r.2⟩

/-- The reference of the query, key and value projection of the first mixer ends with its arguments unchanged and every counter at zero. -/
theorem frame_reference8 : Cert.quiescent_Reference8Ideal := fun m ρ _ =>
  θ_run_mono (Cert.Reference8Ideal.Value.run m ρ) fun r h => ⟨fun c => (h c).2, sem_eq_zero_of_no_sems (by decide) r.2⟩

/-- The reference of the gated embedding of the first layer ends with its arguments unchanged and every counter at zero. -/
theorem frame_reference9 : Cert.quiescent_Reference9Ideal := fun m ρ _ =>
  θ_run_mono (Cert.Reference9Ideal.Value.run m ρ) fun r h => ⟨fun c => (h c).2, sem_eq_zero_of_no_sems (by decide) r.2⟩

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.DilClaim.preFacts,
    fun m ρ _ => Cert.Kernel.Gen.frame m ρ, fun m ρ _ => Cert.KernelIdeal.Gen.frame m ρ, fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    trivial, Cert.DilClaim.algebraic,
    trivial, Cert.FfnClaim.algebraic,
    trivial, Cert.PleClaim.algebraic,
    trivial, Cert.OutAClaim.algebraic,
    trivial, Cert.OutBClaim.algebraic,
    trivial, Cert.ProjBClaim.algebraic,
    trivial,
    trivial, Cert.ProjAClaim.algebraic,
    trivial, Cert.Ple0Claim.algebraic⟩

end Cert.Proof

end
